-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v28_0)) (v1 : (c : Dev Cert.KernelIdeal.nD) → Buf (Elt Ideal) ((c.tc : Thread Cert.KernelIdeal.nD Cert.KernelIdeal.τ).loc Cert.KernelIdeal.main_v28_1)) (v2 : (c : Dev Cert.KernelIdeal.nD) → Buf (Elt Ideal) ((c.tc : Thread Cert.KernelIdeal.nD Cert.KernelIdeal.τ).loc Cert.KernelIdeal.main_v28_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28_0) = v0 c
          ∧ r.2.mem ((c.tc : Thread Cert.KernelIdeal.nD Cert.KernelIdeal.τ).loc Cert.KernelIdeal.main_v28_1) = v1 c
          ∧ r.2.mem ((c.tc : Thread Cert.KernelIdeal.nD Cert.KernelIdeal.τ).loc Cert.KernelIdeal.main_v28_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v50) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)) (v2 : (c : Dev Cert.Kernel7Ideal.nD) → Buf (Elt Ideal) ((c.tc : Thread Cert.Kernel7Ideal.nD Cert.Kernel7Ideal.τ).loc Cert.Kernel7Ideal.main_v2_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_v2_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v37) = v0 c
          ∧ r.2.mem ((c.tc : Thread Cert.Reference7Ideal.nD Cert.Reference7Ideal.τ).loc Cert.Reference7Ideal.main_v20) = v1 c
          ∧ r.2.mem ((c.tc : Thread Cert.Reference7Ideal.nD Cert.Reference7Ideal.τ).loc Cert.Reference7Ideal.main_v40) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v4_0)) (v1 : (c : Dev Cert.Kernel8Ideal.nD) → Buf (Elt Ideal) ((c.tc : Thread Cert.Kernel8Ideal.nD Cert.Kernel8Ideal.τ).loc Cert.Kernel8Ideal.main_v4_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4_0) = v0 c
          ∧ r.2.mem ((c.tc : Thread Cert.Kernel8Ideal.nD Cert.Kernel8Ideal.τ).loc Cert.Kernel8Ideal.main_v4_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v41) = v0 c
          ∧ r.2.mem ((c.tc : Thread Cert.Reference8Ideal.nD Cert.Reference8Ideal.τ).loc Cert.Reference8Ideal.main_v24) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v2_0)) (v1 : (c : Dev Cert.Kernel9Ideal.nD) → Buf (Elt Ideal) ((c.tc : Thread Cert.Kernel9Ideal.nD Cert.Kernel9Ideal.τ).loc Cert.Kernel9Ideal.main_v2_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_v2_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v10) = v0 c
          ∧ r.2.mem ((c.tc : Thread Cert.Reference9Ideal.nD Cert.Reference9Ideal.τ).loc Cert.Reference9Ideal.main_v11) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v4_0)) (v1 : (c : Dev Cert.Kernel10Ideal.nD) → Buf (Elt Ideal) ((c.tc : Thread Cert.Kernel10Ideal.nD Cert.Kernel10Ideal.τ).loc Cert.Kernel10Ideal.main_v4_1)) (v2 : (c : Dev Cert.Kernel10Ideal.nD) → Buf (Elt Ideal) ((c.tc : Thread Cert.Kernel10Ideal.nD Cert.Kernel10Ideal.τ).loc Cert.Kernel10Ideal.main_v4_2)) (v3 : (c : Dev Cert.Kernel10Ideal.nD) → Buf (Elt Ideal) ((c.tc : Thread Cert.Kernel10Ideal.nD Cert.Kernel10Ideal.τ).loc Cert.Kernel10Ideal.main_v4_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4_0) = v0 c
          ∧ r.2.mem ((c.tc : Thread Cert.Kernel10Ideal.nD Cert.Kernel10Ideal.τ).loc Cert.Kernel10Ideal.main_v4_1) = v1 c
          ∧ r.2.mem ((c.tc : Thread Cert.Kernel10Ideal.nD Cert.Kernel10Ideal.τ).loc Cert.Kernel10Ideal.main_v4_2) = v2 c
          ∧ r.2.mem ((c.tc : Thread Cert.Kernel10Ideal.nD Cert.Kernel10Ideal.τ).loc Cert.Kernel10Ideal.main_v4_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v14) = v0 c
          ∧ r.2.mem ((c.tc : Thread Cert.Reference10Ideal.nD Cert.Reference10Ideal.τ).loc Cert.Reference10Ideal.main_v15) = v1 c
          ∧ r.2.mem ((c.tc : Thread Cert.Reference10Ideal.nD Cert.Reference10Ideal.τ).loc Cert.Reference10Ideal.main_v18) = v2 c
          ∧ r.2.mem ((c.tc : Thread Cert.Reference10Ideal.nD Cert.Reference10Ideal.τ).loc Cert.Reference10Ideal.main_v19) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)) (v2 : (c : Dev Cert.Kernel2Ideal.nD) → Buf (Elt Ideal) ((c.tc : Thread Cert.Kernel2Ideal.nD Cert.Kernel2Ideal.τ).loc Cert.Kernel2Ideal.main_v5_2)) (v3 : (c : Dev Cert.Kernel2Ideal.nD) → Buf (Elt Ideal) ((c.tc : Thread Cert.Kernel2Ideal.nD Cert.Kernel2Ideal.τ).loc Cert.Kernel2Ideal.main_v5_3)) (v4 : (c : Dev Cert.Kernel2Ideal.nD) → Buf (Elt Ideal) ((c.tc : Thread Cert.Kernel2Ideal.nD Cert.Kernel2Ideal.τ).loc Cert.Kernel2Ideal.main_v5_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_v5_2) = v2 c
          ∧ r.2.mem ((c.tc : Thread Cert.Kernel2Ideal.nD Cert.Kernel2Ideal.τ).loc Cert.Kernel2Ideal.main_v5_3) = v3 c
          ∧ r.2.mem ((c.tc : Thread Cert.Kernel2Ideal.nD Cert.Kernel2Ideal.τ).loc Cert.Kernel2Ideal.main_v5_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v50) = v0 c
          ∧ r.2.mem ((c.tc : Thread Cert.Reference2Ideal.nD Cert.Reference2Ideal.τ).loc Cert.Reference2Ideal.main_v33) = v1 c
          ∧ r.2.mem ((c.tc : Thread Cert.Reference2Ideal.nD Cert.Reference2Ideal.τ).loc Cert.Reference2Ideal.main_v51) = v2 c
          ∧ r.2.mem ((c.tc : Thread Cert.Reference2Ideal.nD Cert.Reference2Ideal.τ).loc Cert.Reference2Ideal.main_v52) = v3 c
          ∧ r.2.mem ((c.tc : Thread Cert.Reference2Ideal.nD Cert.Reference2Ideal.τ).loc Cert.Reference2Ideal.main_v53) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v1_0)) (v1 : (c : Dev Cert.Kernel11Ideal.nD) → Buf (Elt Ideal) ((c.tc : Thread Cert.Kernel11Ideal.nD Cert.Kernel11Ideal.τ).loc Cert.Kernel11Ideal.main_v1_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1_0) = v0 c
          ∧ r.2.mem ((c.tc : Thread Cert.Kernel11Ideal.nD Cert.Kernel11Ideal.τ).loc Cert.Kernel11Ideal.main_v1_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_v17) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)) →
    ∃ (v0 : (c : Dev Cert.Kernel12Ideal.nD) → Buf (Elt Ideal) ((c.tc : Thread Cert.Kernel12Ideal.nD Cert.Kernel12Ideal.τ).loc Cert.Kernel12Ideal.main_v5_0)) (v1 : (c : Dev Cert.Kernel12Ideal.nD) → Buf (Elt Ideal) ((c.tc : Thread Cert.Kernel12Ideal.nD Cert.Kernel12Ideal.τ).loc Cert.Kernel12Ideal.main_v5_1)) (v2 : (c : Dev Cert.Kernel12Ideal.nD) → Buf (Elt Ideal) ((c.tc : Thread Cert.Kernel12Ideal.nD Cert.Kernel12Ideal.τ).loc Cert.Kernel12Ideal.main_v5_2)) (v3 : (c : Dev Cert.Kernel12Ideal.nD) → Buf (Elt Ideal) ((c.tc : Thread Cert.Kernel12Ideal.nD Cert.Kernel12Ideal.τ).loc Cert.Kernel12Ideal.main_v5_3)) (v4 : (c : Dev Cert.Kernel12Ideal.nD) → Buf (Elt Ideal) ((c.tc : Thread Cert.Kernel12Ideal.nD Cert.Kernel12Ideal.τ).loc Cert.Kernel12Ideal.main_v5_4)) (v5 : (c : Dev Cert.Kernel12Ideal.nD) → Buf (Elt Ideal) ((c.tc : Thread Cert.Kernel12Ideal.nD Cert.Kernel12Ideal.τ).loc Cert.Kernel12Ideal.main_v5_5)) (v6 : (c : Dev Cert.Kernel12Ideal.nD) → Buf (Elt Ideal) ((c.tc : Thread Cert.Kernel12Ideal.nD Cert.Kernel12Ideal.τ).loc Cert.Kernel12Ideal.main_v5_6)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v5_0) = v0 c
          ∧ r.2.mem ((c.tc : Thread Cert.Kernel12Ideal.nD Cert.Kernel12Ideal.τ).loc Cert.Kernel12Ideal.main_v5_1) = v1 c
          ∧ r.2.mem ((c.tc : Thread Cert.Kernel12Ideal.nD Cert.Kernel12Ideal.τ).loc Cert.Kernel12Ideal.main_v5_2) = v2 c
          ∧ r.2.mem ((c.tc : Thread Cert.Kernel12Ideal.nD Cert.Kernel12Ideal.τ).loc Cert.Kernel12Ideal.main_v5_3) = v3 c
          ∧ r.2.mem ((c.tc : Thread Cert.Kernel12Ideal.nD Cert.Kernel12Ideal.τ).loc Cert.Kernel12Ideal.main_v5_4) = v4 c
          ∧ r.2.mem ((c.tc : Thread Cert.Kernel12Ideal.nD Cert.Kernel12Ideal.τ).loc Cert.Kernel12Ideal.main_v5_5) = v5 c
          ∧ r.2.mem ((c.tc : Thread Cert.Kernel12Ideal.nD Cert.Kernel12Ideal.τ).loc Cert.Kernel12Ideal.main_v5_6) = v6 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v68) = v0 c
          ∧ r.2.mem ((c.tc : Thread Cert.Reference12Ideal.nD Cert.Reference12Ideal.τ).loc Cert.Reference12Ideal.main_v69) = v1 c
          ∧ r.2.mem ((c.tc : Thread Cert.Reference12Ideal.nD Cert.Reference12Ideal.τ).loc Cert.Reference12Ideal.main_v70) = v2 c
          ∧ r.2.mem ((c.tc : Thread Cert.Reference12Ideal.nD Cert.Reference12Ideal.τ).loc Cert.Reference12Ideal.main_v71) = v3 c
          ∧ r.2.mem ((c.tc : Thread Cert.Reference12Ideal.nD Cert.Reference12Ideal.τ).loc Cert.Reference12Ideal.main_v72) = v4 c
          ∧ r.2.mem ((c.tc : Thread Cert.Reference12Ideal.nD Cert.Reference12Ideal.τ).loc Cert.Reference12Ideal.main_v52) = v5 c
          ∧ r.2.mem ((c.tc : Thread Cert.Reference12Ideal.nD Cert.Reference12Ideal.τ).loc Cert.Reference12Ideal.main_v73) = v6 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel2 : Cert.Kernel2.Facts) (hKernel2Ideal : Cert.Kernel2Ideal.Facts) (hReference2Ideal : Cert.Reference2Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite : Cert.Pre_finite.Facts) (hPre_finite9 : Cert.Pre_finite9.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal (hKernel10Ideal := hKernel10Ideal) (hReference10Ideal := hReference10Ideal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_finite.lean ====
abbrev S4096x3584 : Shape := ⟨2, ![4096, 3584]⟩
abbrev S4096x512 : Shape := ⟨2, ![4096, 512]⟩
abbrev S_ : Shape := ⟨0, ![]⟩

class Facts : Prop where
  bcast_S_S4096x3584 : S_.BroadcastsInDim S4096x3584 (![] : Fin 0 → Fin S4096x3584.rank)
  reducesTo_S4096x3584_S_d0_1 : S4096x3584.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_

variable [Facts]

def fn {F : FTy → Type} [FloatOps F] (main_arg0 : FVec F S4096x3584 .f32) (main_arg1 : FVec F S4096x512 .f32) : IVec S_ 1 :=
  let main_v0 : FVec F S4096x3584 .f32 := Host.absf main_arg0
  let main_cst : FVec F S_ .f32 := constant S_ .f32 0x7F800000#32
  let main_v1 : FVec F S4096x3584 .f32 := broadcastInDim S4096x3584 ![] bcast_S_S4096x3584 main_cst
  let main_v2 : IVec S4096x3584 1 := cmpf .olt main_v0 main_v1
  let main_c : IVec S_ 1 := constantI S_ 1 1#1
  let main_v3 : IVec S_ 1 := (fun x v => Host.reduce IntOp.andi x v reducesTo_S4096x3584_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  main_v8
-- ==== Pre_finite2.lean ====
abbrev S4096x1024 : Shape := ⟨2, ![4096, 1024]⟩
abbrev S1x1024 : Shape := ⟨2, ![1, 1024]⟩
abbrev S4096x2816 : Shape := ⟨2, ![4096, 2816]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bitsLt_bf16_f32 : FTy.bits .bf16 < FTy.bits .f32
  bcast_S_S4096x2816 : S_.BroadcastsInDim S4096x2816 (![] : Fin 0 → Fin S4096x2816.rank)
  reducesTo_S4096x2816_S_d0_1 : S4096x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn {F : FTy → Type} [FloatOps F] (main_arg0 : FVec F S4096x1024 .f32) (main_arg1 : FVec F S4096x1024 .f32) (main_arg2 : FVec F S1x1024 .f32) (main_arg3 : FVec F S4096x2816 .bf16) (main_arg4 : FVec F S4096x2816 .bf16) (main_arg5 : FVec F S1024x2816 .f32) (main_arg6 : FVec F S1024x2816 .f32) (main_arg7 : FVec F S2816x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x2816 .f32 := (extf .f32 · bitsLt_bf16_f32) main_arg4
  let main_v5 : FVec F S4096x2816 .f32 := Host.absf main_v4
  let main_cst_0 : FVec F S_ .f32 := constant S_ .f32 0x7F800000#32
  let main_v6 : FVec F S4096x2816 .f32 := broadcastInDim S4096x2816 ![] bcast_S_S4096x2816 main_cst_0
  let main_v7 : IVec S4096x2816 1 := cmpf .olt main_v5 main_v6
  let main_c_1 : IVec S_ 1 := constantI S_ 1 1#1
  let main_v8 : IVec S_ 1 := (fun x v => Host.reduce IntOp.andi x v reducesTo_S4096x2816_S_d0_1 h_S_) main_v7 main_c_1
  let main_v9 : IVec S_ 1 := andi main_v3 main_v8
  let main_v10 : FVec F S2816x1024 .f32 := Host.absf main_arg7
  let main_cst_2 : FVec F S_ .f32 := constant S_ .f32 0x7F800000#32
  let main_v11 : FVec F S2816x1024 .f32 := broadcastInDim S2816x1024 ![] bcast_S_S2816x1024 main_cst_2
  let main_v12 : IVec S2816x1024 1 := cmpf .olt main_v10 main_v11
  let main_c_3 : IVec S_ 1 := constantI S_ 1 1#1
  let main_v13 : IVec S_ 1 := (fun x v => Host.reduce IntOp.andi x v reducesTo_S2816x1024_S_d0_1 h_S_) main_v12 main_c_3
  let main_v14 : IVec S_ 1 := andi main_v9 main_v13
  main_v14
-- ==== Pre_finite9.lean ====
abbrev S4096x1024 : Shape := ⟨2, ![4096, 1024]⟩
abbrev S4096x2816 : Shape := ⟨2, ![4096, 2816]⟩
abbrev S2816x1024 : Shape := ⟨2, ![2816, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x2816 : S_.BroadcastsInDim S4096x2816 (![] : Fin 0 → Fin S4096x2816.rank)
  reducesTo_S4096x2816_S_d0_1 : S4096x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn {F : FTy → Type} [FloatOps F] (main_arg0 : FVec F S4096x1024 .bf16) (main_arg1 : FVec F S4096x2816 .bf16) (main_arg2 : FVec F S4096x2816 .bf16) (main_arg3 : FVec F S2816x1024 .f32) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S4096x2816 .f32 := (extf .f32 · bitsLt_bf16_f32) main_arg2
  let main_v6 : FVec F S4096x2816 .f32 := Host.absf main_v5
  let main_cst_0 : FVec F S_ .f32 := constant S_ .f32 0x7F800000#32
  let main_v7 : FVec F S4096x2816 .f32 := broadcastInDim S4096x2816 ![] bcast_S_S4096x2816 main_cst_0
  let main_v8 : IVec S4096x2816 1 := cmpf .olt main_v6 main_v7
  let main_c_1 : IVec S_ 1 := constantI S_ 1 1#1
  let main_v9 : IVec S_ 1 := (fun x v => Host.reduce IntOp.andi x v reducesTo_S4096x2816_S_d0_1 h_S_) main_v8 main_c_1
  let main_v10 : IVec S_ 1 := andi main_v4 main_v9
  let main_v11 : FVec F S2816x1024 .f32 := Host.absf main_arg3
  let main_cst_2 : FVec F S_ .f32 := constant S_ .f32 0x7F800000#32
  let main_v12 : FVec F S2816x1024 .f32 := broadcastInDim S2816x1024 ![] bcast_S_S2816x1024 main_cst_2
  let main_v13 : IVec S2816x1024 1 := cmpf .olt main_v11 main_v12
  let main_c_3 : IVec S_ 1 := constantI S_ 1 1#1
  let main_v14 : IVec S_ 1 := (fun x v => Host.reduce IntOp.andi x v reducesTo_S2816x1024_S_d0_1 h_S_) main_v13 main_c_3
  let main_v15 : IVec S_ 1 := andi main_v10 main_v14
  main_v15
-- ==== Kernel.lean ====
abbrev S4096x3584 : Shape := ⟨2, ![4096, 3584]⟩
abbrev S4096x512 : Shape := ⟨2, ![4096, 512]⟩
abbrev S4096x8x64 : Shape := ⟨3, ![4096, 8, 64]⟩
abbrev S8x4096x64 : Shape := ⟨3, ![8, 4096, 64]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x2x8x512x16x256 : Shape := ⟨6, ![4, 2, 8, 512, 16, 256]⟩
abbrev S4x8x16x2x512x256 : Shape := ⟨6, ![4, 8, 16, 2, 512, 256]⟩
abbrev S4x8x16x1024x256 : Shape := ⟨5, ![4, 8, 16, 1024, 256]⟩
abbrev S512x128 : Shape := ⟨2, ![512, 128]⟩
abbrev S4096x128 : Shape := ⟨2, ![4096, 128]⟩
abbrev S1x1x16x1024x256 : Shape := ⟨5, ![1, 1, 16, 1024, 256]⟩
abbrev S1x128 : Shape := ⟨2, ![1, 128]⟩
abbrev S1024x128 : Shape := ⟨2, ![1024, 128]⟩
abbrev S256x256 : Shape := ⟨2, ![256, 256]⟩
abbrev S512x256 : Shape := ⟨2, ![512, 256]⟩
abbrev S1024x1 : Shape := ⟨2, ![1024, 1]⟩
abbrev S1x1x1x1024x256 : Shape := ⟨5, ![1, 1, 1, 1024, 256]⟩
abbrev S1024x256 : Shape := ⟨2, ![1024, 256]⟩
abbrev S256x128 : Shape := ⟨2, ![256, 128]⟩
abbrev S1024x512 : Shape := ⟨2, ![1024, 512]⟩
abbrev S1024 : Shape := ⟨1, ![1024]⟩
abbrev S512x512 : Shape := ⟨2, ![512, 512]⟩
abbrev S256x1 : Shape := ⟨2, ![256, 1]⟩
abbrev S512x1 : Shape := ⟨2, ![512, 1]⟩

abbrev nBuf : Space → Nat
  | .hbm => 74
  | .vmem => 16
  | .smem => 0
  | _ => 0

abbrev bufTy : (tb : Table) → Fin (tcTables nBuf tb) → BufTy
  | .hbm, ⟨0, _⟩ => ⟨S4096x3584, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x8x64, .f32⟩
  | .hbm, ⟨5, _⟩ => ⟨S8x4096x64, .f32⟩
  | .hbm, ⟨6, _⟩ => ⟨S4096x8x64, .f32⟩
  | .hbm, ⟨7, _⟩ => ⟨S8x4096x64, .f32⟩
  | .hbm, ⟨8, _⟩ => ⟨S8x4096x4096, .f32⟩
  | .hbm, ⟨9, _⟩ => ⟨S_, .f32⟩
  | .hbm, ⟨10, _⟩ => ⟨S8x4096x4096, .f32⟩
  | .hbm, ⟨11, _⟩ => ⟨S8x4096x4096, .f32⟩
  | .hbm, ⟨12, _⟩ => ⟨S4096, .i32⟩
  | .hbm, ⟨13, _⟩ => ⟨S1x4096, .i32⟩
  | .hbm, ⟨14, _⟩ => ⟨S4096x1, .i32⟩
  | .hbm, ⟨15, _⟩ => ⟨S4096x4096, .i32⟩
  | .hbm, ⟨16, _⟩ => ⟨S4096x4096, .i32⟩
  | .hbm, ⟨17, _⟩ => ⟨S4096x4096, .i1⟩
  | .hbm, ⟨18, _⟩ => ⟨S8x4096x4096, .f32⟩
  | .hbm, ⟨19, _⟩ => ⟨S_, .f32⟩
  | .hbm, ⟨20, _⟩ => ⟨S8x4096x4096, .f32⟩
  | .hbm, ⟨21, _⟩ => ⟨S8x4096x4096, .f32⟩
  | .hbm, ⟨22, _⟩ => ⟨S8x4096x4096, .f32⟩
  | .hbm, ⟨23, _⟩ => ⟨S8x4096x4096, .f32⟩
  | .hbm, ⟨24, _⟩ => ⟨S8x4096x4096, .i1⟩
  | .hbm, ⟨25, _⟩ => ⟨S8x4096x4096, .f32⟩
  | .hbm, ⟨26, _⟩ => ⟨S8x4096x4096, .f32⟩
  | .hbm, ⟨27, _⟩ => ⟨S8x4096x4096, .f32⟩
  | .hbm, ⟨28, _⟩ => ⟨S8x4096x4096, .f32⟩
  | .hbm, ⟨29, _⟩ => ⟨S8x4096x4096, .f32⟩
  | .hbm, ⟨30, _⟩ => ⟨S8x4096x4096, .f32⟩
  | .hbm, ⟨31, _⟩ => ⟨S8x4096x4096, .f32⟩
  | .hbm, ⟨32, _⟩ => ⟨S8x4096x4096, .f32⟩
  | .hbm, ⟨33, _⟩ => ⟨S8x4096x4096, .f32⟩
  | .hbm, ⟨34, _⟩ => ⟨S8x4096x4096, .f32⟩
  | .hbm, ⟨35, _⟩ => ⟨S8x4096x4096, .f32⟩
  | .hbm, ⟨36, _⟩ => ⟨S_, .f32⟩
  | .hbm, ⟨37, _⟩ => ⟨S8x4096x4096, .f32⟩
  | .hbm, ⟨38, _⟩ => ⟨S8x4096x4096, .f32⟩
  | .hbm, ⟨39, _⟩ => ⟨S8x4096x4096, .f32⟩
  | .hbm, ⟨40, _⟩ => ⟨S8x4096x4096, .f32⟩
  | .hbm, ⟨41, _⟩ => ⟨S8x4096x4096, .i1⟩
  | .hbm, ⟨42, _⟩ => ⟨S8x4096x4096, .f32⟩
  | .hbm, ⟨43, _⟩ => ⟨S8x4096x4096, .f32⟩
  | .hbm, ⟨44, _⟩ => ⟨S8x4096x4096, .f32⟩
  | .hbm, ⟨45, _⟩ => ⟨S8x4096x4096, .f32⟩
  | .hbm, ⟨46, _⟩ => ⟨S8x4096x4096, .f32⟩
  | .hbm, ⟨47, _⟩ => ⟨S8x4096x4096, .f32⟩
  | .hbm, ⟨48, _⟩ => ⟨S8x4096x4096, .f32⟩
  | .hbm, ⟨49, _⟩ => ⟨S8x4096x4096, .f32⟩
  | .hbm, ⟨50, _⟩ => ⟨S8x4096x4096, .f32⟩
  | .hbm, ⟨51, _⟩ => ⟨S_, .f32⟩
  | .hbm, ⟨52, _⟩ => ⟨S_, .f32⟩
  | .hbm, ⟨53, _⟩ => ⟨S8x4096x4096, .i1⟩
  | .hbm, ⟨54, _⟩ => ⟨S8x4096x4096, .f32⟩
  | .hbm, ⟨55, _⟩ => ⟨S8x4096x4096, .f32⟩
  | .hbm, ⟨56, _⟩ => ⟨S_, .f32⟩
  | .hbm, ⟨57, _⟩ => ⟨S_, .f32⟩
  | .hbm, ⟨58, _⟩ => ⟨S8x4096x4096, .f32⟩
  | .hbm, ⟨59, _⟩ => ⟨S8x4096x4096, .f32⟩
  | .hbm, ⟨60, _⟩ => ⟨S8x4096x4096, .f32⟩
  | .hbm, ⟨61, _⟩ => ⟨S8x4096x4096, .f32⟩
  | .hbm, ⟨62, _⟩ => ⟨S_, .f32⟩
  | .hbm, ⟨63, _⟩ => ⟨S_, .f32⟩
  | .hbm, ⟨64, _⟩ => ⟨S8x4096x4096, .i1⟩
  | .hbm, ⟨65, _⟩ => ⟨S8x4096x4096, .f32⟩
  | .hbm, ⟨66, _⟩ => ⟨S8x4096x4096, .f32⟩
  | .hbm, ⟨67, _⟩ => ⟨S4x2x8x512x16x256, .f32⟩
  | .hbm, ⟨68, _⟩ => ⟨S4x8x16x2x512x256, .f32⟩
  | .hbm, ⟨69, _⟩ => ⟨S4x8x16x1024x256, .f32⟩
  | .hbm, ⟨70, _⟩ => ⟨S4x8x16x1024x256, .bf16⟩
  | .hbm, ⟨71, _⟩ => ⟨S4096x512, .bf16⟩
  | .hbm, ⟨72, _⟩ => ⟨S4096x512, .f32⟩
  | .hbm, ⟨73, _⟩ => ⟨S4096x512, .f32⟩
  | .local _ .vmem, ⟨0, _⟩ => ⟨S512x128, .f32⟩
  | .local _ .vmem, ⟨1, _⟩ => ⟨S512x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S1x1x16x1024x256, .bf16⟩
  | .local _ .vmem, ⟨7, _⟩ => ⟨S1x1x16x1024x256, .bf16⟩
  | .local _ .vmem, ⟨8, _⟩ => ⟨S512x128, .f32⟩
  | .local _ .vmem, ⟨9, _⟩ => ⟨S512x128, .f32⟩
  | .local _ .vmem, ⟨10, _⟩ => ⟨S512x128, .bf16⟩
  | .local _ .vmem, ⟨11, _⟩ => ⟨S512x128, .bf16⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | _, _ => ⟨S4096x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v15 : Ref sig .tc := ⟨.hbm, 33, rfl⟩
abbrev main_v16 : Ref sig .tc := ⟨.hbm, 34, rfl⟩
abbrev main_call1_v0 : Ref sig .tc := ⟨.hbm, 35, rfl⟩
abbrev main_call1_call0_cst : Ref sig .tc := ⟨.hbm, 36, rfl⟩
abbrev main_call1_call0_v0 : Ref sig .tc := ⟨.hbm, 37, rfl⟩
abbrev main_call1_call0_v1 : Ref sig .tc := ⟨.hbm, 38, rfl⟩
abbrev main_call1_call0_v2 : Ref sig .tc := ⟨.hbm, 39, rfl⟩
abbrev main_call1_call0_v3 : Ref sig .tc := ⟨.hbm, 40, rfl⟩
abbrev main_call1_call0_v4 : Ref sig .tc := ⟨.hbm, 41, rfl⟩
abbrev main_call1_call0_v5 : Ref sig .tc := ⟨.hbm, 42, rfl⟩
abbrev main_call1_call0_v6 : Ref sig .tc := ⟨.hbm, 43, rfl⟩
abbrev main_call1_call0_v7 : Ref sig .tc := ⟨.hbm, 44, rfl⟩
abbrev main_call1_call0_v8 : Ref sig .tc := ⟨.hbm, 45, rfl⟩
abbrev main_call1_call0_v9 : Ref sig .tc := ⟨.hbm, 46, rfl⟩
abbrev main_call1_call0_v10 : Ref sig .tc := ⟨.hbm, 47, rfl⟩
abbrev main_call1_call0_v11 : Ref sig .tc := ⟨.hbm, 48, rfl⟩
abbrev main_call1_v1 : Ref sig .tc := ⟨.hbm, 49, rfl⟩
abbrev main_v17 : Ref sig .tc := ⟨.hbm, 50, rfl⟩
abbrev main_cst_0 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v18 : Ref sig .tc := ⟨.hbm, 55, rfl⟩
abbrev main_call3_cst : Ref sig .tc := ⟨.hbm, 56, rfl⟩
abbrev main_call3_v0 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_cst_1 : Ref sig .tc := ⟨.hbm, 62, rfl⟩
abbrev main_call4_v0 : Ref sig .tc := ⟨.hbm, 63, rfl⟩
abbrev main_call4_v1 : Ref sig .tc := ⟨.hbm, 64, rfl⟩
abbrev main_call4_v2 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28_0 : Ref sig .tc := ⟨.hbm, 71, rfl⟩
abbrev main_v28_1 : Ref sig .tc := ⟨.hbm, 72, rfl⟩
abbrev main_v28_2 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

@[reducible] def k0_t1_loop (i : grid0.Coords) : Scf.Loop 32 :=
  let c0_i32_17 : BitVec 32 := 0#32
  let arg1 : BitVec 32 := BitVec.ofNat 32 (i 1).val
  let c0_i32_10 : BitVec 32 := 0#32
  let v43 : BitVec 1 := Scalar.cmpi .sgt arg1 c0_i32_10
  let v44 : BitVec 32 := Scalar.extui v43
  let c0_i32_11 : BitVec 32 := 0#32
  let v45 : BitVec 1 := Scalar.cmpi .slt arg1 c0_i32_11
  let v46 : BitVec 32 := Scalar.extui v45
  let v47 : BitVec 32 := Scalar.subi v44 v46
  let c2_i32_9 : BitVec 32 := 2#32
  let c0_i32_12 : BitVec 32 := 0#32
  let v48 : BitVec 1 := Scalar.cmpi .sgt c2_i32_9 c0_i32_12
  let v49 : BitVec 32 := Scalar.extui v48
  let c0_i32_13 : BitVec 32 := 0#32
  let v50 : BitVec 1 := Scalar.cmpi .slt c2_i32_9 c0_i32_13
  let v51 : BitVec 32 := Scalar.extui v50
  let v52 : BitVec 32 := Scalar.subi v49 v51
  let v53 : BitVec 1 := Scalar.cmpi .ne v47 v52
  let v54 : BitVec 32 := Scalar.remsi arg1 c2_i32_9
  let c0_i32_14 : BitVec 32 := 0#32
  let v55 : BitVec 1 := Scalar.cmpi .ne v54 c0_i32_14
  let v56 : BitVec 1 := Scalar.andi v53 v55
  let v42 : BitVec 32 := Scalar.divsi arg1 c2_i32_9
  let c1_i32 : BitVec 32 := 1#32
  let v57 : BitVec 32 := Scalar.subi v42 c1_i32
  let v58 : BitVec 32 := Scalar.select v56 v57 v42
  let v61 : BitVec 32 := Scalar.subi v58 c0_i32_17
  let c1_i32_18 : BitVec 32 := 1#32
  let v63 : BitVec 32 := Scalar.divsi v61 c1_i32_18
  let v64 : BitVec 32 := Scalar.muli v63 c1_i32_18
  let v65 : BitVec 32 := Scalar.addi c0_i32_17 v64
  let c1_i32_19 : BitVec 32 := 1#32
  ⟨c0_i32_17, v65, c1_i32_19⟩
def k0_mult1 (i : grid0.Coords) (k0_t1 : Fin (k0_t1_loop i).trips) : BitVec 32 :=
  let c4_i32 : BitVec 32 := 4#32
  let c0_i32_17 : BitVec 32 := 0#32
  let c1_i32_19 : BitVec 32 := 1#32
  let arg10 : BitVec 32 := Scf.iv c0_i32_17 c1_i32_19 k0_t1
  let v234 : BitVec 32 := Scalar.muli c4_i32 arg10
  let c0_i32_79 : BitVec 32 := 0#32
  let v235 : BitVec 32 := Scalar.addi v234 c0_i32_79
  let c256_i32_80 : BitVec 32 := 256#32
  let v236 : BitVec 32 := Scalar.muli v235 c256_i32_80
  v236
def k0_off1 (i : grid0.Coords) (k0_t1 : Fin (k0_t1_loop i).trips) (c0_i32_79 : BitVec 32) : Fin 5 → Nat :=
  let c0_81 : Index := 0#32
  let c0_82 : Index := 0#32
  let c4_i32 : BitVec 32 := 4#32
  let c0_i32_17 : BitVec 32 := 0#32
  let c1_i32_19 : BitVec 32 := 1#32
  let arg10 : BitVec 32 := Scf.iv c0_i32_17 c1_i32_19 k0_t1
  let v234 : BitVec 32 := Scalar.muli c4_i32 arg10
  let v235 : BitVec 32 := Scalar.addi v234 c0_i32_79
  let v238 : Index := Scalar.indexCast v235
  let c0_83 : Index := 0#32
  let c0_84 : Index := 0#32
  ![0, 0, v238.toNat, 0, 0]
def k0_off2 (i : grid0.Coords) (k0_t1 : Fin (k0_t1_loop i).trips) (c0_i32_79 : BitVec 32) : Fin 2 → Nat :=
  let c4_i32 : BitVec 32 := 4#32
  let c0_i32_17 : BitVec 32 := 0#32
  let c1_i32_19 : BitVec 32 := 1#32
  let arg10 : BitVec 32 := Scf.iv c0_i32_17 c1_i32_19 k0_t1
  let v234 : BitVec 32 := Scalar.muli c4_i32 arg10
  let v235 : BitVec 32 := Scalar.addi v234 c0_i32_79
  let c256_i32_80 : BitVec 32 := 256#32
  let v236 : BitVec 32 := Scalar.muli v235 c256_i32_80
  let v237 : BitVec 32 := v236
  let v241 : Index := Scalar.indexCast v237
  let c0_85 : Index := 0#32
  ![v241.toNat, 0]
def k0_mult2 (i : grid0.Coords) (k0_t1 : Fin (k0_t1_loop i).trips) : BitVec 32 :=
  let c4_i32_101 : BitVec 32 := 4#32
  let c0_i32_17 : BitVec 32 := 0#32
  let c1_i32_19 : BitVec 32 := 1#32
  let arg10 : BitVec 32 := Scf.iv c0_i32_17 c1_i32_19 k0_t1
  let v290 : BitVec 32 := Scalar.muli c4_i32_101 arg10
  let c1_i32_102 : BitVec 32 := 1#32
  let v291 : BitVec 32 := Scalar.addi v290 c1_i32_102
  let c256_i32_103 : BitVec 32 := 256#32
  let v292 : BitVec 32 := Scalar.muli v291 c256_i32_103
  v292
def k0_mult3 (i : grid0.Coords) (k0_t1 : Fin (k0_t1_loop i).trips) : BitVec 32 :=
  let c4_i32_124 : BitVec 32 := 4#32
  let c0_i32_17 : BitVec 32 := 0#32
  let c1_i32_19 : BitVec 32 := 1#32
  let arg10 : BitVec 32 := Scf.iv c0_i32_17 c1_i32_19 k0_t1
  let v346 : BitVec 32 := Scalar.muli c4_i32_124 arg10
  let c2_i32_125 : BitVec 32 := 2#32
  let v347 : BitVec 32 := Scalar.addi v346 c2_i32_125
  let c256_i32_126 : BitVec 32 := 256#32
  let v348 : BitVec 32 := Scalar.muli v347 c256_i32_126
  v348
def k0_mult4 (i : grid0.Coords) (k0_t1 : Fin (k0_t1_loop i).trips) : BitVec 32 :=
  let c4_i32_147 : BitVec 32 := 4#32
  let c0_i32_17 : BitVec 32 := 0#32
  let c1_i32_19 : BitVec 32 := 1#32
  let arg10 : BitVec 32 := Scf.iv c0_i32_17 c1_i32_19 k0_t1
  let v402 : BitVec 32 := Scalar.muli c4_i32_147 arg10
  let c3_i32 : BitVec 32 := 3#32
  let v403 : BitVec 32 := Scalar.addi v402 c3_i32
  let c256_i32_148 : BitVec 32 := 256#32
  let v404 : BitVec 32 := Scalar.muli v403 c256_i32_148
  v404
@[reducible] def k0_t2_loop (i : grid0.Coords) : Scf.Loop 32 :=
  let c0_i32_17 : BitVec 32 := 0#32
  let arg1 : BitVec 32 := BitVec.ofNat 32 (i 1).val
  let c0_i32_10 : BitVec 32 := 0#32
  let v43 : BitVec 1 := Scalar.cmpi .sgt arg1 c0_i32_10
  let v44 : BitVec 32 := Scalar.extui v43
  let c0_i32_11 : BitVec 32 := 0#32
  let v45 : BitVec 1 := Scalar.cmpi .slt arg1 c0_i32_11
  let v46 : BitVec 32 := Scalar.extui v45
  let v47 : BitVec 32 := Scalar.subi v44 v46
  let c2_i32_9 : BitVec 32 := 2#32
  let c0_i32_12 : BitVec 32 := 0#32
  let v48 : BitVec 1 := Scalar.cmpi .sgt c2_i32_9 c0_i32_12
  let v49 : BitVec 32 := Scalar.extui v48
  let c0_i32_13 : BitVec 32 := 0#32
  let v50 : BitVec 1 := Scalar.cmpi .slt c2_i32_9 c0_i32_13
  let v51 : BitVec 32 := Scalar.extui v50
  let v52 : BitVec 32 := Scalar.subi v49 v51
  let v53 : BitVec 1 := Scalar.cmpi .ne v47 v52
  let v54 : BitVec 32 := Scalar.remsi arg1 c2_i32_9
  let c0_i32_14 : BitVec 32 := 0#32
  let v55 : BitVec 1 := Scalar.cmpi .ne v54 c0_i32_14
  let v56 : BitVec 1 := Scalar.andi v53 v55
  let v42 : BitVec 32 := Scalar.divsi arg1 c2_i32_9
  let c1_i32 : BitVec 32 := 1#32
  let v57 : BitVec 32 := Scalar.subi v42 c1_i32
  let v58 : BitVec 32 := Scalar.select v56 v57 v42
  let v61 : BitVec 32 := Scalar.subi v58 c0_i32_17
  let c1_i32_18 : BitVec 32 := 1#32
  let v63 : BitVec 32 := Scalar.divsi v61 c1_i32_18
  let v64 : BitVec 32 := Scalar.muli v63 c1_i32_18
  let v65 : BitVec 32 := Scalar.addi c0_i32_17 v64
  let v62 : BitVec 32 := Scalar.addi c0_i32_17 v61
  let c1_i32_20 : BitVec 32 := 1#32
  ⟨v65, v62, c1_i32_20⟩
def k0_mult5 (i : grid0.Coords) (k0_t2 : Fin (k0_t2_loop i).trips) : BitVec 32 :=
  let c4_i32 : BitVec 32 := 4#32
  let c0_i32_17 : BitVec 32 := 0#32
  let arg1 : BitVec 32 := BitVec.ofNat 32 (i 1).val
  let c0_i32_10 : BitVec 32 := 0#32
  let v43 : BitVec 1 := Scalar.cmpi .sgt arg1 c0_i32_10
  let v44 : BitVec 32 := Scalar.extui v43
  let c0_i32_11 : BitVec 32 := 0#32
  let v45 : BitVec 1 := Scalar.cmpi .slt arg1 c0_i32_11
  let v46 : BitVec 32 := Scalar.extui v45
  let v47 : BitVec 32 := Scalar.subi v44 v46
  let c2_i32_9 : BitVec 32 := 2#32
  let c0_i32_12 : BitVec 32 := 0#32
  let v48 : BitVec 1 := Scalar.cmpi .sgt c2_i32_9 c0_i32_12
  let v49 : BitVec 32 := Scalar.extui v48
  let c0_i32_13 : BitVec 32 := 0#32
  let v50 : BitVec 1 := Scalar.cmpi .slt c2_i32_9 c0_i32_13
  let v51 : BitVec 32 := Scalar.extui v50
  let v52 : BitVec 32 := Scalar.subi v49 v51
  let v53 : BitVec 1 := Scalar.cmpi .ne v47 v52
  let v54 : BitVec 32 := Scalar.remsi arg1 c2_i32_9
  let c0_i32_14 : BitVec 32 := 0#32
  let v55 : BitVec 1 := Scalar.cmpi .ne v54 c0_i32_14
  let v56 : BitVec 1 := Scalar.andi v53 v55
  let v42 : BitVec 32 := Scalar.divsi arg1 c2_i32_9
  let c1_i32 : BitVec 32 := 1#32
  let v57 : BitVec 32 := Scalar.subi v42 c1_i32
  let v58 : BitVec 32 := Scalar.select v56 v57 v42
  let v61 : BitVec 32 := Scalar.subi v58 c0_i32_17
  let c1_i32_18 : BitVec 32 := 1#32
  let v63 : BitVec 32 := Scalar.divsi v61 c1_i32_18
  let v64 : BitVec 32 := Scalar.muli v63 c1_i32_18
  let v65 : BitVec 32 := Scalar.addi c0_i32_17 v64
  let c1_i32_20 : BitVec 32 := 1#32
  let arg10 : BitVec 32 := Scf.iv v65 c1_i32_20 k0_t2
  let v234 : BitVec 32 := Scalar.muli c4_i32 arg10
  let c0_i32_79 : BitVec 32 := 0#32
  let v235 : BitVec 32 := Scalar.addi v234 c0_i32_79
  let c256_i32_80 : BitVec 32 := 256#32
  let v236 : BitVec 32 := Scalar.muli v235 c256_i32_80
  v236
def k0_off3 (i : grid0.Coords) (k0_t2 : Fin (k0_t2_loop i).trips) (c0_i32_79 : BitVec 32) : Fin 5 → Nat :=
  let c0_81 : Index := 0#32
  let c0_82 : Index := 0#32
  let c4_i32 : BitVec 32 := 4#32
  let c0_i32_17 : BitVec 32 := 0#32
  let arg1 : BitVec 32 := BitVec.ofNat 32 (i 1).val
  let c0_i32_10 : BitVec 32 := 0#32
  let v43 : BitVec 1 := Scalar.cmpi .sgt arg1 c0_i32_10
  let v44 : BitVec 32 := Scalar.extui v43
  let c0_i32_11 : BitVec 32 := 0#32
  let v45 : BitVec 1 := Scalar.cmpi .slt arg1 c0_i32_11
  let v46 : BitVec 32 := Scalar.extui v45
  let v47 : BitVec 32 := Scalar.subi v44 v46
  let c2_i32_9 : BitVec 32 := 2#32
  let c0_i32_12 : BitVec 32 := 0#32
  let v48 : BitVec 1 := Scalar.cmpi .sgt c2_i32_9 c0_i32_12
  let v49 : BitVec 32 := Scalar.extui v48
  let c0_i32_13 : BitVec 32 := 0#32
  let v50 : BitVec 1 := Scalar.cmpi .slt c2_i32_9 c0_i32_13
  let v51 : BitVec 32 := Scalar.extui v50
  let v52 : BitVec 32 := Scalar.subi v49 v51
  let v53 : BitVec 1 := Scalar.cmpi .ne v47 v52
  let v54 : BitVec 32 := Scalar.remsi arg1 c2_i32_9
  let c0_i32_14 : BitVec 32 := 0#32
  let v55 : BitVec 1 := Scalar.cmpi .ne v54 c0_i32_14
  let v56 : BitVec 1 := Scalar.andi v53 v55
  let v42 : BitVec 32 := Scalar.divsi arg1 c2_i32_9
  let c1_i32 : BitVec 32 := 1#32
  let v57 : BitVec 32 := Scalar.subi v42 c1_i32
  let v58 : BitVec 32 := Scalar.select v56 v57 v42
  let v61 : BitVec 32 := Scalar.subi v58 c0_i32_17
  let c1_i32_18 : BitVec 32 := 1#32
  let v63 : BitVec 32 := Scalar.divsi v61 c1_i32_18
  let v64 : BitVec 32 := Scalar.muli v63 c1_i32_18
  let v65 : BitVec 32 := Scalar.addi c0_i32_17 v64
  let c1_i32_20 : BitVec 32 := 1#32
  let arg10 : BitVec 32 := Scf.iv v65 c1_i32_20 k0_t2
  let v234 : BitVec 32 := Scalar.muli c4_i32 arg10
  let v235 : BitVec 32 := Scalar.addi v234 c0_i32_79
  let v238 : Index := Scalar.indexCast v235
  let c0_83 : Index := 0#32
  let c0_84 : Index := 0#32
  ![0, 0, v238.toNat, 0, 0]
def k0_off4 (i : grid0.Coords) (k0_t2 : Fin (k0_t2_loop i).trips) (c0_i32_79 : BitVec 32) : Fin 2 → Nat :=
  let c4_i32 : BitVec 32 := 4#32
  let c0_i32_17 : BitVec 32 := 0#32
  let arg1 : BitVec 32 := BitVec.ofNat 32 (i 1).val
  let c0_i32_10 : BitVec 32 := 0#32
  let v43 : BitVec 1 := Scalar.cmpi .sgt arg1 c0_i32_10
  let v44 : BitVec 32 := Scalar.extui v43
  let c0_i32_11 : BitVec 32 := 0#32
  let v45 : BitVec 1 := Scalar.cmpi .slt arg1 c0_i32_11
  let v46 : BitVec 32 := Scalar.extui v45
  let v47 : BitVec 32 := Scalar.subi v44 v46
  let c2_i32_9 : BitVec 32 := 2#32
  let c0_i32_12 : BitVec 32 := 0#32
  let v48 : BitVec 1 := Scalar.cmpi .sgt c2_i32_9 c0_i32_12
  let v49 : BitVec 32 := Scalar.extui v48
  let c0_i32_13 : BitVec 32 := 0#32
  let v50 : BitVec 1 := Scalar.cmpi .slt c2_i32_9 c0_i32_13
  let v51 : BitVec 32 := Scalar.extui v50
  let v52 : BitVec 32 := Scalar.subi v49 v51
  let v53 : BitVec 1 := Scalar.cmpi .ne v47 v52
  let v54 : BitVec 32 := Scalar.remsi arg1 c2_i32_9
  let c0_i32_14 : BitVec 32 := 0#32
  let v55 : BitVec 1 := Scalar.cmpi .ne v54 c0_i32_14
  let v56 : BitVec 1 := Scalar.andi v53 v55
  let v42 : BitVec 32 := Scalar.divsi arg1 c2_i32_9
  let c1_i32 : BitVec 32 := 1#32
  let v57 : BitVec 32 := Scalar.subi v42 c1_i32
  let v58 : BitVec 32 := Scalar.select v56 v57 v42
  let v61 : BitVec 32 := Scalar.subi v58 c0_i32_17
  let c1_i32_18 : BitVec 32 := 1#32
  let v63 : BitVec 32 := Scalar.divsi v61 c1_i32_18
  let v64 : BitVec 32 := Scalar.muli v63 c1_i32_18
  let v65 : BitVec 32 := Scalar.addi c0_i32_17 v64
  let c1_i32_20 : BitVec 32 := 1#32
  let arg10 : BitVec 32 := Scf.iv v65 c1_i32_20 k0_t2
  let v234 : BitVec 32 := Scalar.muli c4_i32 arg10
  let v235 : BitVec 32 := Scalar.addi v234 c0_i32_79
  let c256_i32_80 : BitVec 32 := 256#32
  let v236 : BitVec 32 := Scalar.muli v235 c256_i32_80
  let v237 : BitVec 32 := v236
  let v241 : Index := Scalar.indexCast v237
  let c0_85 : Index := 0#32
  ![v241.toNat, 0]
def k0_mult6 (i : grid0.Coords) (k0_t2 : Fin (k0_t2_loop i).trips) : BitVec 32 :=
  let c4_i32_101 : BitVec 32 := 4#32
  let c0_i32_17 : BitVec 32 := 0#32
  let arg1 : BitVec 32 := BitVec.ofNat 32 (i 1).val
  let c0_i32_10 : BitVec 32 := 0#32
  let v43 : BitVec 1 := Scalar.cmpi .sgt arg1 c0_i32_10
  let v44 : BitVec 32 := Scalar.extui v43
  let c0_i32_11 : BitVec 32 := 0#32
  let v45 : BitVec 1 := Scalar.cmpi .slt arg1 c0_i32_11
  let v46 : BitVec 32 := Scalar.extui v45
  let v47 : BitVec 32 := Scalar.subi v44 v46
  let c2_i32_9 : BitVec 32 := 2#32
  let c0_i32_12 : BitVec 32 := 0#32
  let v48 : BitVec 1 := Scalar.cmpi .sgt c2_i32_9 c0_i32_12
  let v49 : BitVec 32 := Scalar.extui v48
  let c0_i32_13 : BitVec 32 := 0#32
  let v50 : BitVec 1 := Scalar.cmpi .slt c2_i32_9 c0_i32_13
  let v51 : BitVec 32 := Scalar.extui v50
  let v52 : BitVec 32 := Scalar.subi v49 v51
  let v53 : BitVec 1 := Scalar.cmpi .ne v47 v52
  let v54 : BitVec 32 := Scalar.remsi arg1 c2_i32_9
  let c0_i32_14 : BitVec 32 := 0#32
  let v55 : BitVec 1 := Scalar.cmpi .ne v54 c0_i32_14
  let v56 : BitVec 1 := Scalar.andi v53 v55
  let v42 : BitVec 32 := Scalar.divsi arg1 c2_i32_9
  let c1_i32 : BitVec 32 := 1#32
  let v57 : BitVec 32 := Scalar.subi v42 c1_i32
  let v58 : BitVec 32 := Scalar.select v56 v57 v42
  let v61 : BitVec 32 := Scalar.subi v58 c0_i32_17
  let c1_i32_18 : BitVec 32 := 1#32
  let v63 : BitVec 32 := Scalar.divsi v61 c1_i32_18
  let v64 : BitVec 32 := Scalar.muli v63 c1_i32_18
  let v65 : BitVec 32 := Scalar.addi c0_i32_17 v64
  let c1_i32_20 : BitVec 32 := 1#32
  let arg10 : BitVec 32 := Scf.iv v65 c1_i32_20 k0_t2
  let v290 : BitVec 32 := Scalar.muli c4_i32_101 arg10
  let c1_i32_102 : BitVec 32 := 1#32
  let v291 : BitVec 32 := Scalar.addi v290 c1_i32_102
  let c256_i32_103 : BitVec 32 := 256#32
  let v292 : BitVec 32 := Scalar.muli v291 c256_i32_103
  v292
def k0_mult7 (i : grid0.Coords) (k0_t2 : Fin (k0_t2_loop i).trips) : BitVec 32 :=
  let c4_i32_124 : BitVec 32 := 4#32
  let c0_i32_17 : BitVec 32 := 0#32
  let arg1 : BitVec 32 := BitVec.ofNat 32 (i 1).val
  let c0_i32_10 : BitVec 32 := 0#32
  let v43 : BitVec 1 := Scalar.cmpi .sgt arg1 c0_i32_10
  let v44 : BitVec 32 := Scalar.extui v43
  let c0_i32_11 : BitVec 32 := 0#32
  let v45 : BitVec 1 := Scalar.cmpi .slt arg1 c0_i32_11
  let v46 : BitVec 32 := Scalar.extui v45
  let v47 : BitVec 32 := Scalar.subi v44 v46
  let c2_i32_9 : BitVec 32 := 2#32
  let c0_i32_12 : BitVec 32 := 0#32
  let v48 : BitVec 1 := Scalar.cmpi .sgt c2_i32_9 c0_i32_12
  let v49 : BitVec 32 := Scalar.extui v48
  let c0_i32_13 : BitVec 32 := 0#32
  let v50 : BitVec 1 := Scalar.cmpi .slt c2_i32_9 c0_i32_13
  let v51 : BitVec 32 := Scalar.extui v50
  let v52 : BitVec 32 := Scalar.subi v49 v51
  let v53 : BitVec 1 := Scalar.cmpi .ne v47 v52
  let v54 : BitVec 32 := Scalar.remsi arg1 c2_i32_9
  let c0_i32_14 : BitVec 32 := 0#32
  let v55 : BitVec 1 := Scalar.cmpi .ne v54 c0_i32_14
  let v56 : BitVec 1 := Scalar.andi v53 v55
  let v42 : BitVec 32 := Scalar.divsi arg1 c2_i32_9
  let c1_i32 : BitVec 32 := 1#32
  let v57 : BitVec 32 := Scalar.subi v42 c1_i32
  let v58 : BitVec 32 := Scalar.select v56 v57 v42
  let v61 : BitVec 32 := Scalar.subi v58 c0_i32_17
  let c1_i32_18 : BitVec 32 := 1#32
  let v63 : BitVec 32 := Scalar.divsi v61 c1_i32_18
  let v64 : BitVec 32 := Scalar.muli v63 c1_i32_18
  let v65 : BitVec 32 := Scalar.addi c0_i32_17 v64
  let c1_i32_20 : BitVec 32 := 1#32
  let arg10 : BitVec 32 := Scf.iv v65 c1_i32_20 k0_t2
  let v346 : BitVec 32 := Scalar.muli c4_i32_124 arg10
  let c2_i32_125 : BitVec 32 := 2#32
  let v347 : BitVec 32 := Scalar.addi v346 c2_i32_125
  let c256_i32_126 : BitVec 32 := 256#32
  let v348 : BitVec 32 := Scalar.muli v347 c256_i32_126
  v348
def k0_mult8 (i : grid0.Coords) (k0_t2 : Fin (k0_t2_loop i).trips) : BitVec 32 :=
  let c4_i32_147 : BitVec 32 := 4#32
  let c0_i32_17 : BitVec 32 := 0#32
  let arg1 : BitVec 32 := BitVec.ofNat 32 (i 1).val
  let c0_i32_10 : BitVec 32 := 0#32
  let v43 : BitVec 1 := Scalar.cmpi .sgt arg1 c0_i32_10
  let v44 : BitVec 32 := Scalar.extui v43
  let c0_i32_11 : BitVec 32 := 0#32
  let v45 : BitVec 1 := Scalar.cmpi .slt arg1 c0_i32_11
  let v46 : BitVec 32 := Scalar.extui v45
  let v47 : BitVec 32 := Scalar.subi v44 v46
  let c2_i32_9 : BitVec 32 := 2#32
  let c0_i32_12 : BitVec 32 := 0#32
  let v48 : BitVec 1 := Scalar.cmpi .sgt c2_i32_9 c0_i32_12
  let v49 : BitVec 32 := Scalar.extui v48
  let c0_i32_13 : BitVec 32 := 0#32
  let v50 : BitVec 1 := Scalar.cmpi .slt c2_i32_9 c0_i32_13
  let v51 : BitVec 32 := Scalar.extui v50
  let v52 : BitVec 32 := Scalar.subi v49 v51
  let v53 : BitVec 1 := Scalar.cmpi .ne v47 v52
  let v54 : BitVec 32 := Scalar.remsi arg1 c2_i32_9
  let c0_i32_14 : BitVec 32 := 0#32
  let v55 : BitVec 1 := Scalar.cmpi .ne v54 c0_i32_14
  let v56 : BitVec 1 := Scalar.andi v53 v55
  let v42 : BitVec 32 := Scalar.divsi arg1 c2_i32_9
  let c1_i32 : BitVec 32 := 1#32
  let v57 : BitVec 32 := Scalar.subi v42 c1_i32
  let v58 : BitVec 32 := Scalar.select v56 v57 v42
  let v61 : BitVec 32 := Scalar.subi v58 c0_i32_17
  let c1_i32_18 : BitVec 32 := 1#32
  let v63 : BitVec 32 := Scalar.divsi v61 c1_i32_18
  let v64 : BitVec 32 := Scalar.muli v63 c1_i32_18
  let v65 : BitVec 32 := Scalar.addi c0_i32_17 v64
  let c1_i32_20 : BitVec 32 := 1#32
  let arg10 : BitVec 32 := Scf.iv v65 c1_i32_20 k0_t2
  let v402 : BitVec 32 := Scalar.muli c4_i32_147 arg10
  let c3_i32 : BitVec 32 := 3#32
  let v403 : BitVec 32 := Scalar.addi v402 c3_i32
  let c256_i32_148 : BitVec 32 := 256#32
  let v404 : BitVec 32 := Scalar.muli v403 c256_i32_148
  v404
def k0_cond2 (i : grid0.Coords) : BitVec 1 :=
  let arg1 : BitVec 32 := BitVec.ofNat 32 (i 1).val
  let c2_i32_21 : BitVec 32 := 2#32
  let c0_i32_22 : BitVec 32 := 0#32
  let v68 : BitVec 1 := Scalar.cmpi .eq c2_i32_21 c0_i32_22
  let c1_i32_23 : BitVec 32 := 1#32
  let v69 : BitVec 32 := Scalar.select v68 c1_i32_23 c2_i32_21
  let v70 : BitVec 32 := Scalar.remsi arg1 v69
  let c0_i32_25 : BitVec 32 := 0#32
  let v72 : BitVec 1 := Scalar.cmpi .slt v70 c0_i32_25
  let c0_i32_26 : BitVec 32 := 0#32
  let v73 : BitVec 1 := Scalar.cmpi .slt v69 c0_i32_26
  let v74 : BitVec 1 := Scalar.xori v72 v73
  let c0_i32_24 : BitVec 32 := 0#32
  let v71 : BitVec 1 := Scalar.cmpi .ne v70 c0_i32_24
  let v75 : BitVec 1 := Scalar.andi v74 v71
  let v76 : BitVec 32 := Scalar.addi v70 v69
  let v77 : BitVec 32 := Scalar.select v75 v76 v70
  let c1_i32_27 : BitVec 32 := 1#32
  let v78 : BitVec 1 := Scalar.cmpi .eq v77 c1_i32_27
  let v79 : BitVec 32 := Scalar.extui v78
  let c0_i32_28 : BitVec 32 := 0#32
  let v80 : BitVec 1 := Scalar.cmpi .ne v79 c0_i32_28
  v80

def k0_mult9 (i : grid0.Coords) : BitVec 32 :=
  let arg1 : BitVec 32 := BitVec.ofNat 32 (i 1).val
  let c2_i32 : BitVec 32 := 2#32
  let v41 : BitVec 32 := Scalar.muli arg1 c2_i32
  let c2_i32_79 : BitVec 32 := 2#32
  let v234 : BitVec 32 := Scalar.subi v41 c2_i32_79
  let c0_i32_80 : BitVec 32 := 0#32
  let v235 : BitVec 32 := Scalar.addi v234 c0_i32_80
  let c256_i32_81 : BitVec 32 := 256#32
  let v236 : BitVec 32 := Scalar.muli v235 c256_i32_81
  v236
def k0_off5 (i : grid0.Coords) (c0_i32_80 : BitVec 32) : Fin 5 → Nat :=
  let c0_82 : Index := 0#32
  let c0_83 : Index := 0#32
  let arg1 : BitVec 32 := BitVec.ofNat 32 (i 1).val
  let c2_i32 : BitVec 32 := 2#32
  let v41 : BitVec 32 := Scalar.muli arg1 c2_i32
  let c2_i32_79 : BitVec 32 := 2#32
  let v234 : BitVec 32 := Scalar.subi v41 c2_i32_79
  let v235 : BitVec 32 := Scalar.addi v234 c0_i32_80
  let v238 : Index := Scalar.indexCast v235
  let c0_84 : Index := 0#32
  let c0_85 : Index := 0#32
  ![0, 0, v238.toNat, 0, 0]
def k0_off6 (i : grid0.Coords) (c0_i32_80 : BitVec 32) : Fin 2 → Nat :=
  let arg1 : BitVec 32 := BitVec.ofNat 32 (i 1).val
  let c2_i32 : BitVec 32 := 2#32
  let v41 : BitVec 32 := Scalar.muli arg1 c2_i32
  let c2_i32_79 : BitVec 32 := 2#32
  let v234 : BitVec 32 := Scalar.subi v41 c2_i32_79
  let v235 : BitVec 32 := Scalar.addi v234 c0_i32_80
  let c256_i32_81 : BitVec 32 := 256#32
  let v236 : BitVec 32 := Scalar.muli v235 c256_i32_81
  let v237 : BitVec 32 := v236
  let v241 : Index := Scalar.indexCast v237
  let c0_86 : Index := 0#32
  ![v241.toNat, 0]
def k0_mult10 (i : grid0.Coords) : BitVec 32 :=
  let arg1 : BitVec 32 := BitVec.ofNat 32 (i 1).val
  let c2_i32 : BitVec 32 := 2#32
  let v41 : BitVec 32 := Scalar.muli arg1 c2_i32
  let c2_i32_102 : BitVec 32 := 2#32
  let v290 : BitVec 32 := Scalar.subi v41 c2_i32_102
  let c1_i32_103 : BitVec 32 := 1#32
  let v291 : BitVec 32 := Scalar.addi v290 c1_i32_103
  let c256_i32_104 : BitVec 32 := 256#32
  let v292 : BitVec 32 := Scalar.muli v291 c256_i32_104
  v292
def k0_mult11 (i : grid0.Coords) : BitVec 32 :=
  let arg1 : BitVec 32 := BitVec.ofNat 32 (i 1).val
  let c2_i32 : BitVec 32 := 2#32
  let v41 : BitVec 32 := Scalar.muli arg1 c2_i32
  let c0_i32_30 : BitVec 32 := 0#32
  let v85 : BitVec 32 := Scalar.addi v41 c0_i32_30
  let c256_i32 : BitVec 32 := 256#32
  let v87 : BitVec 32 := Scalar.muli v85 c256_i32
  v87
def k0_off7 (i : grid0.Coords) (c0_i32_30 : BitVec 32) : Fin 5 → Nat :=
  let c0_31 : Index := 0#32
  let c0_32 : Index := 0#32
  let arg1 : BitVec 32 := BitVec.ofNat 32 (i 1).val
  let c2_i32 : BitVec 32 := 2#32
  let v41 : BitVec 32 := Scalar.muli arg1 c2_i32
  let v85 : BitVec 32 := Scalar.addi v41 c0_i32_30
  let v89 : Index := Scalar.indexCast v85
  let c0_33 : Index := 0#32
  let c0_34 : Index := 0#32
  ![0, 0, v89.toNat, 0, 0]
def k0_off8 (i : grid0.Coords) (c0_i32_30 : BitVec 32) : Fin 2 → Nat :=
  let arg1 : BitVec 32 := BitVec.ofNat 32 (i 1).val
  let c2_i32 : BitVec 32 := 2#32
  let v41 : BitVec 32 := Scalar.muli arg1 c2_i32
  let v85 : BitVec 32 := Scalar.addi v41 c0_i32_30
  let c256_i32 : BitVec 32 := 256#32
  let v87 : BitVec 32 := Scalar.muli v85 c256_i32
  let v88 : BitVec 32 := v87
  let v92 : Index := Scalar.indexCast v88
  let c0_35 : Index := 0#32
  ![v92.toNat, 0]
def k0_mult12 (i : grid0.Coords) : BitVec 32 :=
  let arg1 : BitVec 32 := BitVec.ofNat 32 (i 1).val
  let c2_i32 : BitVec 32 := 2#32
  let v41 : BitVec 32 := Scalar.muli arg1 c2_i32
  let c1_i32_53 : BitVec 32 := 1#32
  let v147 : BitVec 32 := Scalar.addi v41 c1_i32_53
  let c256_i32_54 : BitVec 32 := 256#32
  let v149 : BitVec 32 := Scalar.muli v147 c256_i32_54
  v149
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x16x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S4096x3584 : Shape := ⟨2, ![4096, 3584]⟩
abbrev S4096x512 : Shape := ⟨2, ![4096, 512]⟩
abbrev S4096x8x64 : Shape := ⟨3, ![4096, 8, 64]⟩
abbrev S8x4096x64 : Shape := ⟨3, ![8, 4096, 64]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x64x4096 : Shape := ⟨3, ![8, 64, 4096]⟩

abbrev nBuf : Space → Nat
  | .hbm => 178
  | .vmem => 0
  | .smem => 0
  | _ => 0

abbrev hbmTy0_0 (i : Nat) : BufTy := match i % 128 with
  | 0 => ⟨S4096x3584, .f32⟩
  | 1 => ⟨S4096x512, .f32⟩
  | 2 => ⟨S4096x512, .f32⟩
  | 3 => ⟨S4096x512, .f32⟩
  | 4 => ⟨S4096x512, .f32⟩
  | 5 => ⟨S4096x8x64, .f32⟩
  | 6 => ⟨S8x4096x64, .f32⟩
  | 7 => ⟨S4096x8x64, .f32⟩
  | 8 => ⟨S8x4096x64, .f32⟩
  | 9 => ⟨S4096x8x64, .f32⟩
  | 10 => ⟨S8x4096x64, .f32⟩
  | 11 => ⟨S8x4096x4096, .f32⟩
  | 12 => ⟨S_, .f32⟩
  | 13 => ⟨S8x4096x4096, .f32⟩
  | 14 => ⟨S8x4096x4096, .f32⟩
  | 15 => ⟨S4096, .i32⟩
  | 16 => ⟨S1x4096, .i32⟩
  | 17 => ⟨S4096x1, .i32⟩
  | 18 => ⟨S4096x4096, .i32⟩
  | 19 => ⟨S4096x4096, .i32⟩
  | 20 => ⟨S4096x4096, .i1⟩
  | 21 => ⟨S8x4096x4096, .f32⟩
  | 22 => ⟨S_, .f32⟩
  | 23 => ⟨S8x4096x4096, .f32⟩
  | 24 => ⟨S8x4096x4096, .f32⟩
  | 25 => ⟨S8x4096x4096, .f32⟩
  | 26 => ⟨S8x4096x4096, .f32⟩
  | 27 => ⟨S8x4096x4096, .i1⟩
  | 28 => ⟨S8x4096x4096, .f32⟩
  | 29 => ⟨S8x4096x4096, .f32⟩
  | 30 => ⟨S8x4096x4096, .f32⟩
  | 31 => ⟨S8x4096x4096, .f32⟩
  | 32 => ⟨S8x4096x4096, .f32⟩
  | 33 => ⟨S8x4096x4096, .f32⟩
  | 34 => ⟨S8x4096x4096, .f32⟩
  | 35 => ⟨S8x4096x4096, .f32⟩
  | 36 => ⟨S_, .f32⟩
  | 37 => ⟨S8x4096x4096, .f32⟩
  | 38 => ⟨S8x4096x4096, .i1⟩
  | 39 => ⟨S_, .f32⟩
  | 40 => ⟨S8x4096x4096, .f32⟩
  | 41 => ⟨S8x4096x4096, .f32⟩
  | 42 => ⟨S_, .f32⟩
  | 43 => ⟨S8x4096x4096, .f32⟩
  | 44 => ⟨S8x4096x4096, .i1⟩
  | 45 => ⟨S_, .f32⟩
  | 46 => ⟨S8x4096x4096, .f32⟩
  | 47 => ⟨S8x4096x4096, .f32⟩
  | 48 => ⟨S8x4096x4096, .f32⟩
  | 49 => ⟨S8x4096x4096, .f32⟩
  | 50 => ⟨S_, .f32⟩
  | 51 => ⟨S_, .f32⟩
  | 52 => ⟨S_, .i1⟩
  | 53 => ⟨S_, .f32⟩
  | 54 => ⟨S_, .f32⟩
  | 55 => ⟨S_, .f32⟩
  | 56 => ⟨S_, .f32⟩
  | 57 => ⟨S8x4096x4096, .f32⟩
  | 58 => ⟨S8x4096x4096, .i1⟩
  | 59 => ⟨S_, .f32⟩
  | 60 => ⟨S8x4096x4096, .f32⟩
  | 61 => ⟨S8x4096x4096, .f32⟩
  | 62 => ⟨S8x4096x4096, .f32⟩
  | 63 => ⟨S8x4096x4096, .f32⟩
  | 64 => ⟨S8x4096x4096, .f32⟩
  | 65 => ⟨S_, .f32⟩
  | 66 => ⟨S8x4096x4096, .f32⟩
  | 67 => ⟨S8x4096x4096, .f32⟩
  | 68 => ⟨S8x4096x4096, .f32⟩
  | 69 => ⟨S8x4096x4096, .f32⟩
  | 70 => ⟨S8x4096x4096, .f32⟩
  | 71 => ⟨S_, .f32⟩
  | 72 => ⟨S8x4096x4096, .f32⟩
  | 73 => ⟨S8x4096x4096, .f32⟩
  | 74 => ⟨S8x4096x4096, .f32⟩
  | 75 => ⟨S8x4096x4096, .f32⟩
  | 76 => ⟨S8x4096x4096, .i1⟩
  | 77 => ⟨S8x4096x4096, .f32⟩
  | 78 => ⟨S8x4096x4096, .f32⟩
  | 79 => ⟨S8x4096x4096, .f32⟩
  | 80 => ⟨S8x4096x4096, .f32⟩
  | 81 => ⟨S8x4096x4096, .f32⟩
  | 82 => ⟨S8x4096x4096, .f32⟩
  | 83 => ⟨S8x4096x4096, .f32⟩
  | 84 => ⟨S8x4096x4096, .f32⟩
  | 85 => ⟨S_, .f32⟩
  | 86 => ⟨S8x4096x4096, .f32⟩
  | 87 => ⟨S8x4096x4096, .i1⟩
  | 88 => ⟨S_, .f32⟩
  | 89 => ⟨S8x4096x4096, .f32⟩
  | 90 => ⟨S8x4096x4096, .f32⟩
  | 91 => ⟨S_, .f32⟩
  | 92 => ⟨S8x4096x4096, .f32⟩
  | 93 => ⟨S8x4096x4096, .i1⟩
  | 94 => ⟨S_, .f32⟩
  | 95 => ⟨S8x4096x4096, .f32⟩
  | 96 => ⟨S8x4096x4096, .f32⟩
  | 97 => ⟨S8x4096x4096, .f32⟩
  | 98 => ⟨S8x4096x4096, .f32⟩
  | 99 => ⟨S_, .f32⟩
  | 100 => ⟨S_, .f32⟩
  | 101 => ⟨S_, .i1⟩
  | 102 => ⟨S_, .f32⟩
  | 103 => ⟨S_, .f32⟩
  | 104 => ⟨S_, .f32⟩
  | 105 => ⟨S_, .f32⟩
  | 106 => ⟨S8x4096x4096, .f32⟩
  | 107 => ⟨S8x4096x4096, .i1⟩
  | 108 => ⟨S_, .f32⟩
  | 109 => ⟨S8x4096x4096, .f32⟩
  | 110 => ⟨S8x4096x4096, .f32⟩
  | 111 => ⟨S8x4096x4096, .f32⟩
  | 112 => ⟨S8x4096x4096, .f32⟩
  | 113 => ⟨S8x4096x4096, .f32⟩
  | 114 => ⟨S_, .f32⟩
  | 115 => ⟨S8x4096x4096, .f32⟩
  | 116 => ⟨S8x4096x4096, .f32⟩
  | 117 => ⟨S8x4096x4096, .f32⟩
  | 118 => ⟨S_, .f32⟩
  | 119 => ⟨S_, .f32⟩
  | 120 => ⟨S8x4096x4096, .i1⟩
  | 121 => ⟨S8x4096x4096, .f32⟩
  | 122 => ⟨S8x4096x4096, .f32⟩
  | 123 => ⟨S_, .f32⟩
  | 124 => ⟨S8x4096x4096, .f32⟩
  | 125 => ⟨S_, .f32⟩
  | 126 => ⟨S_, .f32⟩
  | 127 => ⟨S8x4096x4096, .f32⟩
  | _ => ⟨S4096x3584, .f32⟩

abbrev hbmTy0_1 (i : Nat) : BufTy := match i % 128 with
  | 0 => ⟨S8x4096x4096, .f32⟩
  | 1 => ⟨S8x4096x4096, .f32⟩
  | 2 => ⟨S8x4096x4096, .f32⟩
  | 3 => ⟨S_, .f32⟩
  | 4 => ⟨S_, .f32⟩
  | 5 => ⟨S8x4096x4096, .i1⟩
  | 6 => ⟨S8x4096x4096, .f32⟩
  | 7 => ⟨S8x4096x4096, .f32⟩
  | 8 => ⟨S_, .f32⟩
  | 9 => ⟨S8x4096x4096, .f32⟩
  | 10 => ⟨S8x4096x64, .f32⟩
  | 11 => ⟨S4096x8x64, .f32⟩
  | 12 => ⟨S4096x512, .f32⟩
  | 13 => ⟨S4096x8x64, .f32⟩
  | 14 => ⟨S8x4096x64, .f32⟩
  | 15 => ⟨S8x64x4096, .f32⟩
  | 16 => ⟨S8x4096x64, .f32⟩
  | 17 => ⟨S8x4096x4096, .f32⟩
  | 18 => ⟨S_, .f32⟩
  | 19 => ⟨S8x4096x4096, .f32⟩
  | 20 => ⟨S8x4096x4096, .f32⟩
  | 21 => ⟨S8x4096x4096, .f32⟩
  | 22 => ⟨S8x4096x4096, .f32⟩
  | 23 => ⟨S_, .f32⟩
  | 24 => ⟨S_, .f32⟩
  | 25 => ⟨S8x4096x4096, .f32⟩
  | 26 => ⟨S8x4096x4096, .f32⟩
  | 27 => ⟨S_, .f32⟩
  | 28 => ⟨S8x4096x4096, .f32⟩
  | 29 => ⟨S8x4096x4096, .f32⟩
  | 30 => ⟨S8x4096x4096, .f32⟩
  | 31 => ⟨S8x4096x4096, .f32⟩
  | 32 => ⟨S8x4096x4096, .f32⟩
  | 33 => ⟨S8x4096x4096, .f32⟩
  | 34 => ⟨S8x4096x4096, .f32⟩
  | 35 => ⟨S8x4096x4096, .f32⟩
  | 36 => ⟨S8x4096x4096, .f32⟩
  | 37 => ⟨S8x4096x4096, .f32⟩
  | 38 => ⟨S_, .f32⟩
  | 39 => ⟨S8x4096x4096, .f32⟩
  | 40 => ⟨S8x4096x4096, .f32⟩
  | 41 => ⟨S8x4096x64, .f32⟩
  | 42 => ⟨S8x4096x64, .f32⟩
  | 43 => ⟨S4096x8x64, .f32⟩
  | 44 => ⟨S4096x512, .f32⟩
  | 45 => ⟨S4096x8x64, .f32⟩
  | 46 => ⟨S4096x512, .f32⟩
  | 47 => ⟨S4096x8x64, .f32⟩
  | 48 => ⟨S4096x512, .f32⟩
  | 49 => ⟨S4096x512, .bf16⟩
  | _ => ⟨S4096x3584, .f32⟩

abbrev hbmTy (i : Nat) : BufTy := match i / 128 with
  | 0 => hbmTy0_0 i
  | 1 => hbmTy0_1 i
  | _ => ⟨S4096x3584, .f32⟩

abbrev bufTy : (tb : Table) → Fin (tcTables nBuf tb) → BufTy
  | .hbm, ⟨i, _⟩ => hbmTy i
  | _, _ => ⟨S4096x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1_0 : Ref sig .tc := ⟨.hbm, 35, rfl⟩
abbrev main_call0_call0_cst_0 : Ref sig .tc := ⟨.hbm, 36, rfl⟩
abbrev main_call0_call0_v13 : Ref sig .tc := ⟨.hbm, 37, rfl⟩
abbrev main_call0_call0_v14 : Ref sig .tc := ⟨.hbm, 38, rfl⟩
abbrev main_call0_call0_cst_1 : Ref sig .tc := ⟨.hbm, 39, rfl⟩
abbrev main_call0_call0_v15 : Ref sig .tc := ⟨.hbm, 40, rfl⟩
abbrev main_call0_call0_v16 : Ref sig .tc := ⟨.hbm, 41, rfl⟩
abbrev main_call0_call0_cst_2 : Ref sig .tc := ⟨.hbm, 42, rfl⟩
abbrev main_call0_call0_v17 : Ref sig .tc := ⟨.hbm, 43, rfl⟩
abbrev main_call0_call0_v18 : Ref sig .tc := ⟨.hbm, 44, rfl⟩
abbrev main_call0_call0_cst_3 : Ref sig .tc := ⟨.hbm, 45, rfl⟩
abbrev main_call0_call0_v19 : Ref sig .tc := ⟨.hbm, 46, rfl⟩
abbrev main_call0_call0_v20 : Ref sig .tc := ⟨.hbm, 47, rfl⟩
abbrev main_call0_call0_v21 : Ref sig .tc := ⟨.hbm, 48, rfl⟩
abbrev main_v18_1 : Ref sig .tc := ⟨.hbm, 49, rfl⟩
abbrev main_call0_call0_cst_4 : Ref sig .tc := ⟨.hbm, 50, rfl⟩
abbrev main_call0_call0_cst_5 : Ref sig .tc := ⟨.hbm, 51, rfl⟩
abbrev main_call0_call0_v23 : Ref sig .tc := ⟨.hbm, 52, rfl⟩
abbrev main_call0_call0_cst_6 : Ref sig .tc := ⟨.hbm, 53, rfl⟩
abbrev main_call0_call0_cst_7 : Ref sig .tc := ⟨.hbm, 54, rfl⟩
abbrev main_call0_call0_v24 : Ref sig .tc := ⟨.hbm, 55, rfl⟩
abbrev main_call0_call0_cst_8 : Ref sig .tc := ⟨.hbm, 56, rfl⟩
abbrev main_call0_call0_v25 : Ref sig .tc := ⟨.hbm, 57, rfl⟩
abbrev main_call0_call0_v26 : Ref sig .tc := ⟨.hbm, 58, rfl⟩
abbrev main_call0_call0_cst_9 : Ref sig .tc := ⟨.hbm, 59, rfl⟩
abbrev main_call0_call0_v27 : Ref sig .tc := ⟨.hbm, 60, rfl⟩
abbrev main_call0_call0_v28 : Ref sig .tc := ⟨.hbm, 61, rfl⟩
abbrev main_call0_call0_v29 : Ref sig .tc := ⟨.hbm, 62, rfl⟩
abbrev main_call0_call0_v30 : Ref sig .tc := ⟨.hbm, 63, rfl⟩
abbrev main_call0_call0_v31 : Ref sig .tc := ⟨.hbm, 64, rfl⟩
abbrev main_call0_call0_cst_10 : Ref sig .tc := ⟨.hbm, 65, rfl⟩
abbrev main_call0_call0_v32 : Ref sig .tc := ⟨.hbm, 66, rfl⟩
abbrev main_v18_2 : Ref sig .tc := ⟨.hbm, 67, rfl⟩
abbrev main_v18_0 : Ref sig .tc := ⟨.hbm, 68, rfl⟩
abbrev main_v19 : Ref sig .tc := ⟨.hbm, 69, rfl⟩
abbrev main_call1_v0 : Ref sig .tc := ⟨.hbm, 70, rfl⟩
abbrev main_call1_call0_cst : Ref sig .tc := ⟨.hbm, 71, rfl⟩
abbrev main_call1_call0_v0 : Ref sig .tc := ⟨.hbm, 72, rfl⟩
abbrev main_call1_call0_v1 : Ref sig .tc := ⟨.hbm, 73, rfl⟩
abbrev main_call1_call0_v2 : Ref sig .tc := ⟨.hbm, 74, rfl⟩
abbrev main_call1_call0_v3 : Ref sig .tc := ⟨.hbm, 75, rfl⟩
abbrev main_call1_call0_v4 : Ref sig .tc := ⟨.hbm, 76, rfl⟩
abbrev main_call1_call0_v5 : Ref sig .tc := ⟨.hbm, 77, rfl⟩
abbrev main_call1_call0_v6 : Ref sig .tc := ⟨.hbm, 78, rfl⟩
abbrev main_call1_call0_v7 : Ref sig .tc := ⟨.hbm, 79, rfl⟩
abbrev main_call1_call0_v8 : Ref sig .tc := ⟨.hbm, 80, rfl⟩
abbrev main_call1_call0_v9 : Ref sig .tc := ⟨.hbm, 81, rfl⟩
abbrev main_call1_call0_v10 : Ref sig .tc := ⟨.hbm, 82, rfl⟩
abbrev main_call1_call0_v11 : Ref sig .tc := ⟨.hbm, 83, rfl⟩
abbrev main_call1_v1_0 : Ref sig .tc := ⟨.hbm, 84, rfl⟩
abbrev main_call1_call0_cst_0 : Ref sig .tc := ⟨.hbm, 85, rfl⟩
abbrev main_call1_call0_v13 : Ref sig .tc := ⟨.hbm, 86, rfl⟩
abbrev main_call1_call0_v14 : Ref sig .tc := ⟨.hbm, 87, rfl⟩
abbrev main_call1_call0_cst_1 : Ref sig .tc := ⟨.hbm, 88, rfl⟩
abbrev main_call1_call0_v15 : Ref sig .tc := ⟨.hbm, 89, rfl⟩
abbrev main_call1_call0_v16 : Ref sig .tc := ⟨.hbm, 90, rfl⟩
abbrev main_call1_call0_cst_2 : Ref sig .tc := ⟨.hbm, 91, rfl⟩
abbrev main_call1_call0_v17 : Ref sig .tc := ⟨.hbm, 92, rfl⟩
abbrev main_call1_call0_v18 : Ref sig .tc := ⟨.hbm, 93, rfl⟩
abbrev main_call1_call0_cst_3 : Ref sig .tc := ⟨.hbm, 94, rfl⟩
abbrev main_call1_call0_v19 : Ref sig .tc := ⟨.hbm, 95, rfl⟩
abbrev main_call1_call0_v20 : Ref sig .tc := ⟨.hbm, 96, rfl⟩
abbrev main_call1_call0_v21 : Ref sig .tc := ⟨.hbm, 97, rfl⟩
abbrev main_v20_1 : Ref sig .tc := ⟨.hbm, 98, rfl⟩
abbrev main_call1_call0_cst_4 : Ref sig .tc := ⟨.hbm, 99, rfl⟩
abbrev main_call1_call0_cst_5 : Ref sig .tc := ⟨.hbm, 100, rfl⟩
abbrev main_call1_call0_v23 : Ref sig .tc := ⟨.hbm, 101, rfl⟩
abbrev main_call1_call0_cst_6 : Ref sig .tc := ⟨.hbm, 102, rfl⟩
abbrev main_call1_call0_cst_7 : Ref sig .tc := ⟨.hbm, 103, rfl⟩
abbrev main_call1_call0_v24 : Ref sig .tc := ⟨.hbm, 104, rfl⟩
abbrev main_call1_call0_cst_8 : Ref sig .tc := ⟨.hbm, 105, rfl⟩
abbrev main_call1_call0_v25 : Ref sig .tc := ⟨.hbm, 106, rfl⟩
abbrev main_call1_call0_v26 : Ref sig .tc := ⟨.hbm, 107, rfl⟩
abbrev main_call1_call0_cst_9 : Ref sig .tc := ⟨.hbm, 108, rfl⟩
abbrev main_call1_call0_v27 : Ref sig .tc := ⟨.hbm, 109, rfl⟩
abbrev main_call1_call0_v28 : Ref sig .tc := ⟨.hbm, 110, rfl⟩
abbrev main_call1_call0_v29 : Ref sig .tc := ⟨.hbm, 111, rfl⟩
abbrev main_call1_call0_v30 : Ref sig .tc := ⟨.hbm, 112, rfl⟩
abbrev main_call1_call0_v31 : Ref sig .tc := ⟨.hbm, 113, rfl⟩
abbrev main_call1_call0_cst_10 : Ref sig .tc := ⟨.hbm, 114, rfl⟩
abbrev main_call1_call0_v32 : Ref sig .tc := ⟨.hbm, 115, rfl⟩
abbrev main_v20_2 : Ref sig .tc := ⟨.hbm, 116, rfl⟩
abbrev main_v20_0 : Ref sig .tc := ⟨.hbm, 117, rfl⟩
abbrev main_cst_0 : Ref sig .tc := ⟨.hbm, 118, rfl⟩
abbrev main_call2_v0 : Ref sig .tc := ⟨.hbm, 119, rfl⟩
abbrev main_v21_1 : Ref sig .tc := ⟨.hbm, 120, rfl⟩
abbrev main_call2_v2 : Ref sig .tc := ⟨.hbm, 121, rfl⟩
abbrev main_v21_0 : Ref sig .tc := ⟨.hbm, 122, rfl⟩
abbrev main_call2_cst : Ref sig .tc := ⟨.hbm, 123, rfl⟩
abbrev main_v21_2 : Ref sig .tc := ⟨.hbm, 124, rfl⟩
abbrev main_call3_cst : Ref sig .tc := ⟨.hbm, 125, rfl⟩
abbrev main_call3_v0 : Ref sig .tc := ⟨.hbm, 126, rfl⟩
abbrev main_v22 : Ref sig .tc := ⟨.hbm, 127, rfl⟩
abbrev main_v23 : Ref sig .tc := ⟨.hbm, 128, rfl⟩
abbrev main_v24 : Ref sig .tc := ⟨.hbm, 129, rfl⟩
abbrev main_v25 : Ref sig .tc := ⟨.hbm, 130, rfl⟩
abbrev main_cst_1 : Ref sig .tc := ⟨.hbm, 131, rfl⟩
abbrev main_call4_v0 : Ref sig .tc := ⟨.hbm, 132, rfl⟩
abbrev main_v26_1 : Ref sig .tc := ⟨.hbm, 133, rfl⟩
abbrev main_call4_v2 : Ref sig .tc := ⟨.hbm, 134, rfl⟩
abbrev main_v26_0 : Ref sig .tc := ⟨.hbm, 135, rfl⟩
abbrev main_call4_cst : Ref sig .tc := ⟨.hbm, 136, rfl⟩
abbrev main_v26_2 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_call5_cst : Ref sig .tc := ⟨.hbm, 146, rfl⟩
abbrev main_call5_v0 : Ref sig .tc := ⟨.hbm, 147, rfl⟩
abbrev main_v35 : Ref sig .tc := ⟨.hbm, 148, rfl⟩
abbrev main_v36 : Ref sig .tc := ⟨.hbm, 149, rfl⟩
abbrev main_v37 : Ref sig .tc := ⟨.hbm, 150, rfl⟩
abbrev main_call6_cst : Ref sig .tc := ⟨.hbm, 151, rfl⟩
abbrev main_call6_v0 : Ref sig .tc := ⟨.hbm, 152, rfl⟩
abbrev main_v38 : Ref sig .tc := ⟨.hbm, 153, rfl⟩
abbrev main_v39 : Ref sig .tc := ⟨.hbm, 154, rfl⟩
abbrev main_call7_cst : Ref sig .tc := ⟨.hbm, 155, rfl⟩
abbrev main_call7_v0 : Ref sig .tc := ⟨.hbm, 156, rfl⟩
abbrev main_v40 : Ref sig .tc := ⟨.hbm, 157, rfl⟩
abbrev main_call8_v0 : Ref sig .tc := ⟨.hbm, 158, rfl⟩
abbrev main_call8_v1 : Ref sig .tc := ⟨.hbm, 159, rfl⟩
abbrev main_v41 : Ref sig .tc := ⟨.hbm, 160, rfl⟩
abbrev main_v42 : Ref sig .tc := ⟨.hbm, 161, rfl⟩
abbrev main_call9_v0 : Ref sig .tc := ⟨.hbm, 162, rfl⟩
abbrev main_call9_v1 : Ref sig .tc := ⟨.hbm, 163, rfl⟩
abbrev main_v43 : Ref sig .tc := ⟨.hbm, 164, rfl⟩
abbrev main_v44 : Ref sig .tc := ⟨.hbm, 165, rfl⟩
abbrev main_cst_2 : Ref sig .tc := ⟨.hbm, 166, rfl⟩
abbrev main_v45 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩

abbrev nD : Nat := 1
abbrev τ : Topo := Topo.v7x

variable {F : FTy → Type} [FloatOps F]
-- ==== Kernel3.lean ====
abbrev S4096x2816 : Shape := ⟨2, ![4096, 2816]⟩
abbrev S4096x1024 : Shape := ⟨2, ![4096, 1024]⟩
abbrev S2816x1024 : Shape := ⟨2, ![2816, 1024]⟩
abbrev S4096x256 : Shape := ⟨2, ![4096, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4096x3584 : Shape := ⟨2, ![4096, 3584]⟩
abbrev S4096x1024 : Shape := ⟨2, ![4096, 1024]⟩
abbrev S3584x1024 : Shape := ⟨2, ![3584, 1024]⟩
abbrev S4096x256 : Shape := ⟨2, ![4096, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x3584, .bf16⟩
  | .hbm, ⟨1, _⟩ => ⟨S4096x1024, .bf16⟩
  | .hbm, ⟨2, _⟩ => ⟨S3584x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![14, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4096x3584 : Shape := ⟨2, ![4096, 3584]⟩
abbrev S4096x1024 : Shape := ⟨2, ![4096, 1024]⟩
abbrev S_ : Shape := ⟨0, ![]⟩
abbrev S3584x1024 : Shape := ⟨2, ![3584, 1024]⟩
abbrev S1024x3584 : Shape := ⟨2, ![1024, 3584]⟩

abbrev nBuf : Space → Nat
  | .hbm => 10
  | .vmem => 0
  | .smem => 0
  | _ => 0

abbrev bufTy : (tb : Table) → Fin (tcTables nBuf tb) → BufTy
  | .hbm, ⟨0, _⟩ => ⟨S4096x3584, .bf16⟩
  | .hbm, ⟨1, _⟩ => ⟨S4096x1024, .bf16⟩
  | .hbm, ⟨2, _⟩ => ⟨S_, .f32⟩
  | .hbm, ⟨3, _⟩ => ⟨S3584x1024, .f32⟩
  | .hbm, ⟨4, _⟩ => ⟨S4096x3584, .f32⟩
  | .hbm, ⟨5, _⟩ => ⟨S4096x1024, .f32⟩
  | .hbm, ⟨6, _⟩ => ⟨S4096x1024, .f32⟩
  | .hbm, ⟨7, _⟩ => ⟨S1024x3584, .f32⟩
  | .hbm, ⟨8, _⟩ => ⟨S3584x1024, .f32⟩
  | .hbm, ⟨9, _⟩ => ⟨S3584x1024, .bf16⟩
  | _, _ => ⟨S4096x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4096x1024 : Shape := ⟨2, ![4096, 1024]⟩
abbrev S1024x1024 : Shape := ⟨2, ![1024, 1024]⟩
abbrev S4096x256 : Shape := ⟨2, ![4096, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4096x1024 : Shape := ⟨2, ![4096, 1024]⟩
abbrev S1024x3584 : Shape := ⟨2, ![1024, 3584]⟩
abbrev S3584x1024 : Shape := ⟨2, ![3584, 1024]⟩
abbrev S4096x3584 : Shape := ⟨2, ![4096, 3584]⟩
abbrev S512x1024 : Shape := ⟨2, ![512, 1024]⟩
abbrev S512x3584 : Shape := ⟨2, ![512, 3584]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x3584, .f32⟩
  | .hbm, ⟨2, _⟩ => ⟨S3584x1024, .f32⟩
  | .hbm, ⟨3, _⟩ => ⟨S3584x1024, .bf16⟩
  | .hbm, ⟨4, _⟩ => ⟨S4096x3584, .f32⟩
  | .local _ .vmem, ⟨0, _⟩ => ⟨S512x1024, .bf16⟩
  | .local _ .vmem, ⟨1, _⟩ => ⟨S512x1024, .bf16⟩
  | .local _ .vmem, ⟨2, _⟩ => ⟨S3584x1024, .bf16⟩
  | .local _ .vmem, ⟨3, _⟩ => ⟨S512x3584, .f32⟩
  | .local _ .vmem, ⟨4, _⟩ => ⟨S512x3584, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S3584x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x3584 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4096x1024 : Shape := ⟨2, ![4096, 1024]⟩
abbrev S1024x3584 : Shape := ⟨2, ![1024, 3584]⟩
abbrev S4096x3584 : Shape := ⟨2, ![4096, 3584]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3584, .f32⟩
  | .hbm, ⟨2, _⟩ => ⟨S4096x1024, .f32⟩
  | .hbm, ⟨3, _⟩ => ⟨S4096x3584, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel7.lean ====
abbrev S4096x3584 : Shape := ⟨2, ![4096, 3584]⟩
abbrev S1024x3584 : Shape := ⟨2, ![1024, 3584]⟩
abbrev S4096x1024 : Shape := ⟨2, ![4096, 1024]⟩
abbrev S1x1024 : Shape := ⟨2, ![1, 1024]⟩
abbrev S3584x1024 : Shape := ⟨2, ![3584, 1024]⟩
abbrev S512x3584 : Shape := ⟨2, ![512, 3584]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 13
  | .smem => 0
  | _ => 0

abbrev bufTy : (tb : Table) → Fin (tcTables nBuf tb) → BufTy
  | .hbm, ⟨0, _⟩ => ⟨S4096x3584, .bf16⟩
  | .hbm, ⟨1, _⟩ => ⟨S1024x3584, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S3584x1024, .f32⟩
  | .hbm, ⟨6, _⟩ => ⟨S3584x1024, .bf16⟩
  | .hbm, ⟨7, _⟩ => ⟨S4096x1024, .f32⟩
  | .hbm, ⟨8, _⟩ => ⟨S1x1024, .f32⟩
  | .hbm, ⟨9, _⟩ => ⟨S4096x1024, .bf16⟩
  | .local _ .vmem, ⟨0, _⟩ => ⟨S512x3584, .bf16⟩
  | .local _ .vmem, ⟨1, _⟩ => ⟨S512x3584, .bf16⟩
  | .local _ .vmem, ⟨2, _⟩ => ⟨S3584x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | _, _ => ⟨S4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v18 : BitVec 1 := Scalar.cmpi .eq arg0 c0_i32
  let v19 : BitVec 32 := Scalar.extui v18
  let c0_i32_9 : BitVec 32 := 0#32
  let v20 : BitVec 1 := Scalar.cmpi .ne v19 c0_i32_9
  v20

def k0_cond2 (i : grid0.Coords) : BitVec 1 :=
  let arg0 : BitVec 32 := BitVec.ofNat 32 (i 0).val
  let c0_i32_10 : BitVec 32 := 0#32
  let v21 : BitVec 1 := Scalar.cmpi .sgt arg0 c0_i32_10
  let v22 : BitVec 32 := Scalar.extui v21
  let c0_i32_11 : BitVec 32 := 0#32
  let v23 : BitVec 1 := Scalar.cmpi .ne v22 c0_i32_11
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3584x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S4096x3584 : Shape := ⟨2, ![4096, 3584]⟩
abbrev S1024x3584 : Shape := ⟨2, ![1024, 3584]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x3584, .bf16⟩
  | .hbm, ⟨1, _⟩ => ⟨S1024x3584, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x3584, .f32⟩
  | .hbm, ⟨25, _⟩ => ⟨S4096x3584, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S4096x1024, .bf16⟩
  | _, _ => ⟨S4096x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel8.lean ====
abbrev S4096x1024 : Shape := ⟨2, ![4096, 1024]⟩
abbrev S1x1024 : Shape := ⟨2, ![1, 1024]⟩
abbrev S4096x2816 : Shape := ⟨2, ![4096, 2816]⟩
abbrev S1024x2816 : Shape := ⟨2, ![1024, 2816]⟩
abbrev S2816x1024 : Shape := ⟨2, ![2816, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024 : Shape := ⟨1, ![1024]⟩

abbrev nBuf : Space → Nat
  | .hbm => 13
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x2816, .bf16⟩
  | .hbm, ⟨4, _⟩ => ⟨S4096x2816, .bf16⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S2816x1024, .bf16⟩
  | .hbm, ⟨9, _⟩ => ⟨S2816x1024, .f32⟩
  | .hbm, ⟨10, _⟩ => ⟨S2816x1024, .bf16⟩
  | .hbm, ⟨11, _⟩ => ⟨S4096x1024, .f32⟩
  | .hbm, ⟨12, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S2816x1024, .bf16⟩
  | .local _ .vmem, ⟨10, _⟩ => ⟨S2816x1024, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v23 : BitVec 1 := Scalar.cmpi .eq arg0 c0_i32
  let v24 : BitVec 32 := Scalar.extui v23
  let c0_i32_14 : BitVec 32 := 0#32
  let v25 : BitVec 1 := Scalar.cmpi .ne v24 c0_i32_14
  v25

def k0_cond2 (i : grid0.Coords) : BitVec 1 :=
  let arg0 : BitVec 32 := BitVec.ofNat 32 (i 0).val
  let c0_i32_15 : BitVec 32 := 0#32
  let v26 : BitVec 1 := Scalar.cmpi .sgt arg0 c0_i32_15
  let v27 : BitVec 32 := Scalar.extui v26
  let c0_i32_16 : BitVec 32 := 0#32
  let v28 : BitVec 1 := Scalar.cmpi .ne v27 c0_i32_16
  v28

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference8Ideal.lean ====
abbrev S4096x1024 : Shape := ⟨2, ![4096, 1024]⟩
abbrev S1x1024 : Shape := ⟨2, ![1, 1024]⟩
abbrev S4096x2816 : Shape := ⟨2, ![4096, 2816]⟩
abbrev S1024x2816 : Shape := ⟨2, ![1024, 2816]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 57
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x2816, .bf16⟩
  | .hbm, ⟨4, _⟩ => ⟨S4096x2816, .bf16⟩
  | .hbm, ⟨5, _⟩ => ⟨S1024x2816, .f32⟩
  | .hbm, ⟨6, _⟩ => ⟨S1024x2816, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== Kernel9.lean ====
abbrev S4096x1024 : Shape := ⟨2, ![4096, 1024]⟩
abbrev S4096x2816 : Shape := ⟨2, ![4096, 2816]⟩
abbrev S2816x1024 : Shape := ⟨2, ![2816, 1024]⟩
abbrev S_ : Shape := ⟨0, ![]⟩
abbrev S8x128 : Shape := ⟨2, ![8, 128]⟩
abbrev S512x1024 : Shape := ⟨2, ![512, 1024]⟩
abbrev S512x1408 : Shape := ⟨2, ![512, 1408]⟩
abbrev S1408x1024 : Shape := ⟨2, ![1408, 1024]⟩

abbrev nBuf : Space → Nat
  | .hbm => 9
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4096x2816, .bf16⟩
  | .hbm, ⟨3, _⟩ => ⟨S2816x1024, .f32⟩
  | .hbm, ⟨4, _⟩ => ⟨S2816x1024, .bf16⟩
  | .hbm, ⟨5, _⟩ => ⟨S_, .f32⟩
  | .hbm, ⟨6, _⟩ => ⟨S8x128, .f32⟩
  | .hbm, ⟨7, _⟩ => ⟨S4096x2816, .bf16⟩
  | .hbm, ⟨8, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S512x1408, .bf16⟩
  | .local _ .vmem, ⟨3, _⟩ => ⟨S512x1408, .bf16⟩
  | .local _ .vmem, ⟨4, _⟩ => ⟨S512x1408, .bf16⟩
  | .local _ .vmem, ⟨5, _⟩ => ⟨S512x1408, .bf16⟩
  | .local _ .vmem, ⟨6, _⟩ => ⟨S1408x1024, .bf16⟩
  | .local _ .vmem, ⟨7, _⟩ => ⟨S1408x1024, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference9Ideal.lean ====
abbrev S4096x1024 : Shape := ⟨2, ![4096, 1024]⟩
abbrev S4096x2816 : Shape := ⟨2, ![4096, 2816]⟩
abbrev S2816x1024 : Shape := ⟨2, ![2816, 1024]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4096x2816, .bf16⟩
  | .hbm, ⟨3, _⟩ => ⟨S2816x1024, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x1024, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .bf16⟩
  | .hbm, ⟨30, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩

abbrev nD : Nat := 1
abbrev τ : Topo := Topo.v7x

variable {F : FTy → Type} [FloatOps F]
-- ==== Kernel10.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S4096x2816 : Shape := ⟨2, ![4096, 2816]⟩
abbrev S512x1024 : Shape := ⟨2, ![512, 1024]⟩
abbrev S1408x1024 : Shape := ⟨2, ![1408, 1024]⟩
abbrev S512x1408 : Shape := ⟨2, ![512, 1408]⟩
abbrev S512 : Shape := ⟨1, ![512]⟩
abbrev S512x1 : Shape := ⟨2, ![512, 1]⟩

abbrev nBuf : Space → Nat
  | .hbm => 12
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2816x1024, .bf16⟩
  | .hbm, ⟨6, _⟩ => ⟨S2816x1024, .f32⟩
  | .hbm, ⟨7, _⟩ => ⟨S2816x1024, .bf16⟩
  | .hbm, ⟨8, _⟩ => ⟨S4096x2816, .bf16⟩
  | .hbm, ⟨9, _⟩ => ⟨S4096x2816, .bf16⟩
  | .hbm, ⟨10, _⟩ => ⟨S4096x2816, .bf16⟩
  | .hbm, ⟨11, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S512x1408, .bf16⟩
  | .local _ .vmem, ⟨13, _⟩ => ⟨S512x1024, .bf16⟩
  | .local _ .vmem, ⟨14, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference10Ideal.lean ====
abbrev S4096x1024 : Shape := ⟨2, ![4096, 1024]⟩
abbrev S1x1024 : Shape := ⟨2, ![1, 1024]⟩
abbrev S1024x2816 : Shape := ⟨2, ![1024, 2816]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x2816, .f32⟩
  | .hbm, ⟨20, _⟩ => ⟨S4096x2816, .f32⟩
  | .hbm, ⟨21, _⟩ => ⟨S4096x2816, .bf16⟩
  | .hbm, ⟨22, _⟩ => ⟨S4096x2816, .bf16⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .bf16⟩
  | .hbm, ⟨34, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]
-- ==== Kernel2.lean ====
abbrev S4096x1024 : Shape := ⟨2, ![4096, 1024]⟩
abbrev S1x1024 : Shape := ⟨2, ![1, 1024]⟩
abbrev S4096x2816 : Shape := ⟨2, ![4096, 2816]⟩
abbrev S1024x2816 : Shape := ⟨2, ![1024, 2816]⟩
abbrev S2816x1024 : Shape := ⟨2, ![2816, 1024]⟩
abbrev S1024x1024 : Shape := ⟨2, ![1024, 1024]⟩
abbrev S1024x256 : Shape := ⟨2, ![1024, 256]⟩
abbrev S256x1024 : Shape := ⟨2, ![256, 1024]⟩
abbrev S1024 : Shape := ⟨1, ![1024]⟩
abbrev S1024x1 : Shape := ⟨2, ![1024, 1]⟩

abbrev nBuf : Space → Nat
  | .hbm => 18
  | .vmem => 30
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x2816, .bf16⟩
  | .hbm, ⟨4, _⟩ => ⟨S4096x2816, .bf16⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S2816x1024, .f32⟩
  | .hbm, ⟨9, _⟩ => ⟨S2816x1024, .bf16⟩
  | .hbm, ⟨10, _⟩ => ⟨S2816x1024, .f32⟩
  | .hbm, ⟨11, _⟩ => ⟨S2816x1024, .bf16⟩
  | .hbm, ⟨12, _⟩ => ⟨S2816x1024, .bf16⟩
  | .hbm, ⟨13, _⟩ => ⟨S4096x1024, .f32⟩
  | .hbm, ⟨14, _⟩ => ⟨S1x1024, .f32⟩
  | .hbm, ⟨15, _⟩ => ⟨S4096x2816, .bf16⟩
  | .hbm, ⟨16, _⟩ => ⟨S4096x2816, .bf16⟩
  | .hbm, ⟨17, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S1024x1024, .f32⟩
  | .local _ .vmem, ⟨18, _⟩ => ⟨S1024x1024, .f32⟩
  | .local _ .vmem, ⟨19, _⟩ => ⟨S1x1024, .f32⟩
  | .local _ .vmem, ⟨20, _⟩ => ⟨S1024x256, .bf16⟩
  | .local _ .vmem, ⟨21, _⟩ => ⟨S1024x256, .bf16⟩
  | .local _ .vmem, ⟨22, _⟩ => ⟨S1024x256, .bf16⟩
  | .local _ .vmem, ⟨23, _⟩ => ⟨S1024x256, .bf16⟩
  | .local _ .vmem, ⟨24, _⟩ => ⟨S1024x1024, .bf16⟩
  | .local _ .vmem, ⟨25, _⟩ => ⟨S1024x1024, .bf16⟩
  | .local _ .vmem, ⟨26, _⟩ => ⟨S1024x1024, .bf16⟩
  | .local _ .vmem, ⟨27, _⟩ => ⟨S1024x1024, .f32⟩
  | .local _ .vmem, ⟨28, _⟩ => ⟨S1024x256, .bf16⟩
  | .local _ .vmem, ⟨29, _⟩ => ⟨S1024x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v5_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨2, ![4, 11], ![false, false]⟩

def k0_cond2 (i : grid0.Coords) : BitVec 1 :=
  let arg1 : BitVec 32 := BitVec.ofNat 32 (i 1).val
  let c10_i32 : BitVec 32 := 10#32
  let v52 : BitVec 1 := Scalar.cmpi .eq arg1 c10_i32
  let v53 : BitVec 32 := Scalar.extui v52
  let c0_i32_35 : BitVec 32 := 0#32
  let v54 : BitVec 1 := Scalar.cmpi .ne v53 c0_i32_35
  v54

def k0_cond3 (i : grid0.Coords) : BitVec 1 :=
  let arg0 : BitVec 32 := BitVec.ofNat 32 (i 0).val
  let c0_i32_50 : BitVec 32 := 0#32
  let v78 : BitVec 1 := Scalar.cmpi .eq arg0 c0_i32_50
  let v79 : BitVec 32 := Scalar.extui v78
  let c0_i32_51 : BitVec 32 := 0#32
  let v80 : BitVec 1 := Scalar.cmpi .ne v79 c0_i32_51
  v80

def k0_cond4 (i : grid0.Coords) : BitVec 1 :=
  let arg0 : BitVec 32 := BitVec.ofNat 32 (i 0).val
  let c0_i32_52 : BitVec 32 := 0#32
  let v81 : BitVec 1 := Scalar.cmpi .sgt arg0 c0_i32_52
  let v82 : BitVec 32 := Scalar.extui v81
  let c0_i32_53 : BitVec 32 := 0#32
  let v83 : BitVec 1 := Scalar.cmpi .ne v82 c0_i32_53
  v83

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c10_i32 : BitVec 32 := 10#32
  let c0_i32 : BitVec 32 := 0#32
  let c0_i32_0 : BitVec 32 := 0#32
  ![c10_i32.toNat, c0_i32.toNat]

def cc0_transform_8 (i : grid0.Coords) : Fin 2 → Nat :=
  let arg0 : BitVec 32 := BitVec.ofNat 32 (i 0).val
  let arg1 : BitVec 32 := BitVec.ofNat 32 (i 1).val
  let c10_i32 : BitVec 32 := 10#32
  let c0_i32 : BitVec 32 := 0#32
  let c0_i32_0 : BitVec 32 := 0#32
  ![c10_i32.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1024x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== Reference2Ideal.lean ====
abbrev S4096x1024 : Shape := ⟨2, ![4096, 1024]⟩
abbrev S1x1024 : Shape := ⟨2, ![1, 1024]⟩
abbrev S4096x2816 : Shape := ⟨2, ![4096, 2816]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 86
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x2816, .bf16⟩
  | .hbm, ⟨4, _⟩ => ⟨S4096x2816, .bf16⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S_, .f32⟩
  | .hbm, ⟨19, _⟩ => ⟨S4096x2816, .f32⟩
  | .hbm, ⟨20, _⟩ => ⟨S4096x2816, .f32⟩
  | .hbm, ⟨21, _⟩ => ⟨S_, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x1024, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x2816, .f32⟩
  | .hbm, ⟨55, _⟩ => ⟨S4096x2816, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S4096, .f32⟩
  | .hbm, ⟨68, _⟩ => ⟨S4096x1, .f32⟩
  | .hbm, ⟨69, _⟩ => ⟨S4096x1024, .f32⟩
  | .hbm, ⟨70, _⟩ => ⟨S4096x1024, .f32⟩
  | .hbm, ⟨71, _⟩ => ⟨S4096x1, .f32⟩
  | .hbm, ⟨72, _⟩ => ⟨S_, .f32⟩
  | .hbm, ⟨73, _⟩ => ⟨S4096x1, .f32⟩
  | .hbm, ⟨74, _⟩ => ⟨S4096x1, .f32⟩
  | .hbm, ⟨75, _⟩ => ⟨S_, .f32⟩
  | .hbm, ⟨76, _⟩ => ⟨S4096, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x2816, .bf16⟩
  | .hbm, ⟨84, _⟩ => ⟨S4096x2816, .bf16⟩
  | .hbm, ⟨85, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_v4_2 : Ref sig .tc := ⟨.hbm, 20, rfl⟩
abbrev main_call0_cst_1 : Ref sig .tc := ⟨.hbm, 21, rfl⟩
abbrev main_call0_v6 : Ref sig .tc := ⟨.hbm, 22, rfl⟩
abbrev main_call0_v7 : Ref sig .tc := ⟨.hbm, 23, rfl⟩
abbrev main_v4_1 : Ref sig .tc := ⟨.hbm, 24, rfl⟩
abbrev main_v4_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v10 : Ref sig .tc := ⟨.hbm, 34, rfl⟩
abbrev main_v11 : Ref sig .tc := ⟨.hbm, 35, rfl⟩
abbrev main_cst_0 : Ref sig .tc := ⟨.hbm, 36, rfl⟩
abbrev main_v12 : Ref sig .tc := ⟨.hbm, 37, rfl⟩
abbrev main_v13 : Ref sig .tc := ⟨.hbm, 38, rfl⟩
abbrev main_cst_1 : Ref sig .tc := ⟨.hbm, 39, rfl⟩
abbrev main_v14 : Ref sig .tc := ⟨.hbm, 40, rfl⟩
abbrev main_v15 : Ref sig .tc := ⟨.hbm, 41, rfl⟩
abbrev main_cst_2 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_cst_3 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_4 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_5 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_6 : Ref sig .tc := ⟨.hbm, 72, rfl⟩
abbrev main_v42 : Ref sig .tc := ⟨.hbm, 73, rfl⟩
abbrev main_v43 : Ref sig .tc := ⟨.hbm, 74, rfl⟩
abbrev main_cst_7 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩

abbrev nD : Nat := 1
abbrev τ : Topo := Topo.v7x

variable {F : FTy → Type} [FloatOps F]
-- ==== Kernel11.lean ====
abbrev S4096x1024 : Shape := ⟨2, ![4096, 1024]⟩
abbrev S4096x2816 : Shape := ⟨2, ![4096, 2816]⟩
abbrev S2816x1024 : Shape := ⟨2, ![2816, 1024]⟩
abbrev S1x1024 : Shape := ⟨2, ![1, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x2816, .bf16⟩
  | .hbm, ⟨2, _⟩ => ⟨S2816x1024, .f32⟩
  | .hbm, ⟨3, _⟩ => ⟨S1x1024, .f32⟩
  | .hbm, ⟨4, _⟩ => ⟨S2816x1024, .bf16⟩
  | .hbm, ⟨5, _⟩ => ⟨S4096x1024, .f32⟩
  | .hbm, ⟨6, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference11Ideal.lean ====
abbrev S4096x1024 : Shape := ⟨2, ![4096, 1024]⟩
abbrev S4096x2816 : Shape := ⟨2, ![4096, 2816]⟩
abbrev S2816x1024 : Shape := ⟨2, ![2816, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .bf16⟩
  | .hbm, ⟨2, _⟩ => ⟨S2816x1024, .f32⟩
  | .hbm, ⟨3, _⟩ => ⟨S1x1024, .f32⟩
  | .hbm, ⟨4, _⟩ => ⟨S4096x2816, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel12.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S4096x2816 : Shape := ⟨2, ![4096, 2816]⟩
abbrev S1024x1024 : Shape := ⟨2, ![1024, 1024]⟩
abbrev S256x1024 : Shape := ⟨2, ![256, 1024]⟩
abbrev S1024x256 : Shape := ⟨2, ![1024, 256]⟩
abbrev S1024 : Shape := ⟨1, ![1024]⟩
abbrev S1024x1 : Shape := ⟨2, ![1024, 1]⟩
abbrev S1 : Shape := ⟨1, ![1]⟩
abbrev S1x1 : Shape := ⟨2, ![1, 1]⟩

abbrev nBuf : Space → Nat
  | .hbm => 19
  | .vmem => 27
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S4096x1024, .f32⟩
  | .hbm, ⟨7, _⟩ => ⟨S2816x1024, .f32⟩
  | .hbm, ⟨8, _⟩ => ⟨S2816x1024, .bf16⟩
  | .hbm, ⟨9, _⟩ => ⟨S2816x1024, .f32⟩
  | .hbm, ⟨10, _⟩ => ⟨S2816x1024, .bf16⟩
  | .hbm, ⟨11, _⟩ => ⟨S2816x1024, .bf16⟩
  | .hbm, ⟨12, _⟩ => ⟨S4096x1024, .f32⟩
  | .hbm, ⟨13, _⟩ => ⟨S4096x2816, .bf16⟩
  | .hbm, ⟨14, _⟩ => ⟨S4096x2816, .bf16⟩
  | .hbm, ⟨15, _⟩ => ⟨S4096x1024, .bf16⟩
  | .hbm, ⟨16, _⟩ => ⟨S4096x2816, .bf16⟩
  | .hbm, ⟨17, _⟩ => ⟨S1x1024, .f32⟩
  | .hbm, ⟨18, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x256, .bf16⟩
  | .local _ .vmem, ⟨16, _⟩ => ⟨S1024x256, .bf16⟩
  | .local _ .vmem, ⟨17, _⟩ => ⟨S1024x256, .bf16⟩
  | .local _ .vmem, ⟨18, _⟩ => ⟨S1024x256, .bf16⟩
  | .local _ .vmem, ⟨19, _⟩ => ⟨S1024x1024, .bf16⟩
  | .local _ .vmem, ⟨20, _⟩ => ⟨S1024x1024, .bf16⟩
  | .local _ .vmem, ⟨21, _⟩ => ⟨S1024x256, .bf16⟩
  | .local _ .vmem, ⟨22, _⟩ => ⟨S1024x256, .bf16⟩
  | .local _ .vmem, ⟨23, _⟩ => ⟨S1x1024, .f32⟩
  | .local _ .vmem, ⟨24, _⟩ => ⟨S1x1024, .f32⟩
  | .local _ .vmem, ⟨25, _⟩ => ⟨S1024x1024, .f32⟩
  | .local _ .vmem, ⟨26, _⟩ => ⟨S1024x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_v5_5 : Ref sig .tc := ⟨.hbm, 17, rfl⟩
abbrev main_v5_6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem14_0 : DmaSem sig := 24

abbrev nD : Nat := 1
abbrev τ : Topo := Topo.v7x

variable {F : FTy → Type} [FloatOps F]

abbrev grid0 : Pipeline.Grid := ⟨2, ![4, 11], ![false, false]⟩

def k0_cond2 (i : grid0.Coords) : BitVec 1 :=
  let arg1 : BitVec 32 := BitVec.ofNat 32 (i 1).val
  let c10_i32 : BitVec 32 := 10#32
  let v38 : BitVec 1 := Scalar.cmpi .eq arg1 c10_i32
  let v39 : BitVec 32 := Scalar.extui v38
  let c0_i32_27 : BitVec 32 := 0#32
  let v40 : BitVec 1 := Scalar.cmpi .ne v39 c0_i32_27
  v40

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond3 (i : grid0.Coords) : BitVec 1 :=
  let arg0 : BitVec 32 := BitVec.ofNat 32 (i 0).val
  let c0_i32_53 : BitVec 32 := 0#32
  let v92 : BitVec 1 := Scalar.cmpi .eq arg0 c0_i32_53
  let v93 : BitVec 32 := Scalar.extui v92
  let c0_i32_54 : BitVec 32 := 0#32
  let v94 : BitVec 1 := Scalar.cmpi .ne v93 c0_i32_54
  v94

def k0_cond4 (i : grid0.Coords) : BitVec 1 :=
  let arg0 : BitVec 32 := BitVec.ofNat 32 (i 0).val
  let c0_i32_55 : BitVec 32 := 0#32
  let v95 : BitVec 1 := Scalar.cmpi .sgt arg0 c0_i32_55
  let v96 : BitVec 32 := Scalar.extui v95
  let c0_i32_56 : BitVec 32 := 0#32
  let v97 : BitVec 1 := Scalar.cmpi .ne v96 c0_i32_56
  v97

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c10_i32 : BitVec 32 := 10#32
  let c0_i32 : BitVec 32 := 0#32
  let c0_i32_0 : BitVec 32 := 0#32
  ![c10_i32.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== Reference12Ideal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S1024 : Shape := ⟨1, ![1024]⟩

abbrev nBuf : Space → Nat
  | .hbm => 109
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S4096, .f32⟩
  | .hbm, ⟨65, _⟩ => ⟨S_, .f32⟩
  | .hbm, ⟨66, _⟩ => ⟨S4096, .f32⟩
  | .hbm, ⟨67, _⟩ => ⟨S4096, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S4096, .f32⟩
  | .hbm, ⟨76, _⟩ => ⟨S_, .f32⟩
  | .hbm, ⟨77, _⟩ => ⟨S4096, .f32⟩
  | .hbm, ⟨78, _⟩ => ⟨S4096, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S1024, .f32⟩
  | .hbm, ⟨84, _⟩ => ⟨S1x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S_, .f32⟩
  | .hbm, ⟨89, _⟩ => ⟨S4096, .f32⟩
  | .hbm, ⟨90, _⟩ => ⟨S4096x1, .f32⟩
  | .hbm, ⟨91, _⟩ => ⟨S4096x1024, .f32⟩
  | .hbm, ⟨92, _⟩ => ⟨S4096x1024, .f32⟩
  | .hbm, ⟨93, _⟩ => ⟨S4096x1, .f32⟩
  | .hbm, ⟨94, _⟩ => ⟨S_, .f32⟩
  | .hbm, ⟨95, _⟩ => ⟨S4096x1, .f32⟩
  | .hbm, ⟨96, _⟩ => ⟨S4096x1, .f32⟩
  | .hbm, ⟨97, _⟩ => ⟨S_, .f32⟩
  | .hbm, ⟨98, _⟩ => ⟨S4096, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S4096x1024, .f32⟩
  | .hbm, ⟨104, _⟩ => ⟨S4096x2816, .bf16⟩
  | .hbm, ⟨105, _⟩ => ⟨S4096x2816, .bf16⟩
  | .hbm, ⟨106, _⟩ => ⟨S4096x1024, .bf16⟩
  | .hbm, ⟨107, _⟩ => ⟨S4096x2816, .bf16⟩
  | .hbm, ⟨108, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_v24 : Ref sig .tc := ⟨.hbm, 45, rfl⟩
abbrev main_cst_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_6 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_v38 : Ref sig .tc := ⟨.hbm, 62, rfl⟩
abbrev main_cst_8 : Ref sig .tc := ⟨.hbm, 63, rfl⟩
abbrev main_v39 : Ref sig .tc := ⟨.hbm, 64, rfl⟩
abbrev main_cst_9 : Ref sig .tc := ⟨.hbm, 65, rfl⟩
abbrev main_v40 : Ref sig .tc := ⟨.hbm, 66, rfl⟩
abbrev main_v41 : Ref sig .tc := ⟨.hbm, 67, rfl⟩
abbrev main_cst_10 : Ref sig .tc := ⟨.hbm, 68, rfl⟩
abbrev main_v42 : Ref sig .tc := ⟨.hbm, 69, rfl⟩
abbrev main_cst_11 : Ref sig .tc := ⟨.hbm, 70, rfl⟩
abbrev main_v43 : Ref sig .tc := ⟨.hbm, 71, rfl⟩
abbrev main_cst_12 : Ref sig .tc := ⟨.hbm, 72, rfl⟩
abbrev main_cst_13 : Ref sig .tc := ⟨.hbm, 73, rfl⟩
abbrev main_v44 : Ref sig .tc := ⟨.hbm, 74, rfl⟩
abbrev main_v45 : Ref sig .tc := ⟨.hbm, 75, rfl⟩
abbrev main_cst_14 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_15 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_16 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_17 : Ref sig .tc := ⟨.hbm, 94, rfl⟩
abbrev main_v61 : Ref sig .tc := ⟨.hbm, 95, rfl⟩
abbrev main_v62 : Ref sig .tc := ⟨.hbm, 96, rfl⟩
abbrev main_cst_18 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩

abbrev nD : Nat := 1
abbrev τ : Topo := Topo.v7x

variable {F : FTy → Type} [FloatOps F]
-- ==== Proof.Norm.Rows.lean ====
/-
  One row of the gradient of the root mean square normalisation, over the extended reals.
-/
module

public import Idealize.ShloMosaic.Lib.Pipeline.ValueKit

@[expose] public section

noncomputable section

namespace Cert.Proof.Norm

open Idealize.ShloMosaic Finset

/-- The width of a row, as the programs spell it. -/
theorem ofBits_width : Ideal.ofBits FTy.f32 1149239296#32 = ((1024 : ℝ) : EReal) := by
  simp [Ideal.ofBits, Ideal.ieee]; norm_num [← EReal.coe_mul]

/-- Minus one half, as the programs spell it. -/
theorem ofBits_minus_half : Ideal.ofBits FTy.f32 3204448256#32 = ((-1 / 2 : ℝ) : EReal) := by
  simp [Ideal.ofBits, Ideal.ieee]; norm_num [← EReal.coe_mul]

/-- The constant added to the mean square is a positive real. -/
theorem ofBits_eps : ∃ e : ℝ, 0 < e ∧ Ideal.ofBits FTy.f32 897988541#32 = (e : EReal) := by
  refine ⟨8796093 * 2 ^ (-43 : ℤ), by positivity, ?_⟩
  simp [Ideal.ofBits, Ideal.ieee]

/-- The mean square of a row, with the constant added. -/
def meanSq (x : Fin 1024 → EReal) : EReal :=
  Ideal.div (∑ k, x k * x k) (Ideal.ofBits FTy.f32 1149239296#32) + Ideal.ofBits FTy.f32 897988541#32

/-- The reciprocal root mean square of a row. -/
def rrms (x : Fin 1024 → EReal) : EReal := Ideal.rsqrt (meanSq x)

/-- Entry `j` of the gradient of one row `x` of the normalisation where `g` is the gradient that comes in. -/
def back (x g : Fin 1024 → EReal) (j : Fin 1024) : EReal :=
  rrms x * (g j - x j * rrms x * Ideal.div (∑ k, g k * (x k * rrms x)) (Ideal.ofBits FTy.f32 1149239296#32))

theorem coe_mul_add (r : ℝ) (hr : 0 ≤ r) (a b : EReal) : (r : EReal) * (a + b) = (r : EReal) * a + (r : EReal) * b :=
  EReal.left_distrib_of_nonneg_of_ne_top (EReal.coe_nonneg.mpr hr) (EReal.coe_ne_top r) a b

/-- A sum of reals, read in the extended reals. -/
theorem coe_sum {n : ℕ} (f : Fin n → ℝ) : ((∑ k, f k : ℝ) : EReal) = ∑ k, (f k : EReal) := by
  induction (univ : Finset (Fin n)) using Finset.induction_on with
  | empty => simp
  | insert a s ha ih => rw [sum_insert ha, sum_insert ha, EReal.coe_add, ih]

/-- A factor that is a nonnegative real goes through a sum. -/
theorem coe_mul_sum {n : ℕ} (r : ℝ) (hr : 0 ≤ r) (f : Fin n → EReal) : ∑ k, (r : EReal) * f k = (r : EReal) * ∑ k, f k := by
  induction (univ : Finset (Fin n)) using Finset.induction_on with
  | empty => simp
  | insert a s ha ih => rw [sum_insert ha, sum_insert ha, ih, coe_mul_add r hr]

theorem sq_nonneg (a : EReal) : 0 ≤ a * a := by
  induction a with
  | bot => simp
  | top => simp
  | coe r => exact_mod_cast mul_self_nonneg r

/-- Where the squares' sum is not `⊤` every entry is a real. -/
theorem real_of_sum {n : ℕ} (x : Fin n → EReal) (h : ∑ k, x k * x k ≠ ⊤) : ∃ y : Fin n → ℝ, x = fun k => (y k : EReal) := by
  have hk : ∀ k, ((x k).toReal : EReal) = x k := fun k => by
    have hle : x k * x k ≤ ∑ k, x k * x k := single_le_sum (f := fun k => x k * x k) (fun k _ => sq_nonneg (x k)) (mem_univ k)
    refine EReal.coe_toReal (fun ht => h ?_) (fun hb => h ?_)
    · rw [ht] at hle; exact top_le_iff.mp (by simpa using hle)
    · rw [hb] at hle; exact top_le_iff.mp (by simpa using hle)
  exact ⟨fun k => (x k).toReal, funext fun k => (hk k).symm⟩

theorem add_self (z : EReal) : z + z = ((2 : ℝ) : EReal) * z := by
  have h := EReal.right_distrib_of_nonneg (a := 1) (b := 1) (c := z) zero_le_one zero_le_one
  have h2 : ((2 : ℝ) : EReal) = 1 + 1 := by rw [show (2 : ℝ) = 1 + 1 by norm_num, EReal.coe_add, EReal.coe_one]
  rw [one_mul] at h; rw [← h, h2]

/-- The gradient as the derivative's rules write it, with the reciprocal root's own derivative, is `back`. -/
theorem rules (x g : Fin 1024 → EReal) (j : Fin 1024) :
    (g j * rrms x
      + x j * Ideal.div ((∑ k, x k * g k) * (Ideal.ofBits FTy.f32 3204448256#32 * Ideal.div (rrms x) (meanSq x))) (Ideal.ofBits FTy.f32 1149239296#32)
      + Ideal.div ((∑ k, x k * g k) * (Ideal.ofBits FTy.f32 3204448256#32 * Ideal.div (rrms x) (meanSq x))) (Ideal.ofBits FTy.f32 1149239296#32) * x j)
    = back x g j := by
  obtain ⟨e, he, hE⟩ := ofBits_eps
  have hw : (1024 : ℝ) ≠ 0 := by norm_num
  unfold back
  rw [ofBits_width, ofBits_minus_half, Ideal.div_coe hw, Ideal.div_coe hw]
  by_cases hS : ∑ k, x k * x k = ⊤
  · have hV : meanSq x = ⊤ := by
      unfold meanSq
      rw [hS, hE, ofBits_width, Ideal.div_coe hw, EReal.top_mul_coe_of_pos (by norm_num)]; exact EReal.top_add_coe e
    have hR : rrms x = 0 := by unfold rrms; rw [hV]; rfl
    rw [hR, hV]; simp [Ideal.div]
  · obtain ⟨y, rfl⟩ := real_of_sum x hS
    have hS' : (∑ k, (y k : EReal) * (y k : EReal)) = ((∑ k, y k * y k : ℝ) : EReal) := by
      rw [coe_sum]; exact sum_congr rfl fun k _ => (EReal.coe_mul _ _).symm
    obtain ⟨v, hv, hV⟩ : ∃ v : ℝ, 0 < v ∧ meanSq (fun k => (y k : EReal)) = (v : EReal) := by
      refine ⟨(∑ k, y k * y k) * (1 / 1024) + e, ?_, ?_⟩
      · have : 0 ≤ ∑ k, y k * y k := sum_nonneg fun k _ => mul_self_nonneg (y k)
        positivity
      · unfold meanSq
        rw [hS', hE, ofBits_width, Ideal.div_coe hw, ← EReal.coe_mul, ← EReal.coe_add]
    obtain ⟨ρ, hρ, hR, hq⟩ : ∃ ρ : ℝ, 0 < ρ ∧ rrms (fun k => (y k : EReal)) = (ρ : EReal) ∧ 1 / v = ρ * ρ := by
      refine ⟨(Real.sqrt v)⁻¹, by positivity, ?_, ?_⟩
      · unfold rrms; rw [hV, Ideal.rsqrt_coe, if_neg (not_lt.mpr hv.le), if_neg hv.ne']
      · rw [← mul_inv, Real.mul_self_sqrt hv.le, one_div]
    have hT : ∑ k, g k * ((y k : EReal) * (ρ : EReal)) = (ρ : EReal) * ∑ k, (y k : EReal) * g k := by
      rw [← coe_mul_sum ρ hρ.le]
      exact sum_congr rfl fun k _ => by rw [mul_comm, mul_comm (y k : EReal), mul_assoc]
    rw [hR, hV, hT, Ideal.div_coe hv.ne', hq]
    generalize ∑ k, (y k : EReal) * g k = T
    have hl : (y j : EReal) * (T * (((-1 / 2 : ℝ) : EReal) * ((ρ : EReal) * ((ρ * ρ : ℝ) : EReal))) * ((1 / 1024 : ℝ) : EReal))
        = ((y j * (-1 / 2 * (ρ * (ρ * ρ))) * (1 / 1024) : ℝ) : EReal) * T := by
      simp only [EReal.coe_mul]; ac_rfl
    have hr : (y j : EReal) * (ρ : EReal) * ((ρ : EReal) * T * ((1 / 1024 : ℝ) : EReal)) = ((y j * ρ * ρ * (1 / 1024) : ℝ) : EReal) * T := by
      simp only [EReal.coe_mul]; ac_rfl
    rw [mul_comm _ (y j : EReal), hl, hr, add_assoc, add_self, ← mul_assoc, ← EReal.coe_mul, sub_eq_add_neg, ← EReal.neg_mul, ← EReal.coe_neg,
      coe_mul_add ρ hρ.le, ← mul_assoc (ρ : EReal), ← EReal.coe_mul, mul_comm (g j)]
    refine congrArg₂ (· + ·) rfl (congrArg (fun a : ℝ => (a : EReal) * T) ?_)
    ring

/-- The same where the factor the row shares is written as a sum of one term. -/
theorem rules_one (x g : Fin 1024 → EReal) (j : Fin 1024) :
    (g j * rrms x
      + x j * ∑ _ : Fin 1, Ideal.div ((∑ k, x k * g k) * (Ideal.ofBits FTy.f32 3204448256#32 * Ideal.div (rrms x) (meanSq x))) (Ideal.ofBits FTy.f32 1149239296#32)
      + (∑ _ : Fin 1, Ideal.div ((∑ k, x k * g k) * (Ideal.ofBits FTy.f32 3204448256#32 * Ideal.div (rrms x) (meanSq x))) (Ideal.ofBits FTy.f32 1149239296#32)) * x j)
    = back x g j := by
  rw [Fin.sum_univ_one]; exact rules x g j

/-- The sum of the entries before row `n`. -/
def upTo (G : Fin 4096 → EReal) (n : ℕ) : EReal := ∑ q ∈ range n, if h : q < 4096 then G ⟨q, h⟩ else 0

theorem upTo_zero (G : Fin 4096 → EReal) : upTo G 0 = 0 := by simp [upTo]

/-- The sum to the end of a block of rows is the sum to its start and the block's own. -/
theorem upTo_add (G : Fin 4096 → EReal) (n k : ℕ) (h : n + k ≤ 4096) :
    upTo G (n + k) = upTo G n + ∑ r : Fin k, G ⟨n + r.val, by omega⟩ := by
  unfold upTo
  rw [sum_range_add, ← Fin.sum_univ_eq_sum_range (fun x => if h : n + x < 4096 then G ⟨n + x, h⟩ else 0) k]
  exact congrArg _ (sum_congr rfl fun r _ => dif_pos (by omega))

theorem upTo_all (G : Fin 4096 → EReal) : upTo G 4096 = ∑ q, G q := by
  unfold upTo
  rw [← Fin.sum_univ_eq_sum_range (fun x => if h : x < 4096 then G ⟨x, h⟩ else 0) 4096]
  exact sum_congr rfl fun q _ => dif_pos q.isLt

end Cert.Proof.Norm

end
-- ==== Proof.Norm.InBack.lean ====
/-
  The backward step of the normalised input projection.
-/
module

public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Norm.Rows
public import proofs.«01_k».proof.Defs
public import Idealize.ShloMosaic.Lib.Pipeline.ValueKit

@[expose] public section

set_option maxRecDepth 16384

noncomputable section

namespace Cert.Proof.InBack

section

open Cert.Reference7Ideal Cert.Reference7Ideal.Gen
open Idealize.ShloMosaic Idealize.ShloMosaic.TcCoe Idealize.ShloMosaic.Pointwise Finset
open Cert.Proof.Norm

/-- The gradient that reaches the normalised row `i`: row `i` of the projection's gradient by row `k` of the weights. -/
def inc (D : FVec Ideal S4096x3584 .bf16) (W : FVec Ideal S1024x3584 .f32) (i : Fin 4096) (k : Fin 1024) : EReal :=
  ∑ x : Fin 3584, D (ix2 i x) * W (ix2 k x)

/-- The gradient of the rows, with the one that comes in beside it. -/
def rows (D : FVec Ideal S4096x3584 .bf16) (W : FVec Ideal S1024x3584 .f32) (X : FVec Ideal S4096x1024 .f32) (G : FVec Ideal S1x1024 .f32)
    (R : FVec Ideal S4096x1024 .f32) : FVec Ideal S4096x1024 .f32 :=
  fun y => R (ix2 (y 0) (y 1)) + back (fun k => X (ix2 (y 0) k)) (fun k => inc D W (y 0) k * G (ix2 0 k)) (y 1)

/-- Half the gradient of the rows. -/
def halved (D : FVec Ideal S4096x3584 .bf16) (W : FVec Ideal S1024x3584 .f32) (X : FVec Ideal S4096x1024 .f32) (G : FVec Ideal S1x1024 .f32)
    (R : FVec Ideal S4096x1024 .f32) : FVec Ideal S4096x1024 .bf16 :=
  fun y => Ideal.ofBits FTy.f32 1056964608#32 * rows D W X G R (ix2 (y 0) (y 1))

/-- What row `q` adds to the gradient of the gain. -/
def share (D : FVec Ideal S4096x3584 .bf16) (W : FVec Ideal S1024x3584 .f32) (X : FVec Ideal S4096x1024 .f32) (l : Fin 1024) (q : Fin 4096) : EReal :=
  inc D W q l * (X (ix2 q l) * rrms (fun k => X (ix2 q k)))

/-- The gradient of the gain. -/
def gain (D : FVec Ideal S4096x3584 .bf16) (W : FVec Ideal S1024x3584 .f32) (X : FVec Ideal S4096x1024 .f32) : FVec Ideal S1x1024 .f32 :=
  fun y => ∑ q, share D W X (y 1) q

variable (m : (ℓ : Loc nD τ sig) → Buf (Elt Ideal) ℓ) (c : Dev nD)
  (D : FVec Ideal S4096x3584 .bf16) (W : FVec Ideal S1024x3584 .f32) (X : FVec Ideal S4096x1024 .f32) (G : FVec Ideal S1x1024 .f32)
  (R : FVec Ideal S4096x1024 .f32)

/-- The reference's first result is the gradient of the rows. -/
theorem ref_rows (h0 : m ((c.tc : Thread nD τ).loc main_arg0) = D) (h1 : m ((c.tc : Thread nD τ).loc main_arg1) = W)
    (h2 : m ((c.tc : Thread nD τ).loc main_arg2) = X) (h3 : m ((c.tc : Thread nD τ).loc main_arg3) = G)
    (h4 : m ((c.tc : Thread nD τ).loc main_arg4) = R) : Value.res_main_v37 m c = rows D W X G R := by
  funext y
  obtain ⟨i, j, rfl⟩ : ∃ i j, y = ix2 i j := ⟨y 0, y 1, (ix2_eta y).symm⟩
  unfold Value.res_main_v37
  rw [h0, h1, h2, h3, h4]
  pointwise []
  exact congrArg (R (ix2 i j) + ·) (rules_one (fun k => X (ix2 i k)) (fun k => inc D W i k * G (ix2 0 k)) j)

/-- The reference's third result is half of that. -/
theorem ref_halved (h0 : m ((c.tc : Thread nD τ).loc main_arg0) = D) (h1 : m ((c.tc : Thread nD τ).loc main_arg1) = W)
    (h2 : m ((c.tc : Thread nD τ).loc main_arg2) = X) (h3 : m ((c.tc : Thread nD τ).loc main_arg3) = G)
    (h4 : m ((c.tc : Thread nD τ).loc main_arg4) = R) : Value.res_main_v40 m c = halved D W X G R := by
  funext y
  obtain ⟨i, j, rfl⟩ : ∃ i j, y = ix2 i j := ⟨y 0, y 1, (ix2_eta y).symm⟩
  unfold Value.res_main_v40
  rw [h0, h1, h2, h3, h4]
  pointwise []
  exact congrArg (fun a => Ideal.ofBits FTy.f32 1056964608#32 * (R (ix2 i j) + a))
    (rules_one (fun k => X (ix2 i k)) (fun k => inc D W i k * G (ix2 0 k)) j)

/-- The reference's second result is the gradient of the gain. -/
theorem ref_gain : shapeCast S1x1024 (Host.reduceAdd (mulf (mulf X (broadcastInDim S4096x1024 ![0, 1] bcast_S4096x1_S4096x1024_0_1 (Host.rsqrt (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (Host.dotGeneral dot_S4096x3584_S1024x3584_S4096x1024_1_1_0_0_n_n none (extf .f32 D bitsLt_bf16_f32) W)) (constant S_ .f32 0x00000000#32) reducesTo_S4096x1024_S1024_d0 h_S_) shapeCasts_S1024_S1x1024
    = gain D W X := by
  funext y
  obtain ⟨i, j, rfl⟩ : ∃ i j, y = ix2 i j := ⟨y 0, y 1, (ix2_eta y).symm⟩
  obtain rfl : i = 0 := Subsingleton.elim _ _
  pointwise []
  exact Finset.sum_congr rfl fun q _ => mul_comm _ _

end

open Cert.Kernel7Ideal Cert.Kernel7Ideal.Gen
open Idealize.ShloMosaic Idealize.ShloMosaic.TcCoe Idealize.ShloMosaic.Pointwise Idealize.SL.Sem Finset
open Idealize.ShloMosaic.Pipeline (Dat Cfg Window)
open Cert.Proof.Norm

theorem z2 : (![0, 0] : Fin 2 → ℕ) = fun _ => 0 := by decide

section
variable (c : Dev nD) (i : grid0.Coords) (arg1 : Memref sig .tc .vmem S512x3584 .bf16) (harg1 : arg1.IsWhole)
  (arg2 : Memref sig .tc .vmem S3584x1024 .bf16) (harg2 : arg2.IsWhole) (arg3 : Memref sig .tc .vmem S512x1024 .f32) (harg3 : arg3.IsWhole)
  (arg4 : Memref sig .tc .vmem S1x1024 .f32) (harg4 : arg4.IsWhole) (arg5 : Memref sig .tc .vmem S512x1024 .f32) (harg5 : arg5.IsWhole)
  (arg6 : Memref sig .tc .vmem S512x1024 .f32) (harg6 : arg6.IsWhole) (arg7 : Memref sig .tc .vmem S1x1024 .f32) (harg7 : arg7.IsWhole)
  (arg8 : Memref sig .tc .vmem S512x1024 .bf16) (harg8 : arg8.IsWhole)
  (x0 : FVec Ideal S512x3584 .bf16) (x1 : FVec Ideal S3584x1024 .bf16) (x2 : FVec Ideal S512x1024 .f32)
  (x3 : FVec Ideal S1x1024 .f32) (x4 : FVec Ideal S512x1024 .f32) (xo : FVec Ideal S1x1024 .f32)

/-- The gradient of the rows that the first point leaves. -/
theorem out_A5 (hc0 : cond0_0 i) (hc1 : ¬cond0_1 i) :
    out0_A_5 (F := Ideal) c i arg1 harg1 arg2 harg2 arg3 harg3 arg4 harg4 arg5 harg5 arg6 harg6 arg7 harg7 arg8 harg8 hc0 hc1 x0 x1 x2 x3 x4
      = k0_pay1 (F := Ideal) (k0_pay4 (F := Ideal) x2) x4 (k0_pay8 (F := Ideal) x0 x1 x2 x3) := by
  unfold out0_A_5
  rw [View.read_writes_eq_canon _ _ _ (cover0_A_5 (F := Ideal) c i arg1 harg1 arg2 harg2 arg3 harg3 arg4 harg4 arg5 harg5 arg6 harg6 arg7 harg7 arg8 harg8 hc0 hc1 x0 x1 x2 x3 x4)]
  unfold kernelRun0_A
  dsimp only
  sl_unfold_words
  rw [View.canon_unit_zero z2]
  simp only [View.readAt_eq_ld, harg1.read_unread, harg2.read_unread, harg3.read_unread, harg4.read_unread, harg5.read_unread, harg7.read_unread,
    View.ld_unit_zero (S := S512x3584) z2, View.ld_unit_zero (S := S3584x1024) z2, View.ld_unit_zero (S := S512x1024) z2, View.ld_unit_zero (S := S1x1024) z2]

/-- The gain's gradient that the first point leaves. -/
theorem out_A6 (hc0 : cond0_0 i) (hc1 : ¬cond0_1 i) :
    out0_A_6 (F := Ideal) c i arg1 harg1 arg2 harg2 arg3 harg3 arg4 harg4 arg5 harg5 arg6 harg6 arg7 harg7 arg8 harg8 hc0 hc1 x0 x1 x2 x3 x4
      = k0_pay6 (F := Ideal) x0 x1 x2 := by
  unfold out0_A_6
  rw [View.read_writes_eq_canon _ _ _ (cover0_A_6 (F := Ideal) c i arg1 harg1 arg2 harg2 arg3 harg3 arg4 harg4 arg5 harg5 arg6 harg6 arg7 harg7 arg8 harg8 hc0 hc1 x0 x1 x2 x3 x4)]
  unfold kernelRun0_A
  dsimp only
  sl_unfold_words
  rw [View.canon_unit_zero z2]
  simp only [View.readAt_eq_ld, harg1.read_unread, harg2.read_unread, harg3.read_unread, harg4.read_unread, harg5.read_unread, harg7.read_unread,
    View.ld_unit_zero (S := S512x3584) z2, View.ld_unit_zero (S := S3584x1024) z2, View.ld_unit_zero (S := S512x1024) z2, View.ld_unit_zero (S := S1x1024) z2]

/-- The halved gradient of the rows that the first point leaves. -/
theorem out_A7 (hc0 : cond0_0 i) (hc1 : ¬cond0_1 i) :
    out0_A_7 (F := Ideal) c i arg1 harg1 arg2 harg2 arg3 harg3 arg4 harg4 arg5 harg5 arg6 harg6 arg7 harg7 arg8 harg8 hc0 hc1 x0 x1 x2 x3 x4
      = k0_pay2 (F := Ideal) (k0_pay4 (F := Ideal) x2) x4 (k0_pay8 (F := Ideal) x0 x1 x2 x3) := by
  unfold out0_A_7
  rw [View.read_writes_eq_canon _ _ _ (cover0_A_7 (F := Ideal) c i arg1 harg1 arg2 harg2 arg3 harg3 arg4 harg4 arg5 harg5 arg6 harg6 arg7 harg7 arg8 harg8 hc0 hc1 x0 x1 x2 x3 x4)]
  unfold kernelRun0_A
  dsimp only
  sl_unfold_words
  rw [View.canon_unit_zero z2]
  simp only [View.readAt_eq_ld, harg1.read_unread, harg2.read_unread, harg3.read_unread, harg4.read_unread, harg5.read_unread, harg7.read_unread,
    View.ld_unit_zero (S := S512x3584) z2, View.ld_unit_zero (S := S3584x1024) z2, View.ld_unit_zero (S := S512x1024) z2, View.ld_unit_zero (S := S1x1024) z2]

/-- The gradient of the rows that a later point leaves. -/
theorem out_B5 (hc0 : ¬cond0_0 i) (hc1 : cond0_1 i) :
    out0_B_5 (F := Ideal) c i arg1 harg1 arg2 harg2 arg3 harg3 arg4 harg4 arg5 harg5 arg6 harg6 arg7 harg7 arg8 harg8 hc0 hc1 x0 x1 x2 x3 x4 xo
      = k0_pay1 (F := Ideal) (k0_pay4 (F := Ideal) x2) x4 (k0_pay8 (F := Ideal) x0 x1 x2 x3) := by
  unfold out0_B_5
  rw [View.read_writes_eq_canon _ _ _ (cover0_B_5 (F := Ideal) c i arg1 harg1 arg2 harg2 arg3 harg3 arg4 harg4 arg5 harg5 arg6 harg6 arg7 harg7 arg8 harg8 hc0 hc1 x0 x1 x2 x3 x4 xo)]
  unfold kernelRun0_B
  dsimp only
  sl_unfold_words
  rw [View.canon_unit_zero z2]
  simp only [View.readAt_eq_ld, harg1.read_unread, harg2.read_unread, harg3.read_unread, harg4.read_unread, harg5.read_unread, harg7.read_unread,
    View.ld_unit_zero (S := S512x3584) z2, View.ld_unit_zero (S := S3584x1024) z2, View.ld_unit_zero (S := S512x1024) z2, View.ld_unit_zero (S := S1x1024) z2]

/-- The gain's gradient that a later point leaves. -/
theorem out_B6 (hc0 : ¬cond0_0 i) (hc1 : cond0_1 i) :
    out0_B_6 (F := Ideal) c i arg1 harg1 arg2 harg2 arg3 harg3 arg4 harg4 arg5 harg5 arg6 harg6 arg7 harg7 arg8 harg8 hc0 hc1 x0 x1 x2 x3 x4 xo
      = k0_pay7 (F := Ideal) x0 x1 x2 xo := by
  unfold out0_B_6
  rw [View.read_writes_eq_canon _ _ _ (cover0_B_6 (F := Ideal) c i arg1 harg1 arg2 harg2 arg3 harg3 arg4 harg4 arg5 harg5 arg6 harg6 arg7 harg7 arg8 harg8 hc0 hc1 x0 x1 x2 x3 x4 xo)]
  unfold kernelRun0_B
  dsimp only
  sl_unfold_words
  rw [View.canon_unit_zero z2]
  simp only [View.readAt_eq_ld, harg1.read_unread, harg2.read_unread, harg3.read_unread, harg4.read_unread, harg5.read_unread, harg7.read_unread,
    View.ld_unit_zero (S := S512x3584) z2, View.ld_unit_zero (S := S3584x1024) z2, View.ld_unit_zero (S := S512x1024) z2, View.ld_unit_zero (S := S1x1024) z2]

/-- The halved gradient of the rows that a later point leaves. -/
theorem out_B7 (hc0 : ¬cond0_0 i) (hc1 : cond0_1 i) :
    out0_B_7 (F := Ideal) c i arg1 harg1 arg2 harg2 arg3 harg3 arg4 harg4 arg5 harg5 arg6 harg6 arg7 harg7 arg8 harg8 hc0 hc1 x0 x1 x2 x3 x4 xo
      = k0_pay2 (F := Ideal) (k0_pay4 (F := Ideal) x2) x4 (k0_pay8 (F := Ideal) x0 x1 x2 x3) := by
  unfold out0_B_7
  rw [View.read_writes_eq_canon _ _ _ (cover0_B_7 (F := Ideal) c i arg1 harg1 arg2 harg2 arg3 harg3 arg4 harg4 arg5 harg5 arg6 harg6 arg7 harg7 arg8 harg8 hc0 hc1 x0 x1 x2 x3 x4 xo)]
  unfold kernelRun0_B
  dsimp only
  sl_unfold_words
  rw [View.canon_unit_zero z2]
  simp only [View.readAt_eq_ld, harg1.read_unread, harg2.read_unread, harg3.read_unread, harg4.read_unread, harg5.read_unread, harg7.read_unread,
    View.ld_unit_zero (S := S512x3584) z2, View.ld_unit_zero (S := S3584x1024) z2, View.ld_unit_zero (S := S512x1024) z2, View.ld_unit_zero (S := S1x1024) z2]

/-- An entry of the gradient of a block's rows. -/
theorem rows_val (r : Fin 512) (l : Fin 1024) : k0_pay1 (F := Ideal) (k0_pay4 (F := Ideal) x2) x4 (k0_pay8 (F := Ideal) x0 x1 x2 x3) (ix2 r l)
    = x4 (ix2 r l) + back (fun k => x2 (ix2 r k)) (fun k => (∑ x : Fin 3584, x0 (ix2 r x) * x1 (ix2 x k)) * x3 (ix2 0 k)) l := by
  pointwise [k0_pay1, k0_pay4, k0_pay8, k0_pay3, k0_pay5]
  rfl

theorem halved_val (r : Fin 512) (l : Fin 1024) : k0_pay2 (F := Ideal) (k0_pay4 (F := Ideal) x2) x4 (k0_pay8 (F := Ideal) x0 x1 x2 x3) (ix2 r l)
    = Ideal.ofBits FTy.f32 1056964608#32
      * (x4 (ix2 r l) + back (fun k => x2 (ix2 r k)) (fun k => (∑ x : Fin 3584, x0 (ix2 r x) * x1 (ix2 x k)) * x3 (ix2 0 k)) l) := by
  pointwise [k0_pay2, k0_pay1, k0_pay4, k0_pay8, k0_pay3, k0_pay5]
  rfl

/-- What a block adds to the gradient of the gain. -/
theorem gain_val (l : Fin 1024) : k0_pay6 (F := Ideal) x0 x1 x2 (ix2 0 l)
    = ∑ r : Fin 512, (∑ x : Fin 3584, x0 (ix2 r x) * x1 (ix2 x l)) * (x2 (ix2 r l) * rrms (fun k => x2 (ix2 r k))) := by
  pointwise [k0_pay6, k0_pay4, k0_pay3, k0_pay5]
  rfl

theorem gain_next (l : Fin 1024) : k0_pay7 (F := Ideal) x0 x1 x2 xo (ix2 0 l) = xo (ix2 0 l) + k0_pay6 (F := Ideal) x0 x1 x2 (ix2 0 l) := by
  pointwise [k0_pay7]

end

variable (m : (ℓ : Loc nD τ sig) → Buf (Elt Ideal) ℓ) (ρ : Dev nD → PrngReg)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![t.val, 0] := (by decide +kernel : ∀ t : Fin grid0.N, _)

theorem point_lt (t : Fin cfg0.N) : t.val < 8 := t.isLt

/-- Row `r` of the block of point `t`. -/
def row (t : Fin cfg0.N) (r : Fin 512) : Fin 4096 := ⟨512 * t.val + r.val, by have := point_lt t; omega⟩

theorem emb0 (t : Fin cfg0.N) (r : Fin 512) (k : Fin 3584) : (win0_0.blk t).view.emb (ix2 r k) = ix2 (row t r) k := by
  unfold row; blk_ext [index0]
theorem emb1 (t : Fin cfg0.N) (l : Fin 3584) (k : Fin 1024) : (win0_1.blk t).view.emb (ix2 l k) = ix2 l k := by
  blk_ext [index1]
theorem emb2 (t : Fin cfg0.N) (r : Fin 512) (k : Fin 1024) : (win0_2.blk t).view.emb (ix2 r k) = ix2 (row t r) k := by
  unfold row; blk_ext [index2]
theorem emb3 (t : Fin cfg0.N) (l : Fin 1) (k : Fin 1024) : (win0_3.blk t).view.emb (ix2 l k) = ix2 l k := by
  blk_ext [index3]
theorem emb4 (t : Fin cfg0.N) (r : Fin 512) (k : Fin 1024) : (win0_4.blk t).view.emb (ix2 r k) = ix2 (row t r) k := by
  unfold row; blk_ext [index4]
theorem emb5 (t : Fin cfg0.N) (r : Fin 512) (k : Fin 1024) : (win0_5.blk t).view.emb (ix2 r k) = ix2 (row t r) k := by
  unfold row; blk_ext [index5]
theorem emb6 (t : Fin cfg0.N) (l : Fin 1) (k : Fin 1024) : (win0_6.blk t).view.emb (ix2 l k) = ix2 l k := by
  blk_ext [index6]
theorem emb7 (t : Fin cfg0.N) (r : Fin 512) (k : Fin 1024) : (win0_7.blk t).view.emb (ix2 r k) = ix2 (row t r) k := by
  unfold row; blk_ext [index7]

section
variable (c : Dev nD) (X : (b : Ref sig .tc) → Buf (Elt Ideal) ((c : Thread nD τ).loc b))
theorem read0 (t : Fin cfg0.N) (y) : ((cfg0.win 0).blk t).view.read (Elt Ideal) (X (Pipeline.arrRef spec0 0)) y
    = X main_arg0 ((win0_0.blk t).view.emb y) := rfl
theorem read1 (t : Fin cfg0.N) (y) : ((cfg0.win 1).blk t).view.read (Elt Ideal) (X (Pipeline.arrRef spec0 1)) y
    = X main_v1 ((win0_1.blk t).view.emb y) := rfl
theorem read2 (t : Fin cfg0.N) (y) : ((cfg0.win 2).blk t).view.read (Elt Ideal) (X (Pipeline.arrRef spec0 2)) y
    = X main_arg2 ((win0_2.blk t).view.emb y) := rfl
theorem read3 (t : Fin cfg0.N) (y) : ((cfg0.win 3).blk t).view.read (Elt Ideal) (X (Pipeline.arrRef spec0 3)) y
    = X main_arg3 ((win0_3.blk t).view.emb y) := rfl
theorem read4 (t : Fin cfg0.N) (y) : ((cfg0.win 4).blk t).view.read (Elt Ideal) (X (Pipeline.arrRef spec0 4)) y
    = X main_arg4 ((win0_4.blk t).view.emb y) := rfl
end

/-- The weights as the launch finds them: transposed and rounded. -/
def flipped (B : FVec Ideal S1024x3584 .f32) : FVec Ideal S3584x1024 .bf16 :=
  truncf .bf16 (transpose S3584x1024 [1, 0] B transposes_S1024x3584_S3584x1024_1_0) bitsLt_bf16_f32

theorem V_flipped (c : Dev nD) : V m c main_v1 = flipped (m ((c : Thread nD τ).loc main_arg1)) := by
  show StableHlo.after _ _ _ = _
  simp only [hostOps0]
  after_results_simp
  rfl

theorem flipped_val (B : FVec Ideal S1024x3584 .f32) (l : Fin 3584) (k : Fin 1024) : flipped B (ix2 l k) = B (ix2 k l) := by
  pointwise [flipped]

section
variable (c : Dev nD) (t : Fin cfg0.N)

/-! The blocks that point `t` reads. -/
abbrev b0 : FVec Ideal S512x3584 .bf16 := iblk m c 0 t
abbrev b1 : FVec Ideal S3584x1024 .bf16 := iblk m c 1 t
abbrev b2 : FVec Ideal S512x1024 .f32 := iblk m c 2 t
abbrev b3 : FVec Ideal S1x1024 .f32 := iblk m c 3 t
abbrev b4 : FVec Ideal S512x1024 .f32 := iblk m c 4 t

theorem in0 (r : Fin 512) (k : Fin 3584) : b0 m c t (ix2 r k) = m ((c.tc : Thread nD τ).loc main_arg0) (ix2 (row t r) k) :=
  ((read0 c (V m c) t _).trans (congrArg _ (emb0 t r k))).trans (congrFun (V_main_arg0 m c) _)
theorem in1 (l : Fin 3584) (k : Fin 1024) : b1 m c t (ix2 l k) = m ((c.tc : Thread nD τ).loc main_arg1) (ix2 k l) :=
  ((read1 c (V m c) t _).trans (congrArg _ (emb1 t l k))).trans ((congrFun (V_flipped m c) _).trans (flipped_val _ l k))
theorem in2 (r : Fin 512) (k : Fin 1024) : b2 m c t (ix2 r k) = m ((c.tc : Thread nD τ).loc main_arg2) (ix2 (row t r) k) :=
  ((read2 c (V m c) t _).trans (congrArg _ (emb2 t r k))).trans (congrFun (V_main_arg2 m c) _)
theorem in3 (l : Fin 1) (k : Fin 1024) : b3 m c t (ix2 l k) = m ((c.tc : Thread nD τ).loc main_arg3) (ix2 l k) :=
  ((read3 c (V m c) t _).trans (congrArg _ (emb3 t l k))).trans (congrFun (V_main_arg3 m c) _)
theorem in4 (r : Fin 512) (k : Fin 1024) : b4 m c t (ix2 r k) = m ((c.tc : Thread nD τ).loc main_arg4) (ix2 (row t r) k) :=
  ((read4 c (V m c) t _).trans (congrArg _ (emb4 t r k))).trans (congrFun (V_main_arg4 m c) _)

theorem case_first (h0 : t.val % 8 = 0) : ¬1 ≤ t.val := by have := point_lt t; omega
theorem case_later (h0 : ¬t.val % 8 = 0) : 1 ≤ t.val := by omega

theorem outs5 : (outsAt0 m c t.val t.isLt).1
    = k0_pay1 (F := Ideal) (k0_pay4 (F := Ideal) (b2 m c t)) (b4 m c t) (k0_pay8 (F := Ideal) (b0 m c t) (b1 m c t) (b2 m c t) (b3 m c t)) := by
  by_cases h0 : t.val % 8 = 0
  · rw [outsAt0_A m c t h0 (case_first t h0)]
    dsimp only
    rw [out_A5]
  · rw [outsAt0_B m c t h0 (case_later t h0)]
    dsimp only
    rw [out_B5]

theorem outs7 : (outsAt0 m c t.val t.isLt).2.2
    = k0_pay2 (F := Ideal) (k0_pay4 (F := Ideal) (b2 m c t)) (b4 m c t) (k0_pay8 (F := Ideal) (b0 m c t) (b1 m c t) (b2 m c t) (b3 m c t)) := by
  by_cases h0 : t.val % 8 = 0
  · rw [outsAt0_A m c t h0 (case_first t h0)]
    dsimp only
    rw [out_A7]
  · rw [outsAt0_B m c t h0 (case_later t h0)]
    dsimp only
    rw [out_B7]

theorem first6 (h0 : t.val % 8 = 0) : (outsAt0 m c t.val t.isLt).2.1 = k0_pay6 (F := Ideal) (b0 m c t) (b1 m c t) (b2 m c t) := by
  rw [outsAt0_A m c t h0 (case_first t h0)]
  dsimp only
  rw [out_A6]

theorem later6 (h0 : ¬t.val % 8 = 0) : (outsAt0 m c t.val t.isLt).2.1
    = k0_pay7 (F := Ideal) (b0 m c t) (b1 m c t) (b2 m c t) (outsAt0 m c (t.val - 1) (Nat.lt_of_le_of_lt (Nat.sub_le _ _) t.isLt)).2.1 := by
  rw [outsAt0_B m c t h0 (case_later t h0)]
  dsimp only
  rw [out_B6]

/-- What the block of point `t` adds to the gradient of the gain. -/
theorem block_gain (l : Fin 1024) : k0_pay6 (F := Ideal) (b0 m c t) (b1 m c t) (b2 m c t) (ix2 0 l)
    = ∑ r : Fin 512, share (m ((c.tc : Thread nD τ).loc main_arg0)) (m ((c.tc : Thread nD τ).loc main_arg1)) (m ((c.tc : Thread nD τ).loc main_arg2)) l (row t r) := by
  refine (gain_val _ _ _ l).trans (Finset.sum_congr rfl fun r _ => ?_)
  unfold share inc
  refine congrArg₂ (· * ·) (Finset.sum_congr rfl fun x _ => congrArg₂ (· * ·) (in0 m c t r x) (in1 m c t x l))
    (congrArg₂ (· * ·) (in2 m c t r l) (congrArg rrms (funext fun k => in2 m c t r k)))

/-- An entry of the gradient of the rows of point `t`'s block. -/
theorem block_rows (r : Fin 512) (l : Fin 1024) :
    b4 m c t (ix2 r l) + back (fun k => b2 m c t (ix2 r k))
      (fun k => (∑ x : Fin 3584, b0 m c t (ix2 r x) * b1 m c t (ix2 x k)) * b3 m c t (ix2 0 k)) l
    = rows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 (row t r) l) := by
  unfold rows inc
  refine congrArg₂ (· + ·) (in4 m c t r l) ?_
  exact congrArg₂ (fun a b => back a b l) (funext fun k => in2 m c t r k)
    (funext fun k => congrArg₂ (· * ·) (Finset.sum_congr rfl fun x _ => congrArg₂ (· * ·) (in0 m c t r x) (in1 m c t x k)) (in3 m c t 0 k))

end

/-- The gradient of the gain after the first `n + 1` points: the sum over their rows. -/
theorem outs6 (c : Dev nD) (l : Fin 1024) (n : ℕ) (hn : n < cfg0.N) : (outsAt0 m c n hn).2.1 (ix2 0 l)
    = upTo (share (m ((c.tc : Thread nD τ).loc main_arg0)) (m ((c.tc : Thread nD τ).loc main_arg1)) (m ((c.tc : Thread nD τ).loc main_arg2)) l) (512 * n + 512) := by
  have h8 : n < 8 := hn
  rw [upTo_add _ (512 * n) 512 (by omega)]
  refine Eq.trans ?_ (congrArg _ (block_gain m c ⟨n, hn⟩ l))
  by_cases h0 : n = 0
  · subst h0
    rw [Nat.mul_zero, upTo_zero, zero_add]
    exact congrFun (first6 m c ⟨0, hn⟩ rfl) _
  · obtain ⟨k, rfl⟩ := Nat.exists_eq_succ_of_ne_zero h0
    have h1 : ¬(⟨k + 1, hn⟩ : Fin cfg0.N).val % 8 = 0 := by dsimp only; omega
    refine (congrFun (later6 m c ⟨k + 1, hn⟩ h1) _).trans ((gain_next _ _ _ _ l).trans ?_)
    exact congrArg (· + _) (outs6 c l k (Nat.lt_of_succ_lt hn))

theorem final5 (c : Dev nD) : (dats m 0 c).arrAt 5 cfg0.N = rows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 5 _ (by decide +kernel) fun t hf y => ?_
  obtain ⟨r, l, rfl⟩ : ∃ (r : Fin 512) (l : Fin 1024), y = ix2 r l := ⟨y 0, y 1, (ix2_eta y).symm⟩
  blk_simp; rw [after0_5, outs5]
  refine (rows_val _ _ _ _ _ r l).trans ((block_rows m c t r l).trans ?_)
  exact (congrArg (rows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (emb5 t r l)).symm

theorem final7 (c : Dev nD) : (dats m 0 c).arrAt 7 cfg0.N = halved (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 7 _ (by decide +kernel) fun t hf y => ?_
  obtain ⟨r, l, rfl⟩ : ∃ (r : Fin 512) (l : Fin 1024), y = ix2 r l := ⟨y 0, y 1, (ix2_eta y).symm⟩
  blk_simp; rw [after0_7, outs7]
  refine (halved_val _ _ _ _ _ r l).trans ((congrArg _ (block_rows m c t r l)).trans ?_)
  exact (congrArg (halved (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (emb7 t r l)).symm

theorem last6 : ∀ t : Fin cfg0.N, (cfg0.win 6).flush t = true → t.val = 7 := (by decide +kernel)

theorem final6 (c : Dev nD) : (dats m 0 c).arrAt 6 cfg0.N = gain (m ((c.tc : Thread nD τ).loc main_arg0)) (m ((c.tc : Thread nD τ).loc main_arg1)) (m ((c.tc : Thread nD τ).loc main_arg2)) := by
  refine (dats m 0 c).arrAt_eq_of_covers 6 _ (by decide +kernel) fun t hf y => ?_
  obtain ⟨r, l, rfl⟩ : ∃ (r : Fin 1) (l : Fin 1024), y = ix2 r l := ⟨y 0, y 1, (ix2_eta y).symm⟩
  obtain rfl : r = 0 := Subsingleton.elim _ _
  blk_simp; rw [after0_6]
  refine (outs6 m c l t.val t.isLt).trans ?_
  rw [last6 t hf]
  refine (upTo_all _).trans ?_
  exact (congrArg (gain (m ((c.tc : Thread nD τ).loc main_arg0)) (m ((c.tc : Thread nD τ).loc main_arg1)) (m ((c.tc : Thread nD τ).loc main_arg2))) (emb6 t 0 l)).symm

/-- On any arguments the kernel's three results are the reference's. -/
theorem algebraic : Cert.algebraic_Kernel7Ideal_Reference7Ideal := by
  intro m g m' g' _ hargs
  refine ⟨fun c => rows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)), fun c => gain (m ((c.tc : Thread nD τ).loc main_arg0)) (m ((c.tc : Thread nD τ).loc main_arg1)) (m ((c.tc : Thread nD τ).loc main_arg2)), fun c => halved (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)), ?_, ?_⟩
  · exact (θ_run defs _ _).mono (fun r h c => ⟨((h.1 c).1 5).trans (final5 m c), ((h.1 c).1 6).trans (final6 m c), ((h.1 c).1 7).trans (final7 m c), h.2.1 c⟩)
      (θ_run_and (run_main m g) (Cert.Kernel7Ideal.Gen.frame m g))
  · refine (θ_run Cert.Reference7Ideal.defs _ _).mono (fun r h c => ?_) (Cert.Reference7Ideal.Value.run (F := Ideal) m' g')
    obtain ⟨a0, a1, a2, a3, a4⟩ := hargs c
    refine ⟨(h c).1.trans (ref_rows m' c _ _ _ _ _ a0 a1 a2 a3 a4), (h c).2.1.trans ((ref_gain _ _ _).trans ?_),
      (h c).2.2.1.trans (ref_halved m' c _ _ _ _ _ a0 a1 a2 a3 a4), (h c).2.2.2⟩
    rw [a0, a1, a2]

end Cert.Proof.InBack

end
-- ==== Proof.Norm.GateBack.lean ====
/-
  The backward step of the normalised projections in front of the gate.
-/
module

public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Norm.Rows
public import proofs.«01_k».proof.Defs
public import Idealize.ShloMosaic.Lib.Pipeline.ValueKit

@[expose] public section

set_option maxRecDepth 16384

noncomputable section

namespace Cert.Proof.GateBack

section

open Cert.Reference8Ideal Cert.Reference8Ideal.Gen
open Idealize.ShloMosaic Idealize.ShloMosaic.TcCoe Idealize.ShloMosaic.Pointwise Finset
open Cert.Proof.Norm

/-- The gradient that reaches the normalised row `i` through the two projections. -/
def inc (A : FVec Ideal S4096x2816 .bf16) (B : FVec Ideal S4096x2816 .bf16) (U : FVec Ideal S1024x2816 .f32) (W : FVec Ideal S1024x2816 .f32) (i : Fin 4096) (k : Fin 1024) : EReal :=
  (∑ x : Fin 2816, A (ix2 i x) * U (ix2 k x)) + ∑ x : Fin 2816, B (ix2 i x) * W (ix2 k x)

/-- The gradient of the rows, with the one that comes in beside it. -/
def rows (A : FVec Ideal S4096x2816 .bf16) (B : FVec Ideal S4096x2816 .bf16) (U : FVec Ideal S1024x2816 .f32) (W : FVec Ideal S1024x2816 .f32)
    (X : FVec Ideal S4096x1024 .f32) (G : FVec Ideal S1x1024 .f32) (R : FVec Ideal S4096x1024 .f32) : FVec Ideal S4096x1024 .f32 :=
  fun y => R (ix2 (y 0) (y 1)) + back (fun k => X (ix2 (y 0) k)) (fun k => inc A B U W (y 0) k * G (ix2 0 k)) (y 1)

/-- What row `q` adds to the gradient of the gain. -/
def share (A : FVec Ideal S4096x2816 .bf16) (B : FVec Ideal S4096x2816 .bf16) (U : FVec Ideal S1024x2816 .f32) (W : FVec Ideal S1024x2816 .f32)
    (X : FVec Ideal S4096x1024 .f32) (l : Fin 1024) (q : Fin 4096) : EReal :=
  inc A B U W q l * (X (ix2 q l) * rrms (fun k => X (ix2 q k)))

/-- The gradient of the gain. -/
def gain (A : FVec Ideal S4096x2816 .bf16) (B : FVec Ideal S4096x2816 .bf16) (U : FVec Ideal S1024x2816 .f32) (W : FVec Ideal S1024x2816 .f32)
    (X : FVec Ideal S4096x1024 .f32) : FVec Ideal S1x1024 .f32 :=
  fun y => ∑ q, share A B U W X (y 1) q

variable (m : (ℓ : Loc nD τ sig) → Buf (Elt Ideal) ℓ) (c : Dev nD)
  (A : FVec Ideal S4096x2816 .bf16) (B : FVec Ideal S4096x2816 .bf16) (U : FVec Ideal S1024x2816 .f32) (W : FVec Ideal S1024x2816 .f32)
  (X : FVec Ideal S4096x1024 .f32) (G : FVec Ideal S1x1024 .f32) (R : FVec Ideal S4096x1024 .f32)

/-- The reference's first result is the gradient of the rows. -/
theorem ref_rows (h0 : m ((c.tc : Thread nD τ).loc main_arg0) = R) (h1 : m ((c.tc : Thread nD τ).loc main_arg1) = X)
    (h2 : m ((c.tc : Thread nD τ).loc main_arg2) = G) (h3 : m ((c.tc : Thread nD τ).loc main_arg3) = A)
    (h4 : m ((c.tc : Thread nD τ).loc main_arg4) = B) (h5 : m ((c.tc : Thread nD τ).loc main_arg5) = U)
    (h6 : m ((c.tc : Thread nD τ).loc main_arg6) = W) : Value.res_main_v41 m c = rows A B U W X G R := by
  funext y
  obtain ⟨i, j, rfl⟩ : ∃ i j, y = ix2 i j := ⟨y 0, y 1, (ix2_eta y).symm⟩
  unfold Value.res_main_v41
  rw [h0, h1, h2, h3, h4, h5, h6]
  pointwise []
  simp only [add_comm (∑ x : Fin 2816, B _ * W _)]
  exact congrArg (R (ix2 i j) + ·) (rules_one (fun k => X (ix2 i k)) (fun k => inc A B U W i k * G (ix2 0 k)) j)

/-- The reference's second result is the gradient of the gain. -/
theorem ref_gain : shapeCast S1x1024 (Host.reduceAdd (mulf (mulf X (broadcastInDim S4096x1024 ![0, 1] bcast_S4096x1_S4096x1024_0_1 (Host.rsqrt (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (addf (Host.dotGeneral dot_S4096x2816_S1024x2816_S4096x1024_1_1_0_0_n_n none (extf .f32 B bitsLt_bf16_f32) W) (Host.dotGeneral dot_S4096x2816_S1024x2816_S4096x1024_1_1_0_0_n_n none (extf .f32 A bitsLt_bf16_f32) U))) (constant S_ .f32 0x00000000#32) reducesTo_S4096x1024_S1024_d0 h_S_) shapeCasts_S1024_S1x1024
    = gain A B U W X := by
  funext y
  obtain ⟨i, j, rfl⟩ : ∃ i j, y = ix2 i j := ⟨y 0, y 1, (ix2_eta y).symm⟩
  obtain rfl : i = 0 := Subsingleton.elim _ _
  pointwise []
  exact Finset.sum_congr rfl fun q _ => (mul_comm _ _).trans (congrArg (· * _) (add_comm _ _))

end

open Cert.Kernel8Ideal Cert.Kernel8Ideal.Gen
open Idealize.ShloMosaic Idealize.ShloMosaic.TcCoe Idealize.ShloMosaic.Pointwise Idealize.SL.Sem Finset
open Idealize.ShloMosaic.Pipeline (Dat Cfg Window)
open Cert.Proof.Norm

theorem z2 : (![0, 0] : Fin 2 → ℕ) = fun _ => 0 := by decide

section
variable (c : Dev nD) (i : grid0.Coords) (arg1 : Memref sig .tc .vmem S512x1024 .f32) (harg1 : arg1.IsWhole)
  (arg2 : Memref sig .tc .vmem S512x1024 .f32) (harg2 : arg2.IsWhole)
  (arg3 : Memref sig .tc .vmem S1x1024 .f32) (harg3 : arg3.IsWhole)
  (arg4 : Memref sig .tc .vmem S512x2816 .bf16) (harg4 : arg4.IsWhole)
  (arg5 : Memref sig .tc .vmem S512x2816 .bf16) (harg5 : arg5.IsWhole)
  (arg6 : Memref sig .tc .vmem S2816x1024 .bf16) (harg6 : arg6.IsWhole)
  (arg7 : Memref sig .tc .vmem S2816x1024 .bf16) (harg7 : arg7.IsWhole)
  (arg8 : Memref sig .tc .vmem S512x1024 .f32) (harg8 : arg8.IsWhole)
  (arg9 : Memref sig .tc .vmem S1x1024 .f32) (harg9 : arg9.IsWhole)
  (x0 : FVec Ideal S512x1024 .f32) (x1 : FVec Ideal S512x1024 .f32) (x2 : FVec Ideal S1x1024 .f32) (x3 : FVec Ideal S512x2816 .bf16) (x4 : FVec Ideal S512x2816 .bf16) (x5 : FVec Ideal S2816x1024 .bf16) (x6 : FVec Ideal S2816x1024 .bf16) (xo : FVec Ideal S1x1024 .f32)

/-- The gradient of the rows that the first point leaves. -/
theorem out_A7 (hc0 : cond0_0 i) (hc1 : ¬cond0_1 i) :
    out0_A_7 (F := Ideal) c i arg1 harg1 arg2 harg2 arg3 harg3 arg4 harg4 arg5 harg5 arg6 harg6 arg7 harg7 arg8 harg8 arg9 harg9 hc0 hc1 x0 x1 x2 x3 x4 x5 x6
      = k0_pay1 (F := Ideal) (k0_pay3 (F := Ideal) x1) (k0_pay4 (F := Ideal) x1) (k0_pay7 (F := Ideal) x3 x5 x4 x6 x2) x0 := by
  unfold out0_A_7
  rw [View.read_writes_eq_canon _ _ _ (cover0_A_7 (F := Ideal) c i arg1 harg1 arg2 harg2 arg3 harg3 arg4 harg4 arg5 harg5 arg6 harg6 arg7 harg7 arg8 harg8 arg9 harg9 hc0 hc1 x0 x1 x2 x3 x4 x5 x6)]
  unfold kernelRun0_A
  dsimp only
  sl_unfold_words
  rw [View.canon_unit_zero z2]
  simp only [View.readAt_eq_ld, harg1.read_unread, harg2.read_unread, harg3.read_unread, harg4.read_unread, harg5.read_unread, harg6.read_unread, harg7.read_unread, harg9.read_unread,
    View.ld_unit_zero (S := S512x2816) z2, View.ld_unit_zero (S := S2816x1024) z2, View.ld_unit_zero (S := S512x1024) z2, View.ld_unit_zero (S := S1x1024) z2]

/-- The gain's gradient that the first point leaves. -/
theorem out_A8 (hc0 : cond0_0 i) (hc1 : ¬cond0_1 i) :
    out0_A_8 (F := Ideal) c i arg1 harg1 arg2 harg2 arg3 harg3 arg4 harg4 arg5 harg5 arg6 harg6 arg7 harg7 arg8 harg8 arg9 harg9 hc0 hc1 x0 x1 x2 x3 x4 x5 x6
      = k0_pay5 (F := Ideal) x3 x5 x4 x6 x1 := by
  unfold out0_A_8
  rw [View.read_writes_eq_canon _ _ _ (cover0_A_8 (F := Ideal) c i arg1 harg1 arg2 harg2 arg3 harg3 arg4 harg4 arg5 harg5 arg6 harg6 arg7 harg7 arg8 harg8 arg9 harg9 hc0 hc1 x0 x1 x2 x3 x4 x5 x6)]
  unfold kernelRun0_A
  dsimp only
  sl_unfold_words
  rw [View.canon_unit_zero z2]
  simp only [View.readAt_eq_ld, harg1.read_unread, harg2.read_unread, harg3.read_unread, harg4.read_unread, harg5.read_unread, harg6.read_unread, harg7.read_unread, harg9.read_unread,
    View.ld_unit_zero (S := S512x2816) z2, View.ld_unit_zero (S := S2816x1024) z2, View.ld_unit_zero (S := S512x1024) z2, View.ld_unit_zero (S := S1x1024) z2]

/-- The gradient of the rows that a later point leaves. -/
theorem out_B7 (hc0 : ¬cond0_0 i) (hc1 : cond0_1 i) :
    out0_B_7 (F := Ideal) c i arg1 harg1 arg2 harg2 arg3 harg3 arg4 harg4 arg5 harg5 arg6 harg6 arg7 harg7 arg8 harg8 arg9 harg9 hc0 hc1 x0 x1 x2 x3 x4 x5 x6 xo
      = k0_pay1 (F := Ideal) (k0_pay3 (F := Ideal) x1) (k0_pay4 (F := Ideal) x1) (k0_pay7 (F := Ideal) x3 x5 x4 x6 x2) x0 := by
  unfold out0_B_7
  rw [View.read_writes_eq_canon _ _ _ (cover0_B_7 (F := Ideal) c i arg1 harg1 arg2 harg2 arg3 harg3 arg4 harg4 arg5 harg5 arg6 harg6 arg7 harg7 arg8 harg8 arg9 harg9 hc0 hc1 x0 x1 x2 x3 x4 x5 x6 xo)]
  unfold kernelRun0_B
  dsimp only
  sl_unfold_words
  rw [View.canon_unit_zero z2]
  simp only [View.readAt_eq_ld, harg1.read_unread, harg2.read_unread, harg3.read_unread, harg4.read_unread, harg5.read_unread, harg6.read_unread, harg7.read_unread, harg9.read_unread,
    View.ld_unit_zero (S := S512x2816) z2, View.ld_unit_zero (S := S2816x1024) z2, View.ld_unit_zero (S := S512x1024) z2, View.ld_unit_zero (S := S1x1024) z2]

/-- The gain's gradient that a later point leaves. -/
theorem out_B8 (hc0 : ¬cond0_0 i) (hc1 : cond0_1 i) :
    out0_B_8 (F := Ideal) c i arg1 harg1 arg2 harg2 arg3 harg3 arg4 harg4 arg5 harg5 arg6 harg6 arg7 harg7 arg8 harg8 arg9 harg9 hc0 hc1 x0 x1 x2 x3 x4 x5 x6 xo
      = k0_pay6 (F := Ideal) x3 x5 x4 x6 x1 xo := by
  unfold out0_B_8
  rw [View.read_writes_eq_canon _ _ _ (cover0_B_8 (F := Ideal) c i arg1 harg1 arg2 harg2 arg3 harg3 arg4 harg4 arg5 harg5 arg6 harg6 arg7 harg7 arg8 harg8 arg9 harg9 hc0 hc1 x0 x1 x2 x3 x4 x5 x6 xo)]
  unfold kernelRun0_B
  dsimp only
  sl_unfold_words
  rw [View.canon_unit_zero z2]
  simp only [View.readAt_eq_ld, harg1.read_unread, harg2.read_unread, harg3.read_unread, harg4.read_unread, harg5.read_unread, harg6.read_unread, harg7.read_unread, harg9.read_unread,
    View.ld_unit_zero (S := S512x2816) z2, View.ld_unit_zero (S := S2816x1024) z2, View.ld_unit_zero (S := S512x1024) z2, View.ld_unit_zero (S := S1x1024) z2]

/-- An entry of the gradient of a block's rows. -/
theorem rows_val (r : Fin 512) (l : Fin 1024) : k0_pay1 (F := Ideal) (k0_pay3 (F := Ideal) x1) (k0_pay4 (F := Ideal) x1) (k0_pay7 (F := Ideal) x3 x5 x4 x6 x2) x0 (ix2 r l)
    = x0 (ix2 r l) + back (fun k => x1 (ix2 r k)) (fun k => ((∑ x : Fin 2816, x3 (ix2 r x) * x5 (ix2 x k)) + ∑ x : Fin 2816, x4 (ix2 r x) * x6 (ix2 x k)) * x2 (ix2 0 k)) l := by
  pointwise [k0_pay1, k0_pay2, k0_pay3, k0_pay4, k0_pay7]
  rfl

/-- What a block adds to the gradient of the gain. -/
theorem gain_val (l : Fin 1024) : k0_pay5 (F := Ideal) x3 x5 x4 x6 x1 (ix2 0 l)
    = ∑ r : Fin 512, ((∑ x : Fin 2816, x3 (ix2 r x) * x5 (ix2 x l)) + ∑ x : Fin 2816, x4 (ix2 r x) * x6 (ix2 x l)) * (x1 (ix2 r l) * rrms (fun k => x1 (ix2 r k))) := by
  pointwise [k0_pay5, k0_pay2, k0_pay3, k0_pay4]
  rfl

theorem gain_next (l : Fin 1024) : k0_pay6 (F := Ideal) x3 x5 x4 x6 x1 xo (ix2 0 l) = xo (ix2 0 l) + k0_pay5 (F := Ideal) x3 x5 x4 x6 x1 (ix2 0 l) := by
  pointwise [k0_pay6]

end

variable (m : (ℓ : Loc nD τ sig) → Buf (Elt Ideal) ℓ) (ρ : Dev nD → PrngReg)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![0, 0] := (by decide +kernel : ∀ t : Fin grid0.N, _)

theorem point_lt (t : Fin cfg0.N) : t.val < 8 := t.isLt

/-- Row `r` of the block of point `t`. -/
def row (t : Fin cfg0.N) (r : Fin 512) : Fin 4096 := ⟨512 * t.val + r.val, by have := point_lt t; omega⟩

theorem emb0 (t : Fin cfg0.N) (r : Fin 512) (k : Fin 1024) : (win0_0.blk t).view.emb (ix2 r k) = ix2 (row t r) k := by
  unfold row; blk_ext [index0]
theorem emb1 (t : Fin cfg0.N) (r : Fin 512) (k : Fin 1024) : (win0_1.blk t).view.emb (ix2 r k) = ix2 (row t r) k := by
  unfold row; blk_ext [index1]
theorem emb2 (t : Fin cfg0.N) (l : Fin 1) (k : Fin 1024) : (win0_2.blk t).view.emb (ix2 l k) = ix2 l k := by
  blk_ext [index2]
theorem emb3 (t : Fin cfg0.N) (r : Fin 512) (k : Fin 2816) : (win0_3.blk t).view.emb (ix2 r k) = ix2 (row t r) k := by
  unfold row; blk_ext [index3]
theorem emb4 (t : Fin cfg0.N) (r : Fin 512) (k : Fin 2816) : (win0_4.blk t).view.emb (ix2 r k) = ix2 (row t r) k := by
  unfold row; blk_ext [index4]
theorem emb5 (t : Fin cfg0.N) (l : Fin 2816) (k : Fin 1024) : (win0_5.blk t).view.emb (ix2 l k) = ix2 l k := by
  blk_ext [index5]
theorem emb6 (t : Fin cfg0.N) (l : Fin 2816) (k : Fin 1024) : (win0_6.blk t).view.emb (ix2 l k) = ix2 l k := by
  blk_ext [index6]
theorem emb7 (t : Fin cfg0.N) (r : Fin 512) (k : Fin 1024) : (win0_7.blk t).view.emb (ix2 r k) = ix2 (row t r) k := by
  unfold row; blk_ext [index7]
theorem emb8 (t : Fin cfg0.N) (l : Fin 1) (k : Fin 1024) : (win0_8.blk t).view.emb (ix2 l k) = ix2 l k := by
  blk_ext [index8]

section
variable (c : Dev nD) (X : (b : Ref sig .tc) → Buf (Elt Ideal) ((c : Thread nD τ).loc b))
theorem read0 (t : Fin cfg0.N) (y) : ((cfg0.win 0).blk t).view.read (Elt Ideal) (X (Pipeline.arrRef spec0 0)) y
    = X main_arg0 ((win0_0.blk t).view.emb y) := rfl
theorem read1 (t : Fin cfg0.N) (y) : ((cfg0.win 1).blk t).view.read (Elt Ideal) (X (Pipeline.arrRef spec0 1)) y
    = X main_arg1 ((win0_1.blk t).view.emb y) := rfl
theorem read2 (t : Fin cfg0.N) (y) : ((cfg0.win 2).blk t).view.read (Elt Ideal) (X (Pipeline.arrRef spec0 2)) y
    = X main_arg2 ((win0_2.blk t).view.emb y) := rfl
theorem read3 (t : Fin cfg0.N) (y) : ((cfg0.win 3).blk t).view.read (Elt Ideal) (X (Pipeline.arrRef spec0 3)) y
    = X main_arg3 ((win0_3.blk t).view.emb y) := rfl
theorem read4 (t : Fin cfg0.N) (y) : ((cfg0.win 4).blk t).view.read (Elt Ideal) (X (Pipeline.arrRef spec0 4)) y
    = X main_arg4 ((win0_4.blk t).view.emb y) := rfl
theorem read5 (t : Fin cfg0.N) (y) : ((cfg0.win 5).blk t).view.read (Elt Ideal) (X (Pipeline.arrRef spec0 5)) y
    = X main_v1 ((win0_5.blk t).view.emb y) := rfl
theorem read6 (t : Fin cfg0.N) (y) : ((cfg0.win 6).blk t).view.read (Elt Ideal) (X (Pipeline.arrRef spec0 6)) y
    = X main_v3 ((win0_6.blk t).view.emb y) := rfl
end

/-- A projection's weights as the launch finds them: transposed and rounded. -/
def flipped (B : FVec Ideal S1024x2816 .f32) : FVec Ideal S2816x1024 .bf16 :=
  truncf .bf16 (transpose S2816x1024 [1, 0] B transposes_S1024x2816_S2816x1024_1_0) bitsLt_bf16_f32

theorem V_flipped5 (c : Dev nD) : V m c main_v1 = flipped (m ((c : Thread nD τ).loc main_arg5)) := by
  show StableHlo.after _ _ _ = _
  simp only [hostOps0]
  after_results_simp
  rfl

theorem V_flipped6 (c : Dev nD) : V m c main_v3 = flipped (m ((c : Thread nD τ).loc main_arg6)) := by
  show StableHlo.after _ _ _ = _
  simp only [hostOps0]
  after_results_simp
  rfl

theorem flipped_val (B : FVec Ideal S1024x2816 .f32) (l : Fin 2816) (k : Fin 1024) : flipped B (ix2 l k) = B (ix2 k l) := by
  pointwise [flipped]

section
variable (c : Dev nD) (t : Fin cfg0.N)

/-! The blocks that point `t` reads. -/
abbrev b0 : FVec Ideal S512x1024 .f32 := iblk m c 0 t
abbrev b1 : FVec Ideal S512x1024 .f32 := iblk m c 1 t
abbrev b2 : FVec Ideal S1x1024 .f32 := iblk m c 2 t
abbrev b3 : FVec Ideal S512x2816 .bf16 := iblk m c 3 t
abbrev b4 : FVec Ideal S512x2816 .bf16 := iblk m c 4 t
abbrev b5 : FVec Ideal S2816x1024 .bf16 := iblk m c 5 t
abbrev b6 : FVec Ideal S2816x1024 .bf16 := iblk m c 6 t

theorem in0 (r : Fin 512) (k : Fin 1024) : b0 m c t (ix2 r k) = m ((c.tc : Thread nD τ).loc main_arg0) (ix2 (row t r) k) :=
  ((read0 c (V m c) t _).trans (congrArg _ (emb0 t r k))).trans (congrFun (V_main_arg0 m c) _)
theorem in1 (r : Fin 512) (k : Fin 1024) : b1 m c t (ix2 r k) = m ((c.tc : Thread nD τ).loc main_arg1) (ix2 (row t r) k) :=
  ((read1 c (V m c) t _).trans (congrArg _ (emb1 t r k))).trans (congrFun (V_main_arg1 m c) _)
theorem in2 (l : Fin 1) (k : Fin 1024) : b2 m c t (ix2 l k) = m ((c.tc : Thread nD τ).loc main_arg2) (ix2 l k) :=
  ((read2 c (V m c) t _).trans (congrArg _ (emb2 t l k))).trans (congrFun (V_main_arg2 m c) _)
theorem in3 (r : Fin 512) (k : Fin 2816) : b3 m c t (ix2 r k) = m ((c.tc : Thread nD τ).loc main_arg3) (ix2 (row t r) k) :=
  ((read3 c (V m c) t _).trans (congrArg _ (emb3 t r k))).trans (congrFun (V_main_arg3 m c) _)
theorem in4 (r : Fin 512) (k : Fin 2816) : b4 m c t (ix2 r k) = m ((c.tc : Thread nD τ).loc main_arg4) (ix2 (row t r) k) :=
  ((read4 c (V m c) t _).trans (congrArg _ (emb4 t r k))).trans (congrFun (V_main_arg4 m c) _)
theorem in5 (l : Fin 2816) (k : Fin 1024) : b5 m c t (ix2 l k) = m ((c.tc : Thread nD τ).loc main_arg5) (ix2 k l) :=
  ((read5 c (V m c) t _).trans (congrArg _ (emb5 t l k))).trans ((congrFun (V_flipped5 m c) _).trans (flipped_val _ l k))
theorem in6 (l : Fin 2816) (k : Fin 1024) : b6 m c t (ix2 l k) = m ((c.tc : Thread nD τ).loc main_arg6) (ix2 k l) :=
  ((read6 c (V m c) t _).trans (congrArg _ (emb6 t l k))).trans ((congrFun (V_flipped6 m c) _).trans (flipped_val _ l k))

theorem case_first (h0 : t.val % 8 = 0) : ¬1 ≤ t.val := by have := point_lt t; omega
theorem case_later (h0 : ¬t.val % 8 = 0) : 1 ≤ t.val := by omega

theorem outs7 : (outsAt0 m c t.val t.isLt).1
    = k0_pay1 (F := Ideal) (k0_pay3 (F := Ideal) (b1 m c t)) (k0_pay4 (F := Ideal) (b1 m c t)) (k0_pay7 (F := Ideal) (b3 m c t) (b5 m c t) (b4 m c t) (b6 m c t) (b2 m c t)) (b0 m c t) := by
  by_cases h0 : t.val % 8 = 0
  · rw [outsAt0_A m c t h0 (case_first t h0)]
    dsimp only
    rw [out_A7]
  · rw [outsAt0_B m c t h0 (case_later t h0)]
    dsimp only
    rw [out_B7]

theorem first8 (h0 : t.val % 8 = 0) : (outsAt0 m c t.val t.isLt).2 = k0_pay5 (F := Ideal) (b3 m c t) (b5 m c t) (b4 m c t) (b6 m c t) (b1 m c t) := by
  rw [outsAt0_A m c t h0 (case_first t h0)]
  dsimp only
  rw [out_A8]

theorem later8 (h0 : ¬t.val % 8 = 0) : (outsAt0 m c t.val t.isLt).2
    = k0_pay6 (F := Ideal) (b3 m c t) (b5 m c t) (b4 m c t) (b6 m c t) (b1 m c t) (outsAt0 m c (t.val - 1) (Nat.lt_of_le_of_lt (Nat.sub_le _ _) t.isLt)).2 := by
  rw [outsAt0_B m c t h0 (case_later t h0)]
  dsimp only
  rw [out_B8]

/-- The gradient that reaches row `r` of the block of point `t`. -/
theorem block_inc (r : Fin 512) (k : Fin 1024) :
    (∑ x : Fin 2816, b3 m c t (ix2 r x) * b5 m c t (ix2 x k)) + ∑ x : Fin 2816, b4 m c t (ix2 r x) * b6 m c t (ix2 x k)
    = inc (m ((c.tc : Thread nD τ).loc main_arg3)) (m ((c.tc : Thread nD τ).loc main_arg4)) (m ((c.tc : Thread nD τ).loc main_arg5)) (m ((c.tc : Thread nD τ).loc main_arg6)) (row t r) k := by
  unfold inc
  exact congrArg₂ (· + ·) (Finset.sum_congr rfl fun x _ => congrArg₂ (· * ·) (in3 m c t r x) (in5 m c t x k))
    (Finset.sum_congr rfl fun x _ => congrArg₂ (· * ·) (in4 m c t r x) (in6 m c t x k))

/-- What the block of point `t` adds to the gradient of the gain. -/
theorem block_gain (l : Fin 1024) : k0_pay5 (F := Ideal) (b3 m c t) (b5 m c t) (b4 m c t) (b6 m c t) (b1 m c t) (ix2 0 l)
    = ∑ r : Fin 512, share (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg1)) l (row t r) := by
  refine (gain_val _ _ _ _ _ l).trans (Finset.sum_congr rfl fun r _ => ?_)
  unfold share
  exact congrArg₂ (· * ·) (block_inc m c t r l)
    (congrArg₂ (· * ·) (in1 m c t r l) (congrArg rrms (funext fun k => in1 m c t r k)))

/-- An entry of the gradient of the rows of point `t`'s block. -/
theorem block_rows (r : Fin 512) (l : Fin 1024) :
    b0 m c t (ix2 r l) + back (fun k => b1 m c t (ix2 r k))
      (fun k => ((∑ x : Fin 2816, b3 m c t (ix2 r x) * b5 m c t (ix2 x k)) + ∑ x : Fin 2816, b4 m c t (ix2 r x) * b6 m c t (ix2 x k)) * b2 m c t (ix2 0 k)) l
    = rows (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg1)) (m ((c.tc : Thread nD τ).loc main_arg2)) (m ((c.tc : Thread nD τ).loc main_arg0)) (ix2 (row t r) l) := by
  unfold rows
  refine congrArg₂ (· + ·) (in0 m c t r l) ?_
  exact congrArg₂ (fun a b => back a b l) (funext fun k => in1 m c t r k)
    (funext fun k => congrArg₂ (· * ·) (block_inc m c t r k) (in2 m c t 0 k))

end

/-- The gradient of the gain after the first `n + 1` points: the sum over their rows. -/
theorem outs8 (c : Dev nD) (l : Fin 1024) (n : ℕ) (hn : n < cfg0.N) : (outsAt0 m c n hn).2 (ix2 0 l)
    = upTo (share (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg1)) l) (512 * n + 512) := by
  have h8 : n < 8 := hn
  rw [upTo_add _ (512 * n) 512 (by omega)]
  refine Eq.trans ?_ (congrArg _ (block_gain m c ⟨n, hn⟩ l))
  by_cases h0 : n = 0
  · subst h0
    rw [Nat.mul_zero, upTo_zero, zero_add]
    exact congrFun (first8 m c ⟨0, hn⟩ rfl) _
  · obtain ⟨k, rfl⟩ := Nat.exists_eq_succ_of_ne_zero h0
    have h1 : ¬(⟨k + 1, hn⟩ : Fin cfg0.N).val % 8 = 0 := by dsimp only; omega
    refine (congrFun (later8 m c ⟨k + 1, hn⟩ h1) _).trans ((gain_next _ _ _ _ _ _ l).trans ?_)
    exact congrArg (· + _) (outs8 c l k (Nat.lt_of_succ_lt hn))

theorem final7 (c : Dev nD) : (dats m 0 c).arrAt 7 cfg0.N = rows (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg1)) (m ((c.tc : Thread nD τ).loc main_arg2)) (m ((c.tc : Thread nD τ).loc main_arg0)) := by
  refine (dats m 0 c).arrAt_eq_of_covers 7 _ (by decide +kernel) fun t hf y => ?_
  obtain ⟨r, l, rfl⟩ : ∃ (r : Fin 512) (l : Fin 1024), y = ix2 r l := ⟨y 0, y 1, (ix2_eta y).symm⟩
  blk_simp; rw [after0_7, outs7]
  refine (rows_val _ _ _ _ _ _ _ r l).trans ((block_rows m c t r l).trans ?_)
  exact (congrArg (rows (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg1)) (m ((c.tc : Thread nD τ).loc main_arg2)) (m ((c.tc : Thread nD τ).loc main_arg0))) (emb7 t r l)).symm

theorem last8 : ∀ t : Fin cfg0.N, (cfg0.win 8).flush t = true → t.val = 7 := (by decide +kernel)

theorem final8 (c : Dev nD) : (dats m 0 c).arrAt 8 cfg0.N = gain (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg1)) := by
  refine (dats m 0 c).arrAt_eq_of_covers 8 _ (by decide +kernel) fun t hf y => ?_
  obtain ⟨r, l, rfl⟩ : ∃ (r : Fin 1) (l : Fin 1024), y = ix2 r l := ⟨y 0, y 1, (ix2_eta y).symm⟩
  obtain rfl : r = 0 := Subsingleton.elim _ _
  blk_simp; rw [after0_8]
  refine (outs8 m c l t.val t.isLt).trans ?_
  rw [last8 t hf]
  refine (upTo_all _).trans ?_
  exact (congrArg (gain (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg1))) (emb8 t 0 l)).symm

/-- On any arguments the kernel's two results are the reference's. -/
theorem algebraic : Cert.algebraic_Kernel8Ideal_Reference8Ideal := by
  intro m g m' g' _ hargs
  refine ⟨fun c => rows (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg1)) (m ((c.tc : Thread nD τ).loc main_arg2)) (m ((c.tc : Thread nD τ).loc main_arg0)), fun c => gain (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg1)), ?_, ?_⟩
  · exact (θ_run defs _ _).mono (fun r h c => ⟨((h.1 c).1 7).trans (final7 m c), ((h.1 c).1 8).trans (final8 m c), h.2.1 c⟩)
      (θ_run_and (run_main m g) (Cert.Kernel8Ideal.Gen.frame m g))
  · refine (θ_run Cert.Reference8Ideal.defs _ _).mono (fun r h c => ?_) (Cert.Reference8Ideal.Value.run (F := Ideal) m' g')
    obtain ⟨a0, a1, a2, a3, a4, a5, a6⟩ := hargs c
    refine ⟨(h c).1.trans (ref_rows m' c _ _ _ _ _ _ _ a0 a1 a2 a3 a4 a5 a6), (h c).2.1.trans ((ref_gain _ _ _ _ _).trans ?_), (h c).2.2⟩
    rw [a1, a3, a4, a5, a6]

end Cert.Proof.GateBack

end
-- ==== Proof.Norm.Gate.lean ====
/-
  The logistic gate and its derivative, over the extended reals.
-/
module

public import proofs.«01_k».proof.Proof.Norm.Rows

@[expose] public section

noncomputable section

namespace Cert.Proof.Norm

open Idealize.ShloMosaic Finset

/-- One half, as the programs spell it. -/
theorem ofBits_half : Ideal.ofBits FTy.f32 1056964608#32 = ((1 / 2 : ℝ) : EReal) := by
  simp [Ideal.ofBits, Ideal.ieee]; norm_num [← EReal.coe_mul]

/-- The logistic function by the hyperbolic tangent. -/
def sig (a : EReal) : EReal :=
  Ideal.ofBits FTy.f32 1056964608#32 + Ideal.ofBits FTy.f32 1056964608#32 * Ideal.tanh (Ideal.ofBits FTy.f32 1056964608#32 * a)

/-- The derivative of `a` times its logistic. -/
def slope (a : EReal) : EReal :=
  sig a * (1 + a * (1 - sig a))

theorem tanh_half (a : ℝ) : 1 / 2 + 1 / 2 * Real.tanh (1 / 2 * a) = 1 / (1 + Real.exp (-a)) := by
  have h1 : Real.exp (-a) = Real.exp (-(1 / 2 * a)) * Real.exp (-(1 / 2 * a)) := by rw [← Real.exp_add]; congr 1; ring
  have h2 : Real.exp (1 / 2 * a) * Real.exp (-(1 / 2 * a)) = 1 := by rw [← Real.exp_add]; simp
  have hp := Real.exp_pos (1 / 2 * a)
  have hq := Real.exp_pos (-(1 / 2 * a))
  rw [Real.tanh_eq_sinh_div_cosh, Real.sinh_eq, Real.cosh_eq, h1]
  generalize Real.exp (1 / 2 * a) = p at *
  generalize Real.exp (-(1 / 2 * a)) = q at *
  field_simp
  linear_combination (2 * q) * h2

/-- The logistic of a real is a real. -/
theorem sig_coe (a : ℝ) : sig (a : EReal) = ((1 / (1 + Real.exp (-a)) : ℝ) : EReal) := by
  unfold sig
  rw [ofBits_half, ← EReal.coe_mul, Ideal.tanh_coe, ← EReal.coe_mul, ← EReal.coe_add, tanh_half]

theorem sig_top : sig ⊤ = 1 := by
  unfold sig
  rw [ofBits_half, EReal.coe_mul_top_of_pos (by norm_num), show Ideal.tanh ⊤ = 1 from rfl, mul_one, ← EReal.coe_add]
  norm_num

theorem sig_bot : sig ⊥ = 0 := by
  unfold sig
  rw [ofBits_half, EReal.coe_mul_bot_of_pos (by norm_num), show Ideal.tanh ⊥ = -1 from rfl, mul_neg, mul_one, ← EReal.coe_neg, ← EReal.coe_add]
  norm_num

/-- The logistic by the exponential is the same function, at the infinities too. -/
theorem sig_rule (a : EReal) :
    Ideal.div (1) (1 + Ideal.exp (-a)) = sig a := by
  induction a with
  | bot =>
    rw [sig_bot, EReal.neg_bot, show Ideal.exp ⊤ = ⊤ from rfl, ← EReal.coe_one, EReal.coe_add_top]
    simp [Ideal.div]
  | top =>
    rw [sig_top, EReal.neg_top, show Ideal.exp ⊥ = 0 from rfl, add_zero, ← EReal.coe_one, Ideal.div_coe one_ne_zero]
    norm_num
  | coe a =>
    have h : (1 + Real.exp (-a)) ≠ 0 := by positivity
    rw [sig_coe, ← EReal.coe_neg, Ideal.exp_coe, ← EReal.coe_one, ← EReal.coe_add, Ideal.div_coe h, ← EReal.coe_mul, one_mul]

/-- The rule for the derivative of a product, at a real incoming gradient, gives the gradient times the slope. -/
theorem rule (t : ℝ) (a : EReal) :
    (t : EReal) * sig a + a * (t : EReal) * (sig a * (1 - sig a)) = (t : EReal) * slope a := by
  unfold slope
  induction a with
  | bot => rw [sig_bot]; simp
  | top =>
    have h : (1 : EReal) - 1 = 0 := EReal.sub_self (EReal.coe_ne_top 1) (EReal.coe_ne_bot 1)
    rw [sig_top, h]; simp
  | coe a =>
    rw [sig_coe, ← EReal.coe_one]
    generalize 1 / (1 + Real.exp (-a)) = s
    simp only [← EReal.coe_mul, ← EReal.coe_add, ← EReal.coe_sub]
    congr 1; ring

theorem rule_of_real (g a : EReal) (t : ℝ) (h : g = (t : EReal)) :
    g * Ideal.div (1) (1 + Ideal.exp (-a))
      + a * g * (Ideal.div (1) (1 + Ideal.exp (-a))
        * (1 - Ideal.div (1) (1 + Ideal.exp (-a))))
    = g * slope a := by
  rw [sig_rule, h]; exact rule t a

end Cert.Proof.Norm

end
-- ==== Proof.Val.Real.lean ====
/-
  Real numbers among the extended reals: sums of them, the constants the programs name, and the logistic function by
  either of its two formulas.
-/
module

public import Idealize.ShloMosaic.Lib.Pointwise
public import Idealize.ShloMosaic.Lib.IdealHost
public import Mathlib.Analysis.SpecialFunctions.Trigonometric.DerivHyp
public import Mathlib.Algebra.BigOperators.Intervals

@[expose] public section

noncomputable section

namespace Cert.Proof.Val

open Idealize.ShloMosaic Finset

/-- A finite sum of reals, taken among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- The same over an axis of `n` positions, as a sum over the first `n` numbers. -/
theorem sum_fin (n : ℕ) (f : ℕ → ℝ) : ∑ x : Fin n, ((f x.val : ℝ) : EReal) = ((∑ i ∈ range n, f i : ℝ) : EReal) := by
  rw [← coe_sum, Finset.sum_range]

/-- A product of two reals, term by term. -/
theorem sum_fin_mul (n : ℕ) (f g : ℕ → ℝ) :
    ∑ x : Fin n, ((f x.val : ℝ) : EReal) * ((g x.val : ℝ) : EReal) = ((∑ i ∈ range n, f i * g i : ℝ) : EReal) := by
  rw [← sum_fin]; exact Finset.sum_congr rfl fun x _ => (EReal.coe_mul _ _).symm

/-- The constant one half. -/
theorem ofBits_half : Ideal.ofBits FTy.f32 1056964608#32 = ((1 / 2 : ℝ) : EReal) := by
  simp [Ideal.ofBits, Ideal.ieee]; norm_num [← EReal.coe_mul]

/-- The constant one eighth. -/
theorem ofBits_eighth : Ideal.ofBits FTy.f32 1040187392#32 = ((1 / 8 : ℝ) : EReal) := by
  simp [Ideal.ofBits, Ideal.ieee]; norm_num [← EReal.coe_mul]

/-- The logistic function by the hyperbolic tangent. -/
def sg (x : ℝ) : ℝ := 1 / 2 + 1 / 2 * Real.tanh (1 / 2 * x)

/-- `log (1 + eˣ)`, as the reference computes it. -/
def sp (x : ℝ) : ℝ := max x 0 + Real.log (1 + Real.exp (-|x|))

theorem exp_sp (x : ℝ) : Real.exp (sp x) = 1 + Real.exp x := by
  unfold sp
  rw [Real.exp_add, Real.exp_log (by positivity)]
  rcases le_total 0 x with h | h
  · rw [max_eq_left h, abs_of_nonneg h, mul_add, ← Real.exp_add]; simp [add_comm]
  · rw [max_eq_right h, abs_of_nonpos h]; simp

/-- The logistic function by the exponentials. -/
theorem exp_sub_sp (x : ℝ) : Real.exp (x - sp x) = sg x := by
  have hx : Real.exp x = Real.exp (1 / 2 * x) * Real.exp (1 / 2 * x) := by rw [← Real.exp_add]; congr 1; ring
  have hn : Real.exp (1 / 2 * x) * Real.exp (-(1 / 2 * x)) = 1 := by rw [← Real.exp_add]; simp
  have h1 := Real.exp_pos (1 / 2 * x)
  have h2 := Real.exp_pos (-(1 / 2 * x))
  rw [Real.exp_sub, exp_sp, hx, sg, Real.tanh_eq_sinh_div_cosh, Real.sinh_eq, Real.cosh_eq]
  generalize Real.exp (1 / 2 * x) = a at *
  generalize Real.exp (-(1 / 2 * x)) = b at *
  have : (1 + a * a) ≠ 0 := by positivity
  have : (a + b) ≠ 0 := by positivity
  field_simp
  nlinarith [hn]

theorem exp_neg_sub_sp (x : ℝ) : Real.exp (-x - sp (-x)) = 1 - sg x := by
  rw [exp_sub_sp, sg, sg]
  have : (1 / 2 * -x) = -(1 / 2 * x) := by ring
  rw [this, Real.tanh_neg]; ring

end Cert.Proof.Val

end
-- ==== Proof.Val.Pre.lean ====
/-
  The precondition read: every entry of the two arguments is a real.
-/
module

public import proofs.«01_k».proof.Proof.Gen.Pre_finite
public import proofs.«01_k».proof.Proof.Val.Real
public import Idealize.ShloMosaic.Lib.ReduceAll
public import Idealize.ShloMosaic.Lib.Affine

@[expose] public section

noncomputable section

namespace Cert.Proof.Val

open Idealize.ShloMosaic Cert.Pre_finite Cert.Pre_finite.Gen

/-- An extended real whose magnitude is below infinity is a real. -/
theorem real_of_lt (x : EReal) (h : FloatOps.cmpf (F := Ideal) (φ := .f32) .olt (FloatOps.absf (F := Ideal) (φ := .f32) x) (Ideal.ofBits FTy.f32 0x7F800000#32) = 1#1) :
    x = ((x.toReal : ℝ) : EReal) := by
  have ht : Ideal.ofBits FTy.f32 0x7F800000#32 = ⊤ := by simp [Ideal.ofBits, Ideal.ieee]
  rw [ht, Ideal.absf_def] at h
  induction x using EReal.rec with
  | coe r => simp
  | bot => simp [Ideal.cmpf_def, Ideal.cmp] at h
  | top => simp [Ideal.cmpf_def, Ideal.cmp] at h

theorem real_of_pre (A : FVec Ideal S4096x3584 .f32) (B : FVec Ideal S4096x512 .f32)
    (h : Cert.Pre_finite.fn (F := Ideal) A B = fun _ => 1#1) :
    (∀ i, A i = (((A i).toReal : ℝ) : EReal)) ∧ ∀ i, B i = (((B i).toReal : ℝ) : EReal) := by
  have h0 := congrFun h (fun a => a.elim0)
  dsimp only [Cert.Pre_finite.fn] at h0
  obtain ⟨h1, h2⟩ := IntOp.andi_eq_one.mp h0
  haveI : Subsingleton S_.Idx := ⟨fun a b => funext fun i => i.elim0⟩
  constructor
  · intro i
    exact real_of_lt _ (Host.reduce_andi_all _ _ _ _ _ h1 i)
  · intro i
    exact real_of_lt _ (Host.reduce_andi_all _ _ _ _ _ h2 i)

end Cert.Proof.Val

end
-- ==== Proof.Norm.ActBack.lean ====
/-
  The backward step of the gate: the gradients of the gate products and of the up products.
-/
module

public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Pre_finite9
public import proofs.«01_k».proof.Proof.Norm.Gate
public import proofs.«01_k».proof.Proof.Val.Pre
public import proofs.«01_k».proof.Defs
public import Idealize.ShloMosaic.Lib.Pipeline.ValueKit
public import Idealize.ShloMosaic.Lib.ReduceAll

@[expose] public section

set_option maxRecDepth 16384

noncomputable section

namespace Cert.Proof.ActBack

section

open Cert.Reference9Ideal Cert.Reference9Ideal.Gen
open Idealize.ShloMosaic Idealize.ShloMosaic.TcCoe Idealize.ShloMosaic.Pointwise Finset
open Cert.Proof.Norm

/-- The gradient that reaches the gated product at row `i` and column `k`. -/
def inc (D : FVec Ideal S4096x1024 .bf16) (W : FVec Ideal S2816x1024 .f32) (i : Fin 4096) (k : Fin 2816) : EReal :=
  ∑ x : Fin 1024, D (ix2 i x) * W (ix2 k x)

/-- The gradient of the gate products. -/
def gate (D : FVec Ideal S4096x1024 .bf16) (A : FVec Ideal S4096x2816 .bf16) (B : FVec Ideal S4096x2816 .bf16) (W : FVec Ideal S2816x1024 .f32) : FVec Ideal S4096x2816 .bf16 :=
  fun y => inc D W (y 0) (y 1) * B (ix2 (y 0) (y 1)) * slope (A (ix2 (y 0) (y 1)))

/-- The gradient of the up products. -/
def up (D : FVec Ideal S4096x1024 .bf16) (A : FVec Ideal S4096x2816 .bf16) (W : FVec Ideal S2816x1024 .f32) : FVec Ideal S4096x2816 .bf16 :=
  fun y => inc D W (y 0) (y 1) * (A (ix2 (y 0) (y 1)) * sig (A (ix2 (y 0) (y 1))))

variable (D : FVec Ideal S4096x1024 .bf16) (A : FVec Ideal S4096x2816 .bf16) (B : FVec Ideal S4096x2816 .bf16) (W : FVec Ideal S2816x1024 .f32)

/-- The reference's first result is the gradient of the gate products, where the factors beside the gate are reals. -/
theorem ref_gate (hr : ∀ i k, ∃ r : ℝ, inc D W i k * B (ix2 i k) = (r : EReal)) :
    truncf .bf16 (addf (mulf (mulf (Host.dotGeneral dot_S4096x1024_S2816x1024_S4096x2816_1_1_0_0_n_n none (extf .f32 D bitsLt_bf16_f32) W) (extf .f32 B bitsLt_bf16_f32)) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (extf .f32 A bitsLt_bf16_f32)))))) (mulf (mulf (extf .f32 A bitsLt_bf16_f32) (mulf (Host.dotGeneral dot_S4096x1024_S2816x1024_S4096x2816_1_1_0_0_n_n none (extf .f32 D bitsLt_bf16_f32) W) (extf .f32 B bitsLt_bf16_f32))) (mulf (Host.divf (broadcastInDim S4096x2816 ![] bcast_S_S4096x2816 (constant S_ .f32 0x3F800000#32)) (addf (broadcastInDim S4096x2816 ![] bcast_S_S4096x2816 (constant S_ .f32 0x3F800000#32)) (Host.exp (Host.negf (extf .f32 A bitsLt_bf16_f32))))) (subf (broadcastInDim S4096x2816 ![] bcast_S_S4096x2816 (constant S_ .f32 0x3F800000#32)) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (extf .f32 A bitsLt_bf16_f32))))))))) bitsLt_bf16_f32
    = gate D A B W := by
  funext y
  obtain ⟨i, j, rfl⟩ : ∃ i j, y = ix2 i j := ⟨y 0, y 1, (ix2_eta y).symm⟩
  obtain ⟨r, hr⟩ := hr i j
  pointwise []
  exact rule_of_real (inc D W i j * B (ix2 i j)) (A (ix2 i j)) r hr

/-- The reference's second result is the gradient of the up products. -/
theorem ref_up :
    truncf .bf16 (mulf (mulf (extf .f32 A bitsLt_bf16_f32) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (extf .f32 A bitsLt_bf16_f32)))))) (Host.dotGeneral dot_S4096x1024_S2816x1024_S4096x2816_1_1_0_0_n_n none (extf .f32 D bitsLt_bf16_f32) W)) bitsLt_bf16_f32
    = up D A W := by
  funext y
  obtain ⟨i, j, rfl⟩ : ∃ i j, y = ix2 i j := ⟨y 0, y 1, (ix2_eta y).symm⟩
  pointwise []
  rw [sig_rule]
  exact mul_comm _ _

end

section

open Cert.Pre_finite9 Cert.Pre_finite9.Gen
open Idealize.ShloMosaic Finset

/-- The precondition read: every entry of the three arguments that it names is a real. -/
theorem real_of_pre (D : FVec Ideal S4096x1024 .bf16) (A : FVec Ideal S4096x2816 .bf16) (B : FVec Ideal S4096x2816 .bf16) (W : FVec Ideal S2816x1024 .f32)
    (h : Cert.Pre_finite9.fn (F := Ideal) D A B W = fun _ => 1#1) :
    (∀ i, D i = (((D i).toReal : ℝ) : EReal)) ∧ (∀ i, B i = (((B i).toReal : ℝ) : EReal)) ∧ ∀ i, W i = (((W i).toReal : ℝ) : EReal) := by
  have h0 := congrFun h (fun a => a.elim0)
  dsimp only [Cert.Pre_finite9.fn] at h0
  obtain ⟨h12, h3⟩ := IntOp.andi_eq_one.mp h0
  obtain ⟨h1, h2⟩ := IntOp.andi_eq_one.mp h12
  haveI : Subsingleton S_.Idx := ⟨fun a b => funext fun i => i.elim0⟩
  refine ⟨fun i => ?_, fun i => ?_, fun i => ?_⟩
  · exact Cert.Proof.Val.real_of_lt _ (Host.reduce_andi_all _ _ _ _ _ h1 i)
  · exact Cert.Proof.Val.real_of_lt _ (Host.reduce_andi_all _ _ _ _ _ h2 i)
  · exact Cert.Proof.Val.real_of_lt _ (Host.reduce_andi_all _ _ _ _ _ h3 i)

end

open Cert.Kernel9Ideal Cert.Kernel9Ideal.Gen
open Idealize.ShloMosaic Idealize.ShloMosaic.TcCoe Idealize.ShloMosaic.Pointwise Idealize.SL.Sem Finset
open Idealize.ShloMosaic.Pipeline (Dat Cfg Window)
open Cert.Proof.Norm

/-- Where the three arguments are reals, so is the factor beside the gate. -/
theorem inc_real (D : FVec Ideal S4096x1024 .bf16) (A : FVec Ideal S4096x2816 .bf16) (B : FVec Ideal S4096x2816 .bf16) (W : FVec Ideal S2816x1024 .f32)
    (hD : ∀ i, D i = (((D i).toReal : ℝ) : EReal)) (hB : ∀ i, B i = (((B i).toReal : ℝ) : EReal)) (hW : ∀ i, W i = (((W i).toReal : ℝ) : EReal))
    (i : Fin 4096) (k : Fin 2816) : ∃ r : ℝ, inc D W i k * B (ix2 i k) = (r : EReal) := by
  refine ⟨(∑ x : Fin 1024, (D (ix2 i x)).toReal * (W (ix2 k x)).toReal) * (B (ix2 i k)).toReal, ?_⟩
  rw [EReal.coe_mul, coe_sum, ← hB]
  refine congrArg (· * _) (Finset.sum_congr rfl fun x _ => ?_)
  rw [EReal.coe_mul, ← hD, ← hW]

theorem z2 : (![0, 0] : Fin 2 → ℕ) = fun _ => 0 := by decide

section
variable (c : Dev nD) (i : grid0.Coords) (arg2 : Memref sig .tc .vmem S512x1024 .bf16) (harg2 : arg2.IsWhole)
  (arg3 : Memref sig .tc .vmem S512x1408 .bf16) (harg3 : arg3.IsWhole)
  (arg4 : Memref sig .tc .vmem S512x1408 .bf16) (harg4 : arg4.IsWhole)
  (arg5 : Memref sig .tc .vmem S1408x1024 .bf16) (harg5 : arg5.IsWhole)
  (arg7 : Memref sig .tc .vmem S512x1408 .bf16) (harg7 : arg7.IsWhole)
  (arg8 : Memref sig .tc .vmem S512x1408 .bf16) (harg8 : arg8.IsWhole)
  (x0 : FVec Ideal S512x1024 .bf16) (x1 : FVec Ideal S512x1408 .bf16) (x2 : FVec Ideal S512x1408 .bf16) (x3 : FVec Ideal S1408x1024 .bf16)

/-- The gradient of the gate products that a point leaves. -/
theorem out_A4 : out0_A_4 (F := Ideal) c i arg2 harg2 arg3 harg3 arg4 harg4 arg5 harg5 arg7 harg7 arg8 harg8 x0 x1 x2 x3 = k0_pay5 (F := Ideal) x0 x3 x1 x2 := by
  unfold out0_A_4
  rw [View.read_writes_eq_canon _ _ _ (cover0_A_4 (F := Ideal) c i arg2 harg2 arg3 harg3 arg4 harg4 arg5 harg5 arg7 harg7 arg8 harg8 x0 x1 x2 x3)]
  unfold kernelRun0_A
  dsimp only
  sl_unfold_words
  rw [View.canon_unit_zero z2]
  simp only [View.readAt_eq_ld, harg2.read_unread, harg3.read_unread, harg4.read_unread, harg5.read_unread,
    View.ld_unit_zero (S := S512x1024) z2, View.ld_unit_zero (S := S1408x1024) z2, View.ld_unit_zero (S := S512x1408) z2]

/-- The gradient of the up products that a point leaves. -/
theorem out_A5 : out0_A_5 (F := Ideal) c i arg2 harg2 arg3 harg3 arg4 harg4 arg5 harg5 arg7 harg7 arg8 harg8 x0 x1 x2 x3 = k0_pay4 (F := Ideal) x0 x3 x1 := by
  unfold out0_A_5
  rw [View.read_writes_eq_canon _ _ _ (cover0_A_5 (F := Ideal) c i arg2 harg2 arg3 harg3 arg4 harg4 arg5 harg5 arg7 harg7 arg8 harg8 x0 x1 x2 x3)]
  unfold kernelRun0_A
  dsimp only
  sl_unfold_words
  rw [View.canon_unit_zero z2]
  simp only [View.readAt_eq_ld, harg2.read_unread, harg3.read_unread, harg4.read_unread, harg5.read_unread,
    View.ld_unit_zero (S := S512x1024) z2, View.ld_unit_zero (S := S1408x1024) z2, View.ld_unit_zero (S := S512x1408) z2]

/-- An entry of a block of the gradient of the gate products. -/
theorem gate_val (r : Fin 512) (l : Fin 1408) : k0_pay5 (F := Ideal) x0 x3 x1 x2 (ix2 r l)
    = (∑ x : Fin 1024, x0 (ix2 r x) * x3 (ix2 l x)) * x2 (ix2 r l) * slope (x1 (ix2 r l)) := by
  pointwise [k0_pay5, k0_pay1, k0_pay2, k0_pay3]
  unfold Norm.slope Norm.sig
  rfl

/-- An entry of a block of the gradient of the up products. -/
theorem up_val (r : Fin 512) (l : Fin 1408) : k0_pay4 (F := Ideal) x0 x3 x1 (ix2 r l)
    = (∑ x : Fin 1024, x0 (ix2 r x) * x3 (ix2 l x)) * (x1 (ix2 r l) * sig (x1 (ix2 r l))) := by
  pointwise [k0_pay4, k0_pay1, k0_pay2, k0_pay3]
  rfl

end

variable (m : (ℓ : Loc nD τ sig) → Buf (Elt Ideal) ℓ) (ρ : Dev nD → PrngReg)

theorem index0 : ∀ t : Fin cfg0.N, win0_0.index t = ![t.val / 2, 0] := (by decide +kernel : ∀ t : Fin grid0.N, _)
theorem index1 : ∀ t : Fin cfg0.N, win0_1.index t = ![t.val / 2, t.val % 2] := (by decide +kernel : ∀ t : Fin grid0.N, _)
theorem index2 : ∀ t : Fin cfg0.N, win0_2.index t = ![t.val / 2, t.val % 2] := (by decide +kernel : ∀ t : Fin grid0.N, _)
theorem index3 : ∀ t : Fin cfg0.N, win0_3.index t = ![t.val % 2, 0] := (by decide +kernel : ∀ t : Fin grid0.N, _)
theorem index4 : ∀ t : Fin cfg0.N, win0_4.index t = ![t.val / 2, t.val % 2] := (by decide +kernel : ∀ t : Fin grid0.N, _)
theorem index5 : ∀ t : Fin cfg0.N, win0_5.index t = ![t.val / 2, t.val % 2] := (by decide +kernel : ∀ t : Fin grid0.N, _)

theorem point_lt (t : Fin cfg0.N) : t.val < 16 := t.isLt

/-- Row `r` and column `l` of the tile of point `t`. -/
def row (t : Fin cfg0.N) (r : Fin 512) : Fin 4096 := ⟨512 * (t.val / 2) + r.val, by have := point_lt t; omega⟩
def col (t : Fin cfg0.N) (l : Fin 1408) : Fin 2816 := ⟨1408 * (t.val % 2) + l.val, by omega⟩

theorem emb0 (t : Fin cfg0.N) (r : Fin 512) (k : Fin 1024) : (win0_0.blk t).view.emb (ix2 r k) = ix2 (row t r) k := by
  unfold row; blk_ext [index0]
theorem emb1 (t : Fin cfg0.N) (r : Fin 512) (l : Fin 1408) : (win0_1.blk t).view.emb (ix2 r l) = ix2 (row t r) (col t l) := by
  unfold row col; blk_ext [index1]
theorem emb2 (t : Fin cfg0.N) (r : Fin 512) (l : Fin 1408) : (win0_2.blk t).view.emb (ix2 r l) = ix2 (row t r) (col t l) := by
  unfold row col; blk_ext [index2]
theorem emb3 (t : Fin cfg0.N) (l : Fin 1408) (k : Fin 1024) : (win0_3.blk t).view.emb (ix2 l k) = ix2 (col t l) k := by
  unfold col; blk_ext [index3]
theorem emb4 (t : Fin cfg0.N) (r : Fin 512) (l : Fin 1408) : (win0_4.blk t).view.emb (ix2 r l) = ix2 (row t r) (col t l) := by
  unfold row col; blk_ext [index4]
theorem emb5 (t : Fin cfg0.N) (r : Fin 512) (l : Fin 1408) : (win0_5.blk t).view.emb (ix2 r l) = ix2 (row t r) (col t l) := by
  unfold row col; blk_ext [index5]

section
variable (c : Dev nD) (X : (b : Ref sig .tc) → Buf (Elt Ideal) ((c : Thread nD τ).loc b))
theorem read0 (t : Fin cfg0.N) (y) : ((cfg0.win 0).blk t).view.read (Elt Ideal) (X (Pipeline.arrRef spec0 0)) y
    = X main_arg0 ((win0_0.blk t).view.emb y) := rfl
theorem read1 (t : Fin cfg0.N) (y) : ((cfg0.win 1).blk t).view.read (Elt Ideal) (X (Pipeline.arrRef spec0 1)) y
    = X main_arg1 ((win0_1.blk t).view.emb y) := rfl
theorem read2 (t : Fin cfg0.N) (y) : ((cfg0.win 2).blk t).view.read (Elt Ideal) (X (Pipeline.arrRef spec0 2)) y
    = X main_arg2 ((win0_2.blk t).view.emb y) := rfl
theorem read3 (t : Fin cfg0.N) (y) : ((cfg0.win 3).blk t).view.read (Elt Ideal) (X (Pipeline.arrRef spec0 3)) y
    = X main_v0 ((win0_3.blk t).view.emb y) := rfl
end

/-- The weights as the launch finds them: rounded, which changes nothing over the extended reals. -/
theorem V_rounded (c : Dev nD) (y : S2816x1024.Idx) : (V m c main_v0 : FVec Ideal S2816x1024 .bf16) y = m ((c.tc : Thread nD τ).loc main_arg3) y := by
  have h : V m c main_v0 = truncf (F := Ideal) .bf16 (m ((c.tc : Thread nD τ).loc main_arg3) : FVec Ideal S2816x1024 .f32) bitsLt_bf16_f32 := by
    show StableHlo.after _ _ _ = _
    simp only [hostOps0]
    after_results_simp
  rw [h]; rfl

section
variable (c : Dev nD) (t : Fin cfg0.N)

/-! The blocks that point `t` reads. -/
abbrev b0 : FVec Ideal S512x1024 .bf16 := iblk m c 0 t
abbrev b1 : FVec Ideal S512x1408 .bf16 := iblk m c 1 t
abbrev b2 : FVec Ideal S512x1408 .bf16 := iblk m c 2 t
abbrev b3 : FVec Ideal S1408x1024 .bf16 := iblk m c 3 t

theorem in0 (r : Fin 512) (k : Fin 1024) : b0 m c t (ix2 r k) = m ((c.tc : Thread nD τ).loc main_arg0) (ix2 (row t r) k) :=
  ((read0 c (V m c) t _).trans (congrArg _ (emb0 t r k))).trans (congrFun (V_main_arg0 m c) _)
theorem in1 (r : Fin 512) (k : Fin 1408) : b1 m c t (ix2 r k) = m ((c.tc : Thread nD τ).loc main_arg1) (ix2 (row t r) (col t k)) :=
  ((read1 c (V m c) t _).trans (congrArg _ (emb1 t r k))).trans (congrFun (V_main_arg1 m c) _)
theorem in2 (r : Fin 512) (k : Fin 1408) : b2 m c t (ix2 r k) = m ((c.tc : Thread nD τ).loc main_arg2) (ix2 (row t r) (col t k)) :=
  ((read2 c (V m c) t _).trans (congrArg _ (emb2 t r k))).trans (congrFun (V_main_arg2 m c) _)
theorem in3 (l : Fin 1408) (k : Fin 1024) : b3 m c t (ix2 l k) = m ((c.tc : Thread nD τ).loc main_arg3) (ix2 (col t l) k) :=
  ((read3 c (V m c) t _).trans (congrArg _ (emb3 t l k))).trans (V_rounded m c _)

theorem outs4 : (outsAt0 m c t).1 = k0_pay5 (F := Ideal) (b0 m c t) (b3 m c t) (b1 m c t) (b2 m c t) := by
  unfold outsAt0
  dsimp only
  rw [out_A4]

theorem outs5 : (outsAt0 m c t).2 = k0_pay4 (F := Ideal) (b0 m c t) (b3 m c t) (b1 m c t) := by
  unfold outsAt0
  dsimp only
  rw [out_A5]

/-- The gradient that reaches the gated product at an entry of the tile of point `t`. -/
theorem block_inc (r : Fin 512) (l : Fin 1408) : (∑ x : Fin 1024, b0 m c t (ix2 r x) * b3 m c t (ix2 l x))
    = inc (m ((c.tc : Thread nD τ).loc main_arg0)) (m ((c.tc : Thread nD τ).loc main_arg3)) (row t r) (col t l) := by
  unfold inc
  exact Finset.sum_congr rfl fun x _ => congrArg₂ (· * ·) (in0 m c t r x) (in3 m c t l x)

end

theorem final4 (c : Dev nD) : (dats m 0 c).arrAt 4 cfg0.N = gate (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  obtain ⟨r, l, rfl⟩ : ∃ (r : Fin 512) (l : Fin 1408), y = ix2 r l := ⟨y 0, y 1, (ix2_eta y).symm⟩
  blk_simp; rw [after0_4, outs4]
  refine (gate_val _ _ _ _ r l).trans (Eq.trans ?_ (congrArg (gate (m ((c.tc : Thread nD τ).loc main_arg0)) (m ((c.tc : Thread nD τ).loc main_arg1)) (m ((c.tc : Thread nD τ).loc main_arg2)) (m ((c.tc : Thread nD τ).loc main_arg3))) (emb4 t r l)).symm)
  exact congrArg₂ (· * ·) (congrArg₂ (· * ·) (block_inc m c t r l) (in2 m c t r l)) (congrArg slope (in1 m c t r l))

theorem final5 (c : Dev nD) : (dats m 0 c).arrAt 5 cfg0.N = up (m ((c.tc : Thread nD τ).loc main_arg0)) (m ((c.tc : Thread nD τ).loc main_arg1)) (m ((c.tc : Thread nD τ).loc main_arg3)) := by
  refine (dats m 0 c).arrAt_eq_of_covers 5 _ (by decide +kernel) fun t hf y => ?_
  obtain ⟨r, l, rfl⟩ : ∃ (r : Fin 512) (l : Fin 1408), y = ix2 r l := ⟨y 0, y 1, (ix2_eta y).symm⟩
  blk_simp; rw [after0_5, outs5]
  refine (up_val _ _ _ r l).trans (Eq.trans ?_ (congrArg (up (m ((c.tc : Thread nD τ).loc main_arg0)) (m ((c.tc : Thread nD τ).loc main_arg1)) (m ((c.tc : Thread nD τ).loc main_arg3))) (emb5 t r l)).symm)
  exact congrArg₂ (· * ·) (block_inc m c t r l) (congrArg (fun a => a * sig a) (in1 m c t r l))

/-- Where the precondition holds the kernel's two results are the reference's. -/
theorem algebraic : Cert.algebraic_Kernel9Ideal_Reference9Ideal_pre_finite9 := by
  intro m g m' g' hpre hargs
  refine ⟨fun c => gate (m ((c.tc : Thread nD τ).loc main_arg0)) (m ((c.tc : Thread nD τ).loc main_arg1)) (m ((c.tc : Thread nD τ).loc main_arg2)) (m ((c.tc : Thread nD τ).loc main_arg3)), fun c => up (m ((c.tc : Thread nD τ).loc main_arg0)) (m ((c.tc : Thread nD τ).loc main_arg1)) (m ((c.tc : Thread nD τ).loc main_arg3)), ?_, ?_⟩
  · exact (θ_run defs _ _).mono (fun r h c => ⟨((h.1 c).1 4).trans (final4 m c), ((h.1 c).1 5).trans (final5 m c), h.2.1 c⟩)
      (θ_run_and (run_main m g) (Cert.Kernel9Ideal.Gen.frame m g))
  · refine (θ_run Cert.Reference9Ideal.defs _ _).mono (fun r h c => ?_) (Cert.Reference9Ideal.Value.run (F := Ideal) m' g')
    obtain ⟨a0, a1, a2, a3⟩ := hargs c
    obtain ⟨hD, hB, hW⟩ := real_of_pre _ _ _ _ (hpre c)
    refine ⟨(h c).1.trans ((ref_gate _ _ _ _ ?_).trans ?_), (h c).2.1.trans ((ref_up _ _ _).trans ?_), (h c).2.2⟩
    · rw [a0, a2, a3]; exact inc_real _ (m ((c.tc : Thread nD τ).loc main_arg1)) _ _ hD hB hW
    · rw [a0, a1, a2, a3]
    · rw [a0, a1, a3]

end Cert.Proof.ActBack

end
-- ==== Proof.Norm.Whole.lean ====
/-
  Stores and loads of a whole buffer.
-/
module

public import Idealize.ShloMosaic.Lib.Pipeline.ValueKit

@[expose] public section

noncomputable section

namespace Cert.Proof.Norm

open Idealize.ShloMosaic

variable {Val : EltTy → Type} {sig : RefSig} {κ : Kind} {sp : Space} {S : Shape} {e : EltTy}

/-- What a buffer holds after a store of the whole is what was stored. -/
theorem read_last (v : View sig κ sp S e) (f : v.ty.Contents Val) (L : List (View.Piece Val S e)) {off : Fin S.rank → ℕ}
    (h : off = fun _ => 0) (inb : ∀ a, off a + S.size a ≤ S.size a) (w : S.Idx → Val e) :
    v.read Val (v.writes Val f (⟨Rect.unit off S.size inb, w⟩ :: L)) = w := by
  subst h
  funext y
  apply View.read_writes_cons_hit_of_coords
  intro a
  show (y a).val = 0 + 1 * (y a).val
  omega

/-- A load of the whole buffer. -/
theorem load_whole (v : View sig κ sp S e) (f : v.ty.Contents Val) {off : Fin S.rank → ℕ}
    (h : off = fun _ => 0) (inb : ∀ a, off a + S.size a ≤ S.size a) :
    v.readAt Val (Rect.unit off S.size inb).toLoadRect f = v.read Val f :=
  View.ld_unit_zero h inb _

/-- A load of the whole buffer after a store of the whole. -/
theorem load_last [∀ e, Nonempty (Val e)] (v : View sig κ sp S e) (L : List (View.Piece Val S e)) {off : Fin S.rank → ℕ}
    (h : off = fun _ => 0) (inb : ∀ a, off a + S.size a ≤ S.size a) (w : S.Idx → Val e) :
    v.readCov (⟨Rect.unit off S.size inb, w⟩ :: L) (Rect.unit off S.size inb).toLoadRect = w := by
  subst h
  rw [View.readCov_eq_canon v _ _ fun y => ⟨_, List.mem_cons_self, by
    show _ ∈ (Rect.whole S).set; rw [Rect.set_whole]; exact Finset.mem_univ _⟩, View.canon_cons_unit_zero rfl]
  exact View.ld_unit_zero (S := S) rfl inb w

end Cert.Proof.Norm

end
-- ==== Proof.Act.Run.lean ====
/-
  The run of the first feed-forward block's gate and up products over the grid of eight row blocks by two column halves: the
  normed rows are stored at the first half and kept for the second. Everything here holds at any interpretation of the floats.
-/
module

public import proofs.«01_k».proof.Proof.Gen.Kernel10Ideal
public import proofs.«01_k».proof.Proof.Gen.Kernel10Ideal.Frame
public import proofs.«01_k».proof.Proof.Gen.Kernel10Ideal.Skeleton
public import proofs.«01_k».proof.Proof.Norm.Whole
public import Idealize.ShloMosaic.Lib.Claim
public import Idealize.ShloMosaic.Lib.Pipeline.TableIdle

@[expose] public section

set_option maxRecDepth 16384

noncomputable section

namespace Cert.Proof.Act

open Cert.Kernel10Ideal Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Proof.Norm

variable {F : FTy → Type} [FloatOps F]

local notation "𝕄" => MT nD τ sig Unit (Elt F) ℕ (UR sig nD τ) ℕ

theorem z2 : (![0, 0] : Fin 2 → ℕ) = fun _ => 0 := by decide

/-- The body's condition holds at a first half. -/
theorem cond_iff : ∀ i : grid0.Coords, k0_cond1 i = 1#1 ↔ (i 1).val = 0 := by decide +kernel

/-- The normed rows as a point leaves them: formed at a first half, kept at a second. -/
def head (i : grid0.Coords) (x0 : Vec F S512x1024 .f32) (x1 : Vec F S1x1024 .f32) (X : Vec F S512x1024 .bf16) : Vec F S512x1024 .bf16 :=
  if (i 1).val = 0 then k0_pay1 x0 x1 else X

section
variable (i : grid0.Coords)
    (arg2 : Memref sig .tc .vmem S512x1024 .f32) (harg2 : arg2.IsWhole)
    (arg3 : Memref sig .tc .vmem S1x1024 .f32) (harg3 : arg3.IsWhole)
    (arg4 : Memref sig .tc .vmem S1408x1024 .bf16) (harg4 : arg4.IsWhole)
    (arg5 : Memref sig .tc .vmem S1408x1024 .bf16) (harg5 : arg5.IsWhole)
    (arg6 : Memref sig .tc .vmem S512x1408 .bf16) (harg6 : arg6.IsWhole)
    (arg7 : Memref sig .tc .vmem S512x1408 .bf16) (harg7 : arg7.IsWhole)
    (arg8 : Memref sig .tc .vmem S512x1408 .bf16) (harg8 : arg8.IsWhole)
    (arg9 : Memref sig .tc .vmem S512x1024 .bf16) (harg9 : arg9.IsWhole)

set_option maxHeartbeats 1000000 in
/-- The body at one point. -/
theorem point_sound (c : Dev nD) (x0 : Vec F S512x1024 .f32) (x1 : Vec F S1x1024 .f32) (x2 : Vec F S1408x1024 .bf16) (x3 : Vec F S1408x1024 .bf16) (X : Vec F S512x1024 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare X
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay5 (head i x0 x1 X) x2) ∗ owns (c : Thread nD τ) arg7 fullShare (k0_pay6 (head i x0 x1 X) x3) ∗ owns (c : Thread nD τ) arg8 fullShare (k0_pay7 (head i x0 x1 X) x2 x3) ∗ owns (c : Thread nD τ) arg9 fullShare (head i x0 x1 X)) -∗ K ⟨⟩))
      ⊢ wp frame (wpE (defs₀ (F := F)) Variants.none c none) Set.univ (cc0_ffn1_fwd_act i arg2 harg2 arg3 harg3 arg4 harg4 arg5 harg5 arg6 harg6 arg7 harg7 arg8 harg8 arg9 harg9) K := by
  simp only [cc0_ffn1_fwd_act_eq_skeleton]; unfold cc0_ffn1_fwd_act_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, Hk⟩
  subst hf0 hf1 hf2 hf3 hf7
  by_cases hq : (i 1).val = 0
  · have h1 := (cond_iff i).mpr hq
    sl_exec (disch := sl_exact h1)
    sl_step
    iapply Hk
    unfold head
    simp only [if_pos hq]
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists _; isplitr; swap; · iexact H4
      ipureintro
      sl_unfold_words
      rw [read_last _ _ _ z2]
      simp only [load_last (S := S512x1024) _ _ z2, load_whole (S := S512x1024) _ _ z2, load_whole (S := S1x1024) _ _ z2, load_whole (S := S1408x1024) _ _ z2]
    isplitl [H5]
    · iexists _; isplitr; swap; · iexact H5
      ipureintro
      sl_unfold_words
      rw [read_last _ _ _ z2]
      simp only [load_last (S := S512x1024) _ _ z2, load_whole (S := S512x1024) _ _ z2, load_whole (S := S1x1024) _ _ z2, load_whole (S := S1408x1024) _ _ z2]
    isplitl [H6]
    · iexists _; isplitr; swap; · iexact H6
      ipureintro
      sl_unfold_words
      rw [read_last _ _ _ z2]
      simp only [load_last (S := S512x1024) _ _ z2, load_whole (S := S512x1024) _ _ z2, load_whole (S := S1x1024) _ _ z2, load_whole (S := S1408x1024) _ _ z2]
    iexists _; isplitr; swap; · iexact H7
    ipureintro
    sl_unfold_words
    rw [read_last _ _ _ z2]
    simp only [load_whole (S := S512x1024) _ _ z2, load_whole (S := S1x1024) _ _ z2, load_whole (S := S1408x1024) _ _ z2]
  · have h1 := fun h => hq ((cond_iff i).mp h)
    sl_exec (disch := sl_exact h1)
    sl_step
    iapply Hk
    unfold head
    simp only [if_neg hq]
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists _; isplitr; swap; · iexact H4
      ipureintro
      sl_unfold_words
      rw [read_last _ _ _ z2]
      simp only [load_whole (S := S512x1024) _ _ z2, load_whole (S := S1x1024) _ _ z2, load_whole (S := S1408x1024) _ _ z2]
    isplitl [H5]
    · iexists _; isplitr; swap; · iexact H5
      ipureintro
      sl_unfold_words
      rw [read_last _ _ _ z2]
      simp only [load_whole (S := S512x1024) _ _ z2, load_whole (S := S1x1024) _ _ z2, load_whole (S := S1408x1024) _ _ z2]
    isplitl [H6]
    · iexists _; isplitr; swap; · iexact H6
      ipureintro
      sl_unfold_words
      rw [read_last _ _ _ z2]
      simp only [load_whole (S := S512x1024) _ _ z2, load_whole (S := S1x1024) _ _ z2, load_whole (S := S1408x1024) _ _ z2]
    iexists f7; isplitr; · ipureintro; rfl
    iexact H7

end

variable (m : (ℓ : Loc nD τ sig) → Buf (Elt F) ℓ) (ρ : Dev nD → PrngReg)

/-- The column half of point `t`: the grid's second axis runs fastest. -/
theorem coords_half : ∀ t : Fin grid0.N, (grid0.coords t 1).val = t.val % 2 := by decide +kernel

/-- The first point of the row block of point `t`. -/
def start (t : Fin cfg0.N) : Fin cfg0.N := ⟨2 * (t.val / 2), by have := t.isLt; omega⟩

/-- The normed rows of the row block of point `t`. -/
def rows (c : Dev nD) (t : Fin cfg0.N) : Vec F S512x1024 .bf16 := k0_pay1 (iblk m c 0 (start t)) (iblk m c 1 (start t))

/-- Each input's buffer holds its block, each result's what the point left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay5 (rows m c t) (iblk m c 2 t)
    | ⟨5, _⟩ => k0_pay6 (rows m c t) (iblk m c 3 t)
    | ⟨6, _⟩ => k0_pay7 (rows m c t) (iblk m c 2 t) (iblk m c 3 t)
    | ⟨7, _⟩ => rows m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = k0_pay5 (rows m c t) (iblk m c 2 t) := by dsimp only [dats]
theorem after0_5 (c : Dev nD) (t : Fin cfg0.N) : (dats m 0 c).after 5 t = k0_pay6 (rows m c t) (iblk m c 3 t) := by dsimp only [dats]
theorem after0_6 (c : Dev nD) (t : Fin cfg0.N) : (dats m 0 c).after 6 t = k0_pay7 (rows m c t) (iblk m c 2 t) (iblk m c 3 t) := by dsimp only [dats]
theorem after0_7 (c : Dev nD) (t : Fin cfg0.N) : (dats m 0 c).after 7 t = rows m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- A point's normed rows, from what it finds, are those of its row block. -/
theorem head_rows (c : Dev nD) (t : Fin cfg0.N) (d) :
    head (grid0.coords t) (iblk m c 0 t) (iblk m c 1 t) ((dats m 0 c).before 7 t d) = rows m c t := by
  unfold head
  rw [coords_half t]
  by_cases h : t.val % 2 = 0
  · rw [if_pos h]
    unfold rows
    rw [show start t = t from Fin.ext (by unfold start; dsimp only; omega)]
  · rw [if_neg h]
    have ht : t.val ≠ 0 := fun h0 => h (by rw [h0])
    have hf : (cfg0.win 7).flush ⟨t.val - 1, Nat.lt_of_le_of_lt (Nat.sub_le _ _) t.isLt⟩ = false :=
      Bool.eq_false_iff.mpr fun hf => by have := (flush0_7 _).mp hf; dsimp only at this; omega
    have hi : cfg0.idle 7 (cfg0.grid.coords ⟨t.val - 1, Nat.lt_of_le_of_lt (Nat.sub_le _ _) t.isLt⟩) = false := by
      show (!(k0_cond1 _ == 1#1)) = false
      rw [(cond_iff _).mpr ((coords_half _).trans (by dsimp only; omega))]
      rfl
    rw [Dat.before_of_pos _ 7 t ht (by rfl), hf, if_neg Bool.false_ne_true]
    unfold Dat.left
    rw [hi]
    dsimp only
    unfold Dat.kept
    rw [show (dats m 0 c).after 7 ⟨t.val - 1, Nat.lt_of_le_of_lt (Nat.sub_le _ _) t.isLt⟩ = rows m c t from by
      rw [after0_7]; unfold rows
      rw [show start ⟨t.val - 1, Nat.lt_of_le_of_lt (Nat.sub_le _ _) t.isLt⟩ = start t from Fin.ext (by unfold start; dsimp only; omega)]]
    rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t)

/-- The kept rows are never left unstated: a point that does not store them writes them back. -/
theorem leaves7 (c : Dev nD) (t : Fin cfg0.N) :
    (dats m 0 c).leavesExact 7 t = owns (c : Thread nD τ) (st0_7 t) fullShare ((dats m 0 c).after 7 t) := by
  unfold Dat.leavesExact
  by_cases h : t.val % 2 = 0
  · rw [show cfg0.idle 7 (cfg0.grid.coords t) = false from by
      show (!(k0_cond1 _ == 1#1)) = false
      rw [(cond_iff _).mpr ((coords_half _).trans h)]; rfl]
  · rw [show (cfg0.win 7).flush t = true from (flush0_7 t).mpr (by omega)]
    cases cfg0.idle 7 (cfg0.grid.coords t) <;> rfl

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (st0_0 t) fullShare ((dats m 0 c).after 0 t) from by
    unfold Dat.leavesExact; rw [show cfg0.idle 0 (cfg0.grid.coords t) = false from rfl], after0_0]
  rw [show (dats m 0 c).leavesExact 1 t = owns (c : Thread nD τ) (st0_1 t) fullShare ((dats m 0 c).after 1 t) from by
    unfold Dat.leavesExact; rw [show cfg0.idle 1 (cfg0.grid.coords t) = false from rfl], after0_1]
  rw [show (dats m 0 c).leavesExact 2 t = owns (c : Thread nD τ) (st0_2 t) fullShare ((dats m 0 c).after 2 t) from by
    unfold Dat.leavesExact; rw [show cfg0.idle 2 (cfg0.grid.coords t) = false from rfl], after0_2]
  rw [show (dats m 0 c).leavesExact 3 t = owns (c : Thread nD τ) (st0_3 t) fullShare ((dats m 0 c).after 3 t) from by
    unfold Dat.leavesExact; rw [show cfg0.idle 3 (cfg0.grid.coords t) = false from rfl], after0_3]
  rw [show (dats m 0 c).leavesExact 4 t = owns (c : Thread nD τ) (st0_4 t) fullShare ((dats m 0 c).after 4 t) from by
    unfold Dat.leavesExact; rw [show cfg0.idle 4 (cfg0.grid.coords t) = false from rfl], after0_4]
  rw [show (dats m 0 c).leavesExact 5 t = owns (c : Thread nD τ) (st0_5 t) fullShare ((dats m 0 c).after 5 t) from by
    unfold Dat.leavesExact; rw [show cfg0.idle 5 (cfg0.grid.coords t) = false from rfl], after0_5]
  rw [show (dats m 0 c).leavesExact 6 t = owns (c : Thread nD τ) (st0_6 t) fullShare ((dats m 0 c).after 6 t) from by
    unfold Dat.leavesExact; rw [show cfg0.idle 6 (cfg0.grid.coords t) = false from rfl], after0_6]
  rw [leaves7, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  rw [← head_rows m c t d7]
  iapply (point_sound (grid0.coords t) _ _ _ _ _ _ _ _ _ _ _ _ _ _ _ _ c (iblk m c 0 t) (iblk m c 1 t) (iblk m c 2 t) (iblk m c 3 t)
    ((dats m 0 c).before 7 t d7) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t` is the body there. -/
theorem defs₀_row (t : Fin cfg0.N) :
    defs₀ (F := F) .tc cfg0.body (cfg0.bodyArgs t (cfg0.slots t)) = bodyAt0 t := by
  unfold defs₀; rw [Defs.onTc_tc]

/-- The pipeline's obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every execution ends with the results' arrays as the points left them, and every semaphore at zero. -/
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run without the semaphores. -/
theorem run_main : θ_run defs (onTc (τ := τ) (main (F := F))) (s₀ m ρ) (Pipeline.FramePost cfgs (dats m) 0 (V m)) :=
  (θ_run defs _ _).mono (fun _ h => h.1) (run_quiescent m ρ)

/-- The frame: the arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))

end Cert.Proof.Act

end
-- ==== Proof.Norm.Act.lean ====
/-
  The feed-forward block's first products: the rows normed, times the two projections, and the gated product.
-/
module

public import proofs.«01_k».proof.Proof.Act.Run
public import proofs.«01_k».proof.Proof.Gen.Reference10Ideal
public import proofs.«01_k».proof.Proof.Gen.Reference10Ideal.Run
public import proofs.«01_k».proof.Proof.Norm.Rows
public import proofs.«01_k».proof.Proof.Norm.Gate
public import proofs.«01_k».proof.Defs
public import Idealize.ShloMosaic.Lib.Pipeline.ValueKit

@[expose] public section

set_option maxRecDepth 16384

noncomputable section

namespace Cert.Proof.Act

section

open Cert.Reference10Ideal Cert.Reference10Ideal.Gen
open Idealize.ShloMosaic Idealize.ShloMosaic.TcCoe Idealize.ShloMosaic.Pointwise Finset
open Cert.Proof.Norm

/-- The rows of `X`, each divided by its root mean square, times the gain. -/
def normed (X : FVec Ideal S4096x1024 .f32) (G : FVec Ideal S1x1024 .f32) : FVec Ideal S4096x1024 .bf16 :=
  fun y => X (ix2 (y 0) (y 1)) * rrms (fun k => X (ix2 (y 0) k)) * G (ix2 0 (y 1))

/-- The normed rows times a projection. -/
def product (X : FVec Ideal S4096x1024 .f32) (G : FVec Ideal S1x1024 .f32) (A : FVec Ideal S1024x2816 .f32) : FVec Ideal S4096x2816 .bf16 :=
  fun y => ∑ k : Fin 1024, normed X G (ix2 (y 0) k) * A (ix2 k (y 1))

/-- The gate's product times its logistic, times the other product. -/
def active (X : FVec Ideal S4096x1024 .f32) (G : FVec Ideal S1x1024 .f32) (A B : FVec Ideal S1024x2816 .f32) : FVec Ideal S4096x2816 .bf16 :=
  fun y => product X G A y * Norm.sig (product X G A y) * product X G B y

variable (X : FVec Ideal S4096x1024 .f32) (G : FVec Ideal S1x1024 .f32) (A B : FVec Ideal S1024x2816 .f32)

/-- The reference's products are those. -/
theorem ref_product :
    truncf .bf16 (Host.dotGeneral dot_S4096x1024_S1024x2816_S4096x2816_1_0_0_1_n_n none (mulf (mulf X (broadcastInDim S4096x1024 ![0, 1] bcast_S4096x1_S4096x1024_0_1 (Host.rsqrt (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 G)) A) bitsLt_bf16_f32
    = product X G A := by
  funext y
  obtain ⟨i, j, rfl⟩ : ∃ i j, y = ix2 i j := ⟨y 0, y 1, (ix2_eta y).symm⟩
  pointwise []
  rfl

/-- Its gated product is that. -/
theorem ref_active :
    truncf .bf16 (mulf (mulf (Host.dotGeneral dot_S4096x1024_S1024x2816_S4096x2816_1_0_0_1_n_n none (mulf (mulf X (broadcastInDim S4096x1024 ![0, 1] bcast_S4096x1_S4096x1024_0_1 (Host.rsqrt (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 G)) A) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (Host.dotGeneral dot_S4096x1024_S1024x2816_S4096x2816_1_0_0_1_n_n none (mulf (mulf X (broadcastInDim S4096x1024 ![0, 1] bcast_S4096x1_S4096x1024_0_1 (Host.rsqrt (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 G)) A)))))) (Host.dotGeneral dot_S4096x1024_S1024x2816_S4096x2816_1_0_0_1_n_n none (mulf (mulf X (broadcastInDim S4096x1024 ![0, 1] bcast_S4096x1_S4096x1024_0_1 (Host.rsqrt (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 G)) B)) bitsLt_bf16_f32
    = active X G A B := by
  funext y
  obtain ⟨i, j, rfl⟩ : ∃ i j, y = ix2 i j := ⟨y 0, y 1, (ix2_eta y).symm⟩
  unfold active
  rw [← sig_rule]
  pointwise []
  rfl

/-- Its normed rows are those. -/
theorem ref_normed :
    truncf .bf16 (mulf (mulf X (broadcastInDim S4096x1024 ![0, 1] bcast_S4096x1_S4096x1024_0_1 (Host.rsqrt (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 G)) bitsLt_bf16_f32
    = normed X G := by
  funext y
  obtain ⟨i, j, rfl⟩ : ∃ i j, y = ix2 i j := ⟨y 0, y 1, (ix2_eta y).symm⟩
  pointwise []
  rfl

end

open Cert.Kernel10Ideal Cert.Kernel10Ideal.Gen
open Idealize.ShloMosaic Idealize.ShloMosaic.TcCoe Idealize.ShloMosaic.Pointwise Idealize.SL.Sem Finset
open Idealize.ShloMosaic.Pipeline (Dat Cfg Window)
open Cert.Proof.Norm

section
variable (x0 : FVec Ideal S512x1024 .f32) (x1 : FVec Ideal S1x1024 .f32) (h : FVec Ideal S512x1024 .bf16) (w u : FVec Ideal S1408x1024 .bf16)

theorem normed_val (r : Fin 512) (k : Fin 1024) : k0_pay1 (F := Ideal) x0 x1 (ix2 r k)
    = x0 (ix2 r k) * rrms (fun k => x0 (ix2 r k)) * x1 (ix2 0 k) := by
  pointwise [k0_pay1]
  rfl

/-- An entry of a tile of a product. -/
def tile (r : Fin 512) (l : Fin 1408) : EReal := ∑ k : Fin 1024, h (ix2 r k) * w (ix2 l k)

theorem product_val (r : Fin 512) (l : Fin 1408) : k0_pay5 (F := Ideal) h w (ix2 r l) = tile h w r l := by
  pointwise [k0_pay5, k0_pay3, k0_pay2]
  rfl

theorem product_val' (r : Fin 512) (l : Fin 1408) : k0_pay6 (F := Ideal) h w (ix2 r l) = tile h w r l := by
  pointwise [k0_pay6, k0_pay4, k0_pay2]
  rfl

theorem active_val (r : Fin 512) (l : Fin 1408) : k0_pay7 (F := Ideal) h w u (ix2 r l)
    = tile h w r l * Norm.sig (tile h w r l) * tile h u r l := by
  pointwise [k0_pay7, k0_pay4, k0_pay3, k0_pay2]
  rfl

end

variable (m : (ℓ : Loc nD τ sig) → Buf (Elt Ideal) ℓ) (ρ : Dev nD → PrngReg)

theorem index0 : ∀ t : Fin cfg0.N, win0_0.index t = ![t.val / 2, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val % 2, 0] := (by decide +kernel : ∀ t : Fin grid0.N, _)
theorem index3 : ∀ t : Fin cfg0.N, win0_3.index t = ![t.val % 2, 0] := (by decide +kernel : ∀ t : Fin grid0.N, _)
theorem index4 : ∀ t : Fin cfg0.N, win0_4.index t = ![t.val / 2, t.val % 2] := (by decide +kernel : ∀ t : Fin grid0.N, _)
theorem index5 : ∀ t : Fin cfg0.N, win0_5.index t = ![t.val / 2, t.val % 2] := (by decide +kernel : ∀ t : Fin grid0.N, _)
theorem index6 : ∀ t : Fin cfg0.N, win0_6.index t = ![t.val / 2, t.val % 2] := (by decide +kernel : ∀ t : Fin grid0.N, _)
theorem index7 : ∀ t : Fin cfg0.N, win0_7.index t = ![t.val / 2, 0] := (by decide +kernel : ∀ t : Fin grid0.N, _)

theorem point_lt (t : Fin cfg0.N) : t.val < 16 := t.isLt

/-- Row `r` of the block of point `t`, and column `l` of its half. -/
def row (t : Fin cfg0.N) (r : Fin 512) : Fin 4096 := ⟨512 * (t.val / 2) + r.val, by have := point_lt t; omega⟩
def col (t : Fin cfg0.N) (l : Fin 1408) : Fin 2816 := ⟨1408 * (t.val % 2) + l.val, by omega⟩

theorem emb0 (t : Fin cfg0.N) (r : Fin 512) (k : Fin 1024) : (win0_0.blk t).view.emb (ix2 r k) = ix2 (row t r) k := by
  unfold row; blk_ext [index0]
theorem emb1 (t : Fin cfg0.N) (k : Fin 1) (j : Fin 1024) : (win0_1.blk t).view.emb (ix2 k j) = ix2 k j := by
  blk_ext [index1]
theorem emb2 (t : Fin cfg0.N) (l : Fin 1408) (k : Fin 1024) : (win0_2.blk t).view.emb (ix2 l k) = ix2 (col t l) k := by
  unfold col; blk_ext [index2]
theorem emb3 (t : Fin cfg0.N) (l : Fin 1408) (k : Fin 1024) : (win0_3.blk t).view.emb (ix2 l k) = ix2 (col t l) k := by
  unfold col; blk_ext [index3]
theorem emb4 (t : Fin cfg0.N) (r : Fin 512) (l : Fin 1408) : (win0_4.blk t).view.emb (ix2 r l) = ix2 (row t r) (col t l) := by
  unfold row col; blk_ext [index4]
theorem emb5 (t : Fin cfg0.N) (r : Fin 512) (l : Fin 1408) : (win0_5.blk t).view.emb (ix2 r l) = ix2 (row t r) (col t l) := by
  unfold row col; blk_ext [index5]
theorem emb6 (t : Fin cfg0.N) (r : Fin 512) (l : Fin 1408) : (win0_6.blk t).view.emb (ix2 r l) = ix2 (row t r) (col t l) := by
  unfold row col; blk_ext [index6]
theorem emb7 (t : Fin cfg0.N) (r : Fin 512) (k : Fin 1024) : (win0_7.blk t).view.emb (ix2 r k) = ix2 (row t r) k := by
  unfold row; blk_ext [index7]

section
variable (c : Dev nD) (X : (b : Ref sig .tc) → Buf (Elt Ideal) ((c : Thread nD τ).loc b))
theorem read0 (t : Fin cfg0.N) (y) : ((cfg0.win 0).blk t).view.read (Elt Ideal) (X (Pipeline.arrRef spec0 0)) y
    = X main_arg0 ((win0_0.blk t).view.emb y) := rfl
theorem read1 (t : Fin cfg0.N) (y) : ((cfg0.win 1).blk t).view.read (Elt Ideal) (X (Pipeline.arrRef spec0 1)) y
    = X main_arg1 ((win0_1.blk t).view.emb y) := rfl
theorem read2 (t : Fin cfg0.N) (y) : ((cfg0.win 2).blk t).view.read (Elt Ideal) (X (Pipeline.arrRef spec0 2)) y
    = X main_v1 ((win0_2.blk t).view.emb y) := rfl
theorem read3 (t : Fin cfg0.N) (y) : ((cfg0.win 3).blk t).view.read (Elt Ideal) (X (Pipeline.arrRef spec0 3)) y
    = X main_v3 ((win0_3.blk t).view.emb y) := rfl
end

/-- A projection's weights as the launch finds them: transposed and rounded. -/
def flipped (B : FVec Ideal S1024x2816 .f32) : FVec Ideal S2816x1024 .bf16 :=
  truncf .bf16 (transpose S2816x1024 [1, 0] B transposes_S1024x2816_S2816x1024_1_0) bitsLt_bf16_f32

theorem V_flipped2 (c : Dev nD) : V m c main_v1 = flipped (m ((c : Thread nD τ).loc main_arg2)) := by
  show StableHlo.after _ _ _ = _
  simp only [hostOps0]
  after_results_simp
  rfl

theorem V_flipped3 (c : Dev nD) : V m c main_v3 = flipped (m ((c : Thread nD τ).loc main_arg3)) := by
  show StableHlo.after _ _ _ = _
  simp only [hostOps0]
  after_results_simp
  rfl

theorem flipped_val (B : FVec Ideal S1024x2816 .f32) (l : Fin 2816) (k : Fin 1024) : flipped B (ix2 l k) = B (ix2 k l) := by
  pointwise [flipped]

section
variable (c : Dev nD) (t : Fin cfg0.N)

/-! The blocks that point `t` reads. -/
abbrev b0 : FVec Ideal S512x1024 .f32 := iblk m c 0 t
abbrev b1 : FVec Ideal S1x1024 .f32 := iblk m c 1 t
abbrev b2 : FVec Ideal S1408x1024 .bf16 := iblk m c 2 t
abbrev b3 : FVec Ideal S1408x1024 .bf16 := iblk m c 3 t

theorem in0 (r : Fin 512) (k : Fin 1024) : b0 m c t (ix2 r k) = m ((c.tc : Thread nD τ).loc main_arg0) (ix2 (row t r) k) :=
  ((read0 c (V m c) t _).trans (congrArg _ (emb0 t r k))).trans (congrFun (V_main_arg0 m c) _)
theorem in1 (k : Fin 1) (j : Fin 1024) : b1 m c t (ix2 k j) = m ((c.tc : Thread nD τ).loc main_arg1) (ix2 k j) :=
  ((read1 c (V m c) t _).trans (congrArg _ (emb1 t k j))).trans (congrFun (V_main_arg1 m c) _)
theorem in2 (l : Fin 1408) (k : Fin 1024) : b2 m c t (ix2 l k) = m ((c.tc : Thread nD τ).loc main_arg2) (ix2 k (col t l)) :=
  ((read2 c (V m c) t _).trans (congrArg _ (emb2 t l k))).trans ((congrFun (V_flipped2 m c) _).trans (flipped_val _ _ _))
theorem in3 (l : Fin 1408) (k : Fin 1024) : b3 m c t (ix2 l k) = m ((c.tc : Thread nD τ).loc main_arg3) (ix2 k (col t l)) :=
  ((read3 c (V m c) t _).trans (congrArg _ (emb3 t l k))).trans ((congrFun (V_flipped3 m c) _).trans (flipped_val _ _ _))

/-- The first point of a row block has the block's rows. -/
theorem row_start (r : Fin 512) : row (start t) r = row t r := by
  unfold row start; apply Fin.ext; dsimp only; omega

/-- A point's normed rows are rows of the normed stream. -/
theorem rows_row (r : Fin 512) (k : Fin 1024) : rows m c t (ix2 r k) = normed (m ((c.tc : Thread nD τ).loc main_arg0)) (m ((c.tc : Thread nD τ).loc main_arg1)) (ix2 (row t r) k) := by
  unfold rows
  refine (normed_val _ _ r k).trans ?_
  rw [← row_start t r]
  exact congrArg₂ (· * ·) (congrArg₂ (· * ·) (in0 m c (start t) r k) (congrArg rrms (funext fun k => in0 m c (start t) r k))) (in1 m c (start t) 0 k)

/-- A tile of the gate's product, -/
theorem tile_gate (r : Fin 512) (l : Fin 1408) : tile (rows m c t) (b2 m c t) r l = product (m ((c.tc : Thread nD τ).loc main_arg0)) (m ((c.tc : Thread nD τ).loc main_arg1)) (m ((c.tc : Thread nD τ).loc main_arg2)) (ix2 (row t r) (col t l)) :=
  Finset.sum_congr rfl fun k _ => congrArg₂ (· * ·) (rows_row m c t r k) (in2 m c t l k)

/-- and of the other. -/
theorem tile_up (r : Fin 512) (l : Fin 1408) : tile (rows m c t) (b3 m c t) r l = product (m ((c.tc : Thread nD τ).loc main_arg0)) (m ((c.tc : Thread nD τ).loc main_arg1)) (m ((c.tc : Thread nD τ).loc main_arg3)) (ix2 (row t r) (col t l)) :=
  Finset.sum_congr rfl fun k _ => congrArg₂ (· * ·) (rows_row m c t r k) (in3 m c t l k)

end

theorem final4 (c : Dev nD) : (dats m 0 c).arrAt 4 cfg0.N = product (m ((c.tc : Thread nD τ).loc main_arg0)) (m ((c.tc : Thread nD τ).loc main_arg1)) (m ((c.tc : Thread nD τ).loc main_arg2)) := by
  refine (dats m 0 c).arrAt_eq_of_covers 4 _ (by decide +kernel) fun t hf y => ?_
  obtain ⟨r, l, rfl⟩ : ∃ (r : Fin 512) (l : Fin 1408), y = ix2 r l := ⟨y 0, y 1, (ix2_eta y).symm⟩
  blk_simp; rw [after0_4]
  refine (product_val _ _ r l).trans (Eq.trans ?_ (congrArg (product (m ((c.tc : Thread nD τ).loc main_arg0)) (m ((c.tc : Thread nD τ).loc main_arg1)) (m ((c.tc : Thread nD τ).loc main_arg2))) (emb4 t r l)).symm)
  exact tile_gate m c t r l

theorem final5 (c : Dev nD) : (dats m 0 c).arrAt 5 cfg0.N = product (m ((c.tc : Thread nD τ).loc main_arg0)) (m ((c.tc : Thread nD τ).loc main_arg1)) (m ((c.tc : Thread nD τ).loc main_arg3)) := by
  refine (dats m 0 c).arrAt_eq_of_covers 5 _ (by decide +kernel) fun t hf y => ?_
  obtain ⟨r, l, rfl⟩ : ∃ (r : Fin 512) (l : Fin 1408), y = ix2 r l := ⟨y 0, y 1, (ix2_eta y).symm⟩
  blk_simp; rw [after0_5]
  refine (product_val' _ _ r l).trans (Eq.trans ?_ (congrArg (product (m ((c.tc : Thread nD τ).loc main_arg0)) (m ((c.tc : Thread nD τ).loc main_arg1)) (m ((c.tc : Thread nD τ).loc main_arg3))) (emb5 t r l)).symm)
  exact tile_up m c t r l

theorem final6 (c : Dev nD) : (dats m 0 c).arrAt 6 cfg0.N = active (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 6 _ (by decide +kernel) fun t hf y => ?_
  obtain ⟨r, l, rfl⟩ : ∃ (r : Fin 512) (l : Fin 1408), y = ix2 r l := ⟨y 0, y 1, (ix2_eta y).symm⟩
  blk_simp; rw [after0_6]
  refine (active_val _ _ _ r l).trans (Eq.trans ?_ (congrArg (active (m ((c.tc : Thread nD τ).loc main_arg0)) (m ((c.tc : Thread nD τ).loc main_arg1)) (m ((c.tc : Thread nD τ).loc main_arg2)) (m ((c.tc : Thread nD τ).loc main_arg3))) (emb6 t r l)).symm)
  exact congrArg₂ (fun a b : EReal => a * Norm.sig a * b) (tile_gate m c t r l) (tile_up m c t r l)

theorem final7 (c : Dev nD) : (dats m 0 c).arrAt 7 cfg0.N = normed (m ((c.tc : Thread nD τ).loc main_arg0)) (m ((c.tc : Thread nD τ).loc main_arg1)) := by
  refine (dats m 0 c).arrAt_eq_of_covers 7 _ (by decide +kernel) fun t hf y => ?_
  obtain ⟨r, l, rfl⟩ : ∃ (r : Fin 512) (l : Fin 1024), y = ix2 r l := ⟨y 0, y 1, (ix2_eta y).symm⟩
  blk_simp; rw [after0_7]
  refine Eq.trans ?_ (congrArg (normed (m ((c.tc : Thread nD τ).loc main_arg0)) (m ((c.tc : Thread nD τ).loc main_arg1))) (emb7 t r l)).symm
  exact rows_row m c t r l

/-- The kernel's four results are the reference's. -/
theorem algebraic : Cert.algebraic_Kernel10Ideal_Reference10Ideal := by
  intro m g m' g' _ hargs
  refine ⟨fun c => product (m ((c.tc : Thread nD τ).loc main_arg0)) (m ((c.tc : Thread nD τ).loc main_arg1)) (m ((c.tc : Thread nD τ).loc main_arg2)), fun c => product (m ((c.tc : Thread nD τ).loc main_arg0)) (m ((c.tc : Thread nD τ).loc main_arg1)) (m ((c.tc : Thread nD τ).loc main_arg3)), fun c => active (m ((c.tc : Thread nD τ).loc main_arg0)) (m ((c.tc : Thread nD τ).loc main_arg1)) (m ((c.tc : Thread nD τ).loc main_arg2)) (m ((c.tc : Thread nD τ).loc main_arg3)), fun c => normed (m ((c.tc : Thread nD τ).loc main_arg0)) (m ((c.tc : Thread nD τ).loc main_arg1)), ?_, ?_⟩
  · exact (θ_run defs _ _).mono (fun r h c => ⟨((h.1 c).1 4).trans (final4 m c), ((h.1 c).1 5).trans (final5 m c),
      ((h.1 c).1 6).trans (final6 m c), ((h.1 c).1 7).trans (final7 m c), h.2.1 c⟩)
      (θ_run_and (run_main m g) (frame m g))
  · refine (θ_run Cert.Reference10Ideal.defs _ _).mono (fun r h c => ?_) (Cert.Reference10Ideal.Value.run (F := Ideal) m' g')
    obtain ⟨a0, a1, a2, a3⟩ := hargs c
    refine ⟨(h c).1.trans ((ref_product _ _ _).trans ?_), (h c).2.1.trans ((ref_product _ _ _).trans ?_),
      (h c).2.2.1.trans ((ref_active _ _ _ _).trans ?_), (h c).2.2.2.1.trans ((ref_normed _ _).trans ?_), (h c).2.2.2.2⟩
    · rw [a0, a1, a2]
    · rw [a0, a1, a3]
    · rw [a0, a1, a2, a3]
    · rw [a0, a1]

end Cert.Proof.Act

end
-- ==== Proof.FfnBack.Run.lean ====
/-
  The run of the second feed-forward block's backward pass over the grid of four row blocks by eleven column tiles. A row block keeps
  in scratch the scaled incoming gradient, the gradient of the normed rows so far, and the last tile's gradients of the gate and up
  products, whose products with the weights are taken one tile later. Everything here holds at any interpretation of the floats.
-/

module

public import proofs.«01_k».proof.Proof.Gen.Kernel2Ideal
public import proofs.«01_k».proof.Proof.Gen.Kernel2Ideal.Frame
public import proofs.«01_k».proof.Proof.Gen.Kernel2Ideal.Skeleton
public import proofs.«01_k».proof.Proof.Norm.Whole
public import Idealize.ShloMosaic.Lib.Claim
public import Idealize.ShloMosaic.Lib.Pipeline.TableIdle

@[expose] public section

set_option maxRecDepth 16384

noncomputable section

namespace Cert.Proof.FfnBack

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Proof.Norm

variable {F : FTy → Type} [FloatOps F]

local notation "𝕄" => MT nD τ sig Unit (Elt F) ℕ (UR sig nD τ) ℕ

theorem z2 : (![0, 0] : Fin 2 → ℕ) = fun _ => 0 := by decide

/-- The body's conditions: the first tile, the last tile, the first row block, a later one. -/
theorem cond1_iff : ∀ i : grid0.Coords, k0_cond1 i = 1#1 ↔ (i 1).val = 0 := by decide +kernel
theorem cond2_iff : ∀ i : grid0.Coords, k0_cond2 i = 1#1 ↔ (i 1).val = 10 := by decide +kernel
theorem cond3_iff : ∀ i : grid0.Coords, k0_cond3 i = 1#1 ↔ (i 0).val = 0 := by decide +kernel
theorem cond4_iff : ∀ i : grid0.Coords, k0_cond4 i = 1#1 ↔ ¬ (i 0).val = 0 := by decide +kernel

/-- What a point leaves in the scratch of the scaled incoming gradient. -/
def keep (i : grid0.Coords) (x0 : Vec F S1024x1024 .f32) (D : Vec F S1024x1024 .bf16) : Vec F S1024x1024 .bf16 :=
  if (i 1).val = 0 then k0_pay15 x0 else D

/-- The sum over the tiles before a point's: zero at the first tile, and else one more tile's products. -/
def more (i : grid0.Coords) (H : Vec F S1024x1024 .f32) (A B : Vec F S1024x256 .bf16) (wg wu : Vec F S256x1024 .bf16) : Vec F S1024x1024 .f32 :=
  k0_pay19 (if (i 1).val = 0 then k0_pay16 else H) (if (i 1).val = 0 then k0_pay17 else A) wg (if (i 1).val = 0 then k0_pay18 else B) wu

/-- A tile's gradient of the gate product, -/
def toA (D : Vec F S1024x1024 .bf16) (wd : Vec F S256x1024 .bf16) (a b : Vec F S1024x256 .bf16) : Vec F S1024x256 .bf16 :=
  k0_pay3 (k0_pay20 D wd) (k0_pay21 a) (k0_pay22 b) (k0_pay23 a) k0_pay24

/-- and of the up product. -/
def toB (D : Vec F S1024x1024 .bf16) (wd : Vec F S256x1024 .bf16) (a : Vec F S1024x256 .bf16) : Vec F S1024x256 .bf16 :=
  k0_pay2 (k0_pay20 D wd) (k0_pay21 a) (k0_pay23 a) k0_pay24

/-- The same two as the scratch keeps them. -/
def keptA (D : Vec F S1024x1024 .bf16) (wd : Vec F S256x1024 .bf16) (a b : Vec F S1024x256 .bf16) : Vec F S1024x256 .bf16 :=
  k0_pay4 (k0_pay20 D wd) (k0_pay21 a) (k0_pay22 b) (k0_pay23 a) k0_pay24
def keptB (D : Vec F S1024x1024 .bf16) (wd : Vec F S256x1024 .bf16) (a : Vec F S1024x256 .bf16) : Vec F S1024x256 .bf16 :=
  k0_pay5 (k0_pay20 D wd) (k0_pay21 a) (k0_pay23 a) k0_pay24

/-- A row block's gradient of the residual stream, formed at its last tile. -/
def toX (x0 x1 : Vec F S1024x1024 .f32) (g : Vec F S1x1024 .f32) (H : Vec F S1024x1024 .f32) (A B : Vec F S1024x256 .bf16) (wg wu : Vec F S256x1024 .bf16) : Vec F S1024x1024 .f32 :=
  k0_pay6 (k0_pay7 x1) (k0_pay8 x1) (k0_pay12 B A H wg wu g) x0 (k0_pay13 B A x1 H wg wu g)

/-- The gradient of the gain after a row block's last tile. -/
def toG (i : grid0.Coords) (x1 : Vec F S1024x1024 .f32) (H : Vec F S1024x1024 .f32) (A B : Vec F S1024x256 .bf16) (wg wu : Vec F S256x1024 .bf16) (G : Vec F S1x1024 .f32) : Vec F S1x1024 .f32 :=
  if (i 0).val = 0 then k0_pay10 B A x1 H wg wu else k0_pay11 B A x1 H wg wu G

section
variable (i : grid0.Coords)
    (arg2 : Memref sig .tc .vmem S1024x1024 .f32) (harg2 : arg2.IsWhole)
    (arg3 : Memref sig .tc .vmem S1024x1024 .f32) (harg3 : arg3.IsWhole)
    (arg4 : Memref sig .tc .vmem S1x1024 .f32) (harg4 : arg4.IsWhole)
    (arg5 : Memref sig .tc .vmem S1024x256 .bf16) (harg5 : arg5.IsWhole)
    (arg6 : Memref sig .tc .vmem S1024x256 .bf16) (harg6 : arg6.IsWhole)
    (arg7 : Memref sig .tc .vmem S256x1024 .bf16) (harg7 : arg7.IsWhole)
    (arg8 : Memref sig .tc .vmem S256x1024 .bf16) (harg8 : arg8.IsWhole)
    (arg9 : Memref sig .tc .vmem S256x1024 .bf16) (harg9 : arg9.IsWhole)
    (arg10 : Memref sig .tc .vmem S256x1024 .bf16) (harg10 : arg10.IsWhole)
    (arg11 : Memref sig .tc .vmem S256x1024 .bf16) (harg11 : arg11.IsWhole)
    (arg12 : Memref sig .tc .vmem S1024x1024 .f32) (harg12 : arg12.IsWhole)
    (arg13 : Memref sig .tc .vmem S1x1024 .f32) (harg13 : arg13.IsWhole)
    (arg14 : Memref sig .tc .vmem S1024x256 .bf16) (harg14 : arg14.IsWhole)
    (arg15 : Memref sig .tc .vmem S1024x256 .bf16) (harg15 : arg15.IsWhole)
    (arg16 : Memref sig .tc .vmem S1024x1024 .bf16) (harg16 : arg16.IsWhole)
    (arg17 : Memref sig .tc .vmem S1024x1024 .bf16) (harg17 : arg17.IsWhole)
    (arg18 : Memref sig .tc .vmem S1024x1024 .f32) (harg18 : arg18.IsWhole)
    (arg19 : Memref sig .tc .vmem S1024x256 .bf16) (harg19 : arg19.IsWhole)
    (arg20 : Memref sig .tc .vmem S1024x256 .bf16) (harg20 : arg20.IsWhole)

set_option maxHeartbeats 2000000 in
/-- The body at a first tile. -/
theorem point_first (hf : (i 1).val = 0) (hl : ¬ (i 1).val = 10) (c : Dev nD) (x0 : Vec F S1024x1024 .f32) (x1 : Vec F S1024x1024 .f32) (x2 : Vec F S1x1024 .f32) (x3 : Vec F S1024x256 .bf16) (x4 : Vec F S1024x256 .bf16) (x5 : Vec F S256x1024 .bf16) (x6 : Vec F S256x1024 .bf16) (x7 : Vec F S256x1024 .bf16) (x8 : Vec F S256x1024 .bf16) (x9 : Vec F S256x1024 .bf16) (Y0 : Vec F S1024x1024 .f32) (Y1 : Vec F S1x1024 .f32) (Y2 : Vec F S1024x256 .bf16) (Y3 : Vec F S1024x256 .bf16) (Y4 : Vec F S1024x1024 .bf16) (X0 : Vec F S1024x1024 .bf16) (X1 : Vec F S1024x1024 .f32) (X2 : Vec F S1024x256 .bf16) (X3 : Vec F S1024x256 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare Y0 ∗ owns (c : Thread nD τ) arg13 fullShare Y1 ∗ owns (c : Thread nD τ) arg14 fullShare Y2 ∗ owns (c : Thread nD τ) arg15 fullShare Y3 ∗ owns (c : Thread nD τ) arg16 fullShare Y4 ∗ owns (c : Thread nD τ) arg17 fullShare X0 ∗ owns (c : Thread nD τ) arg18 fullShare X1 ∗ owns (c : Thread nD τ) arg19 fullShare X2 ∗ owns (c : Thread nD τ) arg20 fullShare X3
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (if (i 1).val = 10 then toX x0 x1 x2 (more i X1 X2 X3 x5 x6) (toA (keep i x0 X0) x9 x3 x4) (toB (keep i x0 X0) x9 x3) x7 x8 else Y0) ∗ owns (c : Thread nD τ) arg13 fullShare (if (i 1).val = 10 then toG i x1 (more i X1 X2 X3 x5 x6) (toA (keep i x0 X0) x9 x3 x4) (toB (keep i x0 X0) x9 x3) x7 x8 Y1 else Y1) ∗ owns (c : Thread nD τ) arg14 fullShare (toA (keep i x0 X0) x9 x3 x4) ∗ owns (c : Thread nD τ) arg15 fullShare (toB (keep i x0 X0) x9 x3) ∗ owns (c : Thread nD τ) arg16 fullShare (if (i 1).val = 0 then k0_pay14 x0 else Y4) ∗ owns (c : Thread nD τ) arg17 fullShare (keep i x0 X0) ∗ owns (c : Thread nD τ) arg18 fullShare (more i X1 X2 X3 x5 x6) ∗ owns (c : Thread nD τ) arg19 fullShare (keptA (keep i x0 X0) x9 x3 x4) ∗ owns (c : Thread nD τ) arg20 fullShare (keptB (keep i x0 X0) x9 x3)) -∗ K ⟨⟩))
      ⊢ wp frame (wpE (defs₀ (F := F)) Variants.none c none) Set.univ (cc0_ffn2_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_ffn2_bwd_eq_skeleton, k0_part1_eq_skeleton, k0_part2_eq_skeleton]; unfold cc0_ffn2_bwd_skel
  simp only [k0_part1_eq_skeleton, k0_part2_eq_skeleton]; unfold k0_part2_skel k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, Hk⟩
  subst hf0 hf1 hf2 hf3 hf4 hf5 hf6 hf7 hf8 hf9 hf10 hf11 hf12 hf13 hf14 hf15 hf16 hf17 hf18
  have h1 := (cond1_iff i).mpr hf
  have h2 := fun h => hl ((cond2_iff i).mp h)
  sl_exec (disch := first | sl_exact h1 | sl_exact h2)
  sl_step
  iapply Hk
  simp only [keep, more, toA, toB, keptA, keptB, toX, toG, if_pos hf, if_neg hl]
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr; swap; · iexact H12
    ipureintro
    sl_unfold_words
    rw [read_last _ _ _ z2]
    simp only [load_last (S := S1024x1024) _ _ z2, load_last (S := S1x1024) _ _ z2, load_last (S := S1024x256) _ _ z2, load_last (S := S256x1024) _ _ z2, load_whole (S := S1024x1024) _ _ z2, load_whole (S := S1x1024) _ _ z2, load_whole (S := S1024x256) _ _ z2, load_whole (S := S256x1024) _ _ z2]
  isplitl [H13]
  · iexists _; isplitr; swap; · iexact H13
    ipureintro
    sl_unfold_words
    rw [read_last _ _ _ z2]
    simp only [load_last (S := S1024x1024) _ _ z2, load_last (S := S1x1024) _ _ z2, load_last (S := S1024x256) _ _ z2, load_last (S := S256x1024) _ _ z2, load_whole (S := S1024x1024) _ _ z2, load_whole (S := S1x1024) _ _ z2, load_whole (S := S1024x256) _ _ z2, load_whole (S := S256x1024) _ _ z2]
  isplitl [H14]
  · iexists _; isplitr; swap; · iexact H14
    ipureintro
    sl_unfold_words
    rw [read_last _ _ _ z2]
    simp only [load_last (S := S1024x1024) _ _ z2, load_last (S := S1x1024) _ _ z2, load_last (S := S1024x256) _ _ z2, load_last (S := S256x1024) _ _ z2, load_whole (S := S1024x1024) _ _ z2, load_whole (S := S1x1024) _ _ z2, load_whole (S := S1024x256) _ _ z2, load_whole (S := S256x1024) _ _ z2]
  isplitl [H15]
  · iexists _; isplitr; swap; · iexact H15
    ipureintro
    sl_unfold_words
    rw [read_last _ _ _ z2]
    simp only [load_last (S := S1024x1024) _ _ z2, load_last (S := S1x1024) _ _ z2, load_last (S := S1024x256) _ _ z2, load_last (S := S256x1024) _ _ z2, load_whole (S := S1024x1024) _ _ z2, load_whole (S := S1x1024) _ _ z2, load_whole (S := S1024x256) _ _ z2, load_whole (S := S256x1024) _ _ z2]
  isplitl [H16]
  · iexists _; isplitr; swap; · iexact H16
    ipureintro
    sl_unfold_words
    rw [read_last _ _ _ z2]
    simp only [load_last (S := S1024x1024) _ _ z2, load_last (S := S1x1024) _ _ z2, load_last (S := S1024x256) _ _ z2, load_last (S := S256x1024) _ _ z2, load_whole (S := S1024x1024) _ _ z2, load_whole (S := S1x1024) _ _ z2, load_whole (S := S1024x256) _ _ z2, load_whole (S := S256x1024) _ _ z2]
  isplitl [H17]
  · iexists _; isplitr; swap; · iexact H17
    ipureintro
    sl_unfold_words
    rw [read_last _ _ _ z2]
    simp only [load_last (S := S1024x1024) _ _ z2, load_last (S := S1x1024) _ _ z2, load_last (S := S1024x256) _ _ z2, load_last (S := S256x1024) _ _ z2, load_whole (S := S1024x1024) _ _ z2, load_whole (S := S1x1024) _ _ z2, load_whole (S := S1024x256) _ _ z2, load_whole (S := S256x1024) _ _ z2]
  iexists _; isplitr; swap; · iexact H18
  ipureintro
  sl_unfold_words
  rw [read_last _ _ _ z2]
  simp only [load_last (S := S1024x1024) _ _ z2, load_last (S := S1x1024) _ _ z2, load_last (S := S1024x256) _ _ z2, load_last (S := S256x1024) _ _ z2, load_whole (S := S1024x1024) _ _ z2, load_whole (S := S1x1024) _ _ z2, load_whole (S := S1024x256) _ _ z2, load_whole (S := S256x1024) _ _ z2]

set_option maxHeartbeats 2000000 in
/-- The body at a tile between. -/
theorem point_mid (hf : ¬ (i 1).val = 0) (hl : ¬ (i 1).val = 10) (c : Dev nD) (x0 : Vec F S1024x1024 .f32) (x1 : Vec F S1024x1024 .f32) (x2 : Vec F S1x1024 .f32) (x3 : Vec F S1024x256 .bf16) (x4 : Vec F S1024x256 .bf16) (x5 : Vec F S256x1024 .bf16) (x6 : Vec F S256x1024 .bf16) (x7 : Vec F S256x1024 .bf16) (x8 : Vec F S256x1024 .bf16) (x9 : Vec F S256x1024 .bf16) (Y0 : Vec F S1024x1024 .f32) (Y1 : Vec F S1x1024 .f32) (Y2 : Vec F S1024x256 .bf16) (Y3 : Vec F S1024x256 .bf16) (Y4 : Vec F S1024x1024 .bf16) (X0 : Vec F S1024x1024 .bf16) (X1 : Vec F S1024x1024 .f32) (X2 : Vec F S1024x256 .bf16) (X3 : Vec F S1024x256 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare Y0 ∗ owns (c : Thread nD τ) arg13 fullShare Y1 ∗ owns (c : Thread nD τ) arg14 fullShare Y2 ∗ owns (c : Thread nD τ) arg15 fullShare Y3 ∗ owns (c : Thread nD τ) arg16 fullShare Y4 ∗ owns (c : Thread nD τ) arg17 fullShare X0 ∗ owns (c : Thread nD τ) arg18 fullShare X1 ∗ owns (c : Thread nD τ) arg19 fullShare X2 ∗ owns (c : Thread nD τ) arg20 fullShare X3
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (if (i 1).val = 10 then toX x0 x1 x2 (more i X1 X2 X3 x5 x6) (toA (keep i x0 X0) x9 x3 x4) (toB (keep i x0 X0) x9 x3) x7 x8 else Y0) ∗ owns (c : Thread nD τ) arg13 fullShare (if (i 1).val = 10 then toG i x1 (more i X1 X2 X3 x5 x6) (toA (keep i x0 X0) x9 x3 x4) (toB (keep i x0 X0) x9 x3) x7 x8 Y1 else Y1) ∗ owns (c : Thread nD τ) arg14 fullShare (toA (keep i x0 X0) x9 x3 x4) ∗ owns (c : Thread nD τ) arg15 fullShare (toB (keep i x0 X0) x9 x3) ∗ owns (c : Thread nD τ) arg16 fullShare (if (i 1).val = 0 then k0_pay14 x0 else Y4) ∗ owns (c : Thread nD τ) arg17 fullShare (keep i x0 X0) ∗ owns (c : Thread nD τ) arg18 fullShare (more i X1 X2 X3 x5 x6) ∗ owns (c : Thread nD τ) arg19 fullShare (keptA (keep i x0 X0) x9 x3 x4) ∗ owns (c : Thread nD τ) arg20 fullShare (keptB (keep i x0 X0) x9 x3)) -∗ K ⟨⟩))
      ⊢ wp frame (wpE (defs₀ (F := F)) Variants.none c none) Set.univ (cc0_ffn2_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_ffn2_bwd_eq_skeleton, k0_part1_eq_skeleton, k0_part2_eq_skeleton]; unfold cc0_ffn2_bwd_skel
  simp only [k0_part1_eq_skeleton, k0_part2_eq_skeleton]; unfold k0_part2_skel k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, Hk⟩
  subst hf0 hf1 hf2 hf3 hf4 hf5 hf6 hf7 hf8 hf9 hf10 hf11 hf12 hf13 hf14 hf15 hf16 hf17 hf18
  have h1 := fun h => hf ((cond1_iff i).mp h)
  have h2 := fun h => hl ((cond2_iff i).mp h)
  sl_exec (disch := first | sl_exact h1 | sl_exact h2)
  sl_step
  iapply Hk
  simp only [keep, more, toA, toB, keptA, keptB, toX, toG, if_neg hf, if_neg hl]
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr; swap; · iexact H12
    ipureintro
    sl_unfold_words
    rw [read_last _ _ _ z2]
    simp only [load_last (S := S1024x1024) _ _ z2, load_last (S := S1x1024) _ _ z2, load_last (S := S1024x256) _ _ z2, load_last (S := S256x1024) _ _ z2, load_whole (S := S1024x1024) _ _ z2, load_whole (S := S1x1024) _ _ z2, load_whole (S := S1024x256) _ _ z2, load_whole (S := S256x1024) _ _ z2]
  isplitl [H13]
  · iexists _; isplitr; swap; · iexact H13
    ipureintro
    sl_unfold_words
    rw [read_last _ _ _ z2]
    simp only [load_last (S := S1024x1024) _ _ z2, load_last (S := S1x1024) _ _ z2, load_last (S := S1024x256) _ _ z2, load_last (S := S256x1024) _ _ z2, load_whole (S := S1024x1024) _ _ z2, load_whole (S := S1x1024) _ _ z2, load_whole (S := S1024x256) _ _ z2, load_whole (S := S256x1024) _ _ z2]
  isplitl [H14]
  · iexists f14; isplitr; · ipureintro; rfl
    iexact H14
  isplitl [H15]
  · iexists f15; isplitr; · ipureintro; rfl
    iexact H15
  isplitl [H16]
  · iexists _; isplitr; swap; · iexact H16
    ipureintro
    sl_unfold_words
    rw [read_last _ _ _ z2]
    simp only [load_last (S := S1024x1024) _ _ z2, load_last (S := S1x1024) _ _ z2, load_last (S := S1024x256) _ _ z2, load_last (S := S256x1024) _ _ z2, load_whole (S := S1024x1024) _ _ z2, load_whole (S := S1x1024) _ _ z2, load_whole (S := S1024x256) _ _ z2, load_whole (S := S256x1024) _ _ z2]
  isplitl [H17]
  · iexists _; isplitr; swap; · iexact H17
    ipureintro
    sl_unfold_words
    rw [read_last _ _ _ z2]
    simp only [load_last (S := S1024x1024) _ _ z2, load_last (S := S1x1024) _ _ z2, load_last (S := S1024x256) _ _ z2, load_last (S := S256x1024) _ _ z2, load_whole (S := S1024x1024) _ _ z2, load_whole (S := S1x1024) _ _ z2, load_whole (S := S1024x256) _ _ z2, load_whole (S := S256x1024) _ _ z2]
  iexists _; isplitr; swap; · iexact H18
  ipureintro
  sl_unfold_words
  rw [read_last _ _ _ z2]
  simp only [load_last (S := S1024x1024) _ _ z2, load_last (S := S1x1024) _ _ z2, load_last (S := S1024x256) _ _ z2, load_last (S := S256x1024) _ _ z2, load_whole (S := S1024x1024) _ _ z2, load_whole (S := S1x1024) _ _ z2, load_whole (S := S1024x256) _ _ z2, load_whole (S := S256x1024) _ _ z2]

set_option maxHeartbeats 2000000 in
/-- The body at the last tile of the first row block. -/
theorem point_last0 (hf : ¬ (i 1).val = 0) (hl : (i 1).val = 10) (hr : (i 0).val = 0) (c : Dev nD) (x0 : Vec F S1024x1024 .f32) (x1 : Vec F S1024x1024 .f32) (x2 : Vec F S1x1024 .f32) (x3 : Vec F S1024x256 .bf16) (x4 : Vec F S1024x256 .bf16) (x5 : Vec F S256x1024 .bf16) (x6 : Vec F S256x1024 .bf16) (x7 : Vec F S256x1024 .bf16) (x8 : Vec F S256x1024 .bf16) (x9 : Vec F S256x1024 .bf16) (Y0 : Vec F S1024x1024 .f32) (Y1 : Vec F S1x1024 .f32) (Y2 : Vec F S1024x256 .bf16) (Y3 : Vec F S1024x256 .bf16) (Y4 : Vec F S1024x1024 .bf16) (X0 : Vec F S1024x1024 .bf16) (X1 : Vec F S1024x1024 .f32) (X2 : Vec F S1024x256 .bf16) (X3 : Vec F S1024x256 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare Y0 ∗ owns (c : Thread nD τ) arg13 fullShare Y1 ∗ owns (c : Thread nD τ) arg14 fullShare Y2 ∗ owns (c : Thread nD τ) arg15 fullShare Y3 ∗ owns (c : Thread nD τ) arg16 fullShare Y4 ∗ owns (c : Thread nD τ) arg17 fullShare X0 ∗ owns (c : Thread nD τ) arg18 fullShare X1 ∗ owns (c : Thread nD τ) arg19 fullShare X2 ∗ owns (c : Thread nD τ) arg20 fullShare X3
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (if (i 1).val = 10 then toX x0 x1 x2 (more i X1 X2 X3 x5 x6) (toA (keep i x0 X0) x9 x3 x4) (toB (keep i x0 X0) x9 x3) x7 x8 else Y0) ∗ owns (c : Thread nD τ) arg13 fullShare (if (i 1).val = 10 then toG i x1 (more i X1 X2 X3 x5 x6) (toA (keep i x0 X0) x9 x3 x4) (toB (keep i x0 X0) x9 x3) x7 x8 Y1 else Y1) ∗ owns (c : Thread nD τ) arg14 fullShare (toA (keep i x0 X0) x9 x3 x4) ∗ owns (c : Thread nD τ) arg15 fullShare (toB (keep i x0 X0) x9 x3) ∗ owns (c : Thread nD τ) arg16 fullShare (if (i 1).val = 0 then k0_pay14 x0 else Y4) ∗ owns (c : Thread nD τ) arg17 fullShare (keep i x0 X0) ∗ owns (c : Thread nD τ) arg18 fullShare (more i X1 X2 X3 x5 x6) ∗ owns (c : Thread nD τ) arg19 fullShare (keptA (keep i x0 X0) x9 x3 x4) ∗ owns (c : Thread nD τ) arg20 fullShare (keptB (keep i x0 X0) x9 x3)) -∗ K ⟨⟩))
      ⊢ wp frame (wpE (defs₀ (F := F)) Variants.none c none) Set.univ (cc0_ffn2_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_ffn2_bwd_eq_skeleton, k0_part1_eq_skeleton, k0_part2_eq_skeleton]; unfold cc0_ffn2_bwd_skel
  simp only [k0_part1_eq_skeleton, k0_part2_eq_skeleton]; unfold k0_part2_skel k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, Hk⟩
  subst hf0 hf1 hf2 hf3 hf4 hf5 hf6 hf7 hf8 hf9 hf10 hf11 hf12 hf13 hf14 hf15 hf16 hf17 hf18
  have h1 := fun h => hf ((cond1_iff i).mp h)
  have h2 := (cond2_iff i).mpr hl
  have h3 := (cond3_iff i).mpr hr
  have h4 := fun h => (cond4_iff i).mp h hr
  sl_exec (disch := first | sl_exact h1 | sl_exact h2 | sl_exact h3 | sl_exact h4)
  sl_step
  iapply Hk
  simp only [keep, more, toA, toB, keptA, keptB, toX, toG, if_neg hf, if_pos hl, if_pos hr]
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr; swap; · iexact H10
    ipureintro
    sl_unfold_words
    rw [read_last _ _ _ z2]
    simp only [load_last (S := S1024x1024) _ _ z2, load_last (S := S1x1024) _ _ z2, load_last (S := S1024x256) _ _ z2, load_last (S := S256x1024) _ _ z2, load_whole (S := S1024x1024) _ _ z2, load_whole (S := S1x1024) _ _ z2, load_whole (S := S1024x256) _ _ z2, load_whole (S := S256x1024) _ _ z2]
  isplitl [H11]
  · iexists _; isplitr; swap; · iexact H11
    ipureintro
    sl_unfold_words
    rw [read_last _ _ _ z2]
    simp only [load_last (S := S1024x1024) _ _ z2, load_last (S := S1x1024) _ _ z2, load_last (S := S1024x256) _ _ z2, load_last (S := S256x1024) _ _ z2, load_whole (S := S1024x1024) _ _ z2, load_whole (S := S1x1024) _ _ z2, load_whole (S := S1024x256) _ _ z2, load_whole (S := S256x1024) _ _ z2]
  isplitl [H12]
  · iexists _; isplitr; swap; · iexact H12
    ipureintro
    sl_unfold_words
    rw [read_last _ _ _ z2]
    simp only [load_last (S := S1024x1024) _ _ z2, load_last (S := S1x1024) _ _ z2, load_last (S := S1024x256) _ _ z2, load_last (S := S256x1024) _ _ z2, load_whole (S := S1024x1024) _ _ z2, load_whole (S := S1x1024) _ _ z2, load_whole (S := S1024x256) _ _ z2, load_whole (S := S256x1024) _ _ z2]
  isplitl [H13]
  · iexists _; isplitr; swap; · iexact H13
    ipureintro
    sl_unfold_words
    rw [read_last _ _ _ z2]
    simp only [load_last (S := S1024x1024) _ _ z2, load_last (S := S1x1024) _ _ z2, load_last (S := S1024x256) _ _ z2, load_last (S := S256x1024) _ _ z2, load_whole (S := S1024x1024) _ _ z2, load_whole (S := S1x1024) _ _ z2, load_whole (S := S1024x256) _ _ z2, load_whole (S := S256x1024) _ _ z2]
  isplitl [H14]
  · iexists f14; isplitr; · ipureintro; rfl
    iexact H14
  isplitl [H15]
  · iexists f15; isplitr; · ipureintro; rfl
    iexact H15
  isplitl [H16]
  · iexists _; isplitr; swap; · iexact H16
    ipureintro
    sl_unfold_words
    rw [read_last _ _ _ z2]
    simp only [load_last (S := S1024x1024) _ _ z2, load_last (S := S1x1024) _ _ z2, load_last (S := S1024x256) _ _ z2, load_last (S := S256x1024) _ _ z2, load_whole (S := S1024x1024) _ _ z2, load_whole (S := S1x1024) _ _ z2, load_whole (S := S1024x256) _ _ z2, load_whole (S := S256x1024) _ _ z2]
  isplitl [H17]
  · iexists _; isplitr; swap; · iexact H17
    ipureintro
    sl_unfold_words
    rw [read_last _ _ _ z2]
    simp only [load_last (S := S1024x1024) _ _ z2, load_last (S := S1x1024) _ _ z2, load_last (S := S1024x256) _ _ z2, load_last (S := S256x1024) _ _ z2, load_whole (S := S1024x1024) _ _ z2, load_whole (S := S1x1024) _ _ z2, load_whole (S := S1024x256) _ _ z2, load_whole (S := S256x1024) _ _ z2]
  iexists _; isplitr; swap; · iexact H18
  ipureintro
  sl_unfold_words
  rw [read_last _ _ _ z2]
  simp only [load_last (S := S1024x1024) _ _ z2, load_last (S := S1x1024) _ _ z2, load_last (S := S1024x256) _ _ z2, load_last (S := S256x1024) _ _ z2, load_whole (S := S1024x1024) _ _ z2, load_whole (S := S1x1024) _ _ z2, load_whole (S := S1024x256) _ _ z2, load_whole (S := S256x1024) _ _ z2]

set_option maxHeartbeats 2000000 in
/-- The body at the last tile of a later row block. -/
theorem point_last1 (hf : ¬ (i 1).val = 0) (hl : (i 1).val = 10) (hr : ¬ (i 0).val = 0) (c : Dev nD) (x0 : Vec F S1024x1024 .f32) (x1 : Vec F S1024x1024 .f32) (x2 : Vec F S1x1024 .f32) (x3 : Vec F S1024x256 .bf16) (x4 : Vec F S1024x256 .bf16) (x5 : Vec F S256x1024 .bf16) (x6 : Vec F S256x1024 .bf16) (x7 : Vec F S256x1024 .bf16) (x8 : Vec F S256x1024 .bf16) (x9 : Vec F S256x1024 .bf16) (Y0 : Vec F S1024x1024 .f32) (Y1 : Vec F S1x1024 .f32) (Y2 : Vec F S1024x256 .bf16) (Y3 : Vec F S1024x256 .bf16) (Y4 : Vec F S1024x1024 .bf16) (X0 : Vec F S1024x1024 .bf16) (X1 : Vec F S1024x1024 .f32) (X2 : Vec F S1024x256 .bf16) (X3 : Vec F S1024x256 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare Y0 ∗ owns (c : Thread nD τ) arg13 fullShare Y1 ∗ owns (c : Thread nD τ) arg14 fullShare Y2 ∗ owns (c : Thread nD τ) arg15 fullShare Y3 ∗ owns (c : Thread nD τ) arg16 fullShare Y4 ∗ owns (c : Thread nD τ) arg17 fullShare X0 ∗ owns (c : Thread nD τ) arg18 fullShare X1 ∗ owns (c : Thread nD τ) arg19 fullShare X2 ∗ owns (c : Thread nD τ) arg20 fullShare X3
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (if (i 1).val = 10 then toX x0 x1 x2 (more i X1 X2 X3 x5 x6) (toA (keep i x0 X0) x9 x3 x4) (toB (keep i x0 X0) x9 x3) x7 x8 else Y0) ∗ owns (c : Thread nD τ) arg13 fullShare (if (i 1).val = 10 then toG i x1 (more i X1 X2 X3 x5 x6) (toA (keep i x0 X0) x9 x3 x4) (toB (keep i x0 X0) x9 x3) x7 x8 Y1 else Y1) ∗ owns (c : Thread nD τ) arg14 fullShare (toA (keep i x0 X0) x9 x3 x4) ∗ owns (c : Thread nD τ) arg15 fullShare (toB (keep i x0 X0) x9 x3) ∗ owns (c : Thread nD τ) arg16 fullShare (if (i 1).val = 0 then k0_pay14 x0 else Y4) ∗ owns (c : Thread nD τ) arg17 fullShare (keep i x0 X0) ∗ owns (c : Thread nD τ) arg18 fullShare (more i X1 X2 X3 x5 x6) ∗ owns (c : Thread nD τ) arg19 fullShare (keptA (keep i x0 X0) x9 x3 x4) ∗ owns (c : Thread nD τ) arg20 fullShare (keptB (keep i x0 X0) x9 x3)) -∗ K ⟨⟩))
      ⊢ wp frame (wpE (defs₀ (F := F)) Variants.none c none) Set.univ (cc0_ffn2_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_ffn2_bwd_eq_skeleton, k0_part1_eq_skeleton, k0_part2_eq_skeleton]; unfold cc0_ffn2_bwd_skel
  simp only [k0_part1_eq_skeleton, k0_part2_eq_skeleton]; unfold k0_part2_skel k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, Hk⟩
  subst hf0 hf1 hf2 hf3 hf4 hf5 hf6 hf7 hf8 hf9 hf10 hf11 hf12 hf13 hf14 hf15 hf16 hf17 hf18
  have h1 := fun h => hf ((cond1_iff i).mp h)
  have h2 := (cond2_iff i).mpr hl
  have h3 := fun h => hr ((cond3_iff i).mp h)
  have h4 := (cond4_iff i).mpr hr
  sl_exec (disch := first | sl_exact h1 | sl_exact h2 | sl_exact h3 | sl_exact h4)
  sl_step
  iapply Hk
  simp only [keep, more, toA, toB, keptA, keptB, toX, toG, if_neg hf, if_pos hl, if_neg hr]
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr; swap; · iexact H10
    ipureintro
    sl_unfold_words
    rw [read_last _ _ _ z2]
    simp only [load_last (S := S1024x1024) _ _ z2, load_last (S := S1x1024) _ _ z2, load_last (S := S1024x256) _ _ z2, load_last (S := S256x1024) _ _ z2, load_whole (S := S1024x1024) _ _ z2, load_whole (S := S1x1024) _ _ z2, load_whole (S := S1024x256) _ _ z2, load_whole (S := S256x1024) _ _ z2]
  isplitl [H11]
  · iexists _; isplitr; swap; · iexact H11
    ipureintro
    sl_unfold_words
    rw [read_last _ _ _ z2]
    simp only [load_last (S := S1024x1024) _ _ z2, load_last (S := S1x1024) _ _ z2, load_last (S := S1024x256) _ _ z2, load_last (S := S256x1024) _ _ z2, load_whole (S := S1024x1024) _ _ z2, load_whole (S := S1x1024) _ _ z2, load_whole (S := S1024x256) _ _ z2, load_whole (S := S256x1024) _ _ z2]
  isplitl [H12]
  · iexists _; isplitr; swap; · iexact H12
    ipureintro
    sl_unfold_words
    rw [read_last _ _ _ z2]
    simp only [load_last (S := S1024x1024) _ _ z2, load_last (S := S1x1024) _ _ z2, load_last (S := S1024x256) _ _ z2, load_last (S := S256x1024) _ _ z2, load_whole (S := S1024x1024) _ _ z2, load_whole (S := S1x1024) _ _ z2, load_whole (S := S1024x256) _ _ z2, load_whole (S := S256x1024) _ _ z2]
  isplitl [H13]
  · iexists _; isplitr; swap; · iexact H13
    ipureintro
    sl_unfold_words
    rw [read_last _ _ _ z2]
    simp only [load_last (S := S1024x1024) _ _ z2, load_last (S := S1x1024) _ _ z2, load_last (S := S1024x256) _ _ z2, load_last (S := S256x1024) _ _ z2, load_whole (S := S1024x1024) _ _ z2, load_whole (S := S1x1024) _ _ z2, load_whole (S := S1024x256) _ _ z2, load_whole (S := S256x1024) _ _ z2]
  isplitl [H14]
  · iexists f14; isplitr; · ipureintro; rfl
    iexact H14
  isplitl [H15]
  · iexists f15; isplitr; · ipureintro; rfl
    iexact H15
  isplitl [H16]
  · iexists _; isplitr; swap; · iexact H16
    ipureintro
    sl_unfold_words
    rw [read_last _ _ _ z2]
    simp only [load_last (S := S1024x1024) _ _ z2, load_last (S := S1x1024) _ _ z2, load_last (S := S1024x256) _ _ z2, load_last (S := S256x1024) _ _ z2, load_whole (S := S1024x1024) _ _ z2, load_whole (S := S1x1024) _ _ z2, load_whole (S := S1024x256) _ _ z2, load_whole (S := S256x1024) _ _ z2]
  isplitl [H17]
  · iexists _; isplitr; swap; · iexact H17
    ipureintro
    sl_unfold_words
    rw [read_last _ _ _ z2]
    simp only [load_last (S := S1024x1024) _ _ z2, load_last (S := S1x1024) _ _ z2, load_last (S := S1024x256) _ _ z2, load_last (S := S256x1024) _ _ z2, load_whole (S := S1024x1024) _ _ z2, load_whole (S := S1x1024) _ _ z2, load_whole (S := S1024x256) _ _ z2, load_whole (S := S256x1024) _ _ z2]
  iexists _; isplitr; swap; · iexact H18
  ipureintro
  sl_unfold_words
  rw [read_last _ _ _ z2]
  simp only [load_last (S := S1024x1024) _ _ z2, load_last (S := S1x1024) _ _ z2, load_last (S := S1024x256) _ _ z2, load_last (S := S256x1024) _ _ z2, load_whole (S := S1024x1024) _ _ z2, load_whole (S := S1x1024) _ _ z2, load_whole (S := S1024x256) _ _ z2, load_whole (S := S256x1024) _ _ z2]

/-- The body at one point. -/
theorem point_sound (c : Dev nD) (x0 : Vec F S1024x1024 .f32) (x1 : Vec F S1024x1024 .f32) (x2 : Vec F S1x1024 .f32) (x3 : Vec F S1024x256 .bf16) (x4 : Vec F S1024x256 .bf16) (x5 : Vec F S256x1024 .bf16) (x6 : Vec F S256x1024 .bf16) (x7 : Vec F S256x1024 .bf16) (x8 : Vec F S256x1024 .bf16) (x9 : Vec F S256x1024 .bf16) (Y0 : Vec F S1024x1024 .f32) (Y1 : Vec F S1x1024 .f32) (Y2 : Vec F S1024x256 .bf16) (Y3 : Vec F S1024x256 .bf16) (Y4 : Vec F S1024x1024 .bf16) (X0 : Vec F S1024x1024 .bf16) (X1 : Vec F S1024x1024 .f32) (X2 : Vec F S1024x256 .bf16) (X3 : Vec F S1024x256 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare Y0 ∗ owns (c : Thread nD τ) arg13 fullShare Y1 ∗ owns (c : Thread nD τ) arg14 fullShare Y2 ∗ owns (c : Thread nD τ) arg15 fullShare Y3 ∗ owns (c : Thread nD τ) arg16 fullShare Y4 ∗ owns (c : Thread nD τ) arg17 fullShare X0 ∗ owns (c : Thread nD τ) arg18 fullShare X1 ∗ owns (c : Thread nD τ) arg19 fullShare X2 ∗ owns (c : Thread nD τ) arg20 fullShare X3
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (if (i 1).val = 10 then toX x0 x1 x2 (more i X1 X2 X3 x5 x6) (toA (keep i x0 X0) x9 x3 x4) (toB (keep i x0 X0) x9 x3) x7 x8 else Y0) ∗ owns (c : Thread nD τ) arg13 fullShare (if (i 1).val = 10 then toG i x1 (more i X1 X2 X3 x5 x6) (toA (keep i x0 X0) x9 x3 x4) (toB (keep i x0 X0) x9 x3) x7 x8 Y1 else Y1) ∗ owns (c : Thread nD τ) arg14 fullShare (toA (keep i x0 X0) x9 x3 x4) ∗ owns (c : Thread nD τ) arg15 fullShare (toB (keep i x0 X0) x9 x3) ∗ owns (c : Thread nD τ) arg16 fullShare (if (i 1).val = 0 then k0_pay14 x0 else Y4) ∗ owns (c : Thread nD τ) arg17 fullShare (keep i x0 X0) ∗ owns (c : Thread nD τ) arg18 fullShare (more i X1 X2 X3 x5 x6) ∗ owns (c : Thread nD τ) arg19 fullShare (keptA (keep i x0 X0) x9 x3 x4) ∗ owns (c : Thread nD τ) arg20 fullShare (keptB (keep i x0 X0) x9 x3)) -∗ K ⟨⟩))
      ⊢ wp frame (wpE (defs₀ (F := F)) Variants.none c none) Set.univ (cc0_ffn2_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  by_cases hf : (i 1).val = 0
  · exact point_first i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hf (by omega) c x0 x1 x2 x3 x4 x5 x6 x7 x8 x9 Y0 Y1 Y2 Y3 Y4 X0 X1 X2 X3 K
  by_cases hl : (i 1).val = 10
  · by_cases hr : (i 0).val = 0
    · exact point_last0 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hf hl hr c x0 x1 x2 x3 x4 x5 x6 x7 x8 x9 Y0 Y1 Y2 Y3 Y4 X0 X1 X2 X3 K
    · exact point_last1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hf hl hr c x0 x1 x2 x3 x4 x5 x6 x7 x8 x9 Y0 Y1 Y2 Y3 Y4 X0 X1 X2 X3 K
  · exact point_mid i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hf hl c x0 x1 x2 x3 x4 x5 x6 x7 x8 x9 Y0 Y1 Y2 Y3 Y4 X0 X1 X2 X3 K

end

variable (m : (ℓ : Loc nD τ sig) → Buf (Elt F) ℓ) (ρ : Dev nD → PrngReg)

/-- The column tile of point `t`: the grid's second axis runs fastest. -/
theorem coords_tile : ∀ t : Fin grid0.N, (grid0.coords t 1).val = t.val % 11 := by decide +kernel

/-- The row block of point `t`. -/
theorem coords_row : ∀ t : Fin grid0.N, (grid0.coords t 0).val = t.val / 11 := by decide +kernel

/-- The point of a number. -/
def pt (n : ℕ) : Fin cfg0.N := ⟨n % 44, Nat.lt_of_lt_of_eq (Nat.mod_lt _ (by decide)) N_0.symm⟩

theorem lt_44 (t : Fin cfg0.N) : t.val < 44 := Nat.lt_of_lt_of_eq t.isLt N_0

theorem pt_val (t : Fin cfg0.N) : pt t.val = t := Fin.ext (Nat.mod_eq_of_lt (lt_44 t))

/-- The first point of the row block of point `t`. -/
def start (t : Fin cfg0.N) : Fin cfg0.N := pt (11 * (t.val / 11))

/-- The scaled incoming gradient of the row block of point `t`, as the scratch keeps it and as it is returned. -/
def dob (c : Dev nD) (t : Fin cfg0.N) : Vec F S1024x1024 .bf16 := k0_pay15 (iblk m c 0 (start t))
def dobOut (c : Dev nD) (t : Fin cfg0.N) : Vec F S1024x1024 .bf16 := k0_pay14 (iblk m c 0 (start t))

/-- The tile's gradients of the gate and up products at point `t`, -/
def ga (c : Dev nD) (t : Fin cfg0.N) : Vec F S1024x256 .bf16 := toA (dob m c t) (iblk m c 9 t) (iblk m c 3 t) (iblk m c 4 t)
def gb (c : Dev nD) (t : Fin cfg0.N) : Vec F S1024x256 .bf16 := toB (dob m c t) (iblk m c 9 t) (iblk m c 3 t)

/-- and as the scratch keeps them. -/
def ka (c : Dev nD) (t : Fin cfg0.N) : Vec F S1024x256 .bf16 := keptA (dob m c t) (iblk m c 9 t) (iblk m c 3 t) (iblk m c 4 t)
def kb (c : Dev nD) (t : Fin cfg0.N) : Vec F S1024x256 .bf16 := keptB (dob m c t) (iblk m c 9 t) (iblk m c 3 t)

/-- The sum over the tiles before that of point number `n`, within its row block. -/
def sums (c : Dev nD) : ℕ → Vec F S1024x1024 .f32
  | 0 => more (grid0.coords (pt 0)) k0_pay16 k0_pay17 k0_pay18 (iblk m c 5 (pt 0)) (iblk m c 6 (pt 0))
  | n + 1 => more (grid0.coords (pt (n + 1))) (sums c n) (ka m c (pt n)) (kb m c (pt n)) (iblk m c 5 (pt (n + 1))) (iblk m c 6 (pt (n + 1)))

/-- The gradient of the gain after point number `n`: it changes at last tiles. -/
def gains (c : Dev nD) : ℕ → Vec F S1x1024 .f32
  | 0 => k0_pay10 (gb m c (pt 0)) (ga m c (pt 0)) (iblk m c 1 (pt 0)) (sums m c 0) (iblk m c 7 (pt 0)) (iblk m c 8 (pt 0))
  | n + 1 => if (grid0.coords (pt (n + 1)) 1).val = 10 then
      toG (grid0.coords (pt (n + 1))) (iblk m c 1 (pt (n + 1))) (sums m c (n + 1)) (ga m c (pt (n + 1))) (gb m c (pt (n + 1))) (iblk m c 7 (pt (n + 1))) (iblk m c 8 (pt (n + 1))) (gains c n)
    else gains c n

/-- The scratch before point number `n`: anything at the start of a row block, and else what the point before left. -/
def scratch (c : Dev nD) (n : ℕ) : sProp 𝕄 :=
  iprop((∃ X0 X1 X2 X3, ⌜n % 11 ≠ 0 → X0 = dob m c (pt (n - 1)) ∧ X1 = sums m c (n - 1) ∧ X2 = ka m c (pt (n - 1)) ∧ X3 = kb m c (pt (n - 1))⌝
    ∗ owns (c : Thread nD τ) (Memref.whole cc0_scratch0) fullShare X0 ∗ owns (c : Thread nD τ) (Memref.whole cc0_scratch1) fullShare X1
    ∗ owns (c : Thread nD τ) (Memref.whole cc0_scratch2) fullShare X2 ∗ owns (c : Thread nD τ) (Memref.whole cc0_scratch3) fullShare X3)
    ∗ ∃ r, prngReg c r)

/-- Each input's buffer holds its block, each result's what the point left, and the scratch what is carried. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => toX (iblk m c 0 t) (iblk m c 1 t) (iblk m c 2 t) (sums m c t.val) (ga m c t) (gb m c t) (iblk m c 7 t) (iblk m c 8 t)
    | ⟨11, _⟩ => gains m c t.val
    | ⟨12, _⟩ => ga m c t
    | ⟨13, _⟩ => gb m c t
    | ⟨14, _⟩ => dobOut m c t
  Φ t := scratch m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = toX (iblk m c 0 t) (iblk m c 1 t) (iblk m c 2 t) (sums m c t.val) (ga m c t) (gb m c t) (iblk m c 7 t) (iblk m c 8 t) := by dsimp only [dats]
theorem after0_11 (c : Dev nD) (t : Fin cfg0.N) : (dats m 0 c).after 11 t = gains m c t.val := by dsimp only [dats]
theorem after0_12 (c : Dev nD) (t : Fin cfg0.N) : (dats m 0 c).after 12 t = ga m c t := by dsimp only [dats]
theorem after0_13 (c : Dev nD) (t : Fin cfg0.N) : (dats m 0 c).after 13 t = gb m c t := by dsimp only [dats]
theorem after0_14 (c : Dev nD) (t : Fin cfg0.N) : (dats m 0 c).after 14 t = dobOut m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-- When the body stores each of the three results that it does not store everywhere. -/
theorem idle0_10 : ∀ t : Fin grid0.N, cfg0.idle 10 (grid0.coords t) = !decide (t.val % 11 = 10) := by decide +kernel
theorem idle0_11 : ∀ t : Fin grid0.N, cfg0.idle 11 (grid0.coords t) = !decide (t.val % 11 = 10) := by decide +kernel
theorem idle0_14 : ∀ t : Fin grid0.N, cfg0.idle 14 (grid0.coords t) = !decide (t.val % 11 = 0) := by decide +kernel

/-- The gradient of the gain is first stored at point ten, -/
theorem fresh0_11 (n : ℕ) (hn : n < 44) : cfg0.fresh 11 n = decide (n ≤ 10) := by
  have h := cfg0.fresh_tab 11 (fun n => decide (n ≤ 10 ∨ 44 ≤ n)) (by decide) (fun t => by
    have ht := lt_44 t
    rw [idle0_11 t]
    cases hf : (cfg0.win 11).flush t
    · have hf' : ¬ t.val % 44 = 43 := fun h => by rw [(flush0_11 t).mpr h] at hf; exact absurd hf (by decide)
      rw [Bool.false_or, ← decide_not, ← Bool.decide_and]
      exact decide_eq_decide.mpr ⟨fun h => by omega, fun h => by omega⟩
    · have hf' := (flush0_11 t).mp hf
      rw [Bool.true_or]
      exact decide_eq_true (by omega)) n (by rw [show cfg0.N = 44 from N_0]; omega)
  rw [h]
  exact decide_eq_decide.mpr ⟨fun h => by omega, fun h => by omega⟩

/-- and the scaled gradient at the first tile of each row block. -/
theorem fresh0_14 (n : ℕ) (hn : n ≤ 44) : cfg0.fresh 14 n = decide (n % 11 = 0) := by
  refine cfg0.fresh_tab 14 (fun n => decide (n % 11 = 0)) (by decide) (fun t => ?_) n (by rw [show cfg0.N = 44 from N_0]; omega)
  rw [idle0_14 t]
  cases hf : (cfg0.win 14).flush t
  · have hf' : ¬ t.val % 11 = 10 := fun h => by rw [(flush0_14 t).mpr h] at hf; exact absurd hf (by decide)
    rw [Bool.false_or, ← decide_not, ← Bool.decide_and]
    exact decide_eq_decide.mpr ⟨fun h => by omega, fun h => by omega⟩
  · have hf' := (flush0_14 t).mp hf
    rw [Bool.true_or]
    exact decide_eq_true (by omega)

theorem start_succ (n : ℕ) (h : (n + 1) % 11 ≠ 0) (hn : n + 1 < 44) : start (pt (n + 1)) = start (pt n) := by
  unfold start pt
  exact Fin.ext (by dsimp only; omega)

theorem start_self (t : Fin cfg0.N) (h : t.val % 11 = 0) : start t = t := by
  have := lt_44 t
  unfold start pt
  exact Fin.ext (by dsimp only; omega)

theorem gains_pos (c : Dev nD) (t : Fin cfg0.N) (h0 : t.val ≠ 0) : gains m c t.val = if t.val % 11 = 10 then
      toG (grid0.coords t) (iblk m c 1 t) (sums m c t.val) (ga m c t) (gb m c t) (iblk m c 7 t) (iblk m c 8 t) (gains m c (t.val - 1))
    else gains m c (t.val - 1) := by
  obtain ⟨n, hn⟩ := t
  cases n with
  | zero => exact absurd rfl h0
  | succ n =>
    dsimp only
    rw [gains, show pt (n + 1) = ⟨n + 1, hn⟩ from pt_val ⟨n + 1, hn⟩, coords_tile]
    rfl

/-- What the gain's buffer holds before a point after the first row block's last tile. -/
theorem before0_11 (c : Dev nD) (t : Fin cfg0.N) (h : 10 < t.val) (d) : (dats m 0 c).before 11 t d = gains m c (t.val - 1) := by
  have ht := lt_44 t
  rw [Dat.before_out_traj (dats m 0 c) 11 rfl (fun _ _ => rfl) (fun t h0 hi _ => by
    rw [after0_11, after0_11]
    dsimp only
    rw [gains_pos m c t h0, if_neg]
    intro h
    have := idle0_11 t
    rw [hi, decide_eq_true h] at this
    exact absurd this (by decide)) t.val t rfl d, fresh0_11 t.val ht, decide_eq_false (by omega), if_neg Bool.false_ne_true, after0_11]

/-- The scaled gradient's buffer holds it from the first tile on. -/
theorem before0_14 (c : Dev nD) (t : Fin cfg0.N) (h : t.val % 11 ≠ 0) (d) : (dats m 0 c).before 14 t d = dobOut m c t := by
  have ht := lt_44 t
  have key : ∀ t : Fin cfg0.N, t.val ≠ 0 → t.val % 11 ≠ 0 → dobOut m c t = dobOut m c ⟨t.val - 1, Nat.lt_of_le_of_lt (Nat.sub_le _ _) t.isLt⟩ := fun t h0 h => by
    have ht := lt_44 t
    unfold dobOut
    rw [show start t = start ⟨t.val - 1, Nat.lt_of_le_of_lt (Nat.sub_le _ _) t.isLt⟩ from by unfold start; exact congrArg pt (by dsimp only; omega)]
  rw [Dat.before_out_traj (dats m 0 c) 14 rfl (fun _ _ => rfl) (fun t h0 hi _ => by
    rw [after0_14, after0_14]
    refine key t h0 fun h => ?_
    have := idle0_14 t
    rw [hi, decide_eq_true h] at this
    exact absurd this (by decide)) t.val t rfl d, fresh0_14 t.val (by omega), decide_eq_false h, if_neg Bool.false_ne_true, after0_14]
  exact (key t (by omega) h).symm

/-- What a point finds in scratch determines what it leaves there. -/
theorem keep_dob (c : Dev nD) (t : Fin cfg0.N) (D : Vec F S1024x1024 .bf16) (h : t.val % 11 ≠ 0 → D = dob m c (pt (t.val - 1))) :
    keep (grid0.coords t) (iblk m c 0 t) D = dob m c t := by
  have ht := lt_44 t
  unfold keep
  rw [coords_tile t]
  by_cases h0 : t.val % 11 = 0
  · rw [if_pos h0, dob, start_self t h0]
  · rw [if_neg h0, h h0]
    unfold dob
    rw [show start (pt (t.val - 1)) = start t from by unfold start; exact congrArg pt (by unfold pt; dsimp only; omega)]

theorem more_sums (c : Dev nD) (t : Fin cfg0.N) (H : Vec F S1024x1024 .f32) (A B : Vec F S1024x256 .bf16)
    (h : t.val % 11 ≠ 0 → H = sums m c (t.val - 1) ∧ A = ka m c (pt (t.val - 1)) ∧ B = kb m c (pt (t.val - 1))) :
    more (grid0.coords t) H A B (iblk m c 5 t) (iblk m c 6 t) = sums m c t.val := by
  by_cases h0 : t.val % 11 = 0
  · have e : ∀ H' A' B', more (grid0.coords t) H A B (iblk m c 5 t) (iblk m c 6 t) = more (grid0.coords t) H' A' B' (iblk m c 5 t) (iblk m c 6 t) := fun H' A' B' => by
      unfold more
      rw [coords_tile t]
      simp only [if_pos h0]
    obtain ⟨n, hn⟩ := t
    cases n with
    | zero => rw [e k0_pay16 k0_pay17 k0_pay18, sums]; rfl
    | succ n =>
      rw [e (sums m c n) (ka m c (pt n)) (kb m c (pt n)), sums, show pt (n + 1) = ⟨n + 1, hn⟩ from pt_val ⟨n + 1, hn⟩]
  · obtain ⟨hH, hA, hB⟩ := h h0
    subst hH hA hB
    obtain ⟨n, hn⟩ := t
    cases n with
    | zero => exact absurd rfl h0
    | succ n =>
      rw [show sums m c (n + 1) = _ from sums.eq_2 m c n, show pt (n + 1) = ⟨n + 1, hn⟩ from pt_val ⟨n + 1, hn⟩]
      rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d)) ∗ (∃ d, owns (c : Thread nD τ) (st0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t ∗ (dats m 0 c).leavesExact 14 t)

/-- A result that is not stored at a point is left as it was found, and is written back only where it is stated. -/
theorem leaves10 (c : Dev nD) (t : Fin cfg0.N) (d : _) :
    owns (c : Thread nD τ) (st0_10 t) fullShare (if (grid0.coords t 1).val = 10 then (dats m 0 c).after 10 t else (dats m 0 c).before 10 t d)
      ⊢ (dats m 0 c).leavesExact 10 t := by
  unfold Dat.leavesExact
  rw [coords_tile t, show cfg0.idle 10 (cfg0.grid.coords t) = !decide (t.val % 11 = 10) from idle0_10 t]
  by_cases h : t.val % 11 = 10
  · rw [if_pos h, decide_eq_true h]
    exact .rfl
  · rw [if_neg h, decide_eq_false h]
    rw [show (cfg0.win 10).flush t = false from Bool.eq_false_iff.mpr fun hf => h ((flush0_10 t).mp hf)]
    show _ ⊢ iprop(∃ d', owns (c : Thread nD τ) (st0_10 t) fullShare ((dats m 0 c).before 10 t d'))
    iintro H
    iexists d
    iexact H

theorem leaves11 (c : Dev nD) (t : Fin cfg0.N) (d : _) :
    owns (c : Thread nD τ) (st0_11 t) fullShare (if (grid0.coords t 1).val = 10 then (dats m 0 c).after 11 t else (dats m 0 c).before 11 t d)
      ⊢ (dats m 0 c).leavesExact 11 t := by
  unfold Dat.leavesExact
  rw [coords_tile t, show cfg0.idle 11 (cfg0.grid.coords t) = !decide (t.val % 11 = 10) from idle0_11 t]
  by_cases h : t.val % 11 = 10
  · rw [if_pos h, decide_eq_true h]
    exact .rfl
  · rw [if_neg h, decide_eq_false h]
    rw [show (cfg0.win 11).flush t = false from Bool.eq_false_iff.mpr fun hf => by have := (flush0_11 t).mp hf; have := lt_44 t; omega]
    show _ ⊢ iprop(∃ d', owns (c : Thread nD τ) (st0_11 t) fullShare ((dats m 0 c).before 11 t d'))
    iintro H
    iexists d
    iexact H

theorem leaves14 (c : Dev nD) (t : Fin cfg0.N) (d : _) :
    owns (c : Thread nD τ) (st0_14 t) fullShare (if (grid0.coords t 1).val = 0 then (dats m 0 c).after 14 t else (dats m 0 c).before 14 t d)
      ⊢ (dats m 0 c).leavesExact 14 t := by
  unfold Dat.leavesExact
  rw [coords_tile t, show cfg0.idle 14 (cfg0.grid.coords t) = !decide (t.val % 11 = 0) from idle0_14 t]
  by_cases h : t.val % 11 = 0
  · rw [if_pos h, decide_eq_true h]
    exact .rfl
  · rw [if_neg h, decide_eq_false h]
    cases hf : (cfg0.win 14).flush t
    · show _ ⊢ iprop(∃ d', owns (c : Thread nD τ) (st0_14 t) fullShare ((dats m 0 c).before 14 t d'))
      iintro H
      iexists d
      iexact H
    · rw [before0_14 m c t h, after0_14]
      exact .rfl

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = scratch m c (t.val + 1) from rfl, show (dats m 0 c).Φ t.castSucc = scratch m c t.val from rfl,
    show (dats m 0 c).owesAt () t.succ = (dats m 0 c).owesAt () t.castSucc from rfl]
  rw [show (dats m 0 c).leavesExact 0 t = owns (c : Thread nD τ) (st0_0 t) fullShare ((dats m 0 c).after 0 t) from by
    unfold Dat.leavesExact; rw [show cfg0.idle 0 (cfg0.grid.coords t) = false from rfl], after0_0]
  rw [show (dats m 0 c).leavesExact 1 t = owns (c : Thread nD τ) (st0_1 t) fullShare ((dats m 0 c).after 1 t) from by
    unfold Dat.leavesExact; rw [show cfg0.idle 1 (cfg0.grid.coords t) = false from rfl], after0_1]
  rw [show (dats m 0 c).leavesExact 2 t = owns (c : Thread nD τ) (st0_2 t) fullShare ((dats m 0 c).after 2 t) from by
    unfold Dat.leavesExact; rw [show cfg0.idle 2 (cfg0.grid.coords t) = false from rfl], after0_2]
  rw [show (dats m 0 c).leavesExact 3 t = owns (c : Thread nD τ) (st0_3 t) fullShare ((dats m 0 c).after 3 t) from by
    unfold Dat.leavesExact; rw [show cfg0.idle 3 (cfg0.grid.coords t) = false from rfl], after0_3]
  rw [show (dats m 0 c).leavesExact 4 t = owns (c : Thread nD τ) (st0_4 t) fullShare ((dats m 0 c).after 4 t) from by
    unfold Dat.leavesExact; rw [show cfg0.idle 4 (cfg0.grid.coords t) = false from rfl], after0_4]
  rw [show (dats m 0 c).leavesExact 5 t = owns (c : Thread nD τ) (st0_5 t) fullShare ((dats m 0 c).after 5 t) from by
    unfold Dat.leavesExact; rw [show cfg0.idle 5 (cfg0.grid.coords t) = false from rfl], after0_5]
  rw [show (dats m 0 c).leavesExact 6 t = owns (c : Thread nD τ) (st0_6 t) fullShare ((dats m 0 c).after 6 t) from by
    unfold Dat.leavesExact; rw [show cfg0.idle 6 (cfg0.grid.coords t) = false from rfl], after0_6]
  rw [show (dats m 0 c).leavesExact 7 t = owns (c : Thread nD τ) (st0_7 t) fullShare ((dats m 0 c).after 7 t) from by
    unfold Dat.leavesExact; rw [show cfg0.idle 7 (cfg0.grid.coords t) = false from rfl], after0_7]
  rw [show (dats m 0 c).leavesExact 8 t = owns (c : Thread nD τ) (st0_8 t) fullShare ((dats m 0 c).after 8 t) from by
    unfold Dat.leavesExact; rw [show cfg0.idle 8 (cfg0.grid.coords t) = false from rfl], after0_8]
  rw [show (dats m 0 c).leavesExact 9 t = owns (c : Thread nD τ) (st0_9 t) fullShare ((dats m 0 c).after 9 t) from by
    unfold Dat.leavesExact; rw [show cfg0.idle 9 (cfg0.grid.coords t) = false from rfl], after0_9]
  rw [show (dats m 0 c).leavesExact 12 t = owns (c : Thread nD τ) (st0_12 t) fullShare ((dats m 0 c).after 12 t) from by
    unfold Dat.leavesExact; rw [show cfg0.idle 12 (cfg0.grid.coords t) = false from rfl], after0_12]
  rw [show (dats m 0 c).leavesExact 13 t = owns (c : Thread nD τ) (st0_13 t) fullShare ((dats m 0 c).after 13 t) from by
    unfold Dat.leavesExact; rw [show cfg0.idle 13 (cfg0.grid.coords t) = false from rfl], after0_13]
  unfold scratch
  iintro ⟨⟨⟨%X0, %X1, %X2, %X3, %hX, S0, S1, S2, S3⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  have e0 : keep (grid0.coords t) (iblk m c 0 t) X0 = dob m c t := keep_dob m c t X0 fun h => (hX h).1
  have e1 : more (grid0.coords t) X1 X2 X3 (iblk m c 5 t) (iblk m c 6 t) = sums m c t.val := more_sums m c t X1 X2 X3 fun h => (hX h).2
  have e14 : (if (grid0.coords t 1).val = 0 then k0_pay14 (iblk m c 0 t) else (dats m 0 c).before 14 t d14)
      = if (grid0.coords t 1).val = 0 then (dats m 0 c).after 14 t else (dats m 0 c).before 14 t d14 := by
    rw [coords_tile t]
    by_cases h : t.val % 11 = 0
    · rw [if_pos h, if_pos h, after0_14, dobOut, start_self t h]
    · rw [if_neg h, if_neg h]
  have e11 : (if (grid0.coords t 1).val = 10 then toG (grid0.coords t) (iblk m c 1 t) (sums m c t.val) (ga m c t) (gb m c t) (iblk m c 7 t) (iblk m c 8 t) ((dats m 0 c).before 11 t d11) else (dats m 0 c).before 11 t d11)
      = if (grid0.coords t 1).val = 10 then (dats m 0 c).after 11 t else (dats m 0 c).before 11 t d11 := by
    have ht := lt_44 t
    rw [coords_tile t]
    by_cases h : t.val % 11 = 10
    · rw [if_pos h, if_pos h, after0_11, gains_pos m c t (by omega), if_pos h]
      unfold toG
      rw [coords_row t]
      by_cases h0 : t.val / 11 = 0
      · rw [if_pos h0, if_pos h0]
      · rw [if_neg h0, if_neg h0, before0_11 m c t (by omega)]
    · rw [if_neg h, if_neg h]
  iapply (point_sound (grid0.coords t) _ _ _ _ _ _ _ _ _ _ _ _ _ _ _ _ _ _ _ _ _ _ _ _ _ _ _ _ _ _ _ _ _ _ _ _ _ _ c (iblk m c 0 t) (iblk m c 1 t) (iblk m c 2 t) (iblk m c 3 t) (iblk m c 4 t) (iblk m c 5 t) (iblk m c 6 t) (iblk m c 7 t) (iblk m c 8 t) (iblk m c 9 t)
    ((dats m 0 c).before 10 t d10) ((dats m 0 c).before 11 t d11) ((dats m 0 c).before 12 t d12) ((dats m 0 c).before 13 t d13) ((dats m 0 c).before 14 t d14) X0 X1 X2 X3 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [S0]; · iexact S0
  isplitl [S1]; · iexact S1
  isplitl [S2]; · iexact S2
  isplitl [S3]; · iexact S3
  rw [e0, e1, e14]
  rw [show toA (dob m c t) (iblk m c 9 t) (iblk m c 3 t) (iblk m c 4 t) = ga m c t from rfl, show toB (dob m c t) (iblk m c 9 t) (iblk m c 3 t) = gb m c t from rfl, e11]
  rw [show toX (iblk m c 0 t) (iblk m c 1 t) (iblk m c 2 t) (sums m c t.val) (ga m c t) (gb m c t) (iblk m c 7 t) (iblk m c 8 t) = (dats m 0 c).after 10 t from (after0_10 m c t).symm]
  iintro ⟨H0, H1, H2, H3, H4, H5, H6, H7, H8, H9, H10, H11, H12, H13, H14, S0, S1, S2, S3⟩
  isplitl [HR S0 S1 S2 S3]
  · isplitr [HR]
    · iexists _, _, _, _
      isplitr
      · ipureintro
        intro _
        rw [Nat.add_sub_cancel, pt_val]
        exact ⟨rfl, rfl, rfl, rfl⟩
      isplitl [S0]; · iexact S0
      isplitl [S1]; · iexact S1
      isplitl [S2]; · iexact S2
      iexact S3
    · iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iapply (leaves10 m c t d10); iexact H10
  isplitl [H11]; · iapply (leaves11 m c t d11); iexact H11
  isplitl [H12]; · iexact H12
  isplitl [H13]; · iexact H13
  iapply (leaves14 m c t d14); iexact H14

/-- The body table's row at point `t` is the body there. -/
theorem defs₀_row (t : Fin cfg0.N) :
    defs₀ (F := F) .tc cfg0.body (cfg0.bodyArgs t (cfg0.slots t)) = bodyAt0 t := by
  unfold defs₀; rw [Defs.onTc_tc]

/-- The pipeline's obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The scratch as the launch finds it, -/
theorem scratch_start (c : Dev nD) : Pipeline.ΦA spec0 c ⊢ (dats (F := F) m 0 c).Φ 0 := by
  rw [show (dats (F := F) m 0 c).Φ 0 = scratch m c 0 from rfl]
  unfold Pipeline.ΦA scratch
  rw [scopedRest0_eq]
  simp only [owns_whole]
  iintro ⟨⟨⟨%f0, S0⟩, ⟨%f1, S1⟩, ⟨%f2, S2⟩, ⟨%f3, S3⟩⟩, HR⟩
  isplitr [HR]
  · iexists f0, f1, f2, f3
    isplitr
    · ipureintro
      exact fun h => absurd rfl h
    isplitl [S0]; · iexact S0
    isplitl [S1]; · iexact S1
    isplitl [S2]; · iexact S2
    iexact S3
  · iexact HR

/-- and as it is given back. -/
theorem scratch_end (c : Dev nD) : (dats (F := F) m 0 c).Φ (Fin.last cfg0.N) ⊢ Pipeline.ΦA spec0 c := by
  rw [show (dats (F := F) m 0 c).Φ (Fin.last cfg0.N) = scratch m c cfg0.N from rfl]
  unfold Pipeline.ΦA scratch
  rw [scopedRest0_eq]
  simp only [owns_whole]
  iintro ⟨⟨%X0, %X1, %X2, %X3, -, S0, S1, S2, S3⟩, HR⟩
  isplitr [HR]
  · isplitl [S0]; · iexists _; iexact S0
    isplitl [S1]; · iexists _; iexact S1
    isplitl [S2]; · iexists _; iexact S2
    iexists _; iexact S3
  · iexact HR

set_option backward.isDefEq.respectTransparency.types false in
/-- Every execution ends with the results' arrays as the points left them, and every semaphore at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := scratch_start m) (hout := scratch_end m)

/-- The run without the semaphores. -/
theorem run_main : θ_run defs (onTc (τ := τ) (main (F := F))) (s₀ m ρ) (Pipeline.FramePost cfgs (dats m) 0 (V m)) :=
  (θ_run defs _ _).mono (fun _ h => h.1) (run_quiescent m ρ)

/-- The frame: the arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_quiescent m ρ))

end Cert.Proof.FfnBack

end
-- ==== Proof.Norm.FfnBack.lean ====
/-
  The second feed-forward block's backward pass: from the gradient of the block's output to those of the gate and up products, of the
  gain and of the residual stream. The kernel takes the products with the gate and up weights tile by tile; the sums over the tiles are
  the sums over the columns.
-/
module

public import proofs.«01_k».proof.Proof.FfnBack.Run
public import proofs.«01_k».proof.Proof.Gen.Reference2Ideal
public import proofs.«01_k».proof.Proof.Gen.Reference2Ideal.Run
public import proofs.«01_k».proof.Proof.Gen.Pre_finite2
public import proofs.«01_k».proof.Proof.Norm.ActBack
public import proofs.«01_k».proof.Proof.Norm.GateBack
public import proofs.«01_k».proof.Proof.Val.Pre
public import proofs.«01_k».proof.Defs
public import Idealize.ShloMosaic.Lib.Pipeline.ValueKit
public import Idealize.ShloMosaic.Lib.ReduceAll

@[expose] public section

set_option maxRecDepth 16384

noncomputable section

namespace Cert.Proof.FfnBack

section

open Cert.Reference2Ideal Cert.Reference2Ideal.Gen
open Idealize.ShloMosaic Idealize.ShloMosaic.TcCoe Idealize.ShloMosaic.Pointwise Finset
open Cert.Proof.Norm

/-- Half the incoming gradient. -/
def scaled (D : FVec Ideal S4096x1024 .f32) : FVec Ideal S4096x1024 .bf16 :=
  fun y => Ideal.ofBits FTy.f32 1056964608#32 * D (ix2 (y 0) (y 1))

variable (D : FVec Ideal S4096x1024 .f32) (X : FVec Ideal S4096x1024 .f32) (G : FVec Ideal S1x1024 .f32) (A B : FVec Ideal S4096x2816 .bf16)
  (U W : FVec Ideal S1024x2816 .f32) (V : FVec Ideal S2816x1024 .f32) (P Q : FVec Ideal S4096x2816 .f32)

/-- The gradient of the gate products as the reference forms it, where the factors beside the gate are reals. -/
theorem ref_gate (hr : ∀ i k, ∃ r : ℝ, ActBack.inc (scaled D) V i k * B (ix2 i k) = (r : EReal)) :
    (addf (mulf (mulf (Host.dotGeneral dot_S4096x1024_S2816x1024_S4096x2816_1_1_0_0_n_n none (mulf (broadcastInDim S4096x1024 ![] bcast_S_S4096x1024 (constant S_ .f32 0x3F000000#32)) D) V) (extf .f32 B bitsLt_bf16_f32)) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (extf .f32 A bitsLt_bf16_f32)))))) (mulf (mulf (extf .f32 A bitsLt_bf16_f32) (mulf (Host.dotGeneral dot_S4096x1024_S2816x1024_S4096x2816_1_1_0_0_n_n none (mulf (broadcastInDim S4096x1024 ![] bcast_S_S4096x1024 (constant S_ .f32 0x3F000000#32)) D) V) (extf .f32 B bitsLt_bf16_f32))) (mulf (Host.divf (broadcastInDim S4096x2816 ![] bcast_S_S4096x2816 (constant S_ .f32 0x3F800000#32)) (addf (broadcastInDim S4096x2816 ![] bcast_S_S4096x2816 (constant S_ .f32 0x3F800000#32)) (Host.exp (Host.negf (extf .f32 A bitsLt_bf16_f32))))) (subf (broadcastInDim S4096x2816 ![] bcast_S_S4096x2816 (constant S_ .f32 0x3F800000#32)) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (extf .f32 A bitsLt_bf16_f32)))))))))
    = (ActBack.gate (scaled D) A B V : FVec Ideal S4096x2816 .bf16) := by
  funext y
  obtain ⟨i, j, rfl⟩ : ∃ i j, y = ix2 i j := ⟨y 0, y 1, (ix2_eta y).symm⟩
  obtain ⟨r, hr⟩ := hr i j
  pointwise []
  exact rule_of_real (ActBack.inc (scaled D) V i j * B (ix2 i j)) (A (ix2 i j)) r hr

/-- The gradient of the up products as the reference forms it. -/
theorem ref_up :
    (mulf (mulf (extf .f32 A bitsLt_bf16_f32) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (extf .f32 A bitsLt_bf16_f32)))))) (Host.dotGeneral dot_S4096x1024_S2816x1024_S4096x2816_1_1_0_0_n_n none (mulf (broadcastInDim S4096x1024 ![] bcast_S_S4096x1024 (constant S_ .f32 0x3F000000#32)) D) V))
    = (ActBack.up (scaled D) A V : FVec Ideal S4096x2816 .bf16) := by
  funext y
  obtain ⟨i, j, rfl⟩ : ∃ i j, y = ix2 i j := ⟨y 0, y 1, (ix2_eta y).symm⟩
  pointwise []
  rw [sig_rule]
  exact mul_comm _ _

/-- Half the incoming gradient as the reference forms it. -/
theorem ref_scaled : truncf .bf16 (mulf (broadcastInDim S4096x1024 ![] bcast_S_S4096x1024 (constant S_ .f32 0x3F000000#32)) D) bitsLt_bf16_f32 = scaled D := by
  funext y
  obtain ⟨i, j, rfl⟩ : ∃ i j, y = ix2 i j := ⟨y 0, y 1, (ix2_eta y).symm⟩
  pointwise []
  rfl

/-- The gradient of the gain as the reference forms it, from the gradients `P` of the gate and `Q` of the up products. -/
theorem ref_gain : shapeCast S1x1024 (Host.reduceAdd (mulf (mulf X (broadcastInDim S4096x1024 ![0, 1] bcast_S4096x1_S4096x1024_0_1 (Host.rsqrt (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (addf (Host.dotGeneral dot_S4096x2816_S1024x2816_S4096x1024_1_1_0_0_n_n none Q W) (Host.dotGeneral dot_S4096x2816_S1024x2816_S4096x1024_1_1_0_0_n_n none P U))) (constant S_ .f32 0x00000000#32) reducesTo_S4096x1024_S1024_d0 h_S_) shapeCasts_S1024_S1x1024
    = GateBack.gain P Q U W X := by
  funext y
  obtain ⟨i, j, rfl⟩ : ∃ i j, y = ix2 i j := ⟨y 0, y 1, (ix2_eta y).symm⟩
  obtain rfl : i = 0 := Subsingleton.elim _ _
  pointwise []
  exact Finset.sum_congr rfl fun q _ => (mul_comm _ _).trans (congrArg (· * _) (add_comm _ _))

variable (m : (ℓ : Loc nD τ sig) → Buf (Elt Ideal) ℓ) (c : Dev nD)

/-- The gradient of the residual stream as the reference forms it. -/
theorem ref_rows (hr : ∀ i k, ∃ r : ℝ, ActBack.inc (scaled D) V i k * B (ix2 i k) = (r : EReal))
    (h0 : m ((c.tc : Thread nD τ).loc main_arg0) = D) (h1 : m ((c.tc : Thread nD τ).loc main_arg1) = X)
    (h2 : m ((c.tc : Thread nD τ).loc main_arg2) = G) (h3 : m ((c.tc : Thread nD τ).loc main_arg3) = A)
    (h4 : m ((c.tc : Thread nD τ).loc main_arg4) = B) (h5 : m ((c.tc : Thread nD τ).loc main_arg5) = U)
    (h6 : m ((c.tc : Thread nD τ).loc main_arg6) = W) (h7 : m ((c.tc : Thread nD τ).loc main_arg7) = V) :
    Value.res_main_v50 m c = GateBack.rows (ActBack.gate (scaled D) A B V) (ActBack.up (scaled D) A V) U W X G D := by
  unfold Value.res_main_v50
  rw [h0, h1, h2, h3, h4, h5, h6, h7, ref_gate D A B V hr, ref_up D A V]
  generalize ActBack.gate (scaled D) A B V = P
  generalize ActBack.up (scaled D) A V = Q
  funext y
  obtain ⟨i, j, rfl⟩ : ∃ i j, y = ix2 i j := ⟨y 0, y 1, (ix2_eta y).symm⟩
  pointwise []
  simp only [add_comm (∑ x : Fin 2816, Q _ * W _)]
  exact congrArg (D (ix2 i j) + ·) (rules_one (fun k => X (ix2 i k)) (fun k => GateBack.inc P Q U W i k * G (ix2 0 k)) j)

end

section

open Cert.Pre_finite2 Cert.Pre_finite2.Gen
open Idealize.ShloMosaic Finset

/-- The precondition read: every entry of the three arguments that it names is a real. -/
theorem real_of_pre (D X : FVec Ideal S4096x1024 .f32) (G : FVec Ideal S1x1024 .f32) (A B : FVec Ideal S4096x2816 .bf16)
    (U W : FVec Ideal S1024x2816 .f32) (V : FVec Ideal S2816x1024 .f32)
    (h : Cert.Pre_finite2.fn (F := Ideal) D X G A B U W V = fun _ => 1#1) :
    (∀ i, D i = (((D i).toReal : ℝ) : EReal)) ∧ (∀ i, B i = (((B i).toReal : ℝ) : EReal)) ∧ ∀ i, V i = (((V i).toReal : ℝ) : EReal) := by
  have h0 := congrFun h (fun a => a.elim0)
  dsimp only [Cert.Pre_finite2.fn] at h0
  obtain ⟨h12, h3⟩ := IntOp.andi_eq_one.mp h0
  obtain ⟨h1, h2⟩ := IntOp.andi_eq_one.mp h12
  haveI : Subsingleton S_.Idx := ⟨fun a b => funext fun i => i.elim0⟩
  refine ⟨fun i => ?_, fun i => ?_, fun i => ?_⟩
  · exact Cert.Proof.Val.real_of_lt _ (Host.reduce_andi_all _ _ _ _ _ h1 i)
  · exact Cert.Proof.Val.real_of_lt _ (Host.reduce_andi_all _ _ _ _ _ h2 i)
  · exact Cert.Proof.Val.real_of_lt _ (Host.reduce_andi_all _ _ _ _ _ h3 i)

end

open Cert.Kernel2Ideal Cert.Kernel2Ideal.Gen
open Idealize.ShloMosaic Idealize.ShloMosaic.TcCoe Idealize.ShloMosaic.Pointwise Idealize.SL.Sem Finset
open Idealize.ShloMosaic.Pipeline (Dat Cfg Window)
open Cert.Proof.Norm

/-- Half of a real is a real. -/
theorem scaled_real (D : FVec Ideal S4096x1024 .f32) (hD : ∀ i, D i = (((D i).toReal : ℝ) : EReal)) (i) :
    scaled D i = (((scaled D i).toReal : ℝ) : EReal) := by
  unfold scaled
  rw [ofBits_half, hD, ← EReal.coe_mul, EReal.toReal_coe]

section
variable (i : grid0.Coords) (D : FVec Ideal S1024x1024 .bf16) (wd wg wu wl wm : FVec Ideal S256x1024 .bf16) (a b P Q : FVec Ideal S1024x256 .bf16)
  (x0 x1 H : FVec Ideal S1024x1024 .f32) (g G : FVec Ideal S1x1024 .f32)

/-- An entry of the scaled gradient, kept and returned. -/
theorem scr_val (r : Fin 1024) (k : Fin 1024) : k0_pay15 (F := Ideal) x0 (ix2 r k) = Ideal.ofBits FTy.f32 1056964608#32 * x0 (ix2 r k) := by
  pointwise [k0_pay15, k0_pay14]
theorem half_val (r : Fin 1024) (k : Fin 1024) : k0_pay14 (F := Ideal) x0 (ix2 r k) = Ideal.ofBits FTy.f32 1056964608#32 * x0 (ix2 r k) := by
  pointwise [k0_pay14]

/-- An entry of a tile's gradient of the gate product, returned and kept, -/
theorem toA_val (r : Fin 1024) (l : Fin 256) : toA (F := Ideal) D wd a b (ix2 r l)
    = (∑ x : Fin 1024, D (ix2 r x) * wd (ix2 l x)) * b (ix2 r l) * slope (a (ix2 r l)) := by
  pointwise [toA, k0_pay3, k0_pay1, k0_pay20, k0_pay21, k0_pay22, k0_pay23, k0_pay24]
  unfold Norm.slope Norm.sig
  rfl
theorem keptA_val (r : Fin 1024) (l : Fin 256) : keptA (F := Ideal) D wd a b (ix2 r l) = toA (F := Ideal) D wd a b (ix2 r l) := by
  unfold keptA toA
  pointwise [k0_pay4]

/-- and of the up product. -/
theorem toB_val (r : Fin 1024) (l : Fin 256) : toB (F := Ideal) D wd a (ix2 r l)
    = (∑ x : Fin 1024, D (ix2 r x) * wd (ix2 l x)) * (a (ix2 r l) * sig (a (ix2 r l))) := by
  pointwise [toB, k0_pay2, k0_pay1, k0_pay20, k0_pay21, k0_pay23, k0_pay24]
  unfold Norm.sig
  rfl
theorem keptB_val (r : Fin 1024) (l : Fin 256) : keptB (F := Ideal) D wd a (ix2 r l) = toB (F := Ideal) D wd a (ix2 r l) := by
  unfold keptB toB
  pointwise [k0_pay5]

/-- An entry of the sum over tiles at the first tile, -/
theorem more_first (h : (i 1).val = 0) (r : Fin 1024) (k : Fin 1024) : more (F := Ideal) i H P Q wg wu (ix2 r k) = 0 := by
  unfold more
  simp only [if_pos h]
  pointwise [k0_pay19, k0_pay16, k0_pay17, k0_pay18]
  simp

/-- and at a later one. -/
theorem more_next (h : ¬ (i 1).val = 0) (r : Fin 1024) (k : Fin 1024) : more (F := Ideal) i H P Q wg wu (ix2 r k)
    = H (ix2 r k) + ((∑ x : Fin 256, P (ix2 r x) * wg (ix2 x k)) + ∑ x : Fin 256, Q (ix2 r x) * wu (ix2 x k)) := by
  unfold more
  simp only [if_neg h]
  pointwise [k0_pay19]

/-- An entry of the gradient of a row block's residual stream. -/
theorem toX_val (r : Fin 1024) (l : Fin 1024) : toX (F := Ideal) x0 x1 g H P Q wl wm (ix2 r l)
    = x0 (ix2 r l) + back (fun k => x1 (ix2 r k)) (fun k => (H (ix2 r k) + (∑ x : Fin 256, P (ix2 r x) * wl (ix2 x k)) + ∑ x : Fin 256, Q (ix2 r x) * wm (ix2 x k)) * g (ix2 0 k)) l := by
  pointwise [toX, k0_pay6, k0_pay7, k0_pay8, k0_pay12, k0_pay13, k0_pay9]
  rfl

/-- What a row block adds to the gradient of the gain. -/
theorem gain_val (l : Fin 1024) : k0_pay10 (F := Ideal) Q P x1 H wl wm (ix2 0 l)
    = ∑ r : Fin 1024, (H (ix2 r l) + (∑ x : Fin 256, P (ix2 r x) * wl (ix2 x l)) + ∑ x : Fin 256, Q (ix2 r x) * wm (ix2 x l)) * (x1 (ix2 r l) * rrms (fun k => x1 (ix2 r k))) := by
  pointwise [k0_pay10, k0_pay9, k0_pay8, k0_pay7]
  rfl
theorem gain_next (l : Fin 1024) : k0_pay11 (F := Ideal) Q P x1 H wl wm G (ix2 0 l) = G (ix2 0 l) + k0_pay10 (F := Ideal) Q P x1 H wl wm (ix2 0 l) := by
  pointwise [k0_pay11]

end

/-- The sum of the entries before column `n`. -/
def colsTo (f : Fin 2816 → EReal) (n : ℕ) : EReal := ∑ q ∈ range n, if h : q < 2816 then f ⟨q, h⟩ else 0

/-- A tile more of columns. -/
theorem colsTo_add (f : Fin 2816 → EReal) (n : ℕ) (h : n + 256 ≤ 2816) :
    colsTo f (n + 256) = colsTo f n + ∑ l : Fin 256, f ⟨n + l.val, by omega⟩ := by
  unfold colsTo
  rw [sum_range_add, ← Fin.sum_univ_eq_sum_range (fun x => if h : n + x < 2816 then f ⟨n + x, h⟩ else 0) 256]
  exact congrArg _ (sum_congr rfl fun l _ => dif_pos (by omega))

theorem colsTo_all (f : Fin 2816 → EReal) : colsTo f 2816 = ∑ q, f q := by
  unfold colsTo
  rw [← Fin.sum_univ_eq_sum_range (fun x => if h : x < 2816 then f ⟨x, h⟩ else 0) 2816]
  exact sum_congr rfl fun q _ => dif_pos q.isLt

variable (m : (ℓ : Loc nD τ sig) → Buf (Elt Ideal) ℓ) (ρ : Dev nD → PrngReg)

theorem index0 : ∀ t : Fin cfg0.N, win0_0.index t = ![t.val / 11, 0] := (by decide +kernel : ∀ t : Fin grid0.N, _)
theorem index1 : ∀ t : Fin cfg0.N, win0_1.index t = ![t.val / 11, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![t.val / 11, t.val % 11] := (by decide +kernel : ∀ t : Fin grid0.N, _)
theorem index4 : ∀ t : Fin cfg0.N, win0_4.index t = ![t.val / 11, t.val % 11] := (by decide +kernel : ∀ t : Fin grid0.N, _)
theorem index5 : ∀ t : Fin cfg0.N, win0_5.index t = ![t.val % 11 - 1, 0] := (by decide +kernel : ∀ t : Fin grid0.N, _)
theorem index6 : ∀ t : Fin cfg0.N, win0_6.index t = ![t.val % 11 - 1, 0] := (by decide +kernel : ∀ t : Fin grid0.N, _)
theorem index7 : ∀ t : Fin cfg0.N, win0_7.index t = ![10, 0] := (by decide +kernel : ∀ t : Fin grid0.N, _)
theorem index8 : ∀ t : Fin cfg0.N, win0_8.index t = ![10, 0] := (by decide +kernel : ∀ t : Fin grid0.N, _)
theorem index9 : ∀ t : Fin cfg0.N, win0_9.index t = ![t.val % 11, 0] := (by decide +kernel : ∀ t : Fin grid0.N, _)
theorem index10 : ∀ t : Fin cfg0.N, win0_10.index t = ![t.val / 11, 0] := (by decide +kernel : ∀ t : Fin grid0.N, _)
theorem index11 : ∀ t : Fin cfg0.N, win0_11.index t = ![0, 0] := (by decide +kernel : ∀ t : Fin grid0.N, _)
theorem index12 : ∀ t : Fin cfg0.N, win0_12.index t = ![t.val / 11, t.val % 11] := (by decide +kernel : ∀ t : Fin grid0.N, _)
theorem index13 : ∀ t : Fin cfg0.N, win0_13.index t = ![t.val / 11, t.val % 11] := (by decide +kernel : ∀ t : Fin grid0.N, _)
theorem index14 : ∀ t : Fin cfg0.N, win0_14.index t = ![t.val / 11, 0] := (by decide +kernel : ∀ t : Fin grid0.N, _)

/-- Row `r` of the row block of point `t`, column `l` of its tile, of the tile before it, and of the last tile. -/
def row (t : Fin cfg0.N) (r : Fin 1024) : Fin 4096 := ⟨1024 * (t.val / 11) + r.val, by have := lt_44 t; omega⟩
def col (t : Fin cfg0.N) (l : Fin 256) : Fin 2816 := ⟨256 * (t.val % 11) + l.val, by omega⟩
def colBefore (t : Fin cfg0.N) (l : Fin 256) : Fin 2816 := ⟨256 * (t.val % 11 - 1) + l.val, by omega⟩
def colLast (l : Fin 256) : Fin 2816 := ⟨2560 + l.val, by omega⟩

theorem emb0 (t : Fin cfg0.N) (r : Fin 1024) (k : Fin 1024) : (win0_0.blk t).view.emb (ix2 r k) = ix2 (row t r) k := by
  unfold row; blk_ext [index0]
theorem emb1 (t : Fin cfg0.N) (r : Fin 1024) (k : Fin 1024) : (win0_1.blk t).view.emb (ix2 r k) = ix2 (row t r) k := by
  unfold row; blk_ext [index1]
theorem emb2 (t : Fin cfg0.N) (l : Fin 1) (k : Fin 1024) : (win0_2.blk t).view.emb (ix2 l k) = ix2 l k := by
  blk_ext [index2]
theorem emb3 (t : Fin cfg0.N) (r : Fin 1024) (l : Fin 256) : (win0_3.blk t).view.emb (ix2 r l) = ix2 (row t r) (col t l) := by
  unfold row col; blk_ext [index3]
theorem emb4 (t : Fin cfg0.N) (r : Fin 1024) (l : Fin 256) : (win0_4.blk t).view.emb (ix2 r l) = ix2 (row t r) (col t l) := by
  unfold row col; blk_ext [index4]
theorem emb5 (t : Fin cfg0.N) (l : Fin 256) (k : Fin 1024) : (win0_5.blk t).view.emb (ix2 l k) = ix2 (colBefore t l) k := by
  unfold colBefore; blk_ext [index5]
theorem emb6 (t : Fin cfg0.N) (l : Fin 256) (k : Fin 1024) : (win0_6.blk t).view.emb (ix2 l k) = ix2 (colBefore t l) k := by
  unfold colBefore; blk_ext [index6]
theorem emb7 (t : Fin cfg0.N) (l : Fin 256) (k : Fin 1024) : (win0_7.blk t).view.emb (ix2 l k) = ix2 (colLast l) k := by
  unfold colLast; blk_ext [index7]
theorem emb8 (t : Fin cfg0.N) (l : Fin 256) (k : Fin 1024) : (win0_8.blk t).view.emb (ix2 l k) = ix2 (colLast l) k := by
  unfold colLast; blk_ext [index8]
theorem emb9 (t : Fin cfg0.N) (l : Fin 256) (k : Fin 1024) : (win0_9.blk t).view.emb (ix2 l k) = ix2 (col t l) k := by
  unfold col; blk_ext [index9]
theorem emb10 (t : Fin cfg0.N) (r : Fin 1024) (k : Fin 1024) : (win0_10.blk t).view.emb (ix2 r k) = ix2 (row t r) k := by
  unfold row; blk_ext [index10]
theorem emb11 (t : Fin cfg0.N) (l : Fin 1) (k : Fin 1024) : (win0_11.blk t).view.emb (ix2 l k) = ix2 l k := by
  blk_ext [index11]
theorem emb12 (t : Fin cfg0.N) (r : Fin 1024) (l : Fin 256) : (win0_12.blk t).view.emb (ix2 r l) = ix2 (row t r) (col t l) := by
  unfold row col; blk_ext [index12]
theorem emb13 (t : Fin cfg0.N) (r : Fin 1024) (l : Fin 256) : (win0_13.blk t).view.emb (ix2 r l) = ix2 (row t r) (col t l) := by
  unfold row col; blk_ext [index13]
theorem emb14 (t : Fin cfg0.N) (r : Fin 1024) (k : Fin 1024) : (win0_14.blk t).view.emb (ix2 r k) = ix2 (row t r) k := by
  unfold row; blk_ext [index14]

section
variable (c : Dev nD) (X : (b : Ref sig .tc) → Buf (Elt Ideal) ((c : Thread nD τ).loc b))
theorem read0 (t : Fin cfg0.N) (y) : ((cfg0.win 0).blk t).view.read (Elt Ideal) (X (Pipeline.arrRef spec0 0)) y
    = X main_arg0 ((win0_0.blk t).view.emb y) := rfl
theorem read1 (t : Fin cfg0.N) (y) : ((cfg0.win 1).blk t).view.read (Elt Ideal) (X (Pipeline.arrRef spec0 1)) y
    = X main_arg1 ((win0_1.blk t).view.emb y) := rfl
theorem read2 (t : Fin cfg0.N) (y) : ((cfg0.win 2).blk t).view.read (Elt Ideal) (X (Pipeline.arrRef spec0 2)) y
    = X main_arg2 ((win0_2.blk t).view.emb y) := rfl
theorem read3 (t : Fin cfg0.N) (y) : ((cfg0.win 3).blk t).view.read (Elt Ideal) (X (Pipeline.arrRef spec0 3)) y
    = X main_arg3 ((win0_3.blk t).view.emb y) := rfl
theorem read4 (t : Fin cfg0.N) (y) : ((cfg0.win 4).blk t).view.read (Elt Ideal) (X (Pipeline.arrRef spec0 4)) y
    = X main_arg4 ((win0_4.blk t).view.emb y) := rfl
theorem read5 (t : Fin cfg0.N) (y) : ((cfg0.win 5).blk t).view.read (Elt Ideal) (X (Pipeline.arrRef spec0 5)) y
    = X main_v1 ((win0_5.blk t).view.emb y) := rfl
theorem read6 (t : Fin cfg0.N) (y) : ((cfg0.win 6).blk t).view.read (Elt Ideal) (X (Pipeline.arrRef spec0 6)) y
    = X main_v3 ((win0_6.blk t).view.emb y) := rfl
theorem read7 (t : Fin cfg0.N) (y) : ((cfg0.win 7).blk t).view.read (Elt Ideal) (X (Pipeline.arrRef spec0 7)) y
    = X main_v1 ((win0_7.blk t).view.emb y) := rfl
theorem read8 (t : Fin cfg0.N) (y) : ((cfg0.win 8).blk t).view.read (Elt Ideal) (X (Pipeline.arrRef spec0 8)) y
    = X main_v3 ((win0_8.blk t).view.emb y) := rfl
theorem read9 (t : Fin cfg0.N) (y) : ((cfg0.win 9).blk t).view.read (Elt Ideal) (X (Pipeline.arrRef spec0 9)) y
    = X main_v4 ((win0_9.blk t).view.emb y) := rfl
end

/-- The gate and up weights as the launch finds them: transposed and rounded. -/
def flipped (B : FVec Ideal S1024x2816 .f32) : FVec Ideal S2816x1024 .bf16 :=
  truncf .bf16 (transpose S2816x1024 [1, 0] B transposes_S1024x2816_S2816x1024_1_0) bitsLt_bf16_f32

theorem V_gate (c : Dev nD) : V m c main_v1 = flipped (m ((c : Thread nD τ).loc main_arg5)) := by
  show StableHlo.after _ _ _ = _
  simp only [hostOps0]
  after_results_simp
  rfl

theorem V_up (c : Dev nD) : V m c main_v3 = flipped (m ((c : Thread nD τ).loc main_arg6)) := by
  show StableHlo.after _ _ _ = _
  simp only [hostOps0]
  after_results_simp
  rfl

theorem flipped_val (B : FVec Ideal S1024x2816 .f32) (l : Fin 2816) (k : Fin 1024) : flipped B (ix2 l k) = B (ix2 k l) := by
  pointwise [flipped]

/-- The down weights as the launch finds them: rounded, which changes nothing over the extended reals. -/
theorem V_rounded (c : Dev nD) (y : S2816x1024.Idx) : (V m c main_v4 : FVec Ideal S2816x1024 .bf16) y = m ((c.tc : Thread nD τ).loc main_arg7) y := by
  have h : V m c main_v4 = truncf (F := Ideal) .bf16 (m ((c.tc : Thread nD τ).loc main_arg7) : FVec Ideal S2816x1024 .f32) bitsLt_bf16_f32 := by
    show StableHlo.after _ _ _ = _
    simp only [hostOps0]
    after_results_simp
  rw [h]; rfl

/-! The arguments, and the gradients of the gate and up products, as arrays. -/
section
variable (c : Dev nD)
abbrev aD : FVec Ideal S4096x1024 .f32 := m ((c.tc : Thread nD τ).loc main_arg0)
abbrev aX : FVec Ideal S4096x1024 .f32 := m ((c.tc : Thread nD τ).loc main_arg1)
abbrev aG : FVec Ideal S1x1024 .f32 := m ((c.tc : Thread nD τ).loc main_arg2)
abbrev aA : FVec Ideal S4096x2816 .bf16 := m ((c.tc : Thread nD τ).loc main_arg3)
abbrev aB : FVec Ideal S4096x2816 .bf16 := m ((c.tc : Thread nD τ).loc main_arg4)
abbrev aU : FVec Ideal S1024x2816 .f32 := m ((c.tc : Thread nD τ).loc main_arg5)
abbrev aW : FVec Ideal S1024x2816 .f32 := m ((c.tc : Thread nD τ).loc main_arg6)
abbrev aV : FVec Ideal S2816x1024 .f32 := m ((c.tc : Thread nD τ).loc main_arg7)
def gP : FVec Ideal S4096x2816 .bf16 := ActBack.gate (scaled (aD m c)) (aA m c) (aB m c) (aV m c)
def gQ : FVec Ideal S4096x2816 .bf16 := ActBack.up (scaled (aD m c)) (aA m c) (aV m c)
end

section
variable (c : Dev nD) (t : Fin cfg0.N)

/-! The blocks that point `t` reads. -/
abbrev b0 : FVec Ideal S1024x1024 .f32 := iblk m c 0 t
abbrev b1 : FVec Ideal S1024x1024 .f32 := iblk m c 1 t
abbrev b2 : FVec Ideal S1x1024 .f32 := iblk m c 2 t
abbrev b3 : FVec Ideal S1024x256 .bf16 := iblk m c 3 t
abbrev b4 : FVec Ideal S1024x256 .bf16 := iblk m c 4 t
abbrev b5 : FVec Ideal S256x1024 .bf16 := iblk m c 5 t
abbrev b6 : FVec Ideal S256x1024 .bf16 := iblk m c 6 t
abbrev b7 : FVec Ideal S256x1024 .bf16 := iblk m c 7 t
abbrev b8 : FVec Ideal S256x1024 .bf16 := iblk m c 8 t
abbrev b9 : FVec Ideal S256x1024 .bf16 := iblk m c 9 t
theorem in0 (r : Fin 1024) (k : Fin 1024) : b0 m c t (ix2 r k) = aD m c (ix2 (row t r) k) :=
  ((read0 c (V m c) t _).trans (congrArg _ (emb0 t r k))).trans (congrFun (V_main_arg0 m c) _)
theorem in1 (r : Fin 1024) (k : Fin 1024) : b1 m c t (ix2 r k) = aX m c (ix2 (row t r) k) :=
  ((read1 c (V m c) t _).trans (congrArg _ (emb1 t r k))).trans (congrFun (V_main_arg1 m c) _)
theorem in2 (l : Fin 1) (k : Fin 1024) : b2 m c t (ix2 l k) = aG m c (ix2 l k) :=
  ((read2 c (V m c) t _).trans (congrArg _ (emb2 t l k))).trans (congrFun (V_main_arg2 m c) _)
theorem in3 (r : Fin 1024) (l : Fin 256) : b3 m c t (ix2 r l) = aA m c (ix2 (row t r) (col t l)) :=
  ((read3 c (V m c) t _).trans (congrArg _ (emb3 t r l))).trans (congrFun (V_main_arg3 m c) _)
theorem in4 (r : Fin 1024) (l : Fin 256) : b4 m c t (ix2 r l) = aB m c (ix2 (row t r) (col t l)) :=
  ((read4 c (V m c) t _).trans (congrArg _ (emb4 t r l))).trans (congrFun (V_main_arg4 m c) _)
theorem in5 (l : Fin 256) (k : Fin 1024) : b5 m c t (ix2 l k) = aU m c (ix2 k (colBefore t l)) :=
  ((read5 c (V m c) t _).trans (congrArg _ (emb5 t l k))).trans ((congrFun (V_gate m c) _).trans (flipped_val _ _ k))
theorem in6 (l : Fin 256) (k : Fin 1024) : b6 m c t (ix2 l k) = aW m c (ix2 k (colBefore t l)) :=
  ((read6 c (V m c) t _).trans (congrArg _ (emb6 t l k))).trans ((congrFun (V_up m c) _).trans (flipped_val _ _ k))
theorem in7 (l : Fin 256) (k : Fin 1024) : b7 m c t (ix2 l k) = aU m c (ix2 k (colLast l)) :=
  ((read7 c (V m c) t _).trans (congrArg _ (emb7 t l k))).trans ((congrFun (V_gate m c) _).trans (flipped_val _ _ k))
theorem in8 (l : Fin 256) (k : Fin 1024) : b8 m c t (ix2 l k) = aW m c (ix2 k (colLast l)) :=
  ((read8 c (V m c) t _).trans (congrArg _ (emb8 t l k))).trans ((congrFun (V_up m c) _).trans (flipped_val _ _ k))
theorem in9 (l : Fin 256) (k : Fin 1024) : b9 m c t (ix2 l k) = aV m c (ix2 (col t l) k) :=
  ((read9 c (V m c) t _).trans (congrArg _ (emb9 t l k))).trans (V_rounded m c _)

theorem row_start (r : Fin 1024) : row (start t) r = row t r := by
  have := lt_44 t
  unfold row start pt
  exact Fin.ext (by dsimp only; omega)

/-- The scaled gradient of the row block of point `t`, kept and returned. -/
theorem dob_val (r : Fin 1024) (k : Fin 1024) : dob m c t (ix2 r k) = scaled (aD m c) (ix2 (row t r) k) := by
  unfold dob
  refine (scr_val _ r k).trans ?_
  refine (congrArg (_ * ·) (in0 m c (start t) r k)).trans ?_
  rw [row_start]
  rfl
theorem dobOut_val (r : Fin 1024) (k : Fin 1024) : dobOut m c t (ix2 r k) = scaled (aD m c) (ix2 (row t r) k) := by
  unfold dobOut
  refine (half_val _ r k).trans ?_
  refine (congrArg (_ * ·) (in0 m c (start t) r k)).trans ?_
  rw [row_start]
  rfl

theorem block_inc (r : Fin 1024) (l : Fin 256) : (∑ x : Fin 1024, dob m c t (ix2 r x) * b9 m c t (ix2 l x))
    = ActBack.inc (scaled (aD m c)) (aV m c) (row t r) (col t l) := by
  unfold ActBack.inc
  exact Finset.sum_congr rfl fun x _ => congrArg₂ (· * ·) (dob_val m c t r x) (in9 m c t l x)

/-- The tile's gradients of the gate and up products, returned and kept. -/
theorem ga_val (r : Fin 1024) (l : Fin 256) : ga m c t (ix2 r l) = gP m c (ix2 (row t r) (col t l)) := by
  unfold ga gP
  refine (toA_val _ _ _ _ r l).trans ?_
  exact congrArg₂ (· * ·) (congrArg₂ (· * ·) (block_inc m c t r l) (in4 m c t r l)) (congrArg slope (in3 m c t r l))
theorem gb_val (r : Fin 1024) (l : Fin 256) : gb m c t (ix2 r l) = gQ m c (ix2 (row t r) (col t l)) := by
  unfold gb gQ
  refine (toB_val _ _ _ r l).trans ?_
  exact congrArg₂ (· * ·) (block_inc m c t r l) (congrArg (fun a => a * sig a) (in3 m c t r l))
theorem ka_val (r : Fin 1024) (l : Fin 256) : ka m c t (ix2 r l) = gP m c (ix2 (row t r) (col t l)) :=
  (keptA_val _ _ _ _ r l).trans (ga_val m c t r l)
theorem kb_val (r : Fin 1024) (l : Fin 256) : kb m c t (ix2 r l) = gQ m c (ix2 (row t r) (col t l)) :=
  (keptB_val _ _ _ r l).trans (gb_val m c t r l)

end

/-- What column `x` adds to the gradient that reaches the normed row `q` at entry `k`. -/
def addend (c : Dev nD) (q : Fin 4096) (k : Fin 1024) (x : Fin 2816) : EReal :=
  gP m c (ix2 q x) * aU m c (ix2 k x) + gQ m c (ix2 q x) * aW m c (ix2 k x)

theorem addend_sum (c : Dev nD) (q : Fin 4096) (k : Fin 1024) : ∑ x, addend m c q k x = GateBack.inc (gP m c) (gQ m c) (aU m c) (aW m c) q k := by
  unfold addend GateBack.inc
  exact sum_add_distrib

/-- The scratch's sum at point number `n` is over the columns of the tiles before. -/
theorem sums_val (c : Dev nD) (r : Fin 1024) (k : Fin 1024) : ∀ (n : ℕ) (hn : n < cfg0.N),
    sums m c n (ix2 r k) = colsTo (addend m c (row ⟨n, hn⟩ r) k) (256 * (n % 11))
  | 0, hn => by
    rw [sums]
    refine (more_first _ _ _ _ _ _ ?_ r k).trans ?_
    · exact (coords_tile _).trans (by decide)
    · rfl
  | n + 1, hn => by
    have h44 : n + 1 < 44 := lt_44 ⟨n + 1, hn⟩
    rw [sums, show pt (n + 1) = ⟨n + 1, hn⟩ from pt_val ⟨n + 1, hn⟩]
    by_cases h0 : (n + 1) % 11 = 0
    · refine (more_first _ _ _ _ _ _ ((coords_tile ⟨n + 1, hn⟩).trans h0) r k).trans ?_
      rw [h0]
      rfl
    · refine (more_next _ _ _ _ _ _ (fun h => h0 ((coords_tile ⟨n + 1, hn⟩).symm.trans h)) r k).trans ?_
      have hn' : n < cfg0.N := Nat.lt_of_succ_lt hn
      have ep : pt n = ⟨n, hn'⟩ := pt_val ⟨n, hn'⟩
      have er : row ⟨n, hn'⟩ r = row ⟨n + 1, hn⟩ r := Fin.ext (by unfold row; dsimp only; omega)
      rw [sums_val c r k n hn', ep, show 256 * ((n + 1) % 11) = 256 * (n % 11) + 256 by omega, colsTo_add _ _ (by omega), er]
      refine congrArg₂ (· + ·) rfl (Eq.trans ?_ sum_add_distrib.symm)
      have ec : ∀ l, colBefore ⟨n + 1, hn⟩ l = col ⟨n, hn'⟩ l := fun l => Fin.ext (by unfold colBefore col; dsimp only; omega)
      refine congrArg₂ (· + ·) (sum_congr rfl fun l _ => ?_) (sum_congr rfl fun l _ => ?_)
      · refine (congrArg₂ (· * ·) (ka_val m c ⟨n, hn'⟩ r l) (in5 m c ⟨n + 1, hn⟩ l k)).trans ?_
        rw [ec, er]
        rfl
      · refine (congrArg₂ (· * ·) (kb_val m c ⟨n, hn'⟩ r l) (in6 m c ⟨n + 1, hn⟩ l k)).trans ?_
        rw [ec, er]
        rfl

section
variable (c : Dev nD) (t : Fin cfg0.N)

/-- At the last tile, the sum and the last tile's products are the gradient that reaches the normed row. -/
theorem last_inc (h : t.val % 11 = 10) (r : Fin 1024) (k : Fin 1024) :
    sums m c t.val (ix2 r k) + (∑ x : Fin 256, ga m c t (ix2 r x) * b7 m c t (ix2 x k)) + ∑ x : Fin 256, gb m c t (ix2 r x) * b8 m c t (ix2 x k)
    = GateBack.inc (gP m c) (gQ m c) (aU m c) (aW m c) (row t r) k := by
  have ec : ∀ l, col t l = colLast l := fun l => Fin.ext (by unfold col colLast; dsimp only; omega)
  rw [← addend_sum, ← colsTo_all, show 2816 = 256 * (t.val % 11) + 256 by omega, colsTo_add _ _ (by omega), add_assoc]
  refine congrArg₂ (· + ·) (sums_val m c r k t.val t.isLt) (Eq.trans ?_ sum_add_distrib.symm)
  refine congrArg₂ (· + ·) (sum_congr rfl fun l _ => ?_) (sum_congr rfl fun l _ => ?_)
  · refine (congrArg₂ (· * ·) (ga_val m c t r l) (in7 m c t l k)).trans ?_
    rw [← ec]
    rfl
  · refine (congrArg₂ (· * ·) (gb_val m c t r l) (in8 m c t l k)).trans ?_
    rw [← ec]
    rfl

/-- An entry of the gradient of the residual stream at a row block's last tile. -/
theorem block_rows (h : t.val % 11 = 10) (r : Fin 1024) (l : Fin 1024) :
    toX (F := Ideal) (b0 m c t) (b1 m c t) (b2 m c t) (sums m c t.val) (ga m c t) (gb m c t) (b7 m c t) (b8 m c t) (ix2 r l)
    = GateBack.rows (gP m c) (gQ m c) (aU m c) (aW m c) (aX m c) (aG m c) (aD m c) (ix2 (row t r) l) := by
  refine (toX_val _ _ _ _ _ _ _ _ r l).trans ?_
  unfold GateBack.rows
  refine congrArg₂ (· + ·) (in0 m c t r l) ?_
  exact congrArg₂ (fun a b => back a b l) (funext fun k => in1 m c t r k)
    (funext fun k => congrArg₂ (· * ·) (last_inc m c t h r k) (in2 m c t 0 k))

/-- What the row block of point `t` adds to the gradient of the gain. -/
theorem block_gain (h : t.val % 11 = 10) (l : Fin 1024) :
    k0_pay10 (F := Ideal) (gb m c t) (ga m c t) (b1 m c t) (sums m c t.val) (b7 m c t) (b8 m c t) (ix2 0 l)
    = ∑ r : Fin 1024, GateBack.share (gP m c) (gQ m c) (aU m c) (aW m c) (aX m c) l (row t r) := by
  refine (gain_val _ _ _ _ _ _ l).trans (Finset.sum_congr rfl fun r _ => ?_)
  unfold GateBack.share
  exact congrArg₂ (· * ·) (last_inc m c t h r l)
    (congrArg₂ (· * ·) (in1 m c t r l) (congrArg rrms (funext fun k => in1 m c t r k)))

end

/-- The gradient of the gain after point number `n`: the sum over the rows of the finished row blocks. -/
theorem gains_val (c : Dev nD) (l : Fin 1024) : ∀ n : ℕ, n < cfg0.N → 10 ≤ n →
    gains m c n (ix2 0 l) = upTo (GateBack.share (gP m c) (gQ m c) (aU m c) (aW m c) (aX m c) l) (1024 * ((n + 1) / 11))
  | 0, _, h => absurd h (by decide)
  | n + 1, hn, h => by
    have h44 : n + 1 < 44 := lt_44 ⟨n + 1, hn⟩
    refine (congrFun (gains_pos m c ⟨n + 1, hn⟩ (by dsimp only; omega)) _).trans ?_
    dsimp only
    by_cases h10 : (n + 1) % 11 = 10
    · rw [if_pos h10, show 1024 * ((n + 1 + 1) / 11) = 1024 * ((n + 1) / 11) + 1024 by omega, upTo_add _ _ 1024 (by omega)]
      refine Eq.trans ?_ (congrArg _ (block_gain m c ⟨n + 1, hn⟩ h10 l))
      unfold toG
      rw [coords_row ⟨n + 1, hn⟩]
      dsimp only
      by_cases h0 : (n + 1) / 11 = 0
      · rw [if_pos h0, h0, Nat.mul_zero, upTo_zero, zero_add]
      · rw [if_neg h0]
        refine (gain_next _ _ _ _ _ _ _ l).trans (congrArg (· + _) ?_)
        exact gains_val c l n (Nat.lt_of_succ_lt hn) (by omega)
    · rw [if_neg h10, show (n + 1 + 1) / 11 = (n + 1) / 11 by omega]
      exact gains_val c l n (Nat.lt_of_succ_lt hn) (by omega)

theorem final10 (c : Dev nD) : (dats m 0 c).arrAt 10 cfg0.N = GateBack.rows (gP m c) (gQ m c) (aU m c) (aW m c) (aX m c) (aG m c) (aD m c) := by
  refine (dats m 0 c).arrAt_eq_of_covers 10 _ (by decide +kernel) fun t hf y => ?_
  obtain ⟨r, l, rfl⟩ : ∃ (r : Fin 1024) (l : Fin 1024), y = ix2 r l := ⟨y 0, y 1, (ix2_eta y).symm⟩
  blk_simp; rw [after0_10]
  exact (block_rows m c t ((flush0_10 t).mp hf) r l).trans (congrArg (GateBack.rows (gP m c) (gQ m c) (aU m c) (aW m c) (aX m c) (aG m c) (aD m c)) (emb10 t r l)).symm

theorem final11 (c : Dev nD) : (dats m 0 c).arrAt 11 cfg0.N = GateBack.gain (gP m c) (gQ m c) (aU m c) (aW m c) (aX m c) := by
  refine (dats m 0 c).arrAt_eq_of_covers 11 _ (by decide +kernel) fun t hf y => ?_
  obtain ⟨r, l, rfl⟩ : ∃ (r : Fin 1) (l : Fin 1024), y = ix2 r l := ⟨y 0, y 1, (ix2_eta y).symm⟩
  obtain rfl : r = 0 := Subsingleton.elim _ _
  blk_simp; rw [after0_11]
  have h44 := lt_44 t
  have h43 := (flush0_11 t).mp hf
  refine (gains_val m c l t.val t.isLt (by omega)).trans ?_
  rw [show 1024 * ((t.val + 1) / 11) = 4096 by omega]
  refine (upTo_all _).trans ?_
  exact (congrArg (GateBack.gain (gP m c) (gQ m c) (aU m c) (aW m c) (aX m c)) (emb11 t 0 l)).symm

theorem final12 (c : Dev nD) : (dats m 0 c).arrAt 12 cfg0.N = gP m c := by
  refine (dats m 0 c).arrAt_eq_of_covers 12 _ (by decide +kernel) fun t hf y => ?_
  obtain ⟨r, l, rfl⟩ : ∃ (r : Fin 1024) (l : Fin 256), y = ix2 r l := ⟨y 0, y 1, (ix2_eta y).symm⟩
  blk_simp; rw [after0_12]
  exact (ga_val m c t r l).trans (congrArg (gP m c) (emb12 t r l)).symm

theorem final13 (c : Dev nD) : (dats m 0 c).arrAt 13 cfg0.N = gQ m c := by
  refine (dats m 0 c).arrAt_eq_of_covers 13 _ (by decide +kernel) fun t hf y => ?_
  obtain ⟨r, l, rfl⟩ : ∃ (r : Fin 1024) (l : Fin 256), y = ix2 r l := ⟨y 0, y 1, (ix2_eta y).symm⟩
  blk_simp; rw [after0_13]
  exact (gb_val m c t r l).trans (congrArg (gQ m c) (emb13 t r l)).symm

theorem final14 (c : Dev nD) : (dats m 0 c).arrAt 14 cfg0.N = scaled (aD m c) := by
  refine (dats m 0 c).arrAt_eq_of_covers 14 _ (by decide +kernel) fun t hf y => ?_
  obtain ⟨r, l, rfl⟩ : ∃ (r : Fin 1024) (l : Fin 1024), y = ix2 r l := ⟨y 0, y 1, (ix2_eta y).symm⟩
  blk_simp; rw [after0_14]
  exact (dobOut_val m c t r l).trans (congrArg (scaled (aD m c)) (emb14 t r l)).symm

/-- Where the precondition holds the kernel's five results are the reference's. -/
theorem algebraic : Cert.algebraic_Kernel2Ideal_Reference2Ideal_pre_finite2 := by
  intro m g m' g' hpre hargs
  refine ⟨fun c => GateBack.rows (gP m c) (gQ m c) (aU m c) (aW m c) (aX m c) (aG m c) (aD m c), fun c => GateBack.gain (gP m c) (gQ m c) (aU m c) (aW m c) (aX m c), fun c => gP m c, fun c => gQ m c, fun c => scaled (aD m c), ?_, ?_⟩
  · exact (θ_run defs _ _).mono (fun r h c => ⟨((h.1 c).1 10).trans (final10 m c), ((h.1 c).1 11).trans (final11 m c), ((h.1 c).1 12).trans (final12 m c), ((h.1 c).1 13).trans (final13 m c), ((h.1 c).1 14).trans (final14 m c), h.2.1 c⟩)
      (θ_run_and (run_main m g) (frame m g))
  · refine (θ_run Cert.Reference2Ideal.defs _ _).mono (fun r h c => ?_) (Cert.Reference2Ideal.Value.run (F := Ideal) m' g')
    obtain ⟨a0, a1, a2, a3, a4, a5, a6, a7⟩ := hargs c
    obtain ⟨hD, hB, hV⟩ := real_of_pre _ _ _ _ _ _ _ _ (hpre c)
    have hr := ActBack.inc_real (scaled (aD m c)) (aA m c) (aB m c) (aV m c) (scaled_real _ hD) hB hV
    obtain ⟨q0, q1, q2, q3, q4, q5⟩ := h c
    rw [a0, a1, a3, a4, a5, a6, a7] at q1
    rw [a0, a3, a4, a7] at q2
    rw [a0, a3, a7] at q3
    rw [a0] at q4
    refine ⟨q0.trans (ref_rows _ _ _ _ _ _ _ _ m' c hr a0 a1 a2 a3 a4 a5 a6 a7), q1.trans ?_, q2.trans (ref_gate _ _ _ _ hr), q3.trans (ref_up _ _ _), q4.trans (ref_scaled _), q5⟩
    rw [ref_gate _ _ _ _ hr, ref_up]
    exact ref_gain _ _ _ _ _

end Cert.Proof.FfnBack

end
-- ==== Proof.Norm.Down.lean ====
/-
  The last step of the feed-forward block: the product added to the residual stream, and the norm of the sum.
-/
module

public import proofs.«01_k».proof.Proof.Gen.Kernel11Ideal
public import proofs.«01_k».proof.Proof.Gen.Kernel11Ideal.Frame
public import proofs.«01_k».proof.Proof.Gen.Reference11Ideal
public import proofs.«01_k».proof.Proof.Gen.Reference11Ideal.Run
public import proofs.«01_k».proof.Proof.Norm.Rows
public import proofs.«01_k».proof.Defs
public import Idealize.ShloMosaic.Lib.Pipeline.ValueKit

@[expose] public section

set_option maxRecDepth 16384

noncomputable section

namespace Cert.Proof.Down

section

open Cert.Reference11Ideal Cert.Reference11Ideal.Gen
open Idealize.ShloMosaic Idealize.ShloMosaic.TcCoe Idealize.ShloMosaic.Pointwise Finset
open Cert.Proof.Norm

/-- One entry of the residual stream after the block. -/
def entry (X : FVec Ideal S4096x1024 .f32) (S : FVec Ideal S4096x2816 .bf16) (W : FVec Ideal S2816x1024 .f32) (i : Fin 4096) (j : Fin 1024) : EReal :=
  X (ix2 i j) + Ideal.ofBits FTy.f32 1056964608#32 * ∑ k : Fin 2816, S (ix2 i k) * W (ix2 k j)

/-- The residual stream after the block. -/
def stream (X : FVec Ideal S4096x1024 .f32) (S : FVec Ideal S4096x2816 .bf16) (W : FVec Ideal S2816x1024 .f32) : FVec Ideal S4096x1024 .f32 :=
  fun y => entry X S W (y 0) (y 1)

/-- The residual stream after the block, each row divided by its root mean square, times the gain. -/
def normed (X : FVec Ideal S4096x1024 .f32) (S : FVec Ideal S4096x2816 .bf16) (W : FVec Ideal S2816x1024 .f32) (G : FVec Ideal S1x1024 .f32) : FVec Ideal S4096x1024 .bf16 :=
  fun y => entry X S W (y 0) (y 1) * rrms (entry X S W (y 0)) * G (ix2 0 (y 1))

variable (X : FVec Ideal S4096x1024 .f32) (S : FVec Ideal S4096x2816 .bf16) (W : FVec Ideal S2816x1024 .f32) (G : FVec Ideal S1x1024 .f32)

/-- The reference's first result is the residual stream after the block. -/
theorem ref_stream :
    addf X (mulf (broadcastInDim S4096x1024 ![] bcast_S_S4096x1024 (constant S_ .f32 0x3F000000#32)) (Host.dotGeneral dot_S4096x2816_S2816x1024_S4096x1024_1_0_0_1_n_n none (extf .f32 S bitsLt_bf16_f32) W))
    = stream X S W := by
  funext y
  obtain ⟨i, j, rfl⟩ : ∃ i j, y = ix2 i j := ⟨y 0, y 1, (ix2_eta y).symm⟩
  pointwise []
  rfl

/-- The reference's second result is its norm. -/
theorem ref_normed :
    truncf .bf16 (mulf (mulf (addf X (mulf (broadcastInDim S4096x1024 ![] bcast_S_S4096x1024 (constant S_ .f32 0x3F000000#32)) (Host.dotGeneral dot_S4096x2816_S2816x1024_S4096x1024_1_0_0_1_n_n none (extf .f32 S bitsLt_bf16_f32) W))) (broadcastInDim S4096x1024 ![0, 1] bcast_S4096x1_S4096x1024_0_1 (Host.rsqrt (addf (Host.divf (broadcastInDim S4096x1 ![0] bcast_S4096_S4096x1_0 (Host.reduceAdd (mulf (addf X (mulf (broadcastInDim S4096x1024 ![] bcast_S_S4096x1024 (constant S_ .f32 0x3F000000#32)) (Host.dotGeneral dot_S4096x2816_S2816x1024_S4096x1024_1_0_0_1_n_n none (extf .f32 S bitsLt_bf16_f32) W))) (addf X (mulf (broadcastInDim S4096x1024 ![] bcast_S_S4096x1024 (constant S_ .f32 0x3F000000#32)) (Host.dotGeneral dot_S4096x2816_S2816x1024_S4096x1024_1_0_0_1_n_n none (extf .f32 S bitsLt_bf16_f32) W)))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 G)) bitsLt_bf16_f32
    = normed X S W G := by
  funext y
  obtain ⟨i, j, rfl⟩ : ∃ i j, y = ix2 i j := ⟨y 0, y 1, (ix2_eta y).symm⟩
  pointwise []
  rfl

end

open Cert.Kernel11Ideal Cert.Kernel11Ideal.Gen
open Idealize.ShloMosaic Idealize.ShloMosaic.TcCoe Idealize.ShloMosaic.Pointwise Idealize.SL.Sem Finset
open Idealize.ShloMosaic.Pipeline (Dat Cfg Window)
open Cert.Proof.Norm

theorem z2 : (![0, 0] : Fin 2 → ℕ) = fun _ => 0 := by decide

section
variable (x0 : FVec Ideal S512x1024 .f32) (x1 : FVec Ideal S512x2816 .bf16) (x2 : FVec Ideal S2816x1024 .bf16) (x3 : FVec Ideal S1x1024 .f32)

/-- The rows of the residual stream that a point leaves. -/
theorem out_4 : out0_4 (F := Ideal) x0 x1 x2 x3 = k0_pay1 (F := Ideal) x0 x1 x2 := by
  unfold out0_4
  rw [View.canon_unit_zero z2]
  simp only [View.ld_unit_zero (S := S512x1024) z2, View.ld_unit_zero (S := S512x2816) z2, View.ld_unit_zero (S := S2816x1024) z2]

/-- The normed rows that a point leaves. -/
theorem out_5 : out0_5 (F := Ideal) x0 x1 x2 x3 = k0_pay2 (F := Ideal) x0 x1 x2 x3 := by
  unfold out0_5
  rw [View.canon_unit_zero z2]
  simp only [View.ld_unit_zero (S := S512x1024) z2, View.ld_unit_zero (S := S512x2816) z2, View.ld_unit_zero (S := S2816x1024) z2,
    View.ld_unit_zero (S := S1x1024) z2]

/-- An entry of the rows of the stream. -/
def blockEntry (r : Fin 512) (j : Fin 1024) : EReal :=
  x0 (ix2 r j) + Ideal.ofBits FTy.f32 1056964608#32 * ∑ k : Fin 2816, x1 (ix2 r k) * x2 (ix2 k j)

theorem stream_val (r : Fin 512) (j : Fin 1024) : k0_pay1 (F := Ideal) x0 x1 x2 (ix2 r j) = blockEntry x0 x1 x2 r j := by
  pointwise [k0_pay1]
  rfl

theorem normed_val (r : Fin 512) (j : Fin 1024) : k0_pay2 (F := Ideal) x0 x1 x2 x3 (ix2 r j)
    = blockEntry x0 x1 x2 r j * rrms (blockEntry x0 x1 x2 r) * x3 (ix2 0 j) := by
  pointwise [k0_pay2, k0_pay1]
  rfl

end

variable (m : (ℓ : Loc nD τ sig) → Buf (Elt Ideal) ℓ) (ρ : Dev nD → PrngReg)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)

theorem point_lt (t : Fin cfg0.N) : t.val < 8 := t.isLt

/-- Row `r` of the block of point `t`. -/
def row (t : Fin cfg0.N) (r : Fin 512) : Fin 4096 := ⟨512 * t.val + r.val, by have := point_lt t; omega⟩

theorem emb0 (t : Fin cfg0.N) (r : Fin 512) (k : Fin 1024) : (win0_0.blk t).view.emb (ix2 r k) = ix2 (row t r) k := by
  unfold row; blk_ext [index0]
theorem emb1 (t : Fin cfg0.N) (r : Fin 512) (k : Fin 2816) : (win0_1.blk t).view.emb (ix2 r k) = ix2 (row t r) k := by
  unfold row; blk_ext [index1]
theorem emb2 (t : Fin cfg0.N) (k : Fin 2816) (j : Fin 1024) : (win0_2.blk t).view.emb (ix2 k j) = ix2 k j := by
  blk_ext [index2]
theorem emb3 (t : Fin cfg0.N) (k : Fin 1) (j : Fin 1024) : (win0_3.blk t).view.emb (ix2 k j) = ix2 k j := by
  blk_ext [index3]
theorem emb4 (t : Fin cfg0.N) (r : Fin 512) (k : Fin 1024) : (win0_4.blk t).view.emb (ix2 r k) = ix2 (row t r) k := by
  unfold row; blk_ext [index4]
theorem emb5 (t : Fin cfg0.N) (r : Fin 512) (k : Fin 1024) : (win0_5.blk t).view.emb (ix2 r k) = ix2 (row t r) k := by
  unfold row; blk_ext [index5]

section
variable (c : Dev nD) (X : (b : Ref sig .tc) → Buf (Elt Ideal) ((c : Thread nD τ).loc b))
theorem read0 (t : Fin cfg0.N) (y) : ((cfg0.win 0).blk t).view.read (Elt Ideal) (X (Pipeline.arrRef spec0 0)) y
    = X main_arg0 ((win0_0.blk t).view.emb y) := rfl
theorem read1 (t : Fin cfg0.N) (y) : ((cfg0.win 1).blk t).view.read (Elt Ideal) (X (Pipeline.arrRef spec0 1)) y
    = X main_arg1 ((win0_1.blk t).view.emb y) := rfl
theorem read2 (t : Fin cfg0.N) (y) : ((cfg0.win 2).blk t).view.read (Elt Ideal) (X (Pipeline.arrRef spec0 2)) y
    = X main_v0 ((win0_2.blk t).view.emb y) := rfl
theorem read3 (t : Fin cfg0.N) (y) : ((cfg0.win 3).blk t).view.read (Elt Ideal) (X (Pipeline.arrRef spec0 3)) y
    = X main_arg3 ((win0_3.blk t).view.emb y) := rfl
end

/-- The weights as the launch finds them: rounded, which changes nothing over the extended reals. -/
theorem V_rounded (c : Dev nD) (y : S2816x1024.Idx) : (V m c main_v0 : FVec Ideal S2816x1024 .bf16) y = m ((c.tc : Thread nD τ).loc main_arg2) y := by
  have h : V m c main_v0 = truncf (F := Ideal) .bf16 (m ((c.tc : Thread nD τ).loc main_arg2) : FVec Ideal S2816x1024 .f32) bitsLt_bf16_f32 := by
    show StableHlo.after _ _ _ = _
    simp only [hostOps0]
    after_results_simp
  rw [h]; rfl

section
variable (c : Dev nD) (t : Fin cfg0.N)

/-! The blocks that point `t` reads. -/
abbrev b0 : FVec Ideal S512x1024 .f32 := iblk m c 0 t
abbrev b1 : FVec Ideal S512x2816 .bf16 := iblk m c 1 t
abbrev b2 : FVec Ideal S2816x1024 .bf16 := iblk m c 2 t
abbrev b3 : FVec Ideal S1x1024 .f32 := iblk m c 3 t

theorem in0 (r : Fin 512) (k : Fin 1024) : b0 m c t (ix2 r k) = m ((c.tc : Thread nD τ).loc main_arg0) (ix2 (row t r) k) :=
  ((read0 c (V m c) t _).trans (congrArg _ (emb0 t r k))).trans (congrFun (V_main_arg0 m c) _)
theorem in1 (r : Fin 512) (k : Fin 2816) : b1 m c t (ix2 r k) = m ((c.tc : Thread nD τ).loc main_arg1) (ix2 (row t r) k) :=
  ((read1 c (V m c) t _).trans (congrArg _ (emb1 t r k))).trans (congrFun (V_main_arg1 m c) _)
theorem in2 (k : Fin 2816) (j : Fin 1024) : b2 m c t (ix2 k j) = m ((c.tc : Thread nD τ).loc main_arg2) (ix2 k j) :=
  ((read2 c (V m c) t _).trans (congrArg _ (emb2 t k j))).trans (V_rounded m c _)
theorem in3 (k : Fin 1) (j : Fin 1024) : b3 m c t (ix2 k j) = m ((c.tc : Thread nD τ).loc main_arg3) (ix2 k j) :=
  ((read3 c (V m c) t _).trans (congrArg _ (emb3 t k j))).trans (congrFun (V_main_arg3 m c) _)

/-- A row of the block of point `t` is the row of the stream. -/
theorem block_row (r : Fin 512) : blockEntry (b0 m c t) (b1 m c t) (b2 m c t) r = entry (m ((c.tc : Thread nD τ).loc main_arg0)) (m ((c.tc : Thread nD τ).loc main_arg1)) (m ((c.tc : Thread nD τ).loc main_arg2)) (row t r) := by
  funext j
  unfold blockEntry entry
  exact congrArg₂ (· + ·) (in0 m c t r j) (congrArg _ (Finset.sum_congr rfl fun x _ => congrArg₂ (· * ·) (in1 m c t r x) (in2 m c t x j)))

end

theorem final4 (c : Dev nD) : (dats m 0 c).arrAt 4 cfg0.N = stream (m ((c.tc : Thread nD τ).loc main_arg0)) (m ((c.tc : Thread nD τ).loc main_arg1)) (m ((c.tc : Thread nD τ).loc main_arg2)) := by
  refine (dats m 0 c).arrAt_eq_of_covers 4 _ (by decide +kernel) fun t hf y => ?_
  obtain ⟨r, l, rfl⟩ : ∃ (r : Fin 512) (l : Fin 1024), y = ix2 r l := ⟨y 0, y 1, (ix2_eta y).symm⟩
  blk_simp; rw [after0_4, out_4]
  refine (stream_val _ _ _ r l).trans (Eq.trans ?_ (congrArg (stream (m ((c.tc : Thread nD τ).loc main_arg0)) (m ((c.tc : Thread nD τ).loc main_arg1)) (m ((c.tc : Thread nD τ).loc main_arg2))) (emb4 t r l)).symm)
  exact congrFun (block_row m c t r) l

theorem final5 (c : Dev nD) : (dats m 0 c).arrAt 5 cfg0.N = normed (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t hf y => ?_
  obtain ⟨r, l, rfl⟩ : ∃ (r : Fin 512) (l : Fin 1024), y = ix2 r l := ⟨y 0, y 1, (ix2_eta y).symm⟩
  blk_simp; rw [after0_5, out_5]
  refine (normed_val _ _ _ _ r l).trans (Eq.trans ?_ (congrArg (normed (m ((c.tc : Thread nD τ).loc main_arg0)) (m ((c.tc : Thread nD τ).loc main_arg1)) (m ((c.tc : Thread nD τ).loc main_arg2)) (m ((c.tc : Thread nD τ).loc main_arg3))) (emb5 t r l)).symm)
  exact congrArg₂ (· * ·) (congrArg (fun f : Fin 1024 → EReal => f l * rrms f) (block_row m c t r)) (in3 m c t 0 l)

/-- The kernel's two results are the reference's. -/
theorem algebraic : Cert.algebraic_Kernel11Ideal_Reference11Ideal := by
  intro m g m' g' _ hargs
  refine ⟨fun c => stream (m ((c.tc : Thread nD τ).loc main_arg0)) (m ((c.tc : Thread nD τ).loc main_arg1)) (m ((c.tc : Thread nD τ).loc main_arg2)), fun c => normed (m ((c.tc : Thread nD τ).loc main_arg0)) (m ((c.tc : Thread nD τ).loc main_arg1)) (m ((c.tc : Thread nD τ).loc main_arg2)) (m ((c.tc : Thread nD τ).loc main_arg3)), ?_, ?_⟩
  · exact (θ_run defs _ _).mono (fun r h c => ⟨((h.1 c).1 4).trans (final4 m c), ((h.1 c).1 5).trans (final5 m c), h.2.1 c⟩)
      (θ_run_and (run_main m g) (Cert.Kernel11Ideal.Gen.frame m g))
  · refine (θ_run Cert.Reference11Ideal.defs _ _).mono (fun r h c => ?_) (Cert.Reference11Ideal.Value.run (F := Ideal) m' g')
    obtain ⟨a0, a1, a2, a3⟩ := hargs c
    refine ⟨(h c).1.trans ((ref_stream _ _ _).trans ?_), (h c).2.1.trans ((ref_normed _ _ _ _).trans ?_), (h c).2.2⟩
    · rw [a0, a1, a2]
    · rw [a0, a1, a2, a3]

end Cert.Proof.Down

end
-- ==== Proof.Loss.Run.lean ====
/-
  The run of the second feed-forward block with the loss over the grid of four row blocks by eleven column tiles. A row block keeps its
  normed rows in their result's buffer, and in scratch the down product so far and the last tile's gated product, whose product with the
  weights is taken one tile later. Everything here holds at any interpretation of the floats.
-/

module

public import proofs.«01_k».proof.Proof.Gen.Kernel12Ideal
public import proofs.«01_k».proof.Proof.Gen.Kernel12Ideal.Frame
public import proofs.«01_k».proof.Proof.Gen.Kernel12Ideal.Skeleton
public import proofs.«01_k».proof.Proof.Norm.Whole
public import Idealize.ShloMosaic.Lib.Claim
public import Idealize.ShloMosaic.Lib.Pipeline.TableIdle

@[expose] public section

set_option maxRecDepth 16384

noncomputable section

namespace Cert.Proof.Loss

open Cert.Kernel12Ideal Cert.Kernel12Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Proof.Norm

variable {F : FTy → Type} [FloatOps F]

local notation "𝕄" => MT nD τ sig Unit (Elt F) ℕ (UR sig nD τ) ℕ

theorem z2 : (![0, 0] : Fin 2 → ℕ) = fun _ => 0 := by decide

/-- The body's conditions: the first tile, the last tile, the first row block, a later one. -/
theorem cond1_iff : ∀ i : grid0.Coords, k0_cond1 i = 1#1 ↔ (i 1).val = 0 := by decide +kernel
theorem cond2_iff : ∀ i : grid0.Coords, k0_cond2 i = 1#1 ↔ (i 1).val = 10 := by decide +kernel
theorem cond3_iff : ∀ i : grid0.Coords, k0_cond3 i = 1#1 ↔ (i 0).val = 0 := by decide +kernel
theorem cond4_iff : ∀ i : grid0.Coords, k0_cond4 i = 1#1 ↔ ¬ (i 0).val = 0 := by decide +kernel

/-- What a point leaves in the normed rows' buffer. -/
def keep (i : grid0.Coords) (x0 : Vec F S1024x1024 .f32) (g : Vec F S1x1024 .f32) (D : Vec F S1024x1024 .bf16) : Vec F S1024x1024 .bf16 :=
  if (i 1).val = 0 then k0_pay16 x0 g else D

/-- The down product over the tiles before a point's: zero at the first tile, and else one more tile's product. -/
def more (i : grid0.Coords) (H : Vec F S1024x1024 .f32) (A : Vec F S1024x256 .bf16) (wd : Vec F S256x1024 .bf16) : Vec F S1024x1024 .f32 :=
  k0_pay19 (if (i 1).val = 0 then k0_pay17 else H) (if (i 1).val = 0 then k0_pay18 else A) wd

/-- A tile's gated product, -/
def toS (D : Vec F S1024x1024 .bf16) (wg wu : Vec F S256x1024 .bf16) : Vec F S1024x256 .bf16 :=
  k0_pay1 (k0_pay21 D wg) (k0_pay22 D wu) (k0_pay25 D wg)

/-- and as the scratch keeps it. -/
def keptS (D : Vec F S1024x1024 .bf16) (wg wu : Vec F S256x1024 .bf16) : Vec F S1024x256 .bf16 :=
  k0_pay2 (k0_pay21 D wg) (k0_pay22 D wu) (k0_pay25 D wg)

/-- A row block's gradient of the residual stream, formed at its last tile. -/
def toX (S : Vec F S1024x256 .bf16) (x0 : Vec F S1024x1024 .f32) (H : Vec F S1024x1024 .f32) (wl : Vec F S256x1024 .bf16) (fg : Vec F S1x1024 .f32) (tg : Vec F S1024x1024 .f32) : Vec F S1024x1024 .f32 :=
  k0_pay3 (k0_pay9 S x0 H wl) (k0_pay10 S x0 H wl) (k0_pay14 S x0 H wl fg tg) (k0_pay15 S x0 H wl fg tg)

/-- The gradient of the last gain after a row block's last tile, -/
def toG (i : grid0.Coords) (S : Vec F S1024x256 .bf16) (x0 : Vec F S1024x1024 .f32) (H : Vec F S1024x1024 .f32) (wl : Vec F S256x1024 .bf16) (fg : Vec F S1x1024 .f32) (tg : Vec F S1024x1024 .f32) (G : Vec F S1x1024 .f32) : Vec F S1x1024 .f32 :=
  if (i 0).val = 0 then k0_pay4 (k0_pay10 S x0 H wl) (k0_pay13 S x0 H wl fg tg) else k0_pay6 (k0_pay10 S x0 H wl) (k0_pay13 S x0 H wl fg tg) G

/-- and the loss. -/
def toL (i : grid0.Coords) (S : Vec F S1024x256 .bf16) (x0 : Vec F S1024x1024 .f32) (H : Vec F S1024x1024 .f32) (wl : Vec F S256x1024 .bf16) (fg : Vec F S1x1024 .f32) (tg : Vec F S1024x1024 .f32) (L : Vec F S1x1024 .f32) : Vec F S1x1024 .f32 :=
  if (i 0).val = 0 then k0_pay5 (k0_pay12 S x0 H wl fg tg) else k0_pay7 (k0_pay12 S x0 H wl fg tg) L

section
variable (i : grid0.Coords)
    (arg2 : Memref sig .tc .vmem S1024x1024 .f32) (harg2 : arg2.IsWhole)
    (arg3 : Memref sig .tc .vmem S1x1024 .f32) (harg3 : arg3.IsWhole)
    (arg4 : Memref sig .tc .vmem S256x1024 .bf16) (harg4 : arg4.IsWhole)
    (arg5 : Memref sig .tc .vmem S256x1024 .bf16) (harg5 : arg5.IsWhole)
    (arg6 : Memref sig .tc .vmem S256x1024 .bf16) (harg6 : arg6.IsWhole)
    (arg7 : Memref sig .tc .vmem S256x1024 .bf16) (harg7 : arg7.IsWhole)
    (arg8 : Memref sig .tc .vmem S1x1024 .f32) (harg8 : arg8.IsWhole)
    (arg9 : Memref sig .tc .vmem S1024x1024 .f32) (harg9 : arg9.IsWhole)
    (arg10 : Memref sig .tc .vmem S1024x1024 .f32) (harg10 : arg10.IsWhole)
    (arg11 : Memref sig .tc .vmem S1024x256 .bf16) (harg11 : arg11.IsWhole)
    (arg12 : Memref sig .tc .vmem S1024x256 .bf16) (harg12 : arg12.IsWhole)
    (arg13 : Memref sig .tc .vmem S1024x1024 .bf16) (harg13 : arg13.IsWhole)
    (arg14 : Memref sig .tc .vmem S1024x256 .bf16) (harg14 : arg14.IsWhole)
    (arg15 : Memref sig .tc .vmem S1x1024 .f32) (harg15 : arg15.IsWhole)
    (arg16 : Memref sig .tc .vmem S1x1024 .f32) (harg16 : arg16.IsWhole)
    (arg17 : Memref sig .tc .vmem S1024x1024 .f32) (harg17 : arg17.IsWhole)
    (arg18 : Memref sig .tc .vmem S1024x256 .bf16) (harg18 : arg18.IsWhole)

set_option maxHeartbeats 2000000 in
/-- The body at a first tile. -/
theorem point_first (hf : (i 1).val = 0) (hl : ¬ (i 1).val = 10) (c : Dev nD) (x0 : Vec F S1024x1024 .f32) (x1 : Vec F S1x1024 .f32) (x2 : Vec F S256x1024 .bf16) (x3 : Vec F S256x1024 .bf16) (x4 : Vec F S256x1024 .bf16) (x5 : Vec F S256x1024 .bf16) (x6 : Vec F S1x1024 .f32) (x7 : Vec F S1024x1024 .f32) (Y0 : Vec F S1024x1024 .f32) (Y1 : Vec F S1024x256 .bf16) (Y2 : Vec F S1024x256 .bf16) (Y3 : Vec F S1024x1024 .bf16) (Y4 : Vec F S1024x256 .bf16) (Y5 : Vec F S1x1024 .f32) (Y6 : Vec F S1x1024 .f32) (X0 : Vec F S1024x1024 .f32) (X1 : Vec F S1024x256 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare Y0 ∗ owns (c : Thread nD τ) arg11 fullShare Y1 ∗ owns (c : Thread nD τ) arg12 fullShare Y2 ∗ owns (c : Thread nD τ) arg13 fullShare Y3 ∗ owns (c : Thread nD τ) arg14 fullShare Y4 ∗ owns (c : Thread nD τ) arg15 fullShare Y5 ∗ owns (c : Thread nD τ) arg16 fullShare Y6 ∗ owns (c : Thread nD τ) arg17 fullShare X0 ∗ owns (c : Thread nD τ) arg18 fullShare X1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (if (i 1).val = 10 then toX (toS (keep i x0 x1 Y3) x2 x3) x0 (more i X0 X1 x4) x5 x6 x7 else Y0) ∗ owns (c : Thread nD τ) arg11 fullShare (k0_pay23 (keep i x0 x1 Y3) x2) ∗ owns (c : Thread nD τ) arg12 fullShare (k0_pay24 (keep i x0 x1 Y3) x3) ∗ owns (c : Thread nD τ) arg13 fullShare (keep i x0 x1 Y3) ∗ owns (c : Thread nD τ) arg14 fullShare (toS (keep i x0 x1 Y3) x2 x3) ∗ owns (c : Thread nD τ) arg15 fullShare (if (i 1).val = 10 then toG i (toS (keep i x0 x1 Y3) x2 x3) x0 (more i X0 X1 x4) x5 x6 x7 Y5 else Y5) ∗ owns (c : Thread nD τ) arg16 fullShare (if (i 1).val = 10 then toL i (toS (keep i x0 x1 Y3) x2 x3) x0 (more i X0 X1 x4) x5 x6 x7 Y6 else Y6) ∗ owns (c : Thread nD τ) arg17 fullShare (more i X0 X1 x4) ∗ owns (c : Thread nD τ) arg18 fullShare (keptS (keep i x0 x1 Y3) x2 x3)) -∗ K ⟨⟩))
      ⊢ wp frame (wpE (defs₀ (F := F)) Variants.none c none) Set.univ (cc0_ffn2_fwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_ffn2_fwd_eq_skeleton, k0_part1_eq_skeleton, k0_part2_eq_skeleton]; unfold cc0_ffn2_fwd_skel
  simp only [k0_part1_eq_skeleton, k0_part2_eq_skeleton]; unfold k0_part2_skel k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  subst hf0 hf1 hf2 hf3 hf4 hf5 hf6 hf7 hf8 hf9 hf10 hf11 hf12 hf13 hf14 hf15 hf16
  have h1 := (cond1_iff i).mpr hf
  have h2 := fun h => hl ((cond2_iff i).mp h)
  sl_exec (disch := first | sl_exact h1 | sl_exact h2)
  sl_step
  iapply Hk
  simp only [keep, more, toS, keptS, toX, toG, toL, if_pos hf, if_neg hl]
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr; swap; · iexact H9
    ipureintro
    sl_unfold_words
    rw [read_last _ _ _ z2]
    simp only [load_last (S := S1024x1024) _ _ z2, load_last (S := S1x1024) _ _ z2, load_last (S := S1024x256) _ _ z2, load_last (S := S256x1024) _ _ z2, load_whole (S := S1024x1024) _ _ z2, load_whole (S := S1x1024) _ _ z2, load_whole (S := S1024x256) _ _ z2, load_whole (S := S256x1024) _ _ z2]
  isplitl [H10]
  · iexists _; isplitr; swap; · iexact H10
    ipureintro
    sl_unfold_words
    rw [read_last _ _ _ z2]
    simp only [load_last (S := S1024x1024) _ _ z2, load_last (S := S1x1024) _ _ z2, load_last (S := S1024x256) _ _ z2, load_last (S := S256x1024) _ _ z2, load_whole (S := S1024x1024) _ _ z2, load_whole (S := S1x1024) _ _ z2, load_whole (S := S1024x256) _ _ z2, load_whole (S := S256x1024) _ _ z2]
  isplitl [H11]
  · iexists _; isplitr; swap; · iexact H11
    ipureintro
    sl_unfold_words
    rw [read_last _ _ _ z2]
    simp only [load_last (S := S1024x1024) _ _ z2, load_last (S := S1x1024) _ _ z2, load_last (S := S1024x256) _ _ z2, load_last (S := S256x1024) _ _ z2, load_whole (S := S1024x1024) _ _ z2, load_whole (S := S1x1024) _ _ z2, load_whole (S := S1024x256) _ _ z2, load_whole (S := S256x1024) _ _ z2]
  isplitl [H12]
  · iexists _; isplitr; swap; · iexact H12
    ipureintro
    sl_unfold_words
    rw [read_last _ _ _ z2]
    simp only [load_last (S := S1024x1024) _ _ z2, load_last (S := S1x1024) _ _ z2, load_last (S := S1024x256) _ _ z2, load_last (S := S256x1024) _ _ z2, load_whole (S := S1024x1024) _ _ z2, load_whole (S := S1x1024) _ _ z2, load_whole (S := S1024x256) _ _ z2, load_whole (S := S256x1024) _ _ z2]
  isplitl [H13]
  · iexists f13; isplitr; · ipureintro; rfl
    iexact H13
  isplitl [H14]
  · iexists f14; isplitr; · ipureintro; rfl
    iexact H14
  isplitl [H15]
  · iexists _; isplitr; swap; · iexact H15
    ipureintro
    sl_unfold_words
    rw [read_last _ _ _ z2]
    simp only [load_last (S := S1024x1024) _ _ z2, load_last (S := S1x1024) _ _ z2, load_last (S := S1024x256) _ _ z2, load_last (S := S256x1024) _ _ z2, load_whole (S := S1024x1024) _ _ z2, load_whole (S := S1x1024) _ _ z2, load_whole (S := S1024x256) _ _ z2, load_whole (S := S256x1024) _ _ z2]
  iexists _; isplitr; swap; · iexact H16
  ipureintro
  sl_unfold_words
  rw [read_last _ _ _ z2]
  simp only [load_last (S := S1024x1024) _ _ z2, load_last (S := S1x1024) _ _ z2, load_last (S := S1024x256) _ _ z2, load_last (S := S256x1024) _ _ z2, load_whole (S := S1024x1024) _ _ z2, load_whole (S := S1x1024) _ _ z2, load_whole (S := S1024x256) _ _ z2, load_whole (S := S256x1024) _ _ z2]

set_option maxHeartbeats 2000000 in
/-- The body at a tile between. -/
theorem point_mid (hf : ¬ (i 1).val = 0) (hl : ¬ (i 1).val = 10) (c : Dev nD) (x0 : Vec F S1024x1024 .f32) (x1 : Vec F S1x1024 .f32) (x2 : Vec F S256x1024 .bf16) (x3 : Vec F S256x1024 .bf16) (x4 : Vec F S256x1024 .bf16) (x5 : Vec F S256x1024 .bf16) (x6 : Vec F S1x1024 .f32) (x7 : Vec F S1024x1024 .f32) (Y0 : Vec F S1024x1024 .f32) (Y1 : Vec F S1024x256 .bf16) (Y2 : Vec F S1024x256 .bf16) (Y3 : Vec F S1024x1024 .bf16) (Y4 : Vec F S1024x256 .bf16) (Y5 : Vec F S1x1024 .f32) (Y6 : Vec F S1x1024 .f32) (X0 : Vec F S1024x1024 .f32) (X1 : Vec F S1024x256 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare Y0 ∗ owns (c : Thread nD τ) arg11 fullShare Y1 ∗ owns (c : Thread nD τ) arg12 fullShare Y2 ∗ owns (c : Thread nD τ) arg13 fullShare Y3 ∗ owns (c : Thread nD τ) arg14 fullShare Y4 ∗ owns (c : Thread nD τ) arg15 fullShare Y5 ∗ owns (c : Thread nD τ) arg16 fullShare Y6 ∗ owns (c : Thread nD τ) arg17 fullShare X0 ∗ owns (c : Thread nD τ) arg18 fullShare X1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (if (i 1).val = 10 then toX (toS (keep i x0 x1 Y3) x2 x3) x0 (more i X0 X1 x4) x5 x6 x7 else Y0) ∗ owns (c : Thread nD τ) arg11 fullShare (k0_pay23 (keep i x0 x1 Y3) x2) ∗ owns (c : Thread nD τ) arg12 fullShare (k0_pay24 (keep i x0 x1 Y3) x3) ∗ owns (c : Thread nD τ) arg13 fullShare (keep i x0 x1 Y3) ∗ owns (c : Thread nD τ) arg14 fullShare (toS (keep i x0 x1 Y3) x2 x3) ∗ owns (c : Thread nD τ) arg15 fullShare (if (i 1).val = 10 then toG i (toS (keep i x0 x1 Y3) x2 x3) x0 (more i X0 X1 x4) x5 x6 x7 Y5 else Y5) ∗ owns (c : Thread nD τ) arg16 fullShare (if (i 1).val = 10 then toL i (toS (keep i x0 x1 Y3) x2 x3) x0 (more i X0 X1 x4) x5 x6 x7 Y6 else Y6) ∗ owns (c : Thread nD τ) arg17 fullShare (more i X0 X1 x4) ∗ owns (c : Thread nD τ) arg18 fullShare (keptS (keep i x0 x1 Y3) x2 x3)) -∗ K ⟨⟩))
      ⊢ wp frame (wpE (defs₀ (F := F)) Variants.none c none) Set.univ (cc0_ffn2_fwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_ffn2_fwd_eq_skeleton, k0_part1_eq_skeleton, k0_part2_eq_skeleton]; unfold cc0_ffn2_fwd_skel
  simp only [k0_part1_eq_skeleton, k0_part2_eq_skeleton]; unfold k0_part2_skel k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  subst hf0 hf1 hf2 hf3 hf4 hf5 hf6 hf7 hf8 hf9 hf10 hf11 hf12 hf13 hf14 hf15 hf16
  have h1 := fun h => hf ((cond1_iff i).mp h)
  have h2 := fun h => hl ((cond2_iff i).mp h)
  sl_exec (disch := first | sl_exact h1 | sl_exact h2)
  sl_step
  iapply Hk
  simp only [keep, more, toS, keptS, toX, toG, toL, if_neg hf, if_neg hl]
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr; swap; · iexact H9
    ipureintro
    sl_unfold_words
    rw [read_last _ _ _ z2]
    simp only [load_last (S := S1024x1024) _ _ z2, load_last (S := S1x1024) _ _ z2, load_last (S := S1024x256) _ _ z2, load_last (S := S256x1024) _ _ z2, load_whole (S := S1024x1024) _ _ z2, load_whole (S := S1x1024) _ _ z2, load_whole (S := S1024x256) _ _ z2, load_whole (S := S256x1024) _ _ z2]
  isplitl [H10]
  · iexists _; isplitr; swap; · iexact H10
    ipureintro
    sl_unfold_words
    rw [read_last _ _ _ z2]
    simp only [load_last (S := S1024x1024) _ _ z2, load_last (S := S1x1024) _ _ z2, load_last (S := S1024x256) _ _ z2, load_last (S := S256x1024) _ _ z2, load_whole (S := S1024x1024) _ _ z2, load_whole (S := S1x1024) _ _ z2, load_whole (S := S1024x256) _ _ z2, load_whole (S := S256x1024) _ _ z2]
  isplitl [H11]
  · iexists f11; isplitr; · ipureintro; rfl
    iexact H11
  isplitl [H12]
  · iexists _; isplitr; swap; · iexact H12
    ipureintro
    sl_unfold_words
    rw [read_last _ _ _ z2]
    simp only [load_last (S := S1024x1024) _ _ z2, load_last (S := S1x1024) _ _ z2, load_last (S := S1024x256) _ _ z2, load_last (S := S256x1024) _ _ z2, load_whole (S := S1024x1024) _ _ z2, load_whole (S := S1x1024) _ _ z2, load_whole (S := S1024x256) _ _ z2, load_whole (S := S256x1024) _ _ z2]
  isplitl [H13]
  · iexists f13; isplitr; · ipureintro; rfl
    iexact H13
  isplitl [H14]
  · iexists f14; isplitr; · ipureintro; rfl
    iexact H14
  isplitl [H15]
  · iexists _; isplitr; swap; · iexact H15
    ipureintro
    sl_unfold_words
    rw [read_last _ _ _ z2]
    simp only [load_last (S := S1024x1024) _ _ z2, load_last (S := S1x1024) _ _ z2, load_last (S := S1024x256) _ _ z2, load_last (S := S256x1024) _ _ z2, load_whole (S := S1024x1024) _ _ z2, load_whole (S := S1x1024) _ _ z2, load_whole (S := S1024x256) _ _ z2, load_whole (S := S256x1024) _ _ z2]
  iexists _; isplitr; swap; · iexact H16
  ipureintro
  sl_unfold_words
  rw [read_last _ _ _ z2]
  simp only [load_last (S := S1024x1024) _ _ z2, load_last (S := S1x1024) _ _ z2, load_last (S := S1024x256) _ _ z2, load_last (S := S256x1024) _ _ z2, load_whole (S := S1024x1024) _ _ z2, load_whole (S := S1x1024) _ _ z2, load_whole (S := S1024x256) _ _ z2, load_whole (S := S256x1024) _ _ z2]

set_option maxHeartbeats 2000000 in
/-- The body at the last tile of the first row block. -/
theorem point_last0 (hf : ¬ (i 1).val = 0) (hl : (i 1).val = 10) (hr : (i 0).val = 0) (c : Dev nD) (x0 : Vec F S1024x1024 .f32) (x1 : Vec F S1x1024 .f32) (x2 : Vec F S256x1024 .bf16) (x3 : Vec F S256x1024 .bf16) (x4 : Vec F S256x1024 .bf16) (x5 : Vec F S256x1024 .bf16) (x6 : Vec F S1x1024 .f32) (x7 : Vec F S1024x1024 .f32) (Y0 : Vec F S1024x1024 .f32) (Y1 : Vec F S1024x256 .bf16) (Y2 : Vec F S1024x256 .bf16) (Y3 : Vec F S1024x1024 .bf16) (Y4 : Vec F S1024x256 .bf16) (Y5 : Vec F S1x1024 .f32) (Y6 : Vec F S1x1024 .f32) (X0 : Vec F S1024x1024 .f32) (X1 : Vec F S1024x256 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare Y0 ∗ owns (c : Thread nD τ) arg11 fullShare Y1 ∗ owns (c : Thread nD τ) arg12 fullShare Y2 ∗ owns (c : Thread nD τ) arg13 fullShare Y3 ∗ owns (c : Thread nD τ) arg14 fullShare Y4 ∗ owns (c : Thread nD τ) arg15 fullShare Y5 ∗ owns (c : Thread nD τ) arg16 fullShare Y6 ∗ owns (c : Thread nD τ) arg17 fullShare X0 ∗ owns (c : Thread nD τ) arg18 fullShare X1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (if (i 1).val = 10 then toX (toS (keep i x0 x1 Y3) x2 x3) x0 (more i X0 X1 x4) x5 x6 x7 else Y0) ∗ owns (c : Thread nD τ) arg11 fullShare (k0_pay23 (keep i x0 x1 Y3) x2) ∗ owns (c : Thread nD τ) arg12 fullShare (k0_pay24 (keep i x0 x1 Y3) x3) ∗ owns (c : Thread nD τ) arg13 fullShare (keep i x0 x1 Y3) ∗ owns (c : Thread nD τ) arg14 fullShare (toS (keep i x0 x1 Y3) x2 x3) ∗ owns (c : Thread nD τ) arg15 fullShare (if (i 1).val = 10 then toG i (toS (keep i x0 x1 Y3) x2 x3) x0 (more i X0 X1 x4) x5 x6 x7 Y5 else Y5) ∗ owns (c : Thread nD τ) arg16 fullShare (if (i 1).val = 10 then toL i (toS (keep i x0 x1 Y3) x2 x3) x0 (more i X0 X1 x4) x5 x6 x7 Y6 else Y6) ∗ owns (c : Thread nD τ) arg17 fullShare (more i X0 X1 x4) ∗ owns (c : Thread nD τ) arg18 fullShare (keptS (keep i x0 x1 Y3) x2 x3)) -∗ K ⟨⟩))
      ⊢ wp frame (wpE (defs₀ (F := F)) Variants.none c none) Set.univ (cc0_ffn2_fwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_ffn2_fwd_eq_skeleton, k0_part1_eq_skeleton, k0_part2_eq_skeleton]; unfold cc0_ffn2_fwd_skel
  simp only [k0_part1_eq_skeleton, k0_part2_eq_skeleton]; unfold k0_part2_skel k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  subst hf0 hf1 hf2 hf3 hf4 hf5 hf6 hf7 hf8 hf9 hf10 hf11 hf12 hf13 hf14 hf15 hf16
  have h1 := fun h => hf ((cond1_iff i).mp h)
  have h2 := (cond2_iff i).mpr hl
  have h3 := (cond3_iff i).mpr hr
  have h4 := fun h => (cond4_iff i).mp h hr
  sl_exec (disch := first | sl_exact h1 | sl_exact h2 | sl_exact h3 | sl_exact h4)
  sl_step
  iapply Hk
  simp only [keep, more, toS, keptS, toX, toG, toL, if_neg hf, if_pos hl, if_pos hr]
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr; swap; · iexact H8
    ipureintro
    sl_unfold_words
    rw [read_last _ _ _ z2]
    simp only [load_last (S := S1024x1024) _ _ z2, load_last (S := S1x1024) _ _ z2, load_last (S := S1024x256) _ _ z2, load_last (S := S256x1024) _ _ z2, load_whole (S := S1024x1024) _ _ z2, load_whole (S := S1x1024) _ _ z2, load_whole (S := S1024x256) _ _ z2, load_whole (S := S256x1024) _ _ z2]
  isplitl [H9]
  · iexists _; isplitr; swap; · iexact H9
    ipureintro
    sl_unfold_words
    rw [read_last _ _ _ z2]
    simp only [load_last (S := S1024x1024) _ _ z2, load_last (S := S1x1024) _ _ z2, load_last (S := S1024x256) _ _ z2, load_last (S := S256x1024) _ _ z2, load_whole (S := S1024x1024) _ _ z2, load_whole (S := S1x1024) _ _ z2, load_whole (S := S1024x256) _ _ z2, load_whole (S := S256x1024) _ _ z2]
  isplitl [H10]
  · iexists _; isplitr; swap; · iexact H10
    ipureintro
    sl_unfold_words
    rw [read_last _ _ _ z2]
    simp only [load_last (S := S1024x1024) _ _ z2, load_last (S := S1x1024) _ _ z2, load_last (S := S1024x256) _ _ z2, load_last (S := S256x1024) _ _ z2, load_whole (S := S1024x1024) _ _ z2, load_whole (S := S1x1024) _ _ z2, load_whole (S := S1024x256) _ _ z2, load_whole (S := S256x1024) _ _ z2]
  isplitl [H11]
  · iexists f11; isplitr; · ipureintro; rfl
    iexact H11
  isplitl [H12]
  · iexists _; isplitr; swap; · iexact H12
    ipureintro
    sl_unfold_words
    rw [read_last _ _ _ z2]
    simp only [load_last (S := S1024x1024) _ _ z2, load_last (S := S1x1024) _ _ z2, load_last (S := S1024x256) _ _ z2, load_last (S := S256x1024) _ _ z2, load_whole (S := S1024x1024) _ _ z2, load_whole (S := S1x1024) _ _ z2, load_whole (S := S1024x256) _ _ z2, load_whole (S := S256x1024) _ _ z2]
  isplitl [H13]
  · iexists _; isplitr; swap; · iexact H13
    ipureintro
    sl_unfold_words
    rw [read_last _ _ _ z2]
    simp only [load_last (S := S1024x1024) _ _ z2, load_last (S := S1x1024) _ _ z2, load_last (S := S1024x256) _ _ z2, load_last (S := S256x1024) _ _ z2, load_whole (S := S1024x1024) _ _ z2, load_whole (S := S1x1024) _ _ z2, load_whole (S := S1024x256) _ _ z2, load_whole (S := S256x1024) _ _ z2]
  isplitl [H14]
  · iexists _; isplitr; swap; · iexact H14
    ipureintro
    sl_unfold_words
    rw [read_last _ _ _ z2]
    simp only [load_last (S := S1024x1024) _ _ z2, load_last (S := S1x1024) _ _ z2, load_last (S := S1024x256) _ _ z2, load_last (S := S256x1024) _ _ z2, load_whole (S := S1024x1024) _ _ z2, load_whole (S := S1x1024) _ _ z2, load_whole (S := S1024x256) _ _ z2, load_whole (S := S256x1024) _ _ z2]
  isplitl [H15]
  · iexists _; isplitr; swap; · iexact H15
    ipureintro
    sl_unfold_words
    rw [read_last _ _ _ z2]
    simp only [load_last (S := S1024x1024) _ _ z2, load_last (S := S1x1024) _ _ z2, load_last (S := S1024x256) _ _ z2, load_last (S := S256x1024) _ _ z2, load_whole (S := S1024x1024) _ _ z2, load_whole (S := S1x1024) _ _ z2, load_whole (S := S1024x256) _ _ z2, load_whole (S := S256x1024) _ _ z2]
  iexists _; isplitr; swap; · iexact H16
  ipureintro
  sl_unfold_words
  rw [read_last _ _ _ z2]
  simp only [load_last (S := S1024x1024) _ _ z2, load_last (S := S1x1024) _ _ z2, load_last (S := S1024x256) _ _ z2, load_last (S := S256x1024) _ _ z2, load_whole (S := S1024x1024) _ _ z2, load_whole (S := S1x1024) _ _ z2, load_whole (S := S1024x256) _ _ z2, load_whole (S := S256x1024) _ _ z2]

set_option maxHeartbeats 2000000 in
/-- The body at the last tile of a later row block. -/
theorem point_last1 (hf : ¬ (i 1).val = 0) (hl : (i 1).val = 10) (hr : ¬ (i 0).val = 0) (c : Dev nD) (x0 : Vec F S1024x1024 .f32) (x1 : Vec F S1x1024 .f32) (x2 : Vec F S256x1024 .bf16) (x3 : Vec F S256x1024 .bf16) (x4 : Vec F S256x1024 .bf16) (x5 : Vec F S256x1024 .bf16) (x6 : Vec F S1x1024 .f32) (x7 : Vec F S1024x1024 .f32) (Y0 : Vec F S1024x1024 .f32) (Y1 : Vec F S1024x256 .bf16) (Y2 : Vec F S1024x256 .bf16) (Y3 : Vec F S1024x1024 .bf16) (Y4 : Vec F S1024x256 .bf16) (Y5 : Vec F S1x1024 .f32) (Y6 : Vec F S1x1024 .f32) (X0 : Vec F S1024x1024 .f32) (X1 : Vec F S1024x256 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare Y0 ∗ owns (c : Thread nD τ) arg11 fullShare Y1 ∗ owns (c : Thread nD τ) arg12 fullShare Y2 ∗ owns (c : Thread nD τ) arg13 fullShare Y3 ∗ owns (c : Thread nD τ) arg14 fullShare Y4 ∗ owns (c : Thread nD τ) arg15 fullShare Y5 ∗ owns (c : Thread nD τ) arg16 fullShare Y6 ∗ owns (c : Thread nD τ) arg17 fullShare X0 ∗ owns (c : Thread nD τ) arg18 fullShare X1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (if (i 1).val = 10 then toX (toS (keep i x0 x1 Y3) x2 x3) x0 (more i X0 X1 x4) x5 x6 x7 else Y0) ∗ owns (c : Thread nD τ) arg11 fullShare (k0_pay23 (keep i x0 x1 Y3) x2) ∗ owns (c : Thread nD τ) arg12 fullShare (k0_pay24 (keep i x0 x1 Y3) x3) ∗ owns (c : Thread nD τ) arg13 fullShare (keep i x0 x1 Y3) ∗ owns (c : Thread nD τ) arg14 fullShare (toS (keep i x0 x1 Y3) x2 x3) ∗ owns (c : Thread nD τ) arg15 fullShare (if (i 1).val = 10 then toG i (toS (keep i x0 x1 Y3) x2 x3) x0 (more i X0 X1 x4) x5 x6 x7 Y5 else Y5) ∗ owns (c : Thread nD τ) arg16 fullShare (if (i 1).val = 10 then toL i (toS (keep i x0 x1 Y3) x2 x3) x0 (more i X0 X1 x4) x5 x6 x7 Y6 else Y6) ∗ owns (c : Thread nD τ) arg17 fullShare (more i X0 X1 x4) ∗ owns (c : Thread nD τ) arg18 fullShare (keptS (keep i x0 x1 Y3) x2 x3)) -∗ K ⟨⟩))
      ⊢ wp frame (wpE (defs₀ (F := F)) Variants.none c none) Set.univ (cc0_ffn2_fwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_ffn2_fwd_eq_skeleton, k0_part1_eq_skeleton, k0_part2_eq_skeleton]; unfold cc0_ffn2_fwd_skel
  simp only [k0_part1_eq_skeleton, k0_part2_eq_skeleton]; unfold k0_part2_skel k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  subst hf0 hf1 hf2 hf3 hf4 hf5 hf6 hf7 hf8 hf9 hf10 hf11 hf12 hf13 hf14 hf15 hf16
  have h1 := fun h => hf ((cond1_iff i).mp h)
  have h2 := (cond2_iff i).mpr hl
  have h3 := fun h => hr ((cond3_iff i).mp h)
  have h4 := (cond4_iff i).mpr hr
  sl_exec (disch := first | sl_exact h1 | sl_exact h2 | sl_exact h3 | sl_exact h4)
  sl_step
  iapply Hk
  simp only [keep, more, toS, keptS, toX, toG, toL, if_neg hf, if_pos hl, if_neg hr]
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr; swap; · iexact H8
    ipureintro
    sl_unfold_words
    rw [read_last _ _ _ z2]
    simp only [load_last (S := S1024x1024) _ _ z2, load_last (S := S1x1024) _ _ z2, load_last (S := S1024x256) _ _ z2, load_last (S := S256x1024) _ _ z2, load_whole (S := S1024x1024) _ _ z2, load_whole (S := S1x1024) _ _ z2, load_whole (S := S1024x256) _ _ z2, load_whole (S := S256x1024) _ _ z2]
  isplitl [H9]
  · iexists _; isplitr; swap; · iexact H9
    ipureintro
    sl_unfold_words
    rw [read_last _ _ _ z2]
    simp only [load_last (S := S1024x1024) _ _ z2, load_last (S := S1x1024) _ _ z2, load_last (S := S1024x256) _ _ z2, load_last (S := S256x1024) _ _ z2, load_whole (S := S1024x1024) _ _ z2, load_whole (S := S1x1024) _ _ z2, load_whole (S := S1024x256) _ _ z2, load_whole (S := S256x1024) _ _ z2]
  isplitl [H10]
  · iexists _; isplitr; swap; · iexact H10
    ipureintro
    sl_unfold_words
    rw [read_last _ _ _ z2]
    simp only [load_last (S := S1024x1024) _ _ z2, load_last (S := S1x1024) _ _ z2, load_last (S := S1024x256) _ _ z2, load_last (S := S256x1024) _ _ z2, load_whole (S := S1024x1024) _ _ z2, load_whole (S := S1x1024) _ _ z2, load_whole (S := S1024x256) _ _ z2, load_whole (S := S256x1024) _ _ z2]
  isplitl [H11]
  · iexists f11; isplitr; · ipureintro; rfl
    iexact H11
  isplitl [H12]
  · iexists _; isplitr; swap; · iexact H12
    ipureintro
    sl_unfold_words
    rw [read_last _ _ _ z2]
    simp only [load_last (S := S1024x1024) _ _ z2, load_last (S := S1x1024) _ _ z2, load_last (S := S1024x256) _ _ z2, load_last (S := S256x1024) _ _ z2, load_whole (S := S1024x1024) _ _ z2, load_whole (S := S1x1024) _ _ z2, load_whole (S := S1024x256) _ _ z2, load_whole (S := S256x1024) _ _ z2]
  isplitl [H13]
  · iexists _; isplitr; swap; · iexact H13
    ipureintro
    sl_unfold_words
    rw [read_last _ _ _ z2]
    simp only [load_last (S := S1024x1024) _ _ z2, load_last (S := S1x1024) _ _ z2, load_last (S := S1024x256) _ _ z2, load_last (S := S256x1024) _ _ z2, load_whole (S := S1024x1024) _ _ z2, load_whole (S := S1x1024) _ _ z2, load_whole (S := S1024x256) _ _ z2, load_whole (S := S256x1024) _ _ z2]
  isplitl [H14]
  · iexists _; isplitr; swap; · iexact H14
    ipureintro
    sl_unfold_words
    rw [read_last _ _ _ z2]
    simp only [load_last (S := S1024x1024) _ _ z2, load_last (S := S1x1024) _ _ z2, load_last (S := S1024x256) _ _ z2, load_last (S := S256x1024) _ _ z2, load_whole (S := S1024x1024) _ _ z2, load_whole (S := S1x1024) _ _ z2, load_whole (S := S1024x256) _ _ z2, load_whole (S := S256x1024) _ _ z2]
  isplitl [H15]
  · iexists _; isplitr; swap; · iexact H15
    ipureintro
    sl_unfold_words
    rw [read_last _ _ _ z2]
    simp only [load_last (S := S1024x1024) _ _ z2, load_last (S := S1x1024) _ _ z2, load_last (S := S1024x256) _ _ z2, load_last (S := S256x1024) _ _ z2, load_whole (S := S1024x1024) _ _ z2, load_whole (S := S1x1024) _ _ z2, load_whole (S := S1024x256) _ _ z2, load_whole (S := S256x1024) _ _ z2]
  iexists _; isplitr; swap; · iexact H16
  ipureintro
  sl_unfold_words
  rw [read_last _ _ _ z2]
  simp only [load_last (S := S1024x1024) _ _ z2, load_last (S := S1x1024) _ _ z2, load_last (S := S1024x256) _ _ z2, load_last (S := S256x1024) _ _ z2, load_whole (S := S1024x1024) _ _ z2, load_whole (S := S1x1024) _ _ z2, load_whole (S := S1024x256) _ _ z2, load_whole (S := S256x1024) _ _ z2]

/-- The body at one point. -/
theorem point_sound (c : Dev nD) (x0 : Vec F S1024x1024 .f32) (x1 : Vec F S1x1024 .f32) (x2 : Vec F S256x1024 .bf16) (x3 : Vec F S256x1024 .bf16) (x4 : Vec F S256x1024 .bf16) (x5 : Vec F S256x1024 .bf16) (x6 : Vec F S1x1024 .f32) (x7 : Vec F S1024x1024 .f32) (Y0 : Vec F S1024x1024 .f32) (Y1 : Vec F S1024x256 .bf16) (Y2 : Vec F S1024x256 .bf16) (Y3 : Vec F S1024x1024 .bf16) (Y4 : Vec F S1024x256 .bf16) (Y5 : Vec F S1x1024 .f32) (Y6 : Vec F S1x1024 .f32) (X0 : Vec F S1024x1024 .f32) (X1 : Vec F S1024x256 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare Y0 ∗ owns (c : Thread nD τ) arg11 fullShare Y1 ∗ owns (c : Thread nD τ) arg12 fullShare Y2 ∗ owns (c : Thread nD τ) arg13 fullShare Y3 ∗ owns (c : Thread nD τ) arg14 fullShare Y4 ∗ owns (c : Thread nD τ) arg15 fullShare Y5 ∗ owns (c : Thread nD τ) arg16 fullShare Y6 ∗ owns (c : Thread nD τ) arg17 fullShare X0 ∗ owns (c : Thread nD τ) arg18 fullShare X1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (if (i 1).val = 10 then toX (toS (keep i x0 x1 Y3) x2 x3) x0 (more i X0 X1 x4) x5 x6 x7 else Y0) ∗ owns (c : Thread nD τ) arg11 fullShare (k0_pay23 (keep i x0 x1 Y3) x2) ∗ owns (c : Thread nD τ) arg12 fullShare (k0_pay24 (keep i x0 x1 Y3) x3) ∗ owns (c : Thread nD τ) arg13 fullShare (keep i x0 x1 Y3) ∗ owns (c : Thread nD τ) arg14 fullShare (toS (keep i x0 x1 Y3) x2 x3) ∗ owns (c : Thread nD τ) arg15 fullShare (if (i 1).val = 10 then toG i (toS (keep i x0 x1 Y3) x2 x3) x0 (more i X0 X1 x4) x5 x6 x7 Y5 else Y5) ∗ owns (c : Thread nD τ) arg16 fullShare (if (i 1).val = 10 then toL i (toS (keep i x0 x1 Y3) x2 x3) x0 (more i X0 X1 x4) x5 x6 x7 Y6 else Y6) ∗ owns (c : Thread nD τ) arg17 fullShare (more i X0 X1 x4) ∗ owns (c : Thread nD τ) arg18 fullShare (keptS (keep i x0 x1 Y3) x2 x3)) -∗ K ⟨⟩))
      ⊢ wp frame (wpE (defs₀ (F := F)) Variants.none c none) Set.univ (cc0_ffn2_fwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  by_cases hf : (i 1).val = 0
  · exact point_first i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hf (by omega) c x0 x1 x2 x3 x4 x5 x6 x7 Y0 Y1 Y2 Y3 Y4 Y5 Y6 X0 X1 K
  by_cases hl : (i 1).val = 10
  · by_cases hr : (i 0).val = 0
    · exact point_last0 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hf hl hr c x0 x1 x2 x3 x4 x5 x6 x7 Y0 Y1 Y2 Y3 Y4 Y5 Y6 X0 X1 K
    · exact point_last1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hf hl hr c x0 x1 x2 x3 x4 x5 x6 x7 Y0 Y1 Y2 Y3 Y4 Y5 Y6 X0 X1 K
  · exact point_mid i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hf hl c x0 x1 x2 x3 x4 x5 x6 x7 Y0 Y1 Y2 Y3 Y4 Y5 Y6 X0 X1 K

end

variable (m : (ℓ : Loc nD τ sig) → Buf (Elt F) ℓ) (ρ : Dev nD → PrngReg)

/-- The column tile of point `t`: the grid's second axis runs fastest. -/
theorem coords_tile : ∀ t : Fin grid0.N, (grid0.coords t 1).val = t.val % 11 := by decide +kernel

/-- The row block of point `t`. -/
theorem coords_row : ∀ t : Fin grid0.N, (grid0.coords t 0).val = t.val / 11 := by decide +kernel

/-- The point of a number. -/
def pt (n : ℕ) : Fin cfg0.N := ⟨n % 44, Nat.lt_of_lt_of_eq (Nat.mod_lt _ (by decide)) N_0.symm⟩

theorem lt_44 (t : Fin cfg0.N) : t.val < 44 := Nat.lt_of_lt_of_eq t.isLt N_0

theorem pt_val (t : Fin cfg0.N) : pt t.val = t := Fin.ext (Nat.mod_eq_of_lt (lt_44 t))

/-- The first point of the row block of point `t`. -/
def start (t : Fin cfg0.N) : Fin cfg0.N := pt (11 * (t.val / 11))

/-- The normed rows of the row block of point `t`. -/
def hrow (c : Dev nD) (t : Fin cfg0.N) : Vec F S1024x1024 .bf16 := k0_pay16 (iblk m c 0 (start t)) (iblk m c 1 (start t))

/-- The tile's gated product at point `t`, as it is returned and as the scratch keeps it. -/
def gs (c : Dev nD) (t : Fin cfg0.N) : Vec F S1024x256 .bf16 := toS (hrow m c t) (iblk m c 2 t) (iblk m c 3 t)
def ks (c : Dev nD) (t : Fin cfg0.N) : Vec F S1024x256 .bf16 := keptS (hrow m c t) (iblk m c 2 t) (iblk m c 3 t)

/-- The down product over the tiles before that of point number `n`, within its row block. -/
def sums (c : Dev nD) : ℕ → Vec F S1024x1024 .f32
  | 0 => more (grid0.coords (pt 0)) k0_pay17 k0_pay18 (iblk m c 4 (pt 0))
  | n + 1 => more (grid0.coords (pt (n + 1))) (sums c n) (ks m c (pt n)) (iblk m c 4 (pt (n + 1)))

/-- The gradient of the last gain after point number `n`, -/
def gains (c : Dev nD) : ℕ → Vec F S1x1024 .f32
  | 0 => k0_pay4 (k0_pay10 (gs m c (pt 0)) (iblk m c 0 (pt 0)) (sums m c 0) (iblk m c 5 (pt 0))) (k0_pay13 (gs m c (pt 0)) (iblk m c 0 (pt 0)) (sums m c 0) (iblk m c 5 (pt 0)) (iblk m c 6 (pt 0)) (iblk m c 7 (pt 0)))
  | n + 1 => if (grid0.coords (pt (n + 1)) 1).val = 10 then
      toG (grid0.coords (pt (n + 1))) (gs m c (pt (n + 1))) (iblk m c 0 (pt (n + 1))) (sums m c (n + 1)) (iblk m c 5 (pt (n + 1))) (iblk m c 6 (pt (n + 1))) (iblk m c 7 (pt (n + 1))) (gains c n)
    else gains c n

/-- and the loss: they change at last tiles. -/
def losses (c : Dev nD) : ℕ → Vec F S1x1024 .f32
  | 0 => k0_pay5 (k0_pay12 (gs m c (pt 0)) (iblk m c 0 (pt 0)) (sums m c 0) (iblk m c 5 (pt 0)) (iblk m c 6 (pt 0)) (iblk m c 7 (pt 0)))
  | n + 1 => if (grid0.coords (pt (n + 1)) 1).val = 10 then
      toL (grid0.coords (pt (n + 1))) (gs m c (pt (n + 1))) (iblk m c 0 (pt (n + 1))) (sums m c (n + 1)) (iblk m c 5 (pt (n + 1))) (iblk m c 6 (pt (n + 1))) (iblk m c 7 (pt (n + 1))) (losses c n)
    else losses c n

/-- The scratch before point number `n`: anything at the start of a row block, and else what the point before left. -/
def scratch (c : Dev nD) (n : ℕ) : sProp 𝕄 :=
  iprop((∃ X0 X1, ⌜n % 11 ≠ 0 → X0 = sums m c (n - 1) ∧ X1 = ks m c (pt (n - 1))⌝
    ∗ owns (c : Thread nD τ) (Memref.whole cc0_scratch0) fullShare X0 ∗ owns (c : Thread nD τ) (Memref.whole cc0_scratch1) fullShare X1)
    ∗ ∃ r, prngReg c r)

/-- Each input's buffer holds its block, each result's what the point left, and the scratch what is carried. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => toX (gs m c t) (iblk m c 0 t) (sums m c t.val) (iblk m c 5 t) (iblk m c 6 t) (iblk m c 7 t)
    | ⟨9, _⟩ => k0_pay23 (hrow m c t) (iblk m c 2 t)
    | ⟨10, _⟩ => k0_pay24 (hrow m c t) (iblk m c 3 t)
    | ⟨11, _⟩ => hrow m c t
    | ⟨12, _⟩ => gs m c t
    | ⟨13, _⟩ => gains m c t.val
    | ⟨14, _⟩ => losses m c t.val
  Φ t := scratch m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = toX (gs m c t) (iblk m c 0 t) (sums m c t.val) (iblk m c 5 t) (iblk m c 6 t) (iblk m c 7 t) := by dsimp only [dats]
theorem after0_9 (c : Dev nD) (t : Fin cfg0.N) : (dats m 0 c).after 9 t = k0_pay23 (hrow m c t) (iblk m c 2 t) := by dsimp only [dats]
theorem after0_10 (c : Dev nD) (t : Fin cfg0.N) : (dats m 0 c).after 10 t = k0_pay24 (hrow m c t) (iblk m c 3 t) := by dsimp only [dats]
theorem after0_11 (c : Dev nD) (t : Fin cfg0.N) : (dats m 0 c).after 11 t = hrow m c t := by dsimp only [dats]
theorem after0_12 (c : Dev nD) (t : Fin cfg0.N) : (dats m 0 c).after 12 t = gs m c t := by dsimp only [dats]
theorem after0_13 (c : Dev nD) (t : Fin cfg0.N) : (dats m 0 c).after 13 t = gains m c t.val := by dsimp only [dats]
theorem after0_14 (c : Dev nD) (t : Fin cfg0.N) : (dats m 0 c).after 14 t = losses m c t.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- When the body stores each of the four results that it does not store everywhere. -/
theorem idle0_8 : ∀ t : Fin grid0.N, cfg0.idle 8 (grid0.coords t) = !decide (t.val % 11 = 10) := by decide +kernel
theorem idle0_11 : ∀ t : Fin grid0.N, cfg0.idle 11 (grid0.coords t) = !decide (t.val % 11 = 0) := by decide +kernel
theorem idle0_13 : ∀ t : Fin grid0.N, cfg0.idle 13 (grid0.coords t) = !decide (t.val % 11 = 10) := by decide +kernel
theorem idle0_14 : ∀ t : Fin grid0.N, cfg0.idle 14 (grid0.coords t) = !decide (t.val % 11 = 10) := by decide +kernel

/-- The gradient of the gain is first stored at point ten, -/
theorem fresh0_13 (n : ℕ) (hn : n < 44) : cfg0.fresh 13 n = decide (n ≤ 10) := by
  have h := cfg0.fresh_tab 13 (fun n => decide (n ≤ 10 ∨ 44 ≤ n)) (by decide) (fun t => by
    have ht := lt_44 t
    rw [idle0_13 t]
    cases hf : (cfg0.win 13).flush t
    · have hf' : ¬ t.val % 44 = 43 := fun h => by rw [(flush0_13 t).mpr h] at hf; exact absurd hf (by decide)
      rw [Bool.false_or, ← decide_not, ← Bool.decide_and]
      exact decide_eq_decide.mpr ⟨fun h => by omega, fun h => by omega⟩
    · have hf' := (flush0_13 t).mp hf
      rw [Bool.true_or]
      exact decide_eq_true (by omega)) n (by rw [show cfg0.N = 44 from N_0]; omega)
  rw [h]
  exact decide_eq_decide.mpr ⟨fun h => by omega, fun h => by omega⟩

/-- so is the loss, -/
theorem fresh0_14 (n : ℕ) (hn : n < 44) : cfg0.fresh 14 n = decide (n ≤ 10) := by
  have h := cfg0.fresh_tab 14 (fun n => decide (n ≤ 10 ∨ 44 ≤ n)) (by decide) (fun t => by
    have ht := lt_44 t
    rw [idle0_14 t]
    cases hf : (cfg0.win 14).flush t
    · have hf' : ¬ t.val % 44 = 43 := fun h => by rw [(flush0_14 t).mpr h] at hf; exact absurd hf (by decide)
      rw [Bool.false_or, ← decide_not, ← Bool.decide_and]
      exact decide_eq_decide.mpr ⟨fun h => by omega, fun h => by omega⟩
    · have hf' := (flush0_14 t).mp hf
      rw [Bool.true_or]
      exact decide_eq_true (by omega)) n (by rw [show cfg0.N = 44 from N_0]; omega)
  rw [h]
  exact decide_eq_decide.mpr ⟨fun h => by omega, fun h => by omega⟩

/-- and the normed rows at the first tile of each row block. -/
theorem fresh0_11 (n : ℕ) (hn : n ≤ 44) : cfg0.fresh 11 n = decide (n % 11 = 0) := by
  refine cfg0.fresh_tab 11 (fun n => decide (n % 11 = 0)) (by decide) (fun t => ?_) n (by rw [show cfg0.N = 44 from N_0]; omega)
  rw [idle0_11 t]
  cases hf : (cfg0.win 11).flush t
  · have hf' : ¬ t.val % 11 = 10 := fun h => by rw [(flush0_11 t).mpr h] at hf; exact absurd hf (by decide)
    rw [Bool.false_or, ← decide_not, ← Bool.decide_and]
    exact decide_eq_decide.mpr ⟨fun h => by omega, fun h => by omega⟩
  · have hf' := (flush0_11 t).mp hf
    rw [Bool.true_or]
    exact decide_eq_true (by omega)

theorem start_self (t : Fin cfg0.N) (h : t.val % 11 = 0) : start t = t := by
  have := lt_44 t
  unfold start pt
  exact Fin.ext (by dsimp only; omega)

theorem gains_pos (c : Dev nD) (t : Fin cfg0.N) (h0 : t.val ≠ 0) : gains m c t.val = if t.val % 11 = 10 then
      toG (grid0.coords t) (gs m c t) (iblk m c 0 t) (sums m c t.val) (iblk m c 5 t) (iblk m c 6 t) (iblk m c 7 t) (gains m c (t.val - 1))
    else gains m c (t.val - 1) := by
  obtain ⟨n, hn⟩ := t
  cases n with
  | zero => exact absurd rfl h0
  | succ n =>
    dsimp only
    rw [gains, show pt (n + 1) = ⟨n + 1, hn⟩ from pt_val ⟨n + 1, hn⟩, coords_tile]
    rfl

theorem losses_pos (c : Dev nD) (t : Fin cfg0.N) (h0 : t.val ≠ 0) : losses m c t.val = if t.val % 11 = 10 then
      toL (grid0.coords t) (gs m c t) (iblk m c 0 t) (sums m c t.val) (iblk m c 5 t) (iblk m c 6 t) (iblk m c 7 t) (losses m c (t.val - 1))
    else losses m c (t.val - 1) := by
  obtain ⟨n, hn⟩ := t
  cases n with
  | zero => exact absurd rfl h0
  | succ n =>
    dsimp only
    rw [losses, show pt (n + 1) = ⟨n + 1, hn⟩ from pt_val ⟨n + 1, hn⟩, coords_tile]
    rfl

/-- What the gain's buffer holds before a point after the first row block's last tile. -/
theorem before0_13 (c : Dev nD) (t : Fin cfg0.N) (h : 10 < t.val) (d) : (dats m 0 c).before 13 t d = gains m c (t.val - 1) := by
  have ht := lt_44 t
  rw [Dat.before_out_traj (dats m 0 c) 13 rfl (fun _ _ => rfl) (fun t h0 hi _ => by
    rw [after0_13, after0_13]
    dsimp only
    rw [gains_pos m c t h0, if_neg]
    intro h
    have := idle0_13 t
    rw [hi, decide_eq_true h] at this
    exact absurd this (by decide)) t.val t rfl d, fresh0_13 t.val ht, decide_eq_false (by omega), if_neg Bool.false_ne_true, after0_13]

/-- The same of the loss's buffer: what it holds before a point after the first row block's last tile. -/
theorem before0_14 (c : Dev nD) (t : Fin cfg0.N) (h : 10 < t.val) (d) : (dats m 0 c).before 14 t d = losses m c (t.val - 1) := by
  have ht := lt_44 t
  rw [Dat.before_out_traj (dats m 0 c) 14 rfl (fun _ _ => rfl) (fun t h0 hi _ => by
    rw [after0_14, after0_14]
    dsimp only
    rw [losses_pos m c t h0, if_neg]
    intro h
    have := idle0_14 t
    rw [hi, decide_eq_true h] at this
    exact absurd this (by decide)) t.val t rfl d, fresh0_14 t.val ht, decide_eq_false (by omega), if_neg Bool.false_ne_true, after0_14]

/-- The normed rows' buffer holds them from the first tile on. -/
theorem before0_11 (c : Dev nD) (t : Fin cfg0.N) (h : t.val % 11 ≠ 0) (d) : (dats m 0 c).before 11 t d = hrow m c t := by
  have ht := lt_44 t
  have key : ∀ t : Fin cfg0.N, t.val ≠ 0 → t.val % 11 ≠ 0 → hrow m c t = hrow m c ⟨t.val - 1, Nat.lt_of_le_of_lt (Nat.sub_le _ _) t.isLt⟩ := fun t h0 h => by
    have ht := lt_44 t
    unfold hrow
    rw [show start t = start ⟨t.val - 1, Nat.lt_of_le_of_lt (Nat.sub_le _ _) t.isLt⟩ from by unfold start; exact congrArg pt (by dsimp only; omega)]
  rw [Dat.before_out_traj (dats m 0 c) 11 rfl (fun _ _ => rfl) (fun t h0 hi _ => by
    rw [after0_11, after0_11]
    refine key t h0 fun h => ?_
    have := idle0_11 t
    rw [hi, decide_eq_true h] at this
    exact absurd this (by decide)) t.val t rfl d, fresh0_11 t.val (by omega), decide_eq_false h, if_neg Bool.false_ne_true, after0_11]
  exact (key t (by omega) h).symm

/-- What a point finds in the buffers determines what it leaves there. -/
theorem keep_row (c : Dev nD) (t : Fin cfg0.N) (d) :
    keep (grid0.coords t) (iblk m c 0 t) (iblk m c 1 t) ((dats m 0 c).before 11 t d) = hrow m c t := by
  have ht := lt_44 t
  unfold keep
  rw [coords_tile t]
  by_cases h0 : t.val % 11 = 0
  · rw [if_pos h0, hrow, start_self t h0]
  · rw [if_neg h0, before0_11 m c t h0]

theorem more_sums (c : Dev nD) (t : Fin cfg0.N) (H : Vec F S1024x1024 .f32) (A : Vec F S1024x256 .bf16)
    (h : t.val % 11 ≠ 0 → H = sums m c (t.val - 1) ∧ A = ks m c (pt (t.val - 1))) :
    more (grid0.coords t) H A (iblk m c 4 t) = sums m c t.val := by
  by_cases h0 : t.val % 11 = 0
  · have e : ∀ H' A', more (grid0.coords t) H A (iblk m c 4 t) = more (grid0.coords t) H' A' (iblk m c 4 t) := fun H' A' => by
      unfold more
      rw [coords_tile t]
      simp only [if_pos h0]
    obtain ⟨n, hn⟩ := t
    cases n with
    | zero => rw [e k0_pay17 k0_pay18, sums]; rfl
    | succ n =>
      rw [e (sums m c n) (ks m c (pt n)), sums, show pt (n + 1) = ⟨n + 1, hn⟩ from pt_val ⟨n + 1, hn⟩]
  · obtain ⟨hH, hA⟩ := h h0
    subst hH hA
    obtain ⟨n, hn⟩ := t
    cases n with
    | zero => exact absurd rfl h0
    | succ n =>
      rw [show sums m c (n + 1) = _ from sums.eq_2 m c n, show pt (n + 1) = ⟨n + 1, hn⟩ from pt_val ⟨n + 1, hn⟩]
      rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d)) ∗ (∃ d, owns (c : Thread nD τ) (st0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t ∗ (dats m 0 c).leavesExact 14 t)

/-- A result that is not stored at a point is left as it was found, and is written back only where it is stated. -/
theorem leaves8 (c : Dev nD) (t : Fin cfg0.N) (d : _) :
    owns (c : Thread nD τ) (st0_8 t) fullShare (if (grid0.coords t 1).val = 10 then (dats m 0 c).after 8 t else (dats m 0 c).before 8 t d)
      ⊢ (dats m 0 c).leavesExact 8 t := by
  unfold Dat.leavesExact
  rw [coords_tile t, show cfg0.idle 8 (cfg0.grid.coords t) = !decide (t.val % 11 = 10) from idle0_8 t]
  by_cases h : t.val % 11 = 10
  · rw [if_pos h, decide_eq_true h]
    exact .rfl
  · rw [if_neg h, decide_eq_false h]
    rw [show (cfg0.win 8).flush t = false from Bool.eq_false_iff.mpr fun hf => h ((flush0_8 t).mp hf)]
    show _ ⊢ iprop(∃ d', owns (c : Thread nD τ) (st0_8 t) fullShare ((dats m 0 c).before 8 t d'))
    iintro H
    iexists d
    iexact H

theorem leaves13 (c : Dev nD) (t : Fin cfg0.N) (d : _) :
    owns (c : Thread nD τ) (st0_13 t) fullShare (if (grid0.coords t 1).val = 10 then (dats m 0 c).after 13 t else (dats m 0 c).before 13 t d)
      ⊢ (dats m 0 c).leavesExact 13 t := by
  unfold Dat.leavesExact
  rw [coords_tile t, show cfg0.idle 13 (cfg0.grid.coords t) = !decide (t.val % 11 = 10) from idle0_13 t]
  by_cases h : t.val % 11 = 10
  · rw [if_pos h, decide_eq_true h]
    exact .rfl
  · rw [if_neg h, decide_eq_false h]
    rw [show (cfg0.win 13).flush t = false from Bool.eq_false_iff.mpr fun hf => by have := (flush0_13 t).mp hf; have := lt_44 t; omega]
    show _ ⊢ iprop(∃ d', owns (c : Thread nD τ) (st0_13 t) fullShare ((dats m 0 c).before 13 t d'))
    iintro H
    iexists d
    iexact H

theorem leaves14 (c : Dev nD) (t : Fin cfg0.N) (d : _) :
    owns (c : Thread nD τ) (st0_14 t) fullShare (if (grid0.coords t 1).val = 10 then (dats m 0 c).after 14 t else (dats m 0 c).before 14 t d)
      ⊢ (dats m 0 c).leavesExact 14 t := by
  unfold Dat.leavesExact
  rw [coords_tile t, show cfg0.idle 14 (cfg0.grid.coords t) = !decide (t.val % 11 = 10) from idle0_14 t]
  by_cases h : t.val % 11 = 10
  · rw [if_pos h, decide_eq_true h]
    exact .rfl
  · rw [if_neg h, decide_eq_false h]
    rw [show (cfg0.win 14).flush t = false from Bool.eq_false_iff.mpr fun hf => by have := (flush0_14 t).mp hf; have := lt_44 t; omega]
    show _ ⊢ iprop(∃ d', owns (c : Thread nD τ) (st0_14 t) fullShare ((dats m 0 c).before 14 t d'))
    iintro H
    iexists d
    iexact H

theorem leaves11 (c : Dev nD) (t : Fin cfg0.N) (d : (cfg0.win 11).block.Idx → Elt F (cfg0.win 11).elt) :
    owns (c : Thread nD τ) (st0_11 t) fullShare (hrow m c t) ⊢ (dats m 0 c).leavesExact 11 t := by
  unfold Dat.leavesExact
  rw [show cfg0.idle 11 (cfg0.grid.coords t) = !decide (t.val % 11 = 0) from idle0_11 t]
  by_cases h : t.val % 11 = 0
  · rw [decide_eq_true h]
    show _ ⊢ owns (c : Thread nD τ) (st0_11 t) fullShare ((dats m 0 c).after 11 t)
    rw [after0_11]
  · rw [decide_eq_false h]
    cases hf : (cfg0.win 11).flush t
    · show _ ⊢ iprop(∃ d', owns (c : Thread nD τ) (st0_11 t) fullShare ((dats m 0 c).before 11 t d'))
      iintro H
      iexists d
      rw [before0_11 m c t h]
      iexact H
    · show _ ⊢ owns (c : Thread nD τ) (st0_11 t) fullShare ((dats m 0 c).after 11 t)
      rw [after0_11]

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = scratch m c (t.val + 1) from rfl, show (dats m 0 c).Φ t.castSucc = scratch m c t.val from rfl,
    show (dats m 0 c).owesAt () t.succ = (dats m 0 c).owesAt () t.castSucc from rfl]
  rw [show (dats m 0 c).leavesExact 0 t = owns (c : Thread nD τ) (st0_0 t) fullShare ((dats m 0 c).after 0 t) from by
    unfold Dat.leavesExact; rw [show cfg0.idle 0 (cfg0.grid.coords t) = false from rfl], after0_0]
  rw [show (dats m 0 c).leavesExact 1 t = owns (c : Thread nD τ) (st0_1 t) fullShare ((dats m 0 c).after 1 t) from by
    unfold Dat.leavesExact; rw [show cfg0.idle 1 (cfg0.grid.coords t) = false from rfl], after0_1]
  rw [show (dats m 0 c).leavesExact 2 t = owns (c : Thread nD τ) (st0_2 t) fullShare ((dats m 0 c).after 2 t) from by
    unfold Dat.leavesExact; rw [show cfg0.idle 2 (cfg0.grid.coords t) = false from rfl], after0_2]
  rw [show (dats m 0 c).leavesExact 3 t = owns (c : Thread nD τ) (st0_3 t) fullShare ((dats m 0 c).after 3 t) from by
    unfold Dat.leavesExact; rw [show cfg0.idle 3 (cfg0.grid.coords t) = false from rfl], after0_3]
  rw [show (dats m 0 c).leavesExact 4 t = owns (c : Thread nD τ) (st0_4 t) fullShare ((dats m 0 c).after 4 t) from by
    unfold Dat.leavesExact; rw [show cfg0.idle 4 (cfg0.grid.coords t) = false from rfl], after0_4]
  rw [show (dats m 0 c).leavesExact 5 t = owns (c : Thread nD τ) (st0_5 t) fullShare ((dats m 0 c).after 5 t) from by
    unfold Dat.leavesExact; rw [show cfg0.idle 5 (cfg0.grid.coords t) = false from rfl], after0_5]
  rw [show (dats m 0 c).leavesExact 6 t = owns (c : Thread nD τ) (st0_6 t) fullShare ((dats m 0 c).after 6 t) from by
    unfold Dat.leavesExact; rw [show cfg0.idle 6 (cfg0.grid.coords t) = false from rfl], after0_6]
  rw [show (dats m 0 c).leavesExact 7 t = owns (c : Thread nD τ) (st0_7 t) fullShare ((dats m 0 c).after 7 t) from by
    unfold Dat.leavesExact; rw [show cfg0.idle 7 (cfg0.grid.coords t) = false from rfl], after0_7]
  rw [show (dats m 0 c).leavesExact 9 t = owns (c : Thread nD τ) (st0_9 t) fullShare ((dats m 0 c).after 9 t) from by
    unfold Dat.leavesExact; rw [show cfg0.idle 9 (cfg0.grid.coords t) = false from rfl], after0_9]
  rw [show (dats m 0 c).leavesExact 10 t = owns (c : Thread nD τ) (st0_10 t) fullShare ((dats m 0 c).after 10 t) from by
    unfold Dat.leavesExact; rw [show cfg0.idle 10 (cfg0.grid.coords t) = false from rfl], after0_10]
  rw [show (dats m 0 c).leavesExact 12 t = owns (c : Thread nD τ) (st0_12 t) fullShare ((dats m 0 c).after 12 t) from by
    unfold Dat.leavesExact; rw [show cfg0.idle 12 (cfg0.grid.coords t) = false from rfl], after0_12]
  unfold scratch
  iintro ⟨⟨⟨%X0, %X1, %hX, S0, S1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  have e0 : keep (grid0.coords t) (iblk m c 0 t) (iblk m c 1 t) ((dats m 0 c).before 11 t d11) = hrow m c t := keep_row m c t d11
  have e1 : more (grid0.coords t) X0 X1 (iblk m c 4 t) = sums m c t.val := more_sums m c t X0 X1 hX
  have e13 : (if (grid0.coords t 1).val = 10 then toG (grid0.coords t) (gs m c t) (iblk m c 0 t) (sums m c t.val) (iblk m c 5 t) (iblk m c 6 t) (iblk m c 7 t) ((dats m 0 c).before 13 t d13) else (dats m 0 c).before 13 t d13)
      = if (grid0.coords t 1).val = 10 then (dats m 0 c).after 13 t else (dats m 0 c).before 13 t d13 := by
    have ht := lt_44 t
    rw [coords_tile t]
    by_cases h : t.val % 11 = 10
    · rw [if_pos h, if_pos h, after0_13, gains_pos m c t (by omega), if_pos h]
      unfold toG
      rw [coords_row t]
      by_cases h0 : t.val / 11 = 0
      · rw [if_pos h0, if_pos h0]
      · rw [if_neg h0, if_neg h0, before0_13 m c t (by omega)]
    · rw [if_neg h, if_neg h]
  have e14 : (if (grid0.coords t 1).val = 10 then toL (grid0.coords t) (gs m c t) (iblk m c 0 t) (sums m c t.val) (iblk m c 5 t) (iblk m c 6 t) (iblk m c 7 t) ((dats m 0 c).before 14 t d14) else (dats m 0 c).before 14 t d14)
      = if (grid0.coords t 1).val = 10 then (dats m 0 c).after 14 t else (dats m 0 c).before 14 t d14 := by
    have ht := lt_44 t
    rw [coords_tile t]
    by_cases h : t.val % 11 = 10
    · rw [if_pos h, if_pos h, after0_14, losses_pos m c t (by omega), if_pos h]
      unfold toL
      rw [coords_row t]
      by_cases h0 : t.val / 11 = 0
      · rw [if_pos h0, if_pos h0]
      · rw [if_neg h0, if_neg h0, before0_14 m c t (by omega)]
    · rw [if_neg h, if_neg h]
  iapply (point_sound (grid0.coords t) _ _ _ _ _ _ _ _ _ _ _ _ _ _ _ _ _ _ _ _ _ _ _ _ _ _ _ _ _ _ _ _ _ _ c (iblk m c 0 t) (iblk m c 1 t) (iblk m c 2 t) (iblk m c 3 t) (iblk m c 4 t) (iblk m c 5 t) (iblk m c 6 t) (iblk m c 7 t)
    ((dats m 0 c).before 8 t d8) ((dats m 0 c).before 9 t d9) ((dats m 0 c).before 10 t d10) ((dats m 0 c).before 11 t d11) ((dats m 0 c).before 12 t d12) ((dats m 0 c).before 13 t d13) ((dats m 0 c).before 14 t d14) X0 X1 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [S0]; · iexact S0
  isplitl [S1]; · iexact S1
  rw [e0, e1]
  rw [show toS (hrow m c t) (iblk m c 2 t) (iblk m c 3 t) = gs m c t from rfl, e13, e14]
  rw [show toX (gs m c t) (iblk m c 0 t) (sums m c t.val) (iblk m c 5 t) (iblk m c 6 t) (iblk m c 7 t) = (dats m 0 c).after 8 t from (after0_8 m c t).symm]
  iintro ⟨H0, H1, H2, H3, H4, H5, H6, H7, H8, H9, H10, H11, H12, H13, H14, S0, S1⟩
  isplitl [HR S0 S1]
  · isplitr [HR]
    · iexists _, _
      isplitr
      · ipureintro
        intro _
        rw [Nat.add_sub_cancel, pt_val]
        exact ⟨rfl, rfl⟩
      isplitl [S0]; · iexact S0
      iexact S1
    · iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (leaves8 m c t d8); iexact H8
  isplitl [H9]; · iexact H9
  isplitl [H10]; · iexact H10
  isplitl [H11]; · iapply (leaves11 m c t d11); iexact H11
  isplitl [H12]; · iexact H12
  isplitl [H13]; · iapply (leaves13 m c t d13); iexact H13
  iapply (leaves14 m c t d14); iexact H14

/-- The body table's row at point `t` is the body there. -/
theorem defs₀_row (t : Fin cfg0.N) :
    defs₀ (F := F) .tc cfg0.body (cfg0.bodyArgs t (cfg0.slots t)) = bodyAt0 t := by
  unfold defs₀; rw [Defs.onTc_tc]

/-- The pipeline's obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The scratch as the launch finds it, -/
theorem scratch_start (c : Dev nD) : Pipeline.ΦA spec0 c ⊢ (dats (F := F) m 0 c).Φ 0 := by
  rw [show (dats (F := F) m 0 c).Φ 0 = scratch m c 0 from rfl]
  unfold Pipeline.ΦA scratch
  rw [scopedRest0_eq]
  simp only [owns_whole]
  iintro ⟨⟨⟨%f0, S0⟩, ⟨%f1, S1⟩⟩, HR⟩
  isplitr [HR]
  · iexists f0, f1
    isplitr
    · ipureintro
      exact fun h => absurd rfl h
    isplitl [S0]; · iexact S0
    iexact S1
  · iexact HR

/-- and as it is given back. -/
theorem scratch_end (c : Dev nD) : (dats (F := F) m 0 c).Φ (Fin.last cfg0.N) ⊢ Pipeline.ΦA spec0 c := by
  rw [show (dats (F := F) m 0 c).Φ (Fin.last cfg0.N) = scratch m c cfg0.N from rfl]
  unfold Pipeline.ΦA scratch
  rw [scopedRest0_eq]
  simp only [owns_whole]
  iintro ⟨⟨%X0, %X1, -, S0, S1⟩, HR⟩
  isplitr [HR]
  · isplitl [S0]; · iexists _; iexact S0
    iexists _; iexact S1
  · iexact HR

set_option backward.isDefEq.respectTransparency.types false in
/-- Every execution ends with the results' arrays as the points left them, and every semaphore at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := scratch_start m) (hout := scratch_end m)

/-- The run without the semaphores. -/
theorem run_main : θ_run defs (onTc (τ := τ) (main (F := F))) (s₀ m ρ) (Pipeline.FramePost cfgs (dats m) 0 (V m)) :=
  (θ_run defs _ _).mono (fun _ h => h.1) (run_quiescent m ρ)

/-- The frame: the arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_quiescent m ρ))

end Cert.Proof.Loss

end
-- ==== Proof.Norm.Loss.lean ====
/-
  The second feed-forward block with the loss: the block's products, the residual stream after it, the loss of its norm against the
  target, and the loss's gradients. The kernel takes the down product tile by tile; the sum over the tiles is the sum over the columns.
-/
module

public import proofs.«01_k».proof.Proof.Loss.Run
public import proofs.«01_k».proof.Proof.Gen.Reference12Ideal
public import proofs.«01_k».proof.Proof.Gen.Reference12Ideal.Run
public import proofs.«01_k».proof.Proof.Norm.Act
public import proofs.«01_k».proof.Proof.Norm.FfnBack
public import proofs.«01_k».proof.Defs
public import Idealize.ShloMosaic.Lib.Pipeline.ValueKit

@[expose] public section

set_option maxRecDepth 16384

noncomputable section

namespace Cert.Proof.Loss

section

open Cert.Reference12Ideal Cert.Reference12Ideal.Gen
open Idealize.ShloMosaic Idealize.ShloMosaic.TcCoe Idealize.ShloMosaic.Pointwise Finset
open Cert.Proof.Norm

/-- Two, and the reciprocal of the width, as the programs spell them. -/
theorem ofBits_two : Ideal.ofBits FTy.f32 1073741824#32 = ((2 : ℝ) : EReal) := by
  simp [Ideal.ofBits, Ideal.ieee]; norm_num [← EReal.coe_mul]
theorem ofBits_share : Ideal.ofBits FTy.f32 981467136#32 = ((1 / 1024 : ℝ) : EReal) := by
  simp [Ideal.ofBits, Ideal.ieee]; norm_num [← EReal.coe_mul]

/-- The square's own derivative: half of one, over the width, times twice the error. -/
theorem square_rule (e : EReal) : Ideal.div (Ideal.ofBits FTy.f32 1056964608#32) (Ideal.ofBits FTy.f32 1149239296#32) * (Ideal.ofBits FTy.f32 1073741824#32 * e)
    = e * Ideal.ofBits FTy.f32 981467136#32 := by
  rw [ofBits_half, ofBits_width, ofBits_two, ofBits_share, Ideal.div_coe (by norm_num), ← mul_assoc, ← EReal.coe_mul, ← EReal.coe_mul, mul_comm]
  exact congrArg (fun r : ℝ => e * (r : EReal)) (by norm_num)

section
variable (X : FVec Ideal S4096x1024 .f32) (G : FVec Ideal S1x1024 .f32) (U W : FVec Ideal S1024x2816 .f32) (V : FVec Ideal S2816x1024 .f32)

/-- The residual stream after the block. -/
def stream : FVec Ideal S4096x1024 .f32 :=
  fun y => X (ix2 (y 0) (y 1)) + Ideal.ofBits FTy.f32 1056964608#32 * ∑ q : Fin 2816, Act.active X G U W (ix2 (y 0) q) * V (ix2 q (y 1))

/-- The reference's gate products, up products, normed rows and gated products. -/
theorem ref_gate : truncf .bf16 (Host.dotGeneral dot_S4096x1024_S1024x2816_S4096x2816_1_0_0_1_n_n none (mulf (mulf X (broadcastInDim S4096x1024 ![0, 1] bcast_S4096x1_S4096x1024_0_1 (Host.rsqrt (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 G)) U) bitsLt_bf16_f32
    = Act.product X G U := by
  funext y
  obtain ⟨i, j, rfl⟩ : ∃ i j, y = ix2 i j := ⟨y 0, y 1, (ix2_eta y).symm⟩
  pointwise []
  rfl
theorem ref_up : truncf .bf16 (Host.dotGeneral dot_S4096x1024_S1024x2816_S4096x2816_1_0_0_1_n_n none (mulf (mulf X (broadcastInDim S4096x1024 ![0, 1] bcast_S4096x1_S4096x1024_0_1 (Host.rsqrt (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 G)) W) bitsLt_bf16_f32
    = Act.product X G W := by
  funext y
  obtain ⟨i, j, rfl⟩ : ∃ i j, y = ix2 i j := ⟨y 0, y 1, (ix2_eta y).symm⟩
  pointwise []
  rfl
theorem ref_normed : truncf .bf16 (mulf (mulf X (broadcastInDim S4096x1024 ![0, 1] bcast_S4096x1_S4096x1024_0_1 (Host.rsqrt (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 G)) bitsLt_bf16_f32
    = Act.normed X G := by
  funext y
  obtain ⟨i, j, rfl⟩ : ∃ i j, y = ix2 i j := ⟨y 0, y 1, (ix2_eta y).symm⟩
  pointwise []
  rfl
theorem ref_gated : (mulf (mulf (Host.dotGeneral dot_S4096x1024_S1024x2816_S4096x2816_1_0_0_1_n_n none (mulf (mulf X (broadcastInDim S4096x1024 ![0, 1] bcast_S4096x1_S4096x1024_0_1 (Host.rsqrt (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 G)) U) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (Host.dotGeneral dot_S4096x1024_S1024x2816_S4096x2816_1_0_0_1_n_n none (mulf (mulf X (broadcastInDim S4096x1024 ![0, 1] bcast_S4096x1_S4096x1024_0_1 (Host.rsqrt (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 G)) U)))))) (Host.dotGeneral dot_S4096x1024_S1024x2816_S4096x2816_1_0_0_1_n_n none (mulf (mulf X (broadcastInDim S4096x1024 ![0, 1] bcast_S4096x1_S4096x1024_0_1 (Host.rsqrt (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 G)) W))
    = (Act.active X G U W : FVec Ideal S4096x2816 .bf16) := by
  funext y
  obtain ⟨i, j, rfl⟩ : ∃ i j, y = ix2 i j := ⟨y 0, y 1, (ix2_eta y).symm⟩
  unfold Act.active
  rw [← sig_rule]
  pointwise []
  rfl

/-- The residual stream after the block as the reference forms it. -/
theorem ref_stream : addf X (mulf (broadcastInDim S4096x1024 ![] bcast_S_S4096x1024 (constant S_ .f32 0x3F000000#32)) (Host.dotGeneral dot_S4096x2816_S2816x1024_S4096x1024_1_0_0_1_n_n none (mulf (mulf (Host.dotGeneral dot_S4096x1024_S1024x2816_S4096x2816_1_0_0_1_n_n none (mulf (mulf X (broadcastInDim S4096x1024 ![0, 1] bcast_S4096x1_S4096x1024_0_1 (Host.rsqrt (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 G)) U) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (Host.dotGeneral dot_S4096x1024_S1024x2816_S4096x2816_1_0_0_1_n_n none (mulf (mulf X (broadcastInDim S4096x1024 ![0, 1] bcast_S4096x1_S4096x1024_0_1 (Host.rsqrt (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 G)) U)))))) (Host.dotGeneral dot_S4096x1024_S1024x2816_S4096x2816_1_0_0_1_n_n none (mulf (mulf X (broadcastInDim S4096x1024 ![0, 1] bcast_S4096x1_S4096x1024_0_1 (Host.rsqrt (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 G)) W)) V))
    = stream X G U W V := by
  rw [ref_gated]
  unfold stream
  generalize Act.active X G U W = S
  funext y
  obtain ⟨i, j, rfl⟩ : ∃ i j, y = ix2 i j := ⟨y 0, y 1, (ix2_eta y).symm⟩
  pointwise []

end

section
variable (Y : FVec Ideal S4096x1024 .f32) (F : FVec Ideal S1x1024 .f32) (T : FVec Ideal S4096x1024 .f32)

/-- The difference of the normed stream and the target. -/
def err (i : Fin 4096) (j : Fin 1024) : EReal := Y (ix2 i j) * rrms (fun k => Y (ix2 i k)) * F (ix2 0 j) - T (ix2 i j)

/-- The gradient that reaches the normed stream. -/
def inc (i : Fin 4096) (j : Fin 1024) : EReal := err Y F T i j * Ideal.ofBits FTy.f32 981467136#32

/-- The gradient of the stream. -/
def rows : FVec Ideal S4096x1024 .f32 :=
  fun y => back (fun k => Y (ix2 (y 0) k)) (fun k => inc Y F T (y 0) k * F (ix2 0 k)) (y 1)

/-- What row `q` adds to entry `l` of the gradient of the gain, -/
def share (l : Fin 1024) (q : Fin 4096) : EReal := inc Y F T q l * (Y (ix2 q l) * rrms (fun k => Y (ix2 q k)))

/-- and that gradient. -/
def gain : FVec Ideal S1x1024 .f32 := fun y => ∑ q : Fin 4096, share Y F T (y 1) q

/-- What row `q` adds to the loss, -/
def part (q : Fin 4096) : EReal :=
  Ideal.ofBits FTy.f32 1056964608#32 * Ideal.div (∑ k, err Y F T q k * err Y F T q k) (Ideal.ofBits FTy.f32 1149239296#32)

/-- and the loss, at every entry of a row. -/
def loss : FVec Ideal S1x1024 .f32 := fun _ => ∑ q : Fin 4096, part Y F T q

end

variable (X : FVec Ideal S4096x1024 .f32) (G : FVec Ideal S1x1024 .f32) (U W : FVec Ideal S1024x2816 .f32) (V : FVec Ideal S2816x1024 .f32)
  (F : FVec Ideal S1x1024 .f32) (T : FVec Ideal S4096x1024 .f32) (m : (ℓ : Loc nD τ sig) → Buf (Elt Ideal) ℓ) (c : Dev nD)

/-- The loss as the reference forms it. -/
theorem ref_loss (h0 : m ((c.tc : Thread nD τ).loc main_arg0) = X)
    (h1 : m ((c.tc : Thread nD τ).loc main_arg1) = G)
    (h2 : m ((c.tc : Thread nD τ).loc main_arg2) = U)
    (h3 : m ((c.tc : Thread nD τ).loc main_arg3) = W)
    (h4 : m ((c.tc : Thread nD τ).loc main_arg4) = V)
    (h5 : m ((c.tc : Thread nD τ).loc main_arg5) = F)
    (h6 : m ((c.tc : Thread nD τ).loc main_arg6) = T) :
    Value.res_main_v73 m c = loss (stream X G U W V) F T := by
  unfold Value.res_main_v73
  rw [h0, h1, h2, h3, h4, h5, h6, ref_stream]
  generalize stream X G U W V = Y
  funext y
  obtain ⟨i, j, rfl⟩ : ∃ i j, y = ix2 i j := ⟨y 0, y 1, (ix2_eta y).symm⟩
  pointwise []
  unfold loss part
  rw [ofBits_half, coe_mul_sum (1 / 2) (by norm_num)]
  rfl

/-- The gradient of the last gain as the reference forms it. -/
theorem ref_gain (h0 : m ((c.tc : Thread nD τ).loc main_arg0) = X)
    (h1 : m ((c.tc : Thread nD τ).loc main_arg1) = G)
    (h2 : m ((c.tc : Thread nD τ).loc main_arg2) = U)
    (h3 : m ((c.tc : Thread nD τ).loc main_arg3) = W)
    (h4 : m ((c.tc : Thread nD τ).loc main_arg4) = V)
    (h5 : m ((c.tc : Thread nD τ).loc main_arg5) = F)
    (h6 : m ((c.tc : Thread nD τ).loc main_arg6) = T) :
    Value.res_main_v52 m c = gain (stream X G U W V) F T := by
  unfold Value.res_main_v52
  rw [h0, h1, h2, h3, h4, h5, h6, ref_stream]
  generalize stream X G U W V = Y
  funext y
  obtain ⟨i, j, rfl⟩ : ∃ i j, y = ix2 i j := ⟨y 0, y 1, (ix2_eta y).symm⟩
  obtain rfl : i = 0 := Subsingleton.elim _ _
  pointwise []
  unfold gain share inc
  refine Finset.sum_congr (M := EReal) rfl fun q _ => (mul_comm (G := EReal) _ _).trans (congrArg (fun a : EReal => a * _) ?_)
  exact square_rule _

/-- The gradient of the stream as the reference forms it. -/
theorem ref_rows (h0 : m ((c.tc : Thread nD τ).loc main_arg0) = X)
    (h1 : m ((c.tc : Thread nD τ).loc main_arg1) = G)
    (h2 : m ((c.tc : Thread nD τ).loc main_arg2) = U)
    (h3 : m ((c.tc : Thread nD τ).loc main_arg3) = W)
    (h4 : m ((c.tc : Thread nD τ).loc main_arg4) = V)
    (h5 : m ((c.tc : Thread nD τ).loc main_arg5) = F)
    (h6 : m ((c.tc : Thread nD τ).loc main_arg6) = T) :
    Value.res_main_v68 m c = rows (stream X G U W V) F T := by
  unfold Value.res_main_v68
  rw [h0, h1, h2, h3, h4, h5, h6, ref_stream]
  generalize stream X G U W V = Y
  funext y
  obtain ⟨i, j, rfl⟩ : ∃ i j, y = ix2 i j := ⟨y 0, y 1, (ix2_eta y).symm⟩
  pointwise []
  simp only [square_rule]
  exact rules_one (fun k => Y (ix2 i k)) (fun k => inc Y F T i k * F (ix2 0 k)) j

end

open Cert.Kernel12Ideal Cert.Kernel12Ideal.Gen
open Idealize.ShloMosaic Idealize.ShloMosaic.TcCoe Idealize.ShloMosaic.Pointwise Idealize.SL.Sem Finset
open Idealize.ShloMosaic.Pipeline (Dat Cfg Window)
open Cert.Proof.Norm
open Cert.Proof.FfnBack (colsTo colsTo_add colsTo_all)

section
variable (i : grid0.Coords) (D : FVec Ideal S1024x1024 .bf16) (wd wg wu wl : FVec Ideal S256x1024 .bf16) (S : FVec Ideal S1024x256 .bf16)
  (x0 H T : FVec Ideal S1024x1024 .f32) (g F L : FVec Ideal S1x1024 .f32)

/-- An entry of the normed rows. -/
theorem row_val (r : Fin 1024) (k : Fin 1024) : k0_pay16 (F := Ideal) x0 g (ix2 r k) = x0 (ix2 r k) * rrms (fun k => x0 (ix2 r k)) * g (ix2 0 k) := by
  pointwise [k0_pay16]
  rfl

/-- An entry of a tile of a product. -/
def tile (r : Fin 1024) (l : Fin 256) : EReal := ∑ k : Fin 1024, D (ix2 r k) * wg (ix2 l k)

theorem gate_val (r : Fin 1024) (l : Fin 256) : k0_pay23 (F := Ideal) D wg (ix2 r l) = tile D wg r l := by
  pointwise [k0_pay23, k0_pay21, k0_pay20]
  rfl
theorem up_val (r : Fin 1024) (l : Fin 256) : k0_pay24 (F := Ideal) D wu (ix2 r l) = tile D wu r l := by
  pointwise [k0_pay24, k0_pay22, k0_pay20]
  rfl

/-- An entry of a tile of the gated product, returned and kept. -/
theorem toS_val (r : Fin 1024) (l : Fin 256) : toS (F := Ideal) D wg wu (ix2 r l) = tile D wg r l * Norm.sig (tile D wg r l) * tile D wu r l := by
  pointwise [toS, k0_pay1, k0_pay20, k0_pay21, k0_pay22, k0_pay25]
  rfl
theorem keptS_val (r : Fin 1024) (l : Fin 256) : keptS (F := Ideal) D wg wu (ix2 r l) = toS (F := Ideal) D wg wu (ix2 r l) := by
  unfold keptS toS
  pointwise [k0_pay2]

/-- An entry of the sum over tiles at the first tile, -/
theorem more_first (h : (i 1).val = 0) (r : Fin 1024) (k : Fin 1024) : more (F := Ideal) i H S wd (ix2 r k) = 0 := by
  unfold more
  simp only [if_pos h]
  pointwise [k0_pay19, k0_pay17, k0_pay18]
  simp

/-- and at a later one. -/
theorem more_next (h : ¬ (i 1).val = 0) (r : Fin 1024) (k : Fin 1024) : more (F := Ideal) i H S wd (ix2 r k)
    = H (ix2 r k) + ∑ x : Fin 256, S (ix2 r x) * wd (ix2 x k) := by
  unfold more
  simp only [if_neg h]
  pointwise [k0_pay19]

/-- An entry of the stream after the block, at a last tile, -/
def after (r : Fin 1024) (k : Fin 1024) : EReal :=
  x0 (ix2 r k) + Ideal.ofBits FTy.f32 1056964608#32 * (H (ix2 r k) + ∑ x : Fin 256, S (ix2 r x) * wl (ix2 x k))

/-- of its norm's difference from the target, -/
def miss (r : Fin 1024) (k : Fin 1024) : EReal :=
  after wl S x0 H r k * rrms (after wl S x0 H r) * F (ix2 0 k) - T (ix2 r k)

/-- and of the gradient of a row block's stream. -/
theorem toX_val (r : Fin 1024) (l : Fin 1024) : toX (F := Ideal) S x0 H wl F T (ix2 r l)
    = back (after wl S x0 H r) (fun k => miss wl S x0 H T F r k * Ideal.ofBits FTy.f32 981467136#32 * F (ix2 0 k)) l := by
  pointwise [toX, k0_pay3, k0_pay9, k0_pay10, k0_pay14, k0_pay15, k0_pay13, k0_pay11, k0_pay8]
  rfl

/-- What a row block adds to the gradient of the gain, -/
theorem gain_val (l : Fin 1024) : k0_pay4 (F := Ideal) (k0_pay10 S x0 H wl) (k0_pay13 S x0 H wl F T) (ix2 0 l)
    = ∑ r : Fin 1024, miss wl S x0 H T F r l * Ideal.ofBits FTy.f32 981467136#32 * (after wl S x0 H r l * rrms (after wl S x0 H r)) := by
  pointwise [k0_pay4, k0_pay13, k0_pay11, k0_pay10, k0_pay9, k0_pay8]
  rfl
theorem gain_next (p q : FVec Ideal S1024x1024 .f32) (l : Fin 1024) : k0_pay6 (F := Ideal) p q L (ix2 0 l) = L (ix2 0 l) + k0_pay4 (F := Ideal) p q (ix2 0 l) := by
  pointwise [k0_pay6]

/-- and to the loss. -/
theorem loss_val (l : Fin 1024) : k0_pay5 (F := Ideal) (k0_pay12 S x0 H wl F T) (ix2 0 l)
    = Ideal.ofBits FTy.f32 1056964608#32 * ∑ r : Fin 1024, Ideal.div (∑ k, miss wl S x0 H T F r k * miss wl S x0 H T F r k) (Ideal.ofBits FTy.f32 1149239296#32) := by
  pointwise [k0_pay5, k0_pay12, k0_pay11, k0_pay10, k0_pay9, k0_pay8]
  rfl
theorem loss_next (p : FVec Ideal S1x1 .f32) (l : Fin 1024) : k0_pay7 (F := Ideal) p L (ix2 0 l) = L (ix2 0 l) + k0_pay5 (F := Ideal) p (ix2 0 l) := by
  pointwise [k0_pay7, k0_pay5]

end

variable (m : (ℓ : Loc nD τ sig) → Buf (Elt Ideal) ℓ) (ρ : Dev nD → PrngReg)

theorem index0 : ∀ t : Fin cfg0.N, win0_0.index t = ![t.val / 11, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val % 11, 0] := (by decide +kernel : ∀ t : Fin grid0.N, _)
theorem index3 : ∀ t : Fin cfg0.N, win0_3.index t = ![t.val % 11, 0] := (by decide +kernel : ∀ t : Fin grid0.N, _)
theorem index4 : ∀ t : Fin cfg0.N, win0_4.index t = ![t.val % 11 - 1, 0] := (by decide +kernel : ∀ t : Fin grid0.N, _)
theorem index5 : ∀ t : Fin cfg0.N, win0_5.index t = ![10, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![t.val / 11, 0] := (by decide +kernel : ∀ t : Fin grid0.N, _)
theorem index8 : ∀ t : Fin cfg0.N, win0_8.index t = ![t.val / 11, 0] := (by decide +kernel : ∀ t : Fin grid0.N, _)
theorem index9 : ∀ t : Fin cfg0.N, win0_9.index t = ![t.val / 11, t.val % 11] := (by decide +kernel : ∀ t : Fin grid0.N, _)
theorem index10 : ∀ t : Fin cfg0.N, win0_10.index t = ![t.val / 11, t.val % 11] := (by decide +kernel : ∀ t : Fin grid0.N, _)
theorem index11 : ∀ t : Fin cfg0.N, win0_11.index t = ![t.val / 11, 0] := (by decide +kernel : ∀ t : Fin grid0.N, _)
theorem index12 : ∀ t : Fin cfg0.N, win0_12.index t = ![t.val / 11, t.val % 11] := (by decide +kernel : ∀ t : Fin grid0.N, _)
theorem index13 : ∀ t : Fin cfg0.N, win0_13.index t = ![0, 0] := (by decide +kernel : ∀ t : Fin grid0.N, _)
theorem index14 : ∀ t : Fin cfg0.N, win0_14.index t = ![0, 0] := (by decide +kernel : ∀ t : Fin grid0.N, _)

/-- Row `r` of the row block of point `t`, column `l` of its tile, of the tile before it, and of the last tile. -/
def row (t : Fin cfg0.N) (r : Fin 1024) : Fin 4096 := ⟨1024 * (t.val / 11) + r.val, by have := lt_44 t; omega⟩
def col (t : Fin cfg0.N) (l : Fin 256) : Fin 2816 := ⟨256 * (t.val % 11) + l.val, by omega⟩
def colBefore (t : Fin cfg0.N) (l : Fin 256) : Fin 2816 := ⟨256 * (t.val % 11 - 1) + l.val, by omega⟩
def colLast (l : Fin 256) : Fin 2816 := ⟨2560 + l.val, by omega⟩

theorem emb0 (t : Fin cfg0.N) (r : Fin 1024) (k : Fin 1024) : (win0_0.blk t).view.emb (ix2 r k) = ix2 (row t r) k := by
  unfold row; blk_ext [index0]
theorem emb1 (t : Fin cfg0.N) (l : Fin 1) (k : Fin 1024) : (win0_1.blk t).view.emb (ix2 l k) = ix2 l k := by
  blk_ext [index1]
theorem emb2 (t : Fin cfg0.N) (l : Fin 256) (k : Fin 1024) : (win0_2.blk t).view.emb (ix2 l k) = ix2 (col t l) k := by
  unfold col; blk_ext [index2]
theorem emb3 (t : Fin cfg0.N) (l : Fin 256) (k : Fin 1024) : (win0_3.blk t).view.emb (ix2 l k) = ix2 (col t l) k := by
  unfold col; blk_ext [index3]
theorem emb4 (t : Fin cfg0.N) (l : Fin 256) (k : Fin 1024) : (win0_4.blk t).view.emb (ix2 l k) = ix2 (colBefore t l) k := by
  unfold colBefore; blk_ext [index4]
theorem emb5 (t : Fin cfg0.N) (l : Fin 256) (k : Fin 1024) : (win0_5.blk t).view.emb (ix2 l k) = ix2 (colLast l) k := by
  unfold colLast; blk_ext [index5]
theorem emb6 (t : Fin cfg0.N) (l : Fin 1) (k : Fin 1024) : (win0_6.blk t).view.emb (ix2 l k) = ix2 l k := by
  blk_ext [index6]
theorem emb7 (t : Fin cfg0.N) (r : Fin 1024) (k : Fin 1024) : (win0_7.blk t).view.emb (ix2 r k) = ix2 (row t r) k := by
  unfold row; blk_ext [index7]
theorem emb8 (t : Fin cfg0.N) (r : Fin 1024) (k : Fin 1024) : (win0_8.blk t).view.emb (ix2 r k) = ix2 (row t r) k := by
  unfold row; blk_ext [index8]
theorem emb9 (t : Fin cfg0.N) (r : Fin 1024) (l : Fin 256) : (win0_9.blk t).view.emb (ix2 r l) = ix2 (row t r) (col t l) := by
  unfold row col; blk_ext [index9]
theorem emb10 (t : Fin cfg0.N) (r : Fin 1024) (l : Fin 256) : (win0_10.blk t).view.emb (ix2 r l) = ix2 (row t r) (col t l) := by
  unfold row col; blk_ext [index10]
theorem emb11 (t : Fin cfg0.N) (r : Fin 1024) (k : Fin 1024) : (win0_11.blk t).view.emb (ix2 r k) = ix2 (row t r) k := by
  unfold row; blk_ext [index11]
theorem emb12 (t : Fin cfg0.N) (r : Fin 1024) (l : Fin 256) : (win0_12.blk t).view.emb (ix2 r l) = ix2 (row t r) (col t l) := by
  unfold row col; blk_ext [index12]
theorem emb13 (t : Fin cfg0.N) (l : Fin 1) (k : Fin 1024) : (win0_13.blk t).view.emb (ix2 l k) = ix2 l k := by
  blk_ext [index13]
theorem emb14 (t : Fin cfg0.N) (l : Fin 1) (k : Fin 1024) : (win0_14.blk t).view.emb (ix2 l k) = ix2 l k := by
  blk_ext [index14]

section
variable (c : Dev nD) (X : (b : Ref sig .tc) → Buf (Elt Ideal) ((c : Thread nD τ).loc b))
theorem read0 (t : Fin cfg0.N) (y) : ((cfg0.win 0).blk t).view.read (Elt Ideal) (X (Pipeline.arrRef spec0 0)) y
    = X main_arg0 ((win0_0.blk t).view.emb y) := rfl
theorem read1 (t : Fin cfg0.N) (y) : ((cfg0.win 1).blk t).view.read (Elt Ideal) (X (Pipeline.arrRef spec0 1)) y
    = X main_arg1 ((win0_1.blk t).view.emb y) := rfl
theorem read2 (t : Fin cfg0.N) (y) : ((cfg0.win 2).blk t).view.read (Elt Ideal) (X (Pipeline.arrRef spec0 2)) y
    = X main_v1 ((win0_2.blk t).view.emb y) := rfl
theorem read3 (t : Fin cfg0.N) (y) : ((cfg0.win 3).blk t).view.read (Elt Ideal) (X (Pipeline.arrRef spec0 3)) y
    = X main_v3 ((win0_3.blk t).view.emb y) := rfl
theorem read4 (t : Fin cfg0.N) (y) : ((cfg0.win 4).blk t).view.read (Elt Ideal) (X (Pipeline.arrRef spec0 4)) y
    = X main_v4 ((win0_4.blk t).view.emb y) := rfl
theorem read5 (t : Fin cfg0.N) (y) : ((cfg0.win 5).blk t).view.read (Elt Ideal) (X (Pipeline.arrRef spec0 5)) y
    = X main_v4 ((win0_5.blk t).view.emb y) := rfl
theorem read6 (t : Fin cfg0.N) (y) : ((cfg0.win 6).blk t).view.read (Elt Ideal) (X (Pipeline.arrRef spec0 6)) y
    = X main_arg5 ((win0_6.blk t).view.emb y) := rfl
theorem read7 (t : Fin cfg0.N) (y) : ((cfg0.win 7).blk t).view.read (Elt Ideal) (X (Pipeline.arrRef spec0 7)) y
    = X main_arg6 ((win0_7.blk t).view.emb y) := rfl
end

/-- The gate and up weights as the launch finds them: transposed and rounded. -/
def flipped (B : FVec Ideal S1024x2816 .f32) : FVec Ideal S2816x1024 .bf16 :=
  truncf .bf16 (transpose S2816x1024 [1, 0] B transposes_S1024x2816_S2816x1024_1_0) bitsLt_bf16_f32

theorem V_gate (c : Dev nD) : V m c main_v1 = flipped (m ((c : Thread nD τ).loc main_arg2)) := by
  show StableHlo.after _ _ _ = _
  simp only [hostOps0]
  after_results_simp
  rfl

theorem V_up (c : Dev nD) : V m c main_v3 = flipped (m ((c : Thread nD τ).loc main_arg3)) := by
  show StableHlo.after _ _ _ = _
  simp only [hostOps0]
  after_results_simp
  rfl

theorem flipped_val (B : FVec Ideal S1024x2816 .f32) (l : Fin 2816) (k : Fin 1024) : flipped B (ix2 l k) = B (ix2 k l) := by
  pointwise [flipped]

/-- The down weights as the launch finds them: rounded, which changes nothing over the extended reals. -/
theorem V_rounded (c : Dev nD) (y : S2816x1024.Idx) : (V m c main_v4 : FVec Ideal S2816x1024 .bf16) y = m ((c.tc : Thread nD τ).loc main_arg4) y := by
  have h : V m c main_v4 = truncf (F := Ideal) .bf16 (m ((c.tc : Thread nD τ).loc main_arg4) : FVec Ideal S2816x1024 .f32) bitsLt_bf16_f32 := by
    show StableHlo.after _ _ _ = _
    simp only [hostOps0]
    after_results_simp
  rw [h]; rfl

/-! The arguments, the gated product and the stream after the block, as arrays. -/
section
variable (c : Dev nD)
abbrev aX : FVec Ideal S4096x1024 .f32 := m ((c.tc : Thread nD τ).loc main_arg0)
abbrev aG : FVec Ideal S1x1024 .f32 := m ((c.tc : Thread nD τ).loc main_arg1)
abbrev aU : FVec Ideal S1024x2816 .f32 := m ((c.tc : Thread nD τ).loc main_arg2)
abbrev aW : FVec Ideal S1024x2816 .f32 := m ((c.tc : Thread nD τ).loc main_arg3)
abbrev aV : FVec Ideal S2816x1024 .f32 := m ((c.tc : Thread nD τ).loc main_arg4)
abbrev aF : FVec Ideal S1x1024 .f32 := m ((c.tc : Thread nD τ).loc main_arg5)
abbrev aT : FVec Ideal S4096x1024 .f32 := m ((c.tc : Thread nD τ).loc main_arg6)
def gS : FVec Ideal S4096x2816 .bf16 := Act.active (aX m c) (aG m c) (aU m c) (aW m c)
def gY : FVec Ideal S4096x1024 .f32 := stream (aX m c) (aG m c) (aU m c) (aW m c) (aV m c)
end

section
variable (c : Dev nD) (t : Fin cfg0.N)

/-! The blocks that point `t` reads. -/
abbrev b0 : FVec Ideal S1024x1024 .f32 := iblk m c 0 t
abbrev b1 : FVec Ideal S1x1024 .f32 := iblk m c 1 t
abbrev b2 : FVec Ideal S256x1024 .bf16 := iblk m c 2 t
abbrev b3 : FVec Ideal S256x1024 .bf16 := iblk m c 3 t
abbrev b4 : FVec Ideal S256x1024 .bf16 := iblk m c 4 t
abbrev b5 : FVec Ideal S256x1024 .bf16 := iblk m c 5 t
abbrev b6 : FVec Ideal S1x1024 .f32 := iblk m c 6 t
abbrev b7 : FVec Ideal S1024x1024 .f32 := iblk m c 7 t
theorem in0 (r : Fin 1024) (k : Fin 1024) : b0 m c t (ix2 r k) = aX m c (ix2 (row t r) k) :=
  ((read0 c (V m c) t _).trans (congrArg _ (emb0 t r k))).trans (congrFun (V_main_arg0 m c) _)
theorem in1 (l : Fin 1) (k : Fin 1024) : b1 m c t (ix2 l k) = aG m c (ix2 l k) :=
  ((read1 c (V m c) t _).trans (congrArg _ (emb1 t l k))).trans (congrFun (V_main_arg1 m c) _)
theorem in2 (l : Fin 256) (k : Fin 1024) : b2 m c t (ix2 l k) = aU m c (ix2 k (col t l)) :=
  ((read2 c (V m c) t _).trans (congrArg _ (emb2 t l k))).trans ((congrFun (V_gate m c) _).trans (flipped_val _ _ k))
theorem in3 (l : Fin 256) (k : Fin 1024) : b3 m c t (ix2 l k) = aW m c (ix2 k (col t l)) :=
  ((read3 c (V m c) t _).trans (congrArg _ (emb3 t l k))).trans ((congrFun (V_up m c) _).trans (flipped_val _ _ k))
theorem in4 (l : Fin 256) (k : Fin 1024) : b4 m c t (ix2 l k) = aV m c (ix2 (colBefore t l) k) :=
  ((read4 c (V m c) t _).trans (congrArg _ (emb4 t l k))).trans (V_rounded m c _)
theorem in5 (l : Fin 256) (k : Fin 1024) : b5 m c t (ix2 l k) = aV m c (ix2 (colLast l) k) :=
  ((read5 c (V m c) t _).trans (congrArg _ (emb5 t l k))).trans (V_rounded m c _)
theorem in6 (l : Fin 1) (k : Fin 1024) : b6 m c t (ix2 l k) = aF m c (ix2 l k) :=
  ((read6 c (V m c) t _).trans (congrArg _ (emb6 t l k))).trans (congrFun (V_main_arg5 m c) _)
theorem in7 (r : Fin 1024) (k : Fin 1024) : b7 m c t (ix2 r k) = aT m c (ix2 (row t r) k) :=
  ((read7 c (V m c) t _).trans (congrArg _ (emb7 t r k))).trans (congrFun (V_main_arg6 m c) _)

theorem row_start (r : Fin 1024) : row (start t) r = row t r := by
  have := lt_44 t
  unfold row start pt
  exact Fin.ext (by dsimp only; omega)

/-- The normed rows of the row block of point `t`. -/
theorem hrow_val (r : Fin 1024) (k : Fin 1024) : hrow m c t (ix2 r k) = Act.normed (aX m c) (aG m c) (ix2 (row t r) k) := by
  unfold hrow
  refine (row_val _ _ r k).trans ?_
  rw [← row_start]
  exact congrArg₂ (· * ·) (congrArg₂ (· * ·) (in0 m c (start t) r k) (congrArg rrms (funext fun k => in0 m c (start t) r k))) (in1 m c (start t) 0 k)

/-- The tile's gate and up products, -/
theorem tile_gate (r : Fin 1024) (l : Fin 256) : tile (hrow m c t) (b2 m c t) r l = Act.product (aX m c) (aG m c) (aU m c) (ix2 (row t r) (col t l)) := by
  unfold tile Act.product
  exact Finset.sum_congr rfl fun x _ => congrArg₂ (· * ·) (hrow_val m c t r x) (in2 m c t l x)
theorem tile_up (r : Fin 1024) (l : Fin 256) : tile (hrow m c t) (b3 m c t) r l = Act.product (aX m c) (aG m c) (aW m c) (ix2 (row t r) (col t l)) := by
  unfold tile Act.product
  exact Finset.sum_congr rfl fun x _ => congrArg₂ (· * ·) (hrow_val m c t r x) (in3 m c t l x)

/-- and its gated product, returned and kept. -/
theorem gs_val (r : Fin 1024) (l : Fin 256) : gs m c t (ix2 r l) = gS m c (ix2 (row t r) (col t l)) := by
  unfold gs gS Act.active
  refine (toS_val _ _ _ r l).trans ?_
  exact congrArg₂ (· * ·) (congrArg (fun a => a * Norm.sig a) (tile_gate m c t r l)) (tile_up m c t r l)
theorem ks_val (r : Fin 1024) (l : Fin 256) : ks m c t (ix2 r l) = gS m c (ix2 (row t r) (col t l)) :=
  (keptS_val _ _ _ r l).trans (gs_val m c t r l)

end

/-- What column `x` adds to entry `k` of the down product of row `q`. -/
def addend (c : Dev nD) (q : Fin 4096) (k : Fin 1024) (x : Fin 2816) : EReal := gS m c (ix2 q x) * aV m c (ix2 x k)

/-- The scratch's sum at point number `n` is over the columns of the tiles before. -/
theorem sums_val (c : Dev nD) (r : Fin 1024) (k : Fin 1024) : ∀ (n : ℕ) (hn : n < cfg0.N),
    sums m c n (ix2 r k) = colsTo (addend m c (row ⟨n, hn⟩ r) k) (256 * (n % 11))
  | 0, hn => by
    rw [sums]
    refine (more_first _ _ _ _ ?_ r k).trans ?_
    · exact (coords_tile _).trans (by decide)
    · rfl
  | n + 1, hn => by
    have h44 : n + 1 < 44 := lt_44 ⟨n + 1, hn⟩
    rw [sums, show pt (n + 1) = ⟨n + 1, hn⟩ from pt_val ⟨n + 1, hn⟩]
    by_cases h0 : (n + 1) % 11 = 0
    · refine (more_first _ _ _ _ ((coords_tile ⟨n + 1, hn⟩).trans h0) r k).trans ?_
      rw [h0]
      rfl
    · refine (more_next _ _ _ _ (fun h => h0 ((coords_tile ⟨n + 1, hn⟩).symm.trans h)) r k).trans ?_
      have hn' : n < cfg0.N := Nat.lt_of_succ_lt hn
      have ep : pt n = ⟨n, hn'⟩ := pt_val ⟨n, hn'⟩
      have er : row ⟨n, hn'⟩ r = row ⟨n + 1, hn⟩ r := Fin.ext (by unfold row; dsimp only; omega)
      rw [sums_val c r k n hn', ep, show 256 * ((n + 1) % 11) = 256 * (n % 11) + 256 by omega, colsTo_add _ _ (by omega), er]
      have ec : ∀ l, colBefore ⟨n + 1, hn⟩ l = col ⟨n, hn'⟩ l := fun l => Fin.ext (by unfold colBefore col; dsimp only; omega)
      refine congrArg₂ (· + ·) rfl (sum_congr rfl fun l _ => ?_)
      refine (congrArg₂ (· * ·) (ks_val m c ⟨n, hn'⟩ r l) (in4 m c ⟨n + 1, hn⟩ l k)).trans ?_
      rw [ec, er]
      rfl

section
variable (c : Dev nD) (t : Fin cfg0.N)

/-- At the last tile, the sum and the last tile's product are the whole down product, so the stream after the block is the reference's. -/
theorem last_stream (h : t.val % 11 = 10) (r : Fin 1024) (k : Fin 1024) :
    after (b5 m c t) (gs m c t) (b0 m c t) (sums m c t.val) r k = gY m c (ix2 (row t r) k) := by
  have ec : ∀ l, col t l = colLast l := fun l => Fin.ext (by unfold col colLast; dsimp only; omega)
  have e : sums m c t.val (ix2 r k) + ∑ x : Fin 256, gs m c t (ix2 r x) * b5 m c t (ix2 x k) = ∑ q : Fin 2816, addend m c (row t r) k q := by
    rw [← colsTo_all, show 2816 = 256 * (t.val % 11) + 256 by omega, colsTo_add _ _ (by omega)]
    refine congrArg₂ (· + ·) (sums_val m c r k t.val t.isLt) (sum_congr rfl fun l _ => ?_)
    refine (congrArg₂ (· * ·) (gs_val m c t r l) (in5 m c t l k)).trans ?_
    rw [← ec]
    rfl
  unfold after gY stream
  exact congrArg₂ (· + ·) (in0 m c t r k) (congrArg (_ * ·) e)

theorem last_row (h : t.val % 11 = 10) (r : Fin 1024) :
    after (b5 m c t) (gs m c t) (b0 m c t) (sums m c t.val) r = fun k => gY m c (ix2 (row t r) k) :=
  funext fun k => last_stream m c t h r k

/-- The norm's difference from the target. -/
theorem last_miss (h : t.val % 11 = 10) (r : Fin 1024) (k : Fin 1024) :
    miss (b5 m c t) (gs m c t) (b0 m c t) (sums m c t.val) (b7 m c t) (b6 m c t) r k = err (gY m c) (aF m c) (aT m c) (row t r) k := by
  unfold miss err
  rw [last_row m c t h r]
  exact congrArg₂ (· - ·) (congrArg (_ * ·) (in6 m c t 0 k)) (in7 m c t r k)

/-- An entry of the gradient of the stream at a row block's last tile. -/
theorem block_rows (h : t.val % 11 = 10) (r : Fin 1024) (l : Fin 1024) :
    toX (F := Ideal) (gs m c t) (b0 m c t) (sums m c t.val) (b5 m c t) (b6 m c t) (b7 m c t) (ix2 r l)
    = rows (gY m c) (aF m c) (aT m c) (ix2 (row t r) l) := by
  refine (toX_val _ _ _ _ _ _ r l).trans ?_
  unfold rows inc
  exact congrArg₂ (fun a b => back a b l) (last_row m c t h r)
    (funext fun k => congrArg₂ (· * ·) (congrArg (· * _) (last_miss m c t h r k)) (in6 m c t 0 k))

/-- What the row block of point `t` adds to the gradient of the gain, -/
theorem block_gain (h : t.val % 11 = 10) (l : Fin 1024) :
    k0_pay4 (F := Ideal) (k0_pay10 (gs m c t) (b0 m c t) (sums m c t.val) (b5 m c t)) (k0_pay13 (gs m c t) (b0 m c t) (sums m c t.val) (b5 m c t) (b6 m c t) (b7 m c t)) (ix2 0 l)
    = ∑ r : Fin 1024, share (gY m c) (aF m c) (aT m c) l (row t r) := by
  refine (gain_val _ _ _ _ _ _ l).trans (Finset.sum_congr rfl fun r _ => ?_)
  unfold share inc
  exact congrArg₂ (· * ·) (congrArg (· * _) (last_miss m c t h r l))
    (congrArg (fun a : Fin 1024 → EReal => a l * rrms a) (last_row m c t h r))

/-- and to the loss. -/
theorem block_loss (h : t.val % 11 = 10) (l : Fin 1024) :
    k0_pay5 (F := Ideal) (k0_pay12 (gs m c t) (b0 m c t) (sums m c t.val) (b5 m c t) (b6 m c t) (b7 m c t)) (ix2 0 l)
    = ∑ r : Fin 1024, part (gY m c) (aF m c) (aT m c) (row t r) := by
  refine (loss_val _ _ _ _ _ _ l).trans ?_
  unfold part
  rw [ofBits_half, coe_mul_sum (1 / 2) (by norm_num)]
  refine congrArg (_ * ·) (Finset.sum_congr rfl fun r _ => congrArg (Ideal.div · _) (Finset.sum_congr rfl fun k _ => ?_))
  rw [last_miss m c t h r k]

end

/-- The gradient of the gain after point number `n`: the sum over the rows of the finished row blocks. -/
theorem gains_val (c : Dev nD) (l : Fin 1024) : ∀ n : ℕ, n < cfg0.N → 10 ≤ n →
    gains m c n (ix2 0 l) = upTo (share (gY m c) (aF m c) (aT m c) l) (1024 * ((n + 1) / 11))
  | 0, _, h => absurd h (by decide)
  | n + 1, hn, h => by
    have h44 : n + 1 < 44 := lt_44 ⟨n + 1, hn⟩
    refine (congrFun (gains_pos m c ⟨n + 1, hn⟩ (by dsimp only; omega)) _).trans ?_
    dsimp only
    by_cases h10 : (n + 1) % 11 = 10
    · rw [if_pos h10, show 1024 * ((n + 1 + 1) / 11) = 1024 * ((n + 1) / 11) + 1024 by omega, upTo_add _ _ 1024 (by omega)]
      refine Eq.trans ?_ (congrArg _ (block_gain m c ⟨n + 1, hn⟩ h10 l))
      unfold toG
      rw [coords_row ⟨n + 1, hn⟩]
      dsimp only
      by_cases h0 : (n + 1) / 11 = 0
      · rw [if_pos h0, h0, Nat.mul_zero, upTo_zero, zero_add]
      · rw [if_neg h0]
        refine (gain_next _ _ _ l).trans (congrArg (· + _) ?_)
        exact gains_val c l n (Nat.lt_of_succ_lt hn) (by omega)
    · rw [if_neg h10, show (n + 1 + 1) / 11 = (n + 1) / 11 by omega]
      exact gains_val c l n (Nat.lt_of_succ_lt hn) (by omega)

/-- The loss after point number `n`: the same. -/
theorem losses_val (c : Dev nD) (l : Fin 1024) : ∀ n : ℕ, n < cfg0.N → 10 ≤ n →
    losses m c n (ix2 0 l) = upTo (part (gY m c) (aF m c) (aT m c)) (1024 * ((n + 1) / 11))
  | 0, _, h => absurd h (by decide)
  | n + 1, hn, h => by
    have h44 : n + 1 < 44 := lt_44 ⟨n + 1, hn⟩
    refine (congrFun (losses_pos m c ⟨n + 1, hn⟩ (by dsimp only; omega)) _).trans ?_
    dsimp only
    by_cases h10 : (n + 1) % 11 = 10
    · rw [if_pos h10, show 1024 * ((n + 1 + 1) / 11) = 1024 * ((n + 1) / 11) + 1024 by omega, upTo_add _ _ 1024 (by omega)]
      refine Eq.trans ?_ (congrArg _ (block_loss m c ⟨n + 1, hn⟩ h10 l))
      unfold toL
      rw [coords_row ⟨n + 1, hn⟩]
      dsimp only
      by_cases h0 : (n + 1) / 11 = 0
      · rw [if_pos h0, h0, Nat.mul_zero, upTo_zero, zero_add]
      · rw [if_neg h0]
        refine (loss_next _ _ l).trans (congrArg (· + _) ?_)
        exact losses_val c l n (Nat.lt_of_succ_lt hn) (by omega)
    · rw [if_neg h10, show (n + 1 + 1) / 11 = (n + 1) / 11 by omega]
      exact losses_val c l n (Nat.lt_of_succ_lt hn) (by omega)

theorem final8 (c : Dev nD) : (dats m 0 c).arrAt 8 cfg0.N = rows (gY m c) (aF m c) (aT m c) := by
  refine (dats m 0 c).arrAt_eq_of_covers 8 _ (by decide +kernel) fun t hf y => ?_
  obtain ⟨r, l, rfl⟩ : ∃ (r : Fin 1024) (l : Fin 1024), y = ix2 r l := ⟨y 0, y 1, (ix2_eta y).symm⟩
  blk_simp; rw [after0_8]
  exact (block_rows m c t ((flush0_8 t).mp hf) r l).trans (congrArg (rows (gY m c) (aF m c) (aT m c)) (emb8 t r l)).symm

theorem final9 (c : Dev nD) : (dats m 0 c).arrAt 9 cfg0.N = Act.product (aX m c) (aG m c) (aU m c) := by
  refine (dats m 0 c).arrAt_eq_of_covers 9 _ (by decide +kernel) fun t hf y => ?_
  obtain ⟨r, l, rfl⟩ : ∃ (r : Fin 1024) (l : Fin 256), y = ix2 r l := ⟨y 0, y 1, (ix2_eta y).symm⟩
  blk_simp; rw [after0_9]
  exact ((gate_val _ _ r l).trans (tile_gate m c t r l)).trans (congrArg (Act.product (aX m c) (aG m c) (aU m c)) (emb9 t r l)).symm

theorem final10 (c : Dev nD) : (dats m 0 c).arrAt 10 cfg0.N = Act.product (aX m c) (aG m c) (aW m c) := by
  refine (dats m 0 c).arrAt_eq_of_covers 10 _ (by decide +kernel) fun t hf y => ?_
  obtain ⟨r, l, rfl⟩ : ∃ (r : Fin 1024) (l : Fin 256), y = ix2 r l := ⟨y 0, y 1, (ix2_eta y).symm⟩
  blk_simp; rw [after0_10]
  exact ((up_val _ _ r l).trans (tile_up m c t r l)).trans (congrArg (Act.product (aX m c) (aG m c) (aW m c)) (emb10 t r l)).symm

theorem final11 (c : Dev nD) : (dats m 0 c).arrAt 11 cfg0.N = Act.normed (aX m c) (aG m c) := by
  refine (dats m 0 c).arrAt_eq_of_covers 11 _ (by decide +kernel) fun t hf y => ?_
  obtain ⟨r, l, rfl⟩ : ∃ (r : Fin 1024) (l : Fin 1024), y = ix2 r l := ⟨y 0, y 1, (ix2_eta y).symm⟩
  blk_simp; rw [after0_11]
  exact (hrow_val m c t r l).trans (congrArg (Act.normed (aX m c) (aG m c)) (emb11 t r l)).symm

theorem final12 (c : Dev nD) : (dats m 0 c).arrAt 12 cfg0.N = gS m c := by
  refine (dats m 0 c).arrAt_eq_of_covers 12 _ (by decide +kernel) fun t hf y => ?_
  obtain ⟨r, l, rfl⟩ : ∃ (r : Fin 1024) (l : Fin 256), y = ix2 r l := ⟨y 0, y 1, (ix2_eta y).symm⟩
  blk_simp; rw [after0_12]
  exact (gs_val m c t r l).trans (congrArg (gS m c) (emb12 t r l)).symm

theorem final13 (c : Dev nD) : (dats m 0 c).arrAt 13 cfg0.N = gain (gY m c) (aF m c) (aT m c) := by
  refine (dats m 0 c).arrAt_eq_of_covers 13 _ (by decide +kernel) fun t hf y => ?_
  obtain ⟨r, l, rfl⟩ : ∃ (r : Fin 1) (l : Fin 1024), y = ix2 r l := ⟨y 0, y 1, (ix2_eta y).symm⟩
  obtain rfl : r = 0 := Subsingleton.elim _ _
  blk_simp; rw [after0_13]
  have h44 := lt_44 t
  have h43 := (flush0_13 t).mp hf
  refine (gains_val m c l t.val t.isLt (by omega)).trans ?_
  rw [show 1024 * ((t.val + 1) / 11) = 4096 by omega]
  refine (upTo_all _).trans ?_
  exact (congrArg (gain (gY m c) (aF m c) (aT m c)) (emb13 t 0 l)).symm

theorem final14 (c : Dev nD) : (dats m 0 c).arrAt 14 cfg0.N = loss (gY m c) (aF m c) (aT m c) := by
  refine (dats m 0 c).arrAt_eq_of_covers 14 _ (by decide +kernel) fun t hf y => ?_
  obtain ⟨r, l, rfl⟩ : ∃ (r : Fin 1) (l : Fin 1024), y = ix2 r l := ⟨y 0, y 1, (ix2_eta y).symm⟩
  obtain rfl : r = 0 := Subsingleton.elim _ _
  blk_simp; rw [after0_14]
  have h44 := lt_44 t
  have h43 := (flush0_14 t).mp hf
  refine (losses_val m c l t.val t.isLt (by omega)).trans ?_
  rw [show 1024 * ((t.val + 1) / 11) = 4096 by omega]
  refine (upTo_all _).trans ?_
  exact (congrArg (loss (gY m c) (aF m c) (aT m c)) (emb14 t 0 l)).symm

/-- The kernel's seven results are the reference's. -/
theorem algebraic : Cert.algebraic_Kernel12Ideal_Reference12Ideal := by
  intro m g m' g' hpre hargs
  refine ⟨fun c => rows (gY m c) (aF m c) (aT m c), fun c => Act.product (aX m c) (aG m c) (aU m c), fun c => Act.product (aX m c) (aG m c) (aW m c), fun c => Act.normed (aX m c) (aG m c), fun c => gS m c, fun c => gain (gY m c) (aF m c) (aT m c), fun c => loss (gY m c) (aF m c) (aT m c), ?_, ?_⟩
  · exact (θ_run defs _ _).mono (fun r h c => ⟨((h.1 c).1 8).trans (final8 m c), ((h.1 c).1 9).trans (final9 m c), ((h.1 c).1 10).trans (final10 m c), ((h.1 c).1 11).trans (final11 m c), ((h.1 c).1 12).trans (final12 m c), ((h.1 c).1 13).trans (final13 m c), ((h.1 c).1 14).trans (final14 m c), h.2.1 c⟩)
      (θ_run_and (run_main m g) (frame m g))
  · refine (θ_run Cert.Reference12Ideal.defs _ _).mono (fun r h c => ?_) (Cert.Reference12Ideal.Value.run (F := Ideal) m' g')
    obtain ⟨a0, a1, a2, a3, a4, a5, a6⟩ := hargs c
    obtain ⟨q0, q1, q2, q3, q4, q5, q6, q7⟩ := h c
    rw [a0, a1, a2] at q1
    rw [a0, a1, a3] at q2
    rw [a0, a1] at q3
    rw [a0, a1, a2, a3] at q4
    exact ⟨q0.trans (ref_rows _ _ _ _ _ _ _ m' c a0 a1 a2 a3 a4 a5 a6), q1.trans (ref_gate _ _ _), q2.trans (ref_up _ _ _), q3.trans (ref_normed _ _),
      q4.trans (ref_gated _ _ _ _), q5.trans (ref_gain _ _ _ _ _ _ _ m' c a0 a1 a2 a3 a4 a5 a6), q6.trans (ref_loss _ _ _ _ _ _ _ m' c a0 a1 a2 a3 a4 a5 a6), q7⟩

end Cert.Proof.Loss

end
-- ==== Proof.Act.Same.lean ====
/- The kernel and its idealization have the same text: their bodies and their tables of definitions are equal. -/
module
public import proofs.«01_k».proof.Defs
public import proofs.«01_k».proof.Proof.Gen.Kernel10
public import proofs.«01_k».proof.Proof.Gen.Kernel10Ideal
@[expose] public section

noncomputable section

namespace Cert.Proof.Act

open Idealize.ShloMosaic Idealize.SL.Sem

set_option maxHeartbeats 1000000 in
/-- The two kernels' bodies are one term. -/
theorem body_same : @Cert.Kernel10.cc0_ffn1_fwd_act Bits _ _ = @Cert.Kernel10Ideal.cc0_ffn1_fwd_act Bits _ _ := rfl

set_option maxHeartbeats 1000000 in
/-- So are the bodies' tables. -/
theorem defs₀_same : Cert.Kernel10.defs₀ (F := Bits) = Cert.Kernel10Ideal.defs₀ (F := Bits) := by
  unfold Cert.Kernel10.defs₀ Cert.Kernel10Ideal.defs₀
  refine congrArg Defs.onTc ?_
  funext l x
  match l, x with
  | 0, (t, s) => exact rfl

set_option maxHeartbeats 1000000 in
/-- And the pipelines' tables. -/
theorem defs_same : Cert.Kernel10.defs (F := Bits) = Cert.Kernel10Ideal.defs (F := Bits) := by
  unfold Cert.Kernel10.defs Cert.Kernel10Ideal.defs
  exact congrArg (Pipeline.defs _) defs₀_same

set_option maxHeartbeats 1000000 in
/-- And the programs. -/
theorem main_same : Cert.Kernel10.main (F := Bits) = Cert.Kernel10Ideal.main (F := Bits) := rfl

end Cert.Proof.Act

end
-- ==== Proof.FfnBack.Same.lean ====
/- The kernel and its idealization have the same text: their bodies and their tables of definitions are equal. -/
module
public import proofs.«01_k».proof.Defs
public import proofs.«01_k».proof.Proof.Gen.Kernel2
public import proofs.«01_k».proof.Proof.Gen.Kernel2Ideal
@[expose] public section

noncomputable section

namespace Cert.Proof.FfnBack

open Idealize.ShloMosaic Idealize.SL.Sem

set_option maxHeartbeats 1000000 in
/-- The two kernels' bodies are one term. -/
theorem body_same : @Cert.Kernel2.cc0_ffn2_bwd Bits _ _ = @Cert.Kernel2Ideal.cc0_ffn2_bwd Bits _ _ := rfl

set_option maxHeartbeats 1000000 in
/-- So are the bodies' tables. -/
theorem defs₀_same : Cert.Kernel2.defs₀ (F := Bits) = Cert.Kernel2Ideal.defs₀ (F := Bits) := by
  unfold Cert.Kernel2.defs₀ Cert.Kernel2Ideal.defs₀
  refine congrArg Defs.onTc ?_
  funext l x
  match l, x with
  | 0, (t, s) => exact rfl

set_option maxHeartbeats 1000000 in
/-- And the pipelines' tables. -/
theorem defs_same : Cert.Kernel2.defs (F := Bits) = Cert.Kernel2Ideal.defs (F := Bits) := by
  unfold Cert.Kernel2.defs Cert.Kernel2Ideal.defs
  exact congrArg (Pipeline.defs _) defs₀_same

set_option maxHeartbeats 1000000 in
/-- And the programs. -/
theorem main_same : Cert.Kernel2.main (F := Bits) = Cert.Kernel2Ideal.main (F := Bits) := rfl

end Cert.Proof.FfnBack

end
-- ==== Proof.Loss.Same.lean ====
/- The kernel and its idealization have the same text: their bodies and their tables of definitions are equal. -/
module
public import proofs.«01_k».proof.Defs
public import proofs.«01_k».proof.Proof.Gen.Kernel12
public import proofs.«01_k».proof.Proof.Gen.Kernel12Ideal
@[expose] public section

noncomputable section

namespace Cert.Proof.Loss

open Idealize.ShloMosaic Idealize.SL.Sem

set_option maxHeartbeats 1000000 in
/-- The two kernels' bodies are one term. -/
theorem body_same : @Cert.Kernel12.cc0_ffn2_fwd Bits _ _ = @Cert.Kernel12Ideal.cc0_ffn2_fwd Bits _ _ := rfl

set_option maxHeartbeats 1000000 in
/-- So are the bodies' tables. -/
theorem defs₀_same : Cert.Kernel12.defs₀ (F := Bits) = Cert.Kernel12Ideal.defs₀ (F := Bits) := by
  unfold Cert.Kernel12.defs₀ Cert.Kernel12Ideal.defs₀
  refine congrArg Defs.onTc ?_
  funext l x
  match l, x with
  | 0, (t, s) => exact rfl

set_option maxHeartbeats 1000000 in
/-- And the pipelines' tables. -/
theorem defs_same : Cert.Kernel12.defs (F := Bits) = Cert.Kernel12Ideal.defs (F := Bits) := by
  unfold Cert.Kernel12.defs Cert.Kernel12Ideal.defs
  exact congrArg (Pipeline.defs _) defs₀_same

set_option maxHeartbeats 1000000 in
/-- And the programs. -/
theorem main_same : Cert.Kernel12.main (F := Bits) = Cert.Kernel12Ideal.main (F := Bits) := rfl

end Cert.Proof.Loss

end
-- ==== Proof.KI.Offsets.lean ====
/-
  The rectangles of the kernel body in closed form: block `n` of the keys, of the values, of their gradients and of the
  saved weights, at the place the body computes it.
-/
module

public import proofs.«01_k».proof.Proof.Gen.KernelIdeal.Skeleton
public import proofs.«01_k».proof.Proof.Gen.KernelIdeal.Frame

@[expose] public section

set_option maxRecDepth 16384

noncomputable section

namespace Cert.Proof.KI

open Cert.KernelIdeal Cert.KernelIdeal.Gen
open Idealize.ShloMosaic Idealize.ShloMosaic.TcCoe

/-- The grid's second coordinate is the query tile: one of eight. -/
theorem tile_lt (i : grid0.Coords) : (i 1).val < 8 := (i 1).isLt

/-- The loop over groups of four key blocks runs half as often as there are query tiles before this one. -/
theorem trips_eq : ∀ i : grid0.Coords, (k0_t1_loop i).trips = (i 1).val / 2 := by decide +kernel

/-- Trip `k` of the loop over groups of four reads its weights at block `4 * k + r`. -/
theorem off1_eq (i : grid0.Coords) (k : Fin (k0_t1_loop i).trips) (r : Fin 4) :
    k0_off1 i k (BitVec.ofNat 32 r.val) = ![0, 0, 4 * k.val + r.val, 0, 0] := by
  have hk : k.val < 4 := by have := k.isLt; have := trips_eq i; have := tile_lt i; omega
  generalize hn : k.val = n at hk
  unfold k0_off1
  rw [hn]
  revert r
  have : ∀ n : Fin 4, ∀ r : Fin 4,
      (![0, 0, (Scalar.indexCast (Scalar.addi (Scalar.muli 4#32 (Scf.iv 0#32 1#32 n.val)) (BitVec.ofNat 32 r.val)) : Index).toNat, 0, 0] : Fin 5 → Nat)
        = ![0, 0, 4 * n.val + r.val, 0, 0] := by decide +kernel
  exact this ⟨n, hk⟩

/-- Trip `k` of the loop over groups of four meets the rows of block `4 * k + r`. -/
theorem off2_eq (i : grid0.Coords) (k : Fin (k0_t1_loop i).trips) (r : Fin 4) :
    k0_off2 i k (BitVec.ofNat 32 r.val) = ![256 * (4 * k.val + r.val), 0] := by
  have hk : k.val < 4 := by have := k.isLt; have := trips_eq i; have := tile_lt i; omega
  generalize hn : k.val = n at hk
  unfold k0_off2
  rw [hn]
  revert r
  have : ∀ n : Fin 4, ∀ r : Fin 4,
      (![(Scalar.indexCast (Scalar.muli (Scalar.addi (Scalar.muli 4#32 (Scf.iv 0#32 1#32 n.val)) (BitVec.ofNat 32 r.val)) 256#32) : Index).toNat, 0] : Fin 2 → Nat)
        = ![256 * (4 * n.val + r.val), 0] := by decide +kernel
  exact this ⟨n, hk⟩

/-- An odd tile's two further blocks are the two before the diagonal: their weights, -/
theorem off5_eq : ∀ i : grid0.Coords, k0_cond2 i = 1#1 → ∀ r : Fin 2,
    k0_off5 i (BitVec.ofNat 32 r.val) = ![0, 0, 2 * (i 1).val - 2 + r.val, 0, 0] := by decide +kernel

/-- and their rows. -/
theorem off6_eq : ∀ i : grid0.Coords, k0_cond2 i = 1#1 → ∀ r : Fin 2,
    k0_off6 i (BitVec.ofNat 32 r.val) = ![256 * (2 * (i 1).val - 2 + r.val), 0] := by decide +kernel

/-- The blocks of saved weights the cut blocks read, -/
theorem off7_eq : ∀ i : grid0.Coords, ∀ r : Fin 2,
    k0_off7 i (BitVec.ofNat 32 r.val) = ![0, 0, 2 * (i 1).val + r.val, 0, 0] := by decide +kernel

/-- and their rows. -/
theorem off8_eq : ∀ i : grid0.Coords, ∀ r : Fin 2,
    k0_off8 i (BitVec.ofNat 32 r.val) = ![256 * (2 * (i 1).val + r.val), 0] := by decide +kernel

/-- The conditional of the body is taken at the odd tiles. -/
theorem cond2_iff : ∀ i : grid0.Coords, k0_cond2 i = 1#1 ↔ (i 1).val % 2 = 1 := by decide +kernel

instance closed_off2_0 (i : grid0.Coords) (k : Fin (k0_t1_loop i).trips) : ClosedOff (k0_off2 i k (BitVec.ofNat 32 0)) :=
  ⟨![256 * (4 * k.val + 0), 0], off2_eq i k ⟨0, by decide⟩⟩
instance closed_off2_1 (i : grid0.Coords) (k : Fin (k0_t1_loop i).trips) : ClosedOff (k0_off2 i k (BitVec.ofNat 32 1)) :=
  ⟨![256 * (4 * k.val + 1), 0], off2_eq i k ⟨1, by decide⟩⟩
instance closed_off2_2 (i : grid0.Coords) (k : Fin (k0_t1_loop i).trips) : ClosedOff (k0_off2 i k (BitVec.ofNat 32 2)) :=
  ⟨![256 * (4 * k.val + 2), 0], off2_eq i k ⟨2, by decide⟩⟩
instance closed_off2_3 (i : grid0.Coords) (k : Fin (k0_t1_loop i).trips) : ClosedOff (k0_off2 i k (BitVec.ofNat 32 3)) :=
  ⟨![256 * (4 * k.val + 3), 0], off2_eq i k ⟨3, by decide⟩⟩
instance closed_off1_0 (i : grid0.Coords) (k : Fin (k0_t1_loop i).trips) : ClosedOff (k0_off1 i k (BitVec.ofNat 32 0)) :=
  ⟨![0, 0, 4 * k.val + 0, 0, 0], off1_eq i k ⟨0, by decide⟩⟩
instance closed_off1_1 (i : grid0.Coords) (k : Fin (k0_t1_loop i).trips) : ClosedOff (k0_off1 i k (BitVec.ofNat 32 1)) :=
  ⟨![0, 0, 4 * k.val + 1, 0, 0], off1_eq i k ⟨1, by decide⟩⟩
instance closed_off1_2 (i : grid0.Coords) (k : Fin (k0_t1_loop i).trips) : ClosedOff (k0_off1 i k (BitVec.ofNat 32 2)) :=
  ⟨![0, 0, 4 * k.val + 2, 0, 0], off1_eq i k ⟨2, by decide⟩⟩
instance closed_off1_3 (i : grid0.Coords) (k : Fin (k0_t1_loop i).trips) : ClosedOff (k0_off1 i k (BitVec.ofNat 32 3)) :=
  ⟨![0, 0, 4 * k.val + 3, 0, 0], off1_eq i k ⟨3, by decide⟩⟩

end Cert.Proof.KI

end
-- ==== Proof.KI.Rows.lean ====
/-
  Blocks of 256 rows of an array of 4096: reading one, replacing one, and replacing the first `n` of them; and what the
  body's loads and stores at its computed rectangles do to an array in those terms.
-/
module

public import proofs.«01_k».proof.Proof.KI.Offsets
public import Idealize.ShloMosaic.Lib.ValueIdx

@[expose] public section

set_option maxRecDepth 16384

noncomputable section

namespace Cert.Proof.KI

open Cert.KernelIdeal Cert.KernelIdeal.Gen
open Idealize.ShloMosaic Idealize.ShloMosaic.TcCoe Idealize.ShloMosaic.ValueIdx

variable {α : Type}

/-- Block `n` of 256 rows (the sixteen blocks counted round and round). -/
def rowsAt (X : S4096x128.Idx → α) (n : ℕ) : S256x128.Idx → α :=
  fun x => X (ix2 ⟨(256 * n + (x 0).val) % 4096, Nat.mod_lt _ (by decide)⟩ (x 1))

/-- Block `n` of the saved weights (the sixteen blocks counted round and round). -/
def keptAt (X : S1x1x16x1024x256.Idx → α) (n : ℕ) : S1x1x1x1024x256.Idx → α :=
  fun x => X (ix5 0 0 ⟨n % 16, Nat.mod_lt _ (by decide)⟩ (x 3) (x 4))

/-- The array with block `n` replaced by `w`. -/
def setRows (X : S4096x128.Idx → α) (n : ℕ) (w : S256x128.Idx → α) : S4096x128.Idx → α :=
  fun y => if (y 0).val / 256 = n then w (ix2 ⟨(y 0).val % 256, Nat.mod_lt _ (by decide)⟩ (y 1)) else X y

/-- The array with each of the first `n` blocks replaced by that block of `W`. -/
def fillTo (X : S4096x128.Idx → α) (W : ℕ → S256x128.Idx → α) (n : ℕ) : S4096x128.Idx → α :=
  fun y => if (y 0).val / 256 < n then W ((y 0).val / 256) (ix2 ⟨(y 0).val % 256, Nat.mod_lt _ (by decide)⟩ (y 1)) else X y

theorem fillTo_zero (X : S4096x128.Idx → α) (W : ℕ → S256x128.Idx → α) : fillTo X W 0 = X := by
  funext y; unfold fillTo; rw [if_neg (Nat.not_lt_zero _)]

/-- Replacing one more block. -/
theorem fillTo_succ (X : S4096x128.Idx → α) (W : ℕ → S256x128.Idx → α) (n : ℕ) :
    fillTo X W (n + 1) = setRows (fillTo X W n) n (W n) := by
  funext y; unfold fillTo setRows
  by_cases h : (y 0).val / 256 = n
  · rw [if_pos (by omega), if_pos h, h]
  · rw [if_neg h]
    by_cases h' : (y 0).val / 256 < n
    · exact (if_pos (by omega)).trans (if_pos h').symm
    · exact (if_neg (by omega)).trans (if_neg h').symm

/-- The first blocks depend on the first replacements only. -/
theorem fillTo_congr (X : S4096x128.Idx → α) (W W' : ℕ → S256x128.Idx → α) (n : ℕ) (h : ∀ j < n, W j = W' j) :
    fillTo X W n = fillTo X W' n := by
  funext y; unfold fillTo
  by_cases h' : (y 0).val / 256 < n
  · rw [if_pos h', if_pos h', h _ h']
  · rw [if_neg h', if_neg h']

/-- A block not yet replaced reads as it was. -/
theorem rowsAt_fillTo (X : S4096x128.Idx → α) (W : ℕ → S256x128.Idx → α) (n m : ℕ) (h : n ≤ m) (hm : m < 16) :
    rowsAt (fillTo X W n) m = rowsAt X m := by
  funext x; unfold rowsAt fillTo
  have h0 : (x 0).val < 256 := (x 0).isLt
  rw [if_neg]
  show ¬ ((256 * m + (x 0).val) % 4096) / 256 < n
  omega

/-- A load at the rows of block `n`. -/
theorem ld_rows {Val : EltTy → Type} {e : EltTy} (X : S4096x128.Idx → Val e) {off : Fin 2 → ℕ} (n : ℕ) (hn : n < 16)
    (h : off = ![256 * n, 0]) (inb : ∀ a, off a + S256x128.size a ≤ S4096x128.size a) :
    View.ld (Val := Val) X (Rect.unit (s := S4096x128) off S256x128.size inb) = rowsAt X n := by
  subst h
  funext x
  unfold rowsAt View.ld
  congr 1
  funext a
  have h0 : (x 0).val < 256 := (x 0).isLt
  apply Fin.ext
  rw [LoadRect.idx_apply]
  match a with
  | ⟨0, _⟩ =>
    show 256 * n + 1 * (x 0).val = (256 * n + (x 0).val) % 4096
    omega
  | ⟨1, _⟩ =>
    show 0 + 1 * (x 1).val = (x 1).val
    omega

/-- A load of block `n` of the saved weights. -/
theorem ld_kept {Val : EltTy → Type} {e : EltTy} (X : S1x1x16x1024x256.Idx → Val e) {off : Fin 5 → ℕ} (n : ℕ) (hn : n < 16)
    (h : off = ![0, 0, n, 0, 0]) (inb : ∀ a, off a + S1x1x1x1024x256.size a ≤ S1x1x16x1024x256.size a) :
    View.ld (Val := Val) X (Rect.unit (s := S1x1x16x1024x256) off S1x1x1x1024x256.size inb) = keptAt X n := by
  subst h
  funext x
  unfold keptAt View.ld
  congr 1
  funext a
  have h2 : (x 2).val < 1 := (x 2).isLt
  apply Fin.ext
  rw [LoadRect.idx_apply]
  match a with
  | ⟨0, _⟩ => have h0 : (x 0).val < 1 := (x 0).isLt; show 0 + 1 * (x 0).val = 0; omega
  | ⟨1, _⟩ => have h0 : (x 1).val < 1 := (x 1).isLt; show 0 + 1 * (x 1).val = 0; omega
  | ⟨2, _⟩ => show n + 1 * (x 2).val = n % 16; omega
  | ⟨3, _⟩ => show 0 + 1 * (x 3).val = (x 3).val; omega
  | ⟨4, _⟩ => show 0 + 1 * (x 4).val = (x 4).val; omega

/-- A store at the rows of block `n`. -/
theorem read_writes_rows {Val : EltTy → Type} {e : EltTy} {sig' : RefSig} {κ : Kind} {sp : Space} (v : View sig' κ sp S4096x128 e)
    (f : v.ty.Contents Val) (L : List (View.Piece Val S4096x128 e)) {off : Fin 2 → ℕ} (n : ℕ)
    (h : off = ![256 * n, 0]) (inb : ∀ a, off a + S256x128.size a ≤ S4096x128.size a) (w : S256x128.Idx → Val e) :
    v.read Val (v.writes Val f (⟨Rect.unit (s := S4096x128) off S256x128.size inb, w⟩ :: L))
      = setRows (v.read Val (v.writes Val f L)) n w := by
  subst h
  funext y
  unfold setRows
  by_cases hy : (y 0).val / 256 = n
  · rw [if_pos hy]
    apply View.read_writes_cons_hit_of_coords
    intro a
    match a with
    | ⟨0, _⟩ => show (y 0).val = 256 * n + 1 * ((y 0).val % 256); omega
    | ⟨1, _⟩ => show (y 1).val = 0 + 1 * (y 1).val; omega
  · rw [if_neg hy]
    exact View.read_writes_cons_miss_of_axis v f _ L y 0 (256 * n) 256 rfl rfl rfl (by omega)

/-- A load at the rows of block `n` of contents that read `X`. -/
theorem readAt_rows {Val : EltTy → Type} {e : EltTy} {sig' : RefSig} {κ : Kind} {sp : Space} (v : View sig' κ sp S4096x128 e)
    (f : v.ty.Contents Val) (X : S4096x128.Idx → Val e) (hf : v.read Val f = X) {off : Fin 2 → ℕ} (n : ℕ) (hn : n < 16)
    (h : off = ![256 * n, 0]) (inb : ∀ a, off a + S256x128.size a ≤ S4096x128.size a) :
    v.readAt Val (Rect.unit (s := S4096x128) off S256x128.size inb).toLoadRect f = rowsAt X n := by
  subst hf; exact ld_rows _ n hn h inb

/-- A load of block `n` of the saved weights from contents that read `X`. -/
theorem readAt_kept {Val : EltTy → Type} {e : EltTy} {sig' : RefSig} {κ : Kind} {sp : Space} (v : View sig' κ sp S1x1x16x1024x256 e)
    (f : v.ty.Contents Val) (X : S1x1x16x1024x256.Idx → Val e) (hf : v.read Val f = X) {off : Fin 5 → ℕ} (n : ℕ) (hn : n < 16)
    (h : off = ![0, 0, n, 0, 0]) (inb : ∀ a, off a + S1x1x1x1024x256.size a ≤ S1x1x16x1024x256.size a) :
    v.readAt Val (Rect.unit (s := S1x1x16x1024x256) off S1x1x1x1024x256.size inb).toLoadRect f = keptAt X n := by
  subst hf; exact ld_kept _ n hn h inb

/-- One store of a block's replacement, on contents that hold the replacements before it. -/
theorem read_fill_one {Val : EltTy → Type} {e : EltTy} {sig' : RefSig} {κ : Kind} {sp : Space} (v : View sig' κ sp S4096x128 e)
    (f : v.ty.Contents Val) (L : List (View.Piece Val S4096x128 e)) (X : S4096x128.Idx → Val e) (W : ℕ → S256x128.Idx → Val e)
    {off : Fin 2 → ℕ} (n : ℕ) (h : off = ![256 * n, 0]) (inb : ∀ a, off a + S256x128.size a ≤ S4096x128.size a)
    (w : S256x128.Idx → Val e) (hw : w = W n) (hf : v.read Val (v.writes Val f L) = fillTo X W n) :
    v.read Val (v.writes Val f (⟨Rect.unit (s := S4096x128) off S256x128.size inb, w⟩ :: L)) = fillTo X W (n + 1) := by
  rw [read_writes_rows v f L n h inb w, hf, hw, fillTo_succ]

/-- A store of a whole array. -/
theorem read_whole {Val : EltTy → Type} {e : EltTy} {sig' : RefSig} {κ : Kind} {sp : Space} (v : View sig' κ sp S4096x128 e)
    (f : v.ty.Contents Val) (L : List (View.Piece Val S4096x128 e)) (off : Fin 2 → ℕ) (h : off = ![0, 0])
    (inb : ∀ a, off a + S4096x128.size a ≤ S4096x128.size a) (w : S4096x128.Idx → Val e) :
    v.read Val (v.writes Val f (⟨Rect.unit (s := S4096x128) off S4096x128.size inb, w⟩ :: L)) = w := by
  subst h
  funext y
  apply View.read_writes_cons_hit_of_coords
  intro a
  match a with
  | ⟨0, _⟩ => show (y 0).val = 0 + 1 * (y 0).val; omega
  | ⟨1, _⟩ => show (y 1).val = 0 + 1 * (y 1).val; omega

/-- A store of a whole tile. -/
theorem read_tile {Val : EltTy → Type} {e : EltTy} {sig' : RefSig} {κ : Kind} {sp : Space} (v : View sig' κ sp S512x128 e)
    (f : v.ty.Contents Val) (L : List (View.Piece Val S512x128 e)) (off : Fin 2 → ℕ) (h : off = ![0, 0])
    (inb : ∀ a, off a + S512x128.size a ≤ S512x128.size a) (w : S512x128.Idx → Val e) :
    v.read Val (v.writes Val f (⟨Rect.unit (s := S512x128) off S512x128.size inb, w⟩ :: L)) = w := by
  subst h
  funext y
  apply View.read_writes_cons_hit_of_coords
  intro a
  match a with
  | ⟨0, _⟩ => show (y 0).val = 0 + 1 * (y 0).val; omega
  | ⟨1, _⟩ => show (y 1).val = 0 + 1 * (y 1).val; omega

/-- A load of a whole tile. -/
theorem ld_tile {Val : EltTy → Type} {e : EltTy} (X : S512x128.Idx → Val e)
    (inb : ∀ a, (![0, 0] : Fin 2 → ℕ) a + S512x128.size a ≤ S512x128.size a) :
    View.ld (Val := Val) X (Rect.unit (s := S512x128) ![0, 0] S512x128.size inb) = X := by
  funext x
  unfold View.ld
  congr 1
  funext a
  apply Fin.ext
  rw [LoadRect.idx_apply]
  match a with
  | ⟨0, _⟩ => show 0 + 1 * (x 0).val = (x 0).val; omega
  | ⟨1, _⟩ => show 0 + 1 * (x 1).val = (x 1).val; omega

end Cert.Proof.KI

end
-- ==== Proof.KI.Trip.lean ====
/-
  One trip of the body's loop: four blocks of 256 keys, each adding to the query gradient and the running sum it carries and
  replacing its rows of the key and value gradients.
-/
module

public import proofs.«01_k».proof.Proof.KI.Rows
public import proofs.«01_k».proof.Proof.Gen.KernelIdeal.Loops
public import Idealize.ShloMosaic.Lib.Pipeline.Frame
public import Idealize.ShloMosaic.Lib.Tactic

@[expose] public section

set_option maxRecDepth 16384

noncomputable section

namespace Cert.Proof.KI

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What a point's blocks are computed from: the stacked queries and the stacked output gradients, rounded, the
    strict lower triangle, and the arrays the blocks are cut from. -/
structure Src (F : FTy → Type) where
  qs : FVec F S1024x128 .bf16
  dos : FVec F S1024x128 .bf16
  tri : FVec F S256x256 .bf16
  K : S4096x128.Idx → Elt F .f32
  V : S4096x128.Idx → Elt F .f32
  W : S1x1x16x1024x256.Idx → Elt F .bf16

/-- The query gradient and the running sum after the first `n` full blocks. -/
def carry (s : Src F) : ℕ → FVec F S1024x128 .f32 × FVec F S1024x1 .f32
  | 0 => (k0_pay84, k0_pay85)
  | n + 1 => (k0_pay7 s.qs s.dos s.tri (carry s n).1 (carry s n).2 (keptAt s.W n) (rowsAt s.K n) (rowsAt s.V n),
      k0_pay11 (carry s n).2 (k0_pay5 s.dos (keptAt s.W n) (rowsAt s.V n)))

/-- The score gradient of full block `n`, rounded. -/
def dzBlk (s : Src F) (n : ℕ) : FVec F S1024x256 .bf16 :=
  k0_pay6 s.qs s.dos s.tri (carry s n).2 (keptAt s.W n) (rowsAt s.K n) (rowsAt s.V n)

/-- The key gradient's rows after full block `n`, having been `X` before the point. -/
def dkBlk (s : Src F) (X : S4096x128.Idx → Elt F .f32) (n : ℕ) : S256x128.Idx → Elt F .f32 :=
  k0_pay9 s.qs (dzBlk s n) (k0_pay8 (rowsAt X n))

/-- The value gradient's rows after full block `n`, having been `X` before the point. -/
def dvBlk (s : Src F) (X : S4096x128.Idx → Elt F .f32) (n : ℕ) : S256x128.Idx → Elt F .f32 :=
  k0_pay10 s.dos (k0_pay3 (keptAt s.W n)) (rowsAt X n)

/-! The body writes a block's formulas once per block of a trip, cut at different places: each is block 0's. -/

section Pay
variable (qs dos : FVec F S1024x128 .bf16) (tri : FVec F S256x256 .bf16) (dq : FVec F S1024x128 .f32) (cg : FVec F S1024x1 .f32)
  (w : Vec F S1x1x1x1024x256 .bf16) (kb v old : Vec F S256x128 .f32) (g : FVec F S1024x256 .f32)
  (dz wb : FVec F S1024x256 .bf16)

theorem pay17_eq : k0_pay17 tri dq cg (k0_pay13 kb) (k0_pay14 qs kb) (k0_pay15 dos w v) = k0_pay7 qs dos tri dq cg w kb v := rfl
theorem pay18_eq : k0_pay18 qs tri cg (k0_pay14 qs kb) (k0_pay15 dos w v) old
    = k0_pay9 qs (k0_pay6 qs dos tri cg w kb v) (k0_pay8 old) := rfl
theorem pay19_eq : k0_pay19 dos (k0_pay12 w) old = k0_pay10 dos (k0_pay3 w) old := rfl
theorem pay20_eq : k0_pay20 cg (k0_pay15 dos w v) = k0_pay11 cg (k0_pay5 dos w v) := rfl
theorem pay25_eq : k0_pay25 qs dos tri dq cg (k0_pay21 w) kb v = k0_pay7 qs dos tri dq cg w kb v := rfl
theorem pay26_eq : k0_pay26 qs dos tri cg (k0_pay21 w) kb v old
    = k0_pay9 qs (k0_pay6 qs dos tri cg w kb v) (k0_pay8 old) := rfl
theorem pay27_eq : k0_pay27 dos (k0_pay21 w) old = k0_pay10 dos (k0_pay3 w) old := rfl
theorem pay32_eq : k0_pay32 qs dos tri cg g w kb v = k0_pay6 qs dos tri (k0_pay11 cg g) w kb v := rfl
theorem pay33_eq : k0_pay33 qs dos tri cg g dq w kb v = k0_pay7 qs dos tri dq (k0_pay11 cg g) w kb v := rfl
theorem pay23_eq : k0_pay23 dos (k0_pay21 w) v = k0_pay5 dos w v := rfl
theorem pay31_eq : k0_pay31 dos w v = k0_pay5 dos w v := rfl
theorem pay86_eq : k0_pay86 qs dz old = k0_pay9 qs dz (k0_pay8 old) := rfl
theorem pay87_eq : k0_pay87 dos (k0_pay29 w) old = k0_pay10 dos (k0_pay3 w) old := rfl
theorem pay88_eq : k0_pay88 cg g = k0_pay11 cg g := rfl
theorem pay28_eq : k0_pay28 cg g = k0_pay11 cg g := rfl

end Pay

section Trip
variable (i : grid0.Coords)
    (arg2 : Memref sig .tc .vmem S512x128 .f32) (harg2 : arg2.IsWhole)
    (arg3 : Memref sig .tc .vmem S4096x128 .f32) (harg3 : arg3.IsWhole)
    (arg4 : Memref sig .tc .vmem S4096x128 .f32) (harg4 : arg4.IsWhole)
    (arg5 : Memref sig .tc .vmem S1x1x16x1024x256 .bf16) (harg5 : arg5.IsWhole)
    (arg6 : Memref sig .tc .vmem S512x128 .f32) (harg6 : arg6.IsWhole)
    (arg7 : Memref sig .tc .vmem S512x128 .bf16) (harg7 : arg7.IsWhole)
    (arg8 : Memref sig .tc .vmem S4096x128 .f32) (harg8 : arg8.IsWhole)
    (arg9 : Memref sig .tc .vmem S4096x128 .f32) (harg9 : arg9.IsWhole)

/-- The arrays the blocks read, held at contents that read `s`'s; the two gradients with their first `n` blocks replaced. -/
def Held (c : Dev nD) (s : Src F) (X8 X9 : S4096x128.Idx → Elt F .f32) (W8 W9 : ℕ → S256x128.Idx → Elt F .f32) (n : ℕ) : sProp 𝕄 :=
  iprop((∃ f, ⌜arg3.view.read (Elt F) f = s.K⌝ ∗ (arg3.view.loc (c : Thread nD τ) ↦[arg3.view.set]{fullShare} f))
    ∗ (∃ f, ⌜arg4.view.read (Elt F) f = s.V⌝ ∗ (arg4.view.loc (c : Thread nD τ) ↦[arg4.view.set]{fullShare} f))
    ∗ (∃ f, ⌜arg5.view.read (Elt F) f = s.W⌝ ∗ (arg5.view.loc (c : Thread nD τ) ↦[arg5.view.set]{fullShare} f))
    ∗ (∃ f, ⌜arg8.view.read (Elt F) f = fillTo X8 W8 n⌝ ∗ (arg8.view.loc (c : Thread nD τ) ↦[arg8.view.set]{fullShare} f))
    ∗ (∃ f, ⌜arg9.view.read (Elt F) f = fillTo X9 W9 n⌝ ∗ (arg9.view.loc (c : Thread nD τ) ↦[arg9.view.set]{fullShare} f)))

/-- One trip, from the state after `4 k` blocks to the state after `4 k + 4`. -/
theorem trip_sound (c : Dev nD) (s : Src F) (X8 X9 : S4096x128.Idx → Elt F .f32)
    (arg1 : BitVec 32) (v41 c2 : BitVec 32) (k : Fin (k0_t1_loop i).trips)
    (acc : FVec F S1024x128 .f32 × FVec F S1024x1 .f32) :
    iprop(⌜acc = carry s (4 * k.val)⌝ ∗ Held arg3 arg4 arg5 arg8 arg9 c s X8 X9 (dkBlk s X8) (dvBlk s X9) (4 * k.val))
      ⊢ wp frame (wpE (defs₀ (F := F)) Variants.none (c : Thread nD τ) none) Set.univ
          (k0_t1_body (F := F) i arg2 harg2 arg3 harg3 arg4 harg4 arg5 harg5 arg6 harg6 arg7 harg7 arg8 harg8 arg9 harg9
            arg1 s.qs s.dos s.tri v41 c2 k acc)
          (fun acc' => iprop(⌜acc' = carry s (4 * (k.val + 1))⌝
            ∗ Held arg3 arg4 arg5 arg8 arg9 c s X8 X9 (dkBlk s X8) (dvBlk s X9) (4 * (k.val + 1)))) := by
  unfold Held
  unfold k0_t1_body
  simp only [k0_part1_eq_skeleton, k0_part2_eq_skeleton, k0_part3_eq_skeleton, k0_part4_eq_skeleton, k0_part5_eq_skeleton]
  iintro ⟨%hacc, ⟨%f3, %h3, H3⟩, ⟨%f4, %h4, H4⟩, ⟨%f5, %h5, H5⟩, ⟨%f8, %h8, H8⟩, ⟨%f9, %h9, H9⟩⟩
  obtain ⟨a, b⟩ := acc
  sl_exec
  sl_step
  have ht : k.val < 4 := by have := k.isLt; have := trips_eq i; have := tile_lt i; omega
  have ha : a = (carry s (4 * k.val)).1 := congrArg Prod.fst hacc
  have hb : b = (carry s (4 * k.val)).2 := congrArg Prod.snd hacc
  have o0 : k0_off2 i k 0#32 = ![256 * (4 * k.val), 0] := off2_eq i k 0
  have o1 : k0_off2 i k 1#32 = ![256 * (4 * k.val + 1), 0] := off2_eq i k 1
  have o2 : k0_off2 i k 2#32 = ![256 * (4 * k.val + 2), 0] := off2_eq i k 2
  have o3 : k0_off2 i k 3#32 = ![256 * (4 * k.val + 3), 0] := off2_eq i k 3
  have p0 : k0_off1 i k 0#32 = ![0, 0, 4 * k.val, 0, 0] := off1_eq i k 0
  have p1 : k0_off1 i k 1#32 = ![0, 0, 4 * k.val + 1, 0, 0] := off1_eq i k 1
  have p2 : k0_off1 i k 2#32 = ![0, 0, 4 * k.val + 2, 0, 0] := off1_eq i k 2
  have p3 : k0_off1 i k 3#32 = ![0, 0, 4 * k.val + 3, 0, 0] := off1_eq i k 3
  have e8 : ∀ n, 4 * k.val ≤ n → n < 16 → rowsAt (arg8.view.read (Elt F) f8) n = rowsAt X8 n := fun n hn hm => by
    rw [h8, rowsAt_fillTo _ _ _ _ hn hm]
  have e9 : ∀ n, 4 * k.val ≤ n → n < 16 → rowsAt (arg9.view.read (Elt F) f9) n = rowsAt X9 n := fun n hn hm => by
    rw [h9, rowsAt_fillTo _ _ _ _ hn hm]
  have k0 := readAt_rows arg3.view f3 s.K h3 _ (by omega) o0 (k0_off2_inb i k 0)
  have k1 := readAt_rows arg3.view f3 s.K h3 _ (by omega) o1 (k0_off2_inb i k 1)
  have k2 := readAt_rows arg3.view f3 s.K h3 _ (by omega) o2 (k0_off2_inb i k 2)
  have k3 := readAt_rows arg3.view f3 s.K h3 _ (by omega) o3 (k0_off2_inb i k 3)
  have v0 := readAt_rows arg4.view f4 s.V h4 _ (by omega) o0 (k0_off2_inb i k 0)
  have v1 := readAt_rows arg4.view f4 s.V h4 _ (by omega) o1 (k0_off2_inb i k 1)
  have v2 := readAt_rows arg4.view f4 s.V h4 _ (by omega) o2 (k0_off2_inb i k 2)
  have v3 := readAt_rows arg4.view f4 s.V h4 _ (by omega) o3 (k0_off2_inb i k 3)
  have w0 := readAt_kept arg5.view f5 s.W h5 _ (by omega) p0 (k0_off1_inb i k 0)
  have w1 := readAt_kept arg5.view f5 s.W h5 _ (by omega) p1 (k0_off1_inb i k 1)
  have w2 := readAt_kept arg5.view f5 s.W h5 _ (by omega) p2 (k0_off1_inb i k 2)
  have w3 := readAt_kept arg5.view f5 s.W h5 _ (by omega) p3 (k0_off1_inb i k 3)
  have x0 := (readAt_rows arg8.view f8 _ rfl _ (by omega) o0 (k0_off2_inb i k 0)).trans (e8 _ (by omega) (by omega))
  have x1 := (readAt_rows arg8.view f8 _ rfl _ (by omega) o1 (k0_off2_inb i k 1)).trans (e8 _ (by omega) (by omega))
  have x2 := (readAt_rows arg8.view f8 _ rfl _ (by omega) o2 (k0_off2_inb i k 2)).trans (e8 _ (by omega) (by omega))
  have x3 := (readAt_rows arg8.view f8 _ rfl _ (by omega) o3 (k0_off2_inb i k 3)).trans (e8 _ (by omega) (by omega))
  have y0 := (readAt_rows arg9.view f9 _ rfl _ (by omega) o0 (k0_off2_inb i k 0)).trans (e9 _ (by omega) (by omega))
  have y1 := (readAt_rows arg9.view f9 _ rfl _ (by omega) o1 (k0_off2_inb i k 1)).trans (e9 _ (by omega) (by omega))
  have y2 := (readAt_rows arg9.view f9 _ rfl _ (by omega) o2 (k0_off2_inb i k 2)).trans (e9 _ (by omega) (by omega))
  have y3 := (readAt_rows arg9.view f9 _ rfl _ (by omega) o3 (k0_off2_inb i k 3)).trans (e9 _ (by omega) (by omega))
  isplitr
  · ipureintro
    delta trip_sound.sl.r trip_sound.sl.r_1 trip_sound.sl.r_2 trip_sound.sl.r_3 trip_sound.sl.r_4 trip_sound.sl.r_5 trip_sound.sl.r_6 trip_sound.sl.r_7 trip_sound.sl.r_8 trip_sound.sl.r_9 trip_sound.sl.r_10 trip_sound.sl.r_11 trip_sound.sl.r_12 trip_sound.sl.r_13 trip_sound.sl.r_14 trip_sound.sl.r_15 trip_sound.sl.r_16 trip_sound.sl.r_17 trip_sound.sl.r_18 trip_sound.sl.r_19 trip_sound.sl.r_20 trip_sound.sl.v442 trip_sound.sl.v449 trip_sound.sl.v386 trip_sound.sl.v393 trip_sound.sl.v330 trip_sound.sl.v337
    simp only [k0, k1, k2, k3, v0, v1, v2, v3, w0, w1, w2, w3, ha, hb]
    simp only [pay17_eq, pay18_eq, pay19_eq, pay20_eq, pay25_eq, pay26_eq, pay27_eq, pay23_eq, pay28_eq, pay31_eq, pay32_eq, pay33_eq, pay86_eq, pay87_eq, pay88_eq]
    rfl
  isplitl [H3]
  · iexists _; isplitr; · ipureintro; exact h3
    iexact H3
  isplitl [H4]
  · iexists _; isplitr; · ipureintro; exact h4
    iexact H4
  isplitl [H5]
  · iexists _; isplitr; · ipureintro; exact h5
    iexact H5
  isplitl [H8]
  · iexists _; isplitr; swap; · iexact H8
    ipureintro
    refine read_fill_one arg8.view f8 _ X8 _ _ o3 _ _ ?_ (read_fill_one arg8.view f8 _ X8 _ _ o2 _ _ ?_
      (read_fill_one arg8.view f8 _ X8 _ _ o1 _ _ ?_ (read_fill_one arg8.view f8 [] X8 _ _ o0 _ _ ?_ h8)))
    all_goals
      delta trip_sound.sl.r trip_sound.sl.r_1 trip_sound.sl.r_2 trip_sound.sl.r_3 trip_sound.sl.r_4 trip_sound.sl.r_5 trip_sound.sl.r_6 trip_sound.sl.r_7 trip_sound.sl.r_8 trip_sound.sl.r_9 trip_sound.sl.r_10 trip_sound.sl.r_11 trip_sound.sl.r_12 trip_sound.sl.r_13 trip_sound.sl.r_14 trip_sound.sl.r_15 trip_sound.sl.r_16 trip_sound.sl.r_17 trip_sound.sl.r_18 trip_sound.sl.r_19 trip_sound.sl.r_20 trip_sound.sl.v442 trip_sound.sl.v449 trip_sound.sl.v386 trip_sound.sl.v393 trip_sound.sl.v330 trip_sound.sl.v337
      simp only [k0, k1, k2, k3, v0, v1, v2, v3, w0, w1, w2, w3, x0, x1, x2, x3, hb]
      try simp only [pay17_eq, pay18_eq, pay19_eq, pay20_eq, pay25_eq, pay26_eq, pay27_eq, pay23_eq, pay28_eq, pay31_eq, pay32_eq, pay33_eq, pay86_eq, pay87_eq, pay88_eq]
      rfl
  · iexists _; isplitr; swap; · iexact H9
    ipureintro
    refine read_fill_one arg9.view f9 _ X9 _ _ o3 _ _ ?_ (read_fill_one arg9.view f9 _ X9 _ _ o2 _ _ ?_
      (read_fill_one arg9.view f9 _ X9 _ _ o1 _ _ ?_ (read_fill_one arg9.view f9 [] X9 _ _ o0 _ _ ?_ h9)))
    all_goals
      delta trip_sound.sl.r trip_sound.sl.r_1 trip_sound.sl.r_2 trip_sound.sl.r_3 trip_sound.sl.r_4 trip_sound.sl.r_5 trip_sound.sl.r_6 trip_sound.sl.r_7 trip_sound.sl.r_8 trip_sound.sl.r_9 trip_sound.sl.r_10 trip_sound.sl.r_11 trip_sound.sl.r_12 trip_sound.sl.r_13 trip_sound.sl.r_14 trip_sound.sl.r_15 trip_sound.sl.r_16 trip_sound.sl.r_17 trip_sound.sl.r_18 trip_sound.sl.r_19 trip_sound.sl.r_20 trip_sound.sl.v442 trip_sound.sl.v449 trip_sound.sl.v386 trip_sound.sl.v393 trip_sound.sl.v330 trip_sound.sl.v337
      simp only [w0, w1, w2, w3, y0, y1, y2, y3]
      try simp only [pay17_eq, pay18_eq, pay19_eq, pay20_eq, pay25_eq, pay26_eq, pay27_eq, pay23_eq, pay28_eq, pay31_eq, pay32_eq, pay33_eq, pay86_eq, pay87_eq, pay88_eq]
      rfl

end Trip

end Cert.Proof.KI

end
-- ==== Proof.KI.Point.lean ====
/-
  One grid point of the attention's backward kernel: the full blocks before the query tile, four at a time and then two,
  and the two blocks of the tile's own keys, which the causal mask cuts.
-/
module

public import proofs.«01_k».proof.Proof.KI.Trip

@[expose] public section

set_option maxRecDepth 16384

noncomputable section

namespace Cert.Proof.KI

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The row number of each entry of a 512 × 256 block. -/
def rowIota : IVec S512x256 32 := iota .tc S512x256 32 [0] iota_S512x256_d0_w32

/-- The column number of each entry of a 512 × 256 block. -/
def colIota : IVec S512x256 32 := iota .tc S512x256 32 [1] iota_S512x256_d1_w32

/-- The first cut block's score gradient, rounded; `n` full blocks come before it. -/
def dz0 (s : Src F) (n : ℕ) : FVec F S1024x256 .bf16 :=
  k0_pay100 s.qs s.dos s.tri rowIota colIota (carry s n).2 (keptAt s.W n) (rowsAt s.K n) (rowsAt s.V n)

/-- The query gradient after the first cut block. -/
def dq0 (s : Src F) (n : ℕ) : FVec F S1024x128 .f32 :=
  k0_pay102 (carry s n).1 (k0_pay101 s.qs s.dos s.tri rowIota colIota (carry s n).2 (keptAt s.W n) (rowsAt s.K n) (rowsAt s.V n))

/-- The running sum after the first cut block. -/
def cg0 (s : Src F) (n : ℕ) : FVec F S1024x1 .f32 :=
  k0_pay105 (carry s n).2 (k0_pay99 s.dos (keptAt s.W n) (rowsAt s.V n))

/-- The query gradient after the second cut block. -/
def dq1 (s : Src F) (n : ℕ) : FVec F S1024x128 .f32 :=
  k0_pay113 s.tri (dq0 s n) (cg0 s n) (k0_pay106 rowIota colIota) (k0_pay108 s.dos) (k0_pay109 (keptAt s.W (n + 1)))
    (k0_pay110 (rowsAt s.K (n + 1))) (k0_pay111 s.qs (rowsAt s.K (n + 1))) (rowsAt s.V (n + 1))

/-- The key gradient's rows after the second cut block, having been `X` before the point. -/
def dk1 (s : Src F) (X : S4096x128.Idx → Elt F .f32) (n : ℕ) : S256x128.Idx → Elt F .f32 :=
  k0_pay114 s.tri (cg0 s n) (k0_pay106 rowIota colIota) (k0_pay107 s.qs) (k0_pay108 s.dos) (k0_pay109 (keptAt s.W (n + 1)))
    (k0_pay111 s.qs (rowsAt s.K (n + 1))) (rowsAt s.V (n + 1)) (rowsAt X (n + 1))

/-- Block `j` of the key gradient after a point with `n` full blocks. -/
def dkAll (s : Src F) (X : S4096x128.Idx → Elt F .f32) (n j : ℕ) : S256x128.Idx → Elt F .f32 :=
  if j < n then dkBlk s X j else if j = n then k0_pay103 s.qs (dz0 s n) (rowsAt X n) else dk1 s X n

/-- Block `j` of the value gradient after a point with `n` full blocks. -/
def dvAll (s : Src F) (X : S4096x128.Idx → Elt F .f32) (n j : ℕ) : S256x128.Idx → Elt F .f32 :=
  if j < n then dvBlk s X j else if j = n then k0_pay104 s.dos (k0_pay97 (keptAt s.W n)) (rowsAt X n)
    else k0_pay1 (k0_pay108 s.dos) (k0_pay109 (keptAt s.W (n + 1))) (rowsAt X (n + 1))

/-- What a point's blocks are computed from, given the tiles it reads. -/
def srcOf (Q D : S512x128.Idx → Elt F .f32) (K V : S4096x128.Idx → Elt F .f32) (W : S1x1x16x1024x256.Idx → Elt F .bf16) : Src F :=
  ⟨k0_pay81 Q, k0_pay82 D, k0_pay83, K, V, W⟩

/-- The two gradients as the point finds them: zero at the first query tile. -/
def startK (q : ℕ) (X : S4096x128.Idx → Elt F .f32) : S4096x128.Idx → Elt F .f32 := if q = 0 then k0_pay79 else X
def startV (q : ℕ) (X : S4096x128.Idx → Elt F .f32) : S4096x128.Idx → Elt F .f32 := if q = 0 then k0_pay80 else X

/-- The query gradient's tile a point writes, -/
def outQ (Q D : S512x128.Idx → Elt F .f32) (K V : S4096x128.Idx → Elt F .f32) (W : S1x1x16x1024x256.Idx → Elt F .bf16) (q : ℕ) :
    S512x128.Idx → Elt F .bf16 :=
  k0_pay2 (dq1 (srcOf Q D K V W) (2 * q))

/-- the key gradient it leaves, -/
def outK (Q D : S512x128.Idx → Elt F .f32) (K V : S4096x128.Idx → Elt F .f32) (W : S1x1x16x1024x256.Idx → Elt F .bf16) (q : ℕ)
    (X : S4096x128.Idx → Elt F .f32) : S4096x128.Idx → Elt F .f32 :=
  fillTo (startK q X) (dkAll (srcOf Q D K V W) (startK q X) (2 * q)) (2 * q + 2)

/-- and the value gradient it leaves. -/
def outV (Q D : S512x128.Idx → Elt F .f32) (K V : S4096x128.Idx → Elt F .f32) (W : S1x1x16x1024x256.Idx → Elt F .bf16) (q : ℕ)
    (X : S4096x128.Idx → Elt F .f32) : S4096x128.Idx → Elt F .f32 :=
  fillTo (startV q X) (dvAll (srcOf Q D K V W) (startV q X) (2 * q)) (2 * q + 2)

/-- The guard of the zeroing: whether this is the first query tile. -/
theorem guard_iff : ∀ i : grid0.Coords,
    (Scalar.cmpi .ne (Scalar.extui (Scalar.cmpi .eq (BitVec.ofNat 32 (i 1).val) 0#32) : BitVec 32) 0#32 = 1#1) ↔ (i 1).val = 0 := by
  decide +kernel

/-! The two blocks of an odd tile count are the loop's block again, cut at other places. -/

section Pay
variable (qs dos : FVec F S1024x128 .bf16) (tri : FVec F S256x256 .bf16) (dq : FVec F S1024x128 .f32) (cg : FVec F S1024x1 .f32)
  (w : Vec F S1x1x1x1024x256 .bf16) (kb v old : Vec F S256x128 .f32) (g : FVec F S1024x256 .f32) (o : FVec F S256x128 .f32)
  (dz wb : FVec F S1024x256 .bf16)

theorem pay65_eq : k0_pay65 w = k0_pay3 w := rfl
theorem pay67_eq : k0_pay67 dos w v = k0_pay5 dos w v := rfl
theorem pay68_eq : k0_pay68 qs dos tri cg w kb v = k0_pay6 qs dos tri cg w kb v := rfl
theorem pay69_eq : k0_pay69 qs dos tri dq cg w kb v = k0_pay7 qs dos tri dq cg w kb v := rfl
theorem pay70_eq : k0_pay70 old = k0_pay8 old := rfl
theorem pay71_eq : k0_pay71 qs dz o (constant S256x128 .f32 0x00000000#32) = k0_pay9 qs dz o := rfl
theorem pay72_eq : k0_pay72 dos wb old = k0_pay10 dos wb old := rfl
theorem pay73_eq : k0_pay73 cg g = k0_pay11 cg g := rfl
theorem pay93_eq : k0_pay93 tri dq cg (k0_pay75 kb) (k0_pay76 qs kb) (k0_pay77 dos w v) (k0_pay78 dos w v)
    = k0_pay7 qs dos tri dq cg w kb v := rfl
theorem pay94_eq : k0_pay94 qs tri cg (k0_pay76 qs kb) (k0_pay77 dos w v) (k0_pay78 dos w v) old
    = k0_pay9 qs (k0_pay6 qs dos tri cg w kb v) (k0_pay8 old) := rfl
theorem pay95_eq : k0_pay95 dos (k0_pay74 w) old = k0_pay10 dos (k0_pay3 w) old := rfl
theorem pay96_eq : k0_pay96 cg (k0_pay77 dos w v) = k0_pay11 cg (k0_pay5 dos w v) := rfl

end Pay

section Point
variable (i : grid0.Coords)
    (arg2 : Memref sig .tc .vmem S512x128 .f32) (harg2 : arg2.IsWhole)
    (arg3 : Memref sig .tc .vmem S4096x128 .f32) (harg3 : arg3.IsWhole)
    (arg4 : Memref sig .tc .vmem S4096x128 .f32) (harg4 : arg4.IsWhole)
    (arg5 : Memref sig .tc .vmem S1x1x16x1024x256 .bf16) (harg5 : arg5.IsWhole)
    (arg6 : Memref sig .tc .vmem S512x128 .f32) (harg6 : arg6.IsWhole)
    (arg7 : Memref sig .tc .vmem S512x128 .bf16) (harg7 : arg7.IsWhole)
    (arg8 : Memref sig .tc .vmem S4096x128 .f32) (harg8 : arg8.IsWhole)
    (arg9 : Memref sig .tc .vmem S4096x128 .f32) (harg9 : arg9.IsWhole)

/-- The start of a point: the two stacked tiles are formed, and at the first query tile the two gradients are zeroed. -/
theorem head_sound (c : Dev nD)
    (f2 : arg2.view.ty.Contents (Elt F)) (f6 : arg6.view.ty.Contents (Elt F))
    (f8 : arg8.view.ty.Contents (Elt F)) (f9 : arg9.view.ty.Contents (Elt F))
    {R : (Σ' (arg1 : BitVec 32) (v18 : FVec F S1024x128 .bf16) (v32 : FVec F S1024x128 .bf16) (v38 : FVec F S256x256 .bf16)
      (v39 : IVec S512x256 32) (v40 : IVec S512x256 32) (v41 : BitVec 32), BitVec 32) → sProp 𝕄} :
    iprop((arg2.view.loc (c : Thread nD τ) ↦[arg2.view.set]{fullShare} f2)
        ∗ (arg6.view.loc (c : Thread nD τ) ↦[arg6.view.set]{fullShare} f6)
        ∗ (arg8.view.loc (c : Thread nD τ) ↦[arg8.view.set]{fullShare} f8)
        ∗ (arg9.view.loc (c : Thread nD τ) ↦[arg9.view.set]{fullShare} f9)
        ∗ ((arg2.view.loc (c : Thread nD τ) ↦[arg2.view.set]{fullShare} f2)
          ∗ (arg6.view.loc (c : Thread nD τ) ↦[arg6.view.set]{fullShare} f6)
          ∗ (∃ g, ⌜arg8.view.read (Elt F) g = startK (i 1).val (arg8.view.read (Elt F) f8)⌝
            ∗ (arg8.view.loc (c : Thread nD τ) ↦[arg8.view.set]{fullShare} g))
          ∗ (∃ g, ⌜arg9.view.read (Elt F) g = startV (i 1).val (arg9.view.read (Elt F) f9)⌝
            ∗ (arg9.view.loc (c : Thread nD τ) ↦[arg9.view.set]{fullShare} g))
          -∗ R ⟨BitVec.ofNat 32 (i 1).val, k0_pay81 (arg2.view.read (Elt F) f2), k0_pay82 (arg6.view.read (Elt F) f6), k0_pay83,
            rowIota, colIota, Scalar.muli (BitVec.ofNat 32 (i 1).val) 2#32, 2#32⟩))
      ⊢ wp frame (wpE (defs₀ (F := F)) Variants.none (c : Thread nD τ) none) Set.univ
          (k0_part13 (F := F) i arg2 harg2 arg3 harg3 arg4 harg4 arg5 harg5 arg6 harg6 arg7 harg7 arg8 harg8 arg9 harg9) R := by
  have r2 : arg2.view.readAt (Elt F) (Rect.unit (s := S512x128) ![0, 0] S512x128.size inb_S512x128_S512x128_0_0).toLoadRect f2
      = arg2.view.read (Elt F) f2 := ld_tile _ _
  have r6 : arg6.view.readAt (Elt F) (Rect.unit (s := S512x128) ![0, 0] S512x128.size inb_S512x128_S512x128_0_0).toLoadRect f6
      = arg6.view.read (Elt F) f6 := ld_tile _ _
  unfold rowIota colIota
  simp only [k0_part13_eq_skeleton]
  unfold k0_part13_skel
  iintro ⟨H2, H6, H8, H9, HK⟩
  by_cases hq : (i 1).val = 0
  · have h1 := (guard_iff i).mpr hq
    sl_exec (disch := sl_exact h1)
    sl_step
    delta head_sound.sl.v39 head_sound.sl.v40 head_sound.sl.v41
    try rw [r2, r6]
    iapply HK
    isplitl [H2]; · iexact H2
    isplitl [H6]; · iexact H6
    isplitl [H8]
    · iexists _; isplitr; swap; · iexact H8
      ipureintro
      unfold startK; rw [if_pos hq]
      exact read_whole _ _ _ _ rfl _ _
    · iexists _; isplitr; swap; · iexact H9
      ipureintro
      unfold startV; rw [if_pos hq]
      exact read_whole _ _ _ _ rfl _ _
  · have h1 := fun h => hq ((guard_iff i).mp h)
    sl_exec (disch := sl_exact h1)
    sl_step
    delta head_sound.sl.v39_1 head_sound.sl.v40_1 head_sound.sl.v41_1
    try rw [r2, r6]
    iapply HK
    isplitl [H2]; · iexact H2
    isplitl [H6]; · iexact H6
    isplitl [H8]
    · iexists _; isplitr; swap; · iexact H8
      ipureintro; unfold startK; rw [if_neg hq]
    · iexists _; isplitr; swap; · iexact H9
      ipureintro; unfold startV; rw [if_neg hq]

/-- The full blocks of a point: four at a time, then two more when the number of tiles before this one is odd. -/
theorem mid_sound (c : Dev nD) (s : Src F) (X8 X9 : S4096x128.Idx → Elt F .f32) (arg1 v41 c2 : BitVec 32)
    {R : (Σ' (v81_0 : FVec F S1024x128 .f32), FVec F S1024x1 .f32) → sProp 𝕄} :
    iprop(Held arg3 arg4 arg5 arg8 arg9 c s X8 X9 (dkBlk s X8) (dvBlk s X9) 0
        ∗ (Held arg3 arg4 arg5 arg8 arg9 c s X8 X9 (dkBlk s X8) (dvBlk s X9) (2 * (i 1).val)
          -∗ R ⟨(carry s (2 * (i 1).val)).1, (carry s (2 * (i 1).val)).2⟩))
      ⊢ wp frame (wpE (defs₀ (F := F)) Variants.none (c : Thread nD τ) none) Set.univ
          (k0_part14 (F := F) i arg2 harg2 arg3 harg3 arg4 harg4 arg5 harg5 arg6 harg6 arg7 harg7 arg8 harg8 arg9 harg9
            arg1 s.qs s.dos s.tri v41 c2) R := by
  have ht := trips_eq i
  simp only [k0_part14_eq_skeleton]
  unfold k0_part14_skel
  iintro ⟨HH, HK⟩
  sl_exec
  sl_for (fun k acc => iprop(⌜acc = carry s (4 * k)⌝ ∗ Held arg3 arg4 arg5 arg8 arg9 c s X8 X9 (dkBlk s X8) (dvBlk s X9) (4 * k))) $$ [HH]
  · intro k acc
    exact trip_sound i arg2 harg2 arg3 harg3 arg4 harg4 arg5 harg5 arg6 harg6 arg7 harg7 arg8 harg8 arg9 harg9 c s X8 X9 arg1 v41 c2 k acc
  · isplitr; · ipureintro; rfl
    iexact HH
  iintro %acc ⟨%hacc, HH⟩
  have h0 : Scf.trips (k0_t2_loop i).lb (k0_t2_loop i).ub (k0_t2_loop i).st = 0 := Nat.le_zero.mp (k0_t2_abs i).2.1
  obtain ⟨a, b⟩ := acc
  have hn : Scf.trips (k0_t1_loop i).lb (k0_t1_loop i).ub (k0_t1_loop i).st = (i 1).val / 2 := ht
  rw [hn] at hacc
  rw [hn]
  by_cases hc : (i 1).val % 2 = 1
  · have h2 := (cond2_iff i).mpr hc
    have hl := tile_lt i
    generalize hm : 2 * (i 1).val - 2 = n at *
    have e4 : 4 * ((i 1).val / 2) = n := by omega
    rw [e4] at hacc
    rw [e4, show 2 * (i 1).val = n + 2 by omega]
    unfold Held
    icases HH with ⟨⟨%f3, %h3, H3⟩, ⟨%f4, %h4, H4⟩, ⟨%f5, %h5, H5⟩, ⟨%f8, %h8, H8⟩, ⟨%f9, %h9, H9⟩⟩
    have o0 : k0_off6 i 0#32 = ![256 * n, 0] := by have := off6_eq i h2 0; rw [hm] at this; exact this
    have o1 : k0_off6 i 1#32 = ![256 * (n + 1), 0] := by have := off6_eq i h2 1; rw [hm] at this; exact this
    have p0 : k0_off5 i 0#32 = ![0, 0, n, 0, 0] := by have := off5_eq i h2 0; rw [hm] at this; exact this
    have p1 : k0_off5 i 1#32 = ![0, 0, n + 1, 0, 0] := by have := off5_eq i h2 1; rw [hm] at this; exact this
    letI : ClosedOff (k0_off6 i 0#32) := ⟨![256 * n, 0], o0⟩
    letI : ClosedOff (k0_off6 i 1#32) := ⟨![256 * (n + 1), 0], o1⟩
    sl_exec (disch := sl_exact h2)
    sl_step
    have ha : a = (carry s n).1 := congrArg Prod.fst hacc
    have hb : b = (carry s n).2 := congrArg Prod.snd hacc
    have e8 : ∀ m, n ≤ m → m < 16 → rowsAt (arg8.view.read (Elt F) f8) m = rowsAt X8 m := fun m hn hm => by
      rw [h8, rowsAt_fillTo _ _ _ _ hn hm]
    have e9 : ∀ m, n ≤ m → m < 16 → rowsAt (arg9.view.read (Elt F) f9) m = rowsAt X9 m := fun m hn hm => by
      rw [h9, rowsAt_fillTo _ _ _ _ hn hm]
    have k0 := readAt_rows arg3.view f3 s.K h3 _ (by omega) o0 (k0_off6_inb i h2 0)
    have k1 := readAt_rows arg3.view f3 s.K h3 _ (by omega) o1 (k0_off6_inb i h2 1)
    have v0 := readAt_rows arg4.view f4 s.V h4 _ (by omega) o0 (k0_off6_inb i h2 0)
    have v1 := readAt_rows arg4.view f4 s.V h4 _ (by omega) o1 (k0_off6_inb i h2 1)
    have w0 := readAt_kept arg5.view f5 s.W h5 _ (by omega) p0 (k0_off5_inb i h2 0)
    have w1 := readAt_kept arg5.view f5 s.W h5 _ (by omega) p1 (k0_off5_inb i h2 1)
    have x0 := (readAt_rows arg8.view f8 _ rfl _ (by omega) o0 (k0_off6_inb i h2 0)).trans (e8 _ (by omega) (by omega))
    have x1 := (readAt_rows arg8.view f8 _ rfl _ (by omega) o1 (k0_off6_inb i h2 1)).trans (e8 _ (by omega) (by omega))
    have y0 := (readAt_rows arg9.view f9 _ rfl _ (by omega) o0 (k0_off6_inb i h2 0)).trans (e9 _ (by omega) (by omega))
    have y1 := (readAt_rows arg9.view f9 _ rfl _ (by omega) o1 (k0_off6_inb i h2 1)).trans (e9 _ (by omega) (by omega))
    delta mid_sound.sl.r mid_sound.sl.r_1 mid_sound.sl.r_2 mid_sound.sl.r_3 mid_sound.sl.r_4 mid_sound.sl.r_5 mid_sound.sl.r_6 mid_sound.sl.r_7 mid_sound.sl.r_8 mid_sound.sl.r_9 mid_sound.sl.r_10 mid_sound.sl.cst_96 mid_sound.sl.v330 mid_sound.sl.v337
    simp only [k0, k1, v0, v1, w0, w1, x0, x1, y0, y1, ha, hb]
    simp only [pay65_eq, pay67_eq, pay68_eq, pay69_eq, pay70_eq, pay71_eq, pay72_eq, pay73_eq, pay93_eq, pay94_eq, pay95_eq, pay96_eq]
    simp only [carry]
    iapply HK
    isplitl [H3]
    · iexists _; isplitr; · ipureintro; exact h3
      iexact H3
    isplitl [H4]
    · iexists _; isplitr; · ipureintro; exact h4
      iexact H4
    isplitl [H5]
    · iexists _; isplitr; · ipureintro; exact h5
      iexact H5
    isplitl [H8]
    · iexists _; isplitr; swap; · iexact H8
      ipureintro
      exact read_fill_one arg8.view f8 _ X8 _ _ o1 _ _ rfl (read_fill_one arg8.view f8 [] X8 _ _ o0 _ _ rfl h8)
    · iexists _; isplitr; swap; · iexact H9
      ipureintro
      exact read_fill_one arg9.view f9 _ X9 _ _ o1 _ _ rfl (read_fill_one arg9.view f9 [] X9 _ _ o0 _ _ rfl h9)
  · have h2 := fun h => hc ((cond2_iff i).mp h)
    have e4 : 4 * ((i 1).val / 2) = 2 * (i 1).val := by omega
    rw [e4] at hacc
    rw [e4, ← hacc]
    sl_exec (disch := sl_exact h2)
    sl_step
    iapply HK
    iexact HH

/-- One grid point of the body: from the tiles and the two gradients, the query gradient's tile and the gradients with their first
    blocks replaced. -/
theorem point_sound (c : Dev nD) (Q D : S512x128.Idx → Elt F .f32) (K V : S4096x128.Idx → Elt F .f32)
    (W : S1x1x16x1024x256.Idx → Elt F .bf16) (X8 X9 : S4096x128.Idx → Elt F .f32) (R : PUnit → sProp 𝕄) :
    iprop(owns (c : Thread nD τ) arg2 fullShare Q ∗ owns (c : Thread nD τ) arg3 fullShare K ∗ owns (c : Thread nD τ) arg4 fullShare V
        ∗ owns (c : Thread nD τ) arg5 fullShare W ∗ owns (c : Thread nD τ) arg6 fullShare D
        ∗ (∃ d, owns (c : Thread nD τ) arg7 fullShare d)
        ∗ owns (c : Thread nD τ) arg8 fullShare X8 ∗ owns (c : Thread nD τ) arg9 fullShare X9
        ∗ (owns (c : Thread nD τ) arg2 fullShare Q ∗ owns (c : Thread nD τ) arg3 fullShare K ∗ owns (c : Thread nD τ) arg4 fullShare V
          ∗ owns (c : Thread nD τ) arg5 fullShare W ∗ owns (c : Thread nD τ) arg6 fullShare D
          ∗ owns (c : Thread nD τ) arg7 fullShare (outQ Q D K V W (i 1).val)
          ∗ owns (c : Thread nD τ) arg8 fullShare (outK Q D K V W (i 1).val X8)
          ∗ owns (c : Thread nD τ) arg9 fullShare (outV Q D K V W (i 1).val X9) -∗ R ⟨⟩))
      ⊢ wp frame (wpE (defs₀ (F := F)) Variants.none (c : Thread nD τ) none) Set.univ
          (cc0_sb_attn_bwd (F := F) i arg2 harg2 arg3 harg3 arg4 harg4 arg5 harg5 arg6 harg6 arg7 harg7 arg8 harg8 arg9 harg9)
          R := by
  simp only [cc0_sb_attn_bwd_eq_skeleton]
  unfold cc0_sb_attn_bwd_skel
  rw [wp_bind]
  unfold owns
  iintro ⟨⟨%f2, %h2, H2⟩, ⟨%f3, %h3, H3⟩, ⟨%f4, %h4, H4⟩, ⟨%f5, %h5, H5⟩, ⟨%f6, %h6, H6⟩, ⟨%d7, %f7, -, H7⟩, ⟨%f8, %h8, H8⟩,
    ⟨%f9, %h9, H9⟩, HR⟩
  iapply (head_sound i arg2 harg2 arg3 harg3 arg4 harg4 arg5 harg5 arg6 harg6 arg7 harg7 arg8 harg8 arg9 harg9 c f2 f6 f8 f9)
  isplitl [H2]; · iexact H2
  isplitl [H6]; · iexact H6
  isplitl [H8]; · iexact H8
  isplitl [H9]; · iexact H9
  iintro ⟨H2, H6, ⟨%g8, %e8, H8⟩, ⟨%g9, %e9, H9⟩⟩
  rw [h2, h6]
  rw [h8] at e8
  rw [h9] at e9
  dsimp only
  rw [wp_bind]
  have hl := tile_lt i
  have hn : 2 * (i 1).val + 1 < 16 := by omega
  have o0 : k0_off8 i 0#32 = ![256 * (2 * (i 1).val), 0] := off8_eq i 0
  have o1 : k0_off8 i 1#32 = ![256 * (2 * (i 1).val + 1), 0] := off8_eq i 1
  have p0 : k0_off7 i 0#32 = ![0, 0, 2 * (i 1).val, 0, 0] := off7_eq i 0
  have p1 : k0_off7 i 1#32 = ![0, 0, 2 * (i 1).val + 1, 0, 0] := off7_eq i 1
  letI : ClosedOff (k0_off8 i 0#32) := ⟨![256 * (2 * (i 1).val), 0], o0⟩
  letI : ClosedOff (k0_off8 i 1#32) := ⟨![256 * (2 * (i 1).val + 1), 0], o1⟩
  iapply (mid_sound i arg2 harg2 arg3 harg3 arg4 harg4 arg5 harg5 arg6 harg6 arg7 harg7 arg8 harg8 arg9 harg9 c
    (srcOf Q D K V W) (startK (i 1).val X8) (startV (i 1).val X9))
  isplitl [H3 H4 H5 H8 H9]
  · unfold Held
    isplitl [H3]; · iexists f3; isplitr; · ipureintro; exact h3
                    iexact H3
    isplitl [H4]; · iexists f4; isplitr; · ipureintro; exact h4
                    iexact H4
    isplitl [H5]; · iexists f5; isplitr; · ipureintro; exact h5
                    iexact H5
    isplitl [H8]; · iexists g8; isplitr; · ipureintro; rw [e8, fillTo_zero]
                    iexact H8
    iexists g9; isplitr; · ipureintro; rw [e9, fillTo_zero]
    iexact H9
  iintro HH
  unfold Held
  icases HH with ⟨⟨%k3, %hk3, H3⟩, ⟨%k4, %hk4, H4⟩, ⟨%k5, %hk5, H5⟩, ⟨%k8, %hk8, H8⟩, ⟨%k9, %hk9, H9⟩⟩
  simp only [k0_part15_eq_skeleton, k0_part16_eq_skeleton, k0_part17_eq_skeleton]
  sl_exec
  sl_step
  have z8 : ∀ m, 2 * (i 1).val ≤ m → m < 16 → rowsAt (arg8.view.read (Elt F) k8) m = rowsAt (startK (i 1).val X8) m := fun m hn hm => by
    rw [hk8, rowsAt_fillTo _ _ _ _ hn hm]
  have z9 : ∀ m, 2 * (i 1).val ≤ m → m < 16 → rowsAt (arg9.view.read (Elt F) k9) m = rowsAt (startV (i 1).val X9) m := fun m hn hm => by
    rw [hk9, rowsAt_fillTo _ _ _ _ hn hm]
  have a0 := readAt_rows arg3.view k3 _ hk3 _ (by omega) o0 (k0_off8_inb i 0)
  have a1 := readAt_rows arg3.view k3 _ hk3 _ (by omega) o1 (k0_off8_inb i 1)
  have b0 := readAt_rows arg4.view k4 _ hk4 _ (by omega) o0 (k0_off8_inb i 0)
  have b1 := readAt_rows arg4.view k4 _ hk4 _ (by omega) o1 (k0_off8_inb i 1)
  have w0 := readAt_kept arg5.view k5 _ hk5 _ (by omega) p0 (k0_off7_inb i 0)
  have w1 := readAt_kept arg5.view k5 _ hk5 _ (by omega) p1 (k0_off7_inb i 1)
  have x0 := (readAt_rows arg8.view k8 _ rfl _ (by omega) o0 (k0_off8_inb i 0)).trans (z8 _ (by omega) (by omega))
  have x1 := (readAt_rows arg8.view k8 _ rfl _ (by omega) o1 (k0_off8_inb i 1)).trans (z8 _ (by omega) (by omega))
  have y0 := (readAt_rows arg9.view k9 _ rfl _ (by omega) o0 (k0_off8_inb i 0)).trans (z9 _ (by omega) (by omega))
  have y1 := (readAt_rows arg9.view k9 _ rfl _ (by omega) o1 (k0_off8_inb i 1)).trans (z9 _ (by omega) (by omega))
  delta point_sound.sl.r point_sound.sl.r_1 point_sound.sl.r_2 point_sound.sl.r_3 point_sound.sl.r_4 point_sound.sl.r_5 point_sound.sl.r_6 point_sound.sl.r_7 point_sound.sl.r_8 point_sound.sl.r_9 point_sound.sl.r_10 point_sound.sl.r_11 point_sound.sl.v209 point_sound.sl.v216
  simp only [a0, a1, b0, b1, w0, w1, x0, x1, y0, y1]
  iapply HR
  isplitl [H2]
  · iexists _; isplitr; · ipureintro; exact h2
    iexact H2
  isplitl [H3]
  · iexists _; isplitr; · ipureintro; exact hk3
    iexact H3
  isplitl [H4]
  · iexists _; isplitr; · ipureintro; exact hk4
    iexact H4
  isplitl [H5]
  · iexists _; isplitr; · ipureintro; exact hk5
    iexact H5
  isplitl [H6]
  · iexists _; isplitr; · ipureintro; exact h6
    iexact H6
  isplitl [H7]
  · iexists _; isplitr; swap; · iexact H7
    ipureintro
    exact read_tile arg7.view f7 _ _ rfl _ _
  isplitl [H8]
  · iexists _; isplitr; swap; · iexact H8
    ipureintro
    refine read_fill_one arg8.view k8 _ _ _ _ o1 _ _ ?_ (read_fill_one arg8.view k8 [] _ _ _ o0 _ _ ?_ (hk8.trans (fillTo_congr _ _ _ _ fun j hj => ?_)))
    · unfold dkAll; rw [if_neg (by omega), if_neg (by omega)]; rfl
    · unfold dkAll; rw [if_neg (by omega), if_pos rfl]; rfl
    · unfold dkAll; rw [if_pos hj]
  · iexists _; isplitr; swap; · iexact H9
    ipureintro
    refine read_fill_one arg9.view k9 _ _ _ _ o1 _ _ ?_ (read_fill_one arg9.view k9 [] _ _ _ o0 _ _ ?_ (hk9.trans (fillTo_congr _ _ _ _ fun j hj => ?_)))
    · unfold dvAll; rw [if_neg (by omega), if_neg (by omega)]; rfl
    · unfold dvAll; rw [if_neg (by omega), if_pos rfl]; rfl
    · unfold dvAll; rw [if_pos hj]

end Point

end Cert.Proof.KI

end
-- ==== Proof.KI.Run.lean ====
/-
  The run of the attention's backward kernel over its grid: what each result's staging buffer holds after each point, the body
  at a generic point, the launch, and the frame. Everything here holds at any interpretation of the floats.
-/
module

public import proofs.«01_k».proof.Proof.KI.Point
public import proofs.«01_k».proof.Proof.Gen.KernelIdeal.Frame
public import Idealize.ShloMosaic.Lib.Claim

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the result windows hold -/

/-- The query tile of point `t` is its residue modulo 8: the grid's second axis runs fastest. -/
theorem coords_tile : ∀ t : Fin grid0.N, (grid0.coords t 1).val = t.val % 8 := by decide +kernel

/-- The query gradient's tile written at point `t`. -/
def tileQ (c : Dev nD) (t : Fin cfg0.N) : S512x128.Idx → Elt F .bf16 :=
  outQ (iblk m c 0 t) (iblk m c 4 t) (iblk m c 1 t) (iblk m c 2 t) (iblk m c 3 t) (grid0.coords t 1).val

/-- The key gradient after point `t`, from what it was before, -/
def stepK (c : Dev nD) (t : Fin cfg0.N) (X : S4096x128.Idx → Elt F .f32) : S4096x128.Idx → Elt F .f32 :=
  outK (iblk m c 0 t) (iblk m c 4 t) (iblk m c 1 t) (iblk m c 2 t) (iblk m c 3 t) (grid0.coords t 1).val X

/-- and the value gradient. -/
def stepV (c : Dev nD) (t : Fin cfg0.N) (X : S4096x128.Idx → Elt F .f32) : S4096x128.Idx → Elt F .f32 :=
  outV (iblk m c 0 t) (iblk m c 4 t) (iblk m c 1 t) (iblk m c 2 t) (iblk m c 3 t) (grid0.coords t 1).val X

/-- The key gradient's buffer after points `0` to `t` (a first tile takes nothing from what was there before), -/
def accK (c : Dev nD) : ℕ → S4096x128.Idx → Elt F .f32
  | 0 => stepK m c ⟨0, by decide⟩ k0_pay79
  | t + 1 => if h : t + 1 < cfg0.N then stepK m c ⟨t + 1, h⟩ (accK c t) else k0_pay79

/-- and the value gradient's. -/
def accV (c : Dev nD) : ℕ → S4096x128.Idx → Elt F .f32
  | 0 => stepV m c ⟨0, by decide⟩ k0_pay80
  | t + 1 => if h : t + 1 < cfg0.N then stepV m c ⟨t + 1, h⟩ (accV c t) else k0_pay80

/-- At a first query tile the key gradient starts from zero, whatever it held, -/
theorem stepK_start (c : Dev nD) (t : Fin cfg0.N) (h : t.val % 8 = 0) (X Y : S4096x128.Idx → Elt F .f32) :
    stepK m c t X = stepK m c t Y := by
  have hz : (grid0.coords t 1).val = 0 := (coords_tile t).trans h
  unfold stepK outK startK
  rw [if_pos hz, if_pos hz]

/-- and so does the value gradient. -/
theorem stepV_start (c : Dev nD) (t : Fin cfg0.N) (h : t.val % 8 = 0) (X Y : S4096x128.Idx → Elt F .f32) :
    stepV m c t X = stepV m c t Y := by
  have hz : (grid0.coords t 1).val = 0 := (coords_tile t).trans h
  unfold stepV outV startV
  rw [if_pos hz, if_pos hz]

/-- The key gradient after a first tile, -/
theorem accK_start (c : Dev nD) (t : Fin cfg0.N) (h : t.val % 8 = 0) (X : S4096x128.Idx → Elt F .f32) :
    accK m c t.val = stepK m c t X := by
  obtain ⟨t, ht⟩ := t
  cases t with
  | zero => exact stepK_start m c _ h _ _
  | succ t => unfold accK; rw [dif_pos ht]; exact stepK_start m c _ h _ _

/-- after a later one, -/
theorem accK_next (c : Dev nD) (t : Fin cfg0.N) (h : t.val ≠ 0) : accK m c t.val = stepK m c t (accK m c (t.val - 1)) := by
  obtain ⟨t, ht⟩ := t
  cases t with
  | zero => exact absurd rfl h
  | succ t => conv_lhs => unfold accK
              rw [dif_pos ht]; rfl

/-- the value gradient after a first tile, -/
theorem accV_start (c : Dev nD) (t : Fin cfg0.N) (h : t.val % 8 = 0) (X : S4096x128.Idx → Elt F .f32) :
    accV m c t.val = stepV m c t X := by
  obtain ⟨t, ht⟩ := t
  cases t with
  | zero => exact stepV_start m c _ h _ _
  | succ t => unfold accV; rw [dif_pos ht]; exact stepV_start m c _ h _ _

/-- and after a later one. -/
theorem accV_next (c : Dev nD) (t : Fin cfg0.N) (h : t.val ≠ 0) : accV m c t.val = stepV m c t (accV m c (t.val - 1)) := by
  obtain ⟨t, ht⟩ := t
  cases t with
  | zero => exact absurd rfl h
  | succ t => conv_lhs => unfold accV
              rw [dif_pos ht]; rfl

/-! ## The pipeline's proof data -/

/-- Each input's buffer holds its block, each result's what the points so far left; the inputs share the projection's array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => tileQ m c t
    | ⟨6, _⟩ => accK m c t.val
    | ⟨7, _⟩ => accV m c t.val
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = tileQ m c t := by dsimp only [dats]
theorem after0_6 (c : Dev nD) (t : Fin cfg0.N) : (dats m 0 c).after 6 t = accK m c t.val := by dsimp only [dats]
theorem after0_7 (c : Dev nD) (t : Fin cfg0.N) : (dats m 0 c).after 7 t = accV m c t.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- A point's step on what it finds in the key gradient's buffer gives what the buffer holds after it, -/
theorem stepK_before (c : Dev nD) (t : Fin cfg0.N) (d) :
    stepK m c t ((dats m 0 c).before 6 t d) = accK m c t.val := by
  by_cases h : t.val % 8 = 0
  · exact (accK_start m c t h _).symm
  · have ht : t.val ≠ 0 := fun h0 => h (by rw [h0])
    rw [(dats m 0 c).before_out_kept 6 rfl t ht (Bool.eq_false_iff.mpr fun hf => by
      have := (flush0_6 _).mp hf; dsimp only at this; omega) (fun _ => rfl) (fun _ _ => rfl) d, after0_6]
    exact (accK_next m c t ht).symm

/-- and in the value gradient's. -/
theorem stepV_before (c : Dev nD) (t : Fin cfg0.N) (d) :
    stepV m c t ((dats m 0 c).before 7 t d) = accV m c t.val := by
  by_cases h : t.val % 8 = 0
  · exact (accV_start m c t h _).symm
  · have ht : t.val ≠ 0 := fun h0 => h (by rw [h0])
    rw [(dats m 0 c).before_out_kept 7 rfl t ht (Bool.eq_false_iff.mpr fun hf => by
      have := (flush0_7 _).mp hf; dsimp only at this; omega) (fun _ => rfl) (fun _ _ => rfl) d, after0_7]
    exact (accV_next m c t ht).symm

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  rw [← stepK_before m c t d6, ← stepV_before m c t d7]
  iapply (point_sound (grid0.coords t) _ _ _ _ _ _ _ _ _ _ _ _ _ _ _ _ c (iblk m c 0 t) (iblk m c 4 t) (iblk m c 1 t) (iblk m c 2 t)
    (iblk m c 3 t) ((dats m 0 c).before 6 t d6) ((dats m 0 c).before 7 t d7) _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t` is the body there. -/
theorem defs₀_row (t : Fin cfg0.N) :
    defs₀ (F := F) .tc cfg0.body (cfg0.bodyArgs t (cfg0.slots t)) = bodyAt0 t := by
  unfold defs₀; rw [Defs.onTc_tc]

/-- The pipeline's obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every execution ends with the results' arrays as the points left them, and every semaphore at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The run without the semaphores. -/
theorem run_main : θ_run defs (onTc (τ := τ) (main (F := F))) (s₀ m ρ) (Pipeline.FramePost cfgs (dats m) 0 (V m)) :=
  (θ_run defs _ _).mono (fun _ h => h.1) (run_quiescent m ρ)

/-- The frame: the arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_quiescent m ρ))

end Cert.Proof.KI

end
-- ==== Proof.KI.Same.lean ====
/- The kernel and its idealization have the same text: their bodies and their tables of definitions are equal. -/
module
public import proofs.«01_k».proof.Defs
public import proofs.«01_k».proof.Proof.Gen.Kernel
public import proofs.«01_k».proof.Proof.Gen.KernelIdeal
@[expose] public section

noncomputable section

namespace Cert.Proof.KI

open Idealize.ShloMosaic Idealize.SL.Sem

set_option maxHeartbeats 1000000 in
/-- The two kernels' bodies are one term. -/
theorem body_same : @Cert.Kernel.cc0_sb_attn_bwd Bits _ _ = @Cert.KernelIdeal.cc0_sb_attn_bwd Bits _ _ := rfl

set_option maxHeartbeats 1000000 in
/-- So are the bodies' tables. -/
theorem defs₀_same : Cert.Kernel.defs₀ (F := Bits) = Cert.KernelIdeal.defs₀ (F := Bits) := by
  unfold Cert.Kernel.defs₀ Cert.KernelIdeal.defs₀
  refine congrArg Defs.onTc ?_
  funext l x
  match l, x with
  | 0, (t, s) => exact rfl

set_option maxHeartbeats 1000000 in
/-- And the pipelines' tables. -/
theorem defs_same : Cert.Kernel.defs (F := Bits) = Cert.KernelIdeal.defs (F := Bits) := by
  unfold Cert.Kernel.defs Cert.KernelIdeal.defs
  exact congrArg (Pipeline.defs _) defs₀_same

set_option maxHeartbeats 1000000 in
/-- And the programs. -/
theorem main_same : Cert.Kernel.main (F := Bits) = Cert.KernelIdeal.main (F := Bits) := rfl

end Cert.Proof.KI

end
-- ==== Proof.Val.Host.lean ====
/-
  The host arithmetic of the reference, and of the weights that the kernel is handed, named step by step.
-/
module

public import proofs.«01_k».proof.Proof.Gen.ReferenceIdeal.Run
public import proofs.«01_k».proof.Proof.Val.Real

@[expose] public section

set_option maxRecDepth 16384

noncomputable section

namespace Cert.Proof.Val

open Cert.ReferenceIdeal Cert.ReferenceIdeal.Gen
open Idealize.ShloMosaic Idealize.ShloMosaic.TcCoe

/-- Arrays of a score per head, query and key. -/
abbrev Score := FVec Ideal S8x4096x4096 .f32

/-- A head's arrays. -/
abbrev Heads := FVec Ideal S8x4096x64 .f32

/-- One number everywhere. -/
def full (w : BitVec 32) : Score := broadcastInDim S8x4096x4096 ![] bcast_S_S8x4096x4096 (constant S_ .f32 w)

/-- The columns of each head. -/
def split (X : FVec Ideal S4096x512 .f32) : Heads :=
  transpose S8x4096x64 [1, 0, 2] (shapeCast S4096x8x64 X shapeCasts_S4096x512_S4096x8x64) transposes_S4096x8x64_S8x4096x64_1_0_2

/-- The heads side by side again. -/
def merge (X : Heads) : FVec Ideal S4096x512 .f32 :=
  shapeCast S4096x512 (transpose S4096x8x64 [1, 0, 2] X transposes_S8x4096x64_S4096x8x64_1_0_2) shapeCasts_S4096x8x64_S4096x512

def qH (A : FVec Ideal S4096x3584 .f32) : Heads := split (extractStridedSlice S4096x512 ![0, 0] A slices_S4096x3584_S4096x512_0_0)
def kH (A : FVec Ideal S4096x3584 .f32) : Heads := split (extractStridedSlice S4096x512 ![0, 512] A slices_S4096x3584_S4096x512_0_512)
def vH (A : FVec Ideal S4096x3584 .f32) : Heads := split (extractStridedSlice S4096x512 ![0, 1024] A slices_S4096x3584_S4096x512_0_1024)

/-- Every query with every key. -/
def rowsBy (X Y : Heads) : Score := Host.dotGeneral dot_S8x4096x64_S8x4096x64_S8x4096x4096_2_2_1_1_0_0 none X Y

/-- The scores. -/
def zH (A : FVec Ideal S4096x3584 .f32) : Score := mulf (rowsBy (qH A) (kH A)) (full 0x3E000000#32)

/-- Whether the key is before the query. -/
def causal : IVec S8x4096x4096 1 :=
  broadcastInDim S8x4096x4096 ![1, 2] bcast_S4096x4096_S8x4096x4096_1_2 (cmpi .slt
    (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0))))

/-- Zero where the key is not before the query. -/
def masked (X : Score) : Score := select causal X (full 0x00000000#32)

/-- log (1 + exp x). -/
def softplus (X : Score) : Score :=
  select (cmpf .une (subf X (full 0x00000000#32)) (subf X (full 0x00000000#32))) (addf X (full 0x00000000#32))
    (addf (maximumf X (full 0x00000000#32)) (Host.log1p (Host.exp (Host.negf (Host.absf (subf X (full 0x00000000#32)))))))

/-- exp (x - log (1 + exp x)), infinities put to zero first. -/
def sigm (X : Score) : Score :=
  Host.exp (subf (select (cmpf .oeq X (full 0x7F800000#32)) (full 0x00000000#32) X)
    (select (cmpf .oeq (softplus X) (full 0x7F800000#32)) (full 0x00000000#32) (softplus X)))

/-- The sum over the keys from this one on. -/
def fromHere (X : Score) : Score :=
  Host.reduceWindowAdd ![1, 1, 4096] ![1, 1, 1] ![0, 0, 0] ![0, 0, 4095] X (broadcastInDim S_ ![] bcast_S_S_ (constant S_ .f32 0x00000000#32))
    reduceWindows_S8x4096x4096_S8x4096x4096_w1s1p0_0_w1s1p0_0_w4096s1p0_4095 h_S_

/-- The sum over the keys up to this one. -/
def upToHere (X : Score) : Score :=
  Host.reduceWindowAdd ![1, 1, 4096] ![1, 1, 1] ![0, 0, 4095] ![0, 0, 0] X (broadcastInDim S_ ![] bcast_S_S_ (constant S_ .f32 0x00000000#32))
    reduceWindows_S8x4096x4096_S8x4096x4096_w1s1p0_0_w1s1p0_0_w4096s1p4095_0 h_S_

/-- log (1 - the stick's break) at the keys before the query, from the scores. -/
def restH (Z : Score) : Score := masked (Host.negf (softplus (Host.negf (Host.negf Z))))

/-- The weights' exponentials, -/
def exH (Z : Score) : Score := Host.exp (addf (Host.negf (softplus (Host.negf Z))) (subf (fromHere (restH Z)) (restH Z)))

/-- the weights, -/
def wH (Z : Score) : Score := masked (exH Z)

/-- the weights times their gradients, -/
def gH (Z A : Score) : Score := mulf (masked A) (exH Z)

/-- and the scores' gradient from those. -/
def dzOf (Z G : Score) : Score :=
  addf (Host.negf (Host.negf (mulf (Host.negf (masked (addf (Host.negf G) (upToHere G)))) (sigm (Host.negf (Host.negf Z))))))
    (Host.negf (mulf (Host.negf G) (sigm (Host.negf Z))))

/-- The scaled scores' gradient. -/
def dlH (A : FVec Ideal S4096x3584 .f32) (D : FVec Ideal S4096x512 .f32) : Score :=
  mulf (dzOf (zH A) (gH (zH A) (rowsBy (split D) (vH A)))) (full 0x3E000000#32)

/-- The gradients of the queries, -/
def dqH (A : FVec Ideal S4096x3584 .f32) (D : FVec Ideal S4096x512 .f32) : FVec Ideal S4096x512 .bf16 :=
  truncf .bf16 (merge (Host.dotGeneral dot_S8x4096x4096_S8x4096x64_S8x4096x64_2_1_1_2_0_0 none (dlH A D) (kH A))) bitsLt_bf16_f32

/-- of the keys -/
def dkH (A : FVec Ideal S4096x3584 .f32) (D : FVec Ideal S4096x512 .f32) : FVec Ideal S4096x512 .f32 :=
  merge (Host.dotGeneral dot_S8x4096x4096_S8x4096x64_S8x4096x64_1_1_2_2_0_0 none (dlH A D) (qH A))

/-- and of the values. -/
def dvH (A : FVec Ideal S4096x3584 .f32) (D : FVec Ideal S4096x512 .f32) : FVec Ideal S4096x512 .f32 :=
  merge (transpose S8x4096x64 [0, 2, 1] (Host.dotGeneral dot_S8x4096x64_S8x4096x4096_S8x64x4096_1_1_2_2_0_0 none (split D) (wH (zH A)))
    transposes_S8x64x4096_S8x4096x64_0_2_1)

variable (m : (ℓ : Loc nD τ sig) → Buf (Elt Ideal) ℓ) (c : Dev nD)

theorem res_dv : Value.res_out2 m c = dvH (m ((c.tc : Thread nD τ).loc main_arg0)) (m ((c.tc : Thread nD τ).loc main_arg1)) := by
  show Value.res_main_v50 m c = _
  unfold Value.res_main_v50
  rfl

theorem res_dk : Value.res_out1 m c = dkH (m ((c.tc : Thread nD τ).loc main_arg0)) (m ((c.tc : Thread nD τ).loc main_arg1)) := by
  show Value.res_main_v52 m c = _
  unfold Value.res_main_v52
  rfl

theorem res_dq : Value.res_out0 m c = dqH (m ((c.tc : Thread nD τ).loc main_arg0)) (m ((c.tc : Thread nD τ).loc main_arg1)) := by
  show Value.res_main_v55 m c = _
  unfold Value.res_main_v55
  rfl

end Cert.Proof.Val

end
-- ==== Proof.Val.Running.lean ====
/-
  The reference's running sums along the keys.
-/
module

public import proofs.«01_k».proof.Proof.Val.Host

@[expose] public section

set_option maxRecDepth 16384

noncomputable section

namespace Cert.Proof.Val

open Cert.ReferenceIdeal Cert.ReferenceIdeal.Gen
open Idealize.ShloMosaic Idealize.ShloMosaic.TcCoe Idealize.ShloMosaic.Pointwise Finset

/-- The array holds these reals. -/
def Reads (X : Score) (f : ℕ → ℕ → ℕ → ℝ) : Prop :=
  ∀ (h : Fin 8) (t s : Fin 4096), X (ix3 h t s) = ((f h.val t.val s.val : ℝ) : EReal)

/-- The window of a running sum. -/
abbrev Win : Shape := ⟨3, ![1, 1, 4096]⟩

/-- Its positions are those of its last axis. -/
def winEquiv : Fin 4096 ≃ Win.Idx where
  toFun k := ix3 0 0 k
  invFun x := x 2
  left_inv _ := rfl
  right_inv x := by
    funext a
    match a with
    | 0 => exact Subsingleton.elim (α := Fin 1) _ _
    | 1 => exact Subsingleton.elim (α := Fin 1) _ _
    | 2 => rfl

theorem foldl_add {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- Adding over the window is a sum over 4096 positions. -/
theorem window_sum (g : Win.Idx → EReal) :
    ((List.finRange Win.numel).map fun n => g (Win.rowMajor.symm n)).sum = ∑ k : Fin 4096, g (winEquiv k) := by
  rw [← Fin.sum_univ_def, Equiv.sum_comp Win.rowMajor.symm g, ← Equiv.sum_comp winEquiv g]

/-- A running sum at an index: the sum over the window of the operand where it has one. -/
theorem windowAdd_val {u : Shape} (lo hi : Fin 3 → ℕ) (X : Score) (init : u.Idx → EReal) (hw) (hu)
    (j : S8x4096x4096.Idx) :
    Host.reduceWindow (s := S8x4096x4096) (t := S8x4096x4096) (u := u) (fun a b : EReal => a + b) ![1, 1, 4096] ![1, 1, 1] lo hi X init hw hu j
      = init (Shape.Idx.first hu) + ∑ k : Fin 4096, (if hin : ∀ a : Fin 3, lo a ≤ (j a).val * (![1, 1, 1] : Fin 3 → ℕ) a + (winEquiv k a).val
          ∧ (j a).val * (![1, 1, 1] : Fin 3 → ℕ) a + (winEquiv k a).val - lo a < S8x4096x4096.size a
        then X (fun a => ⟨_, (hin a).2⟩) else init (Shape.Idx.first hu)) := by
  unfold Host.reduceWindow
  dsimp only
  rw [foldl_add]
  congr 1
  refine Eq.trans (congrArg List.sum (List.map_congr_left fun n _ => ?_)) (window_sum (fun y => if hin : ∀ a : Fin 3, lo a ≤ (j a).val * (![1, 1, 1] : Fin 3 → ℕ) a + (y a).val
          ∧ (j a).val * (![1, 1, 1] : Fin 3 → ℕ) a + (y a).val - lo a < S8x4096x4096.size a
        then X (fun a => ⟨_, (hin a).2⟩) else init (Shape.Idx.first hu)))
  split
  · rename_i h; exact Eq.symm (dif_pos (by exact h))
  · rename_i h; exact Eq.symm (dif_neg (by exact h))

theorem sum_from_of (f : ℕ → ℝ) (s n : ℕ) :
    ∑ k ∈ range (s + n), (if s + k < s + n then f (s + k) else 0) = ∑ j ∈ range (s + n), if s ≤ j then f j else 0 := by
  have h1 : ∑ j ∈ range (s + n), (if s ≤ j then f j else 0) = ∑ k ∈ range n, f (s + k) := by
    rw [Finset.sum_range_add, Finset.sum_eq_zero fun j hj => if_neg (by have := Finset.mem_range.1 hj; omega), zero_add]
    exact Finset.sum_congr rfl fun k _ => if_pos (by omega)
  rw [h1, show range (s + n) = range (n + s) from by rw [Nat.add_comm], Finset.sum_range_add,
    Finset.sum_eq_zero (s := range s) fun j _ => if_neg (by omega), add_zero]
  exact Finset.sum_congr rfl fun k hk => if_pos (by have := Finset.mem_range.1 hk; omega)

theorem sum_from (f : ℕ → ℝ) {s : ℕ} (hs : s < 4096) :
    ∑ k ∈ range 4096, (if s + k < 4096 then f (s + k) else 0) = ∑ j ∈ range 4096, if s ≤ j then f j else 0 := by
  have := sum_from_of f s (4096 - s)
  rwa [Nat.add_sub_of_le hs.le] at this

theorem sum_upTo_of (f : ℕ → ℝ) (s n : ℕ) :
    ∑ k ∈ range (n + (s + 1)), (if n + s ≤ s + k then f (s + k - (n + s)) else 0) = ∑ j ∈ range (s + 1), f j := by
  rw [Finset.sum_range_add, Finset.sum_eq_zero fun j hj => if_neg (by have := Finset.mem_range.1 hj; omega), zero_add]
  refine Finset.sum_congr rfl fun k _ => ?_
  rw [if_pos (by omega), show s + (n + k) - (n + s) = k by omega]

theorem sum_upTo (f : ℕ → ℝ) {s : ℕ} (hs : s < 4096) :
    ∑ k ∈ range 4096, (if 4095 ≤ s + k then f (s + k - 4095) else 0) = ∑ j ∈ range (s + 1), f j := by
  have := sum_upTo_of f s (4095 - s)
  rwa [show 4095 - s + (s + 1) = 4096 by omega, show 4095 - s + s = 4095 by omega] at this

theorem fromHere_val {X : Score} {f : ℕ → ℕ → ℕ → ℝ} (hX : Reads X f) :
    Reads (fromHere X) fun h t s => ∑ j ∈ range 4096, if s ≤ j then f h t j else 0 := by
  intro h t s
  have hz : (broadcastInDim S_ ![] bcast_S_S_ (constant (F := Ideal) S_ .f32 0x00000000#32)) (Shape.Idx.first h_S_) = (0 : EReal) := by
    show Ideal.ofBits FTy.f32 0#32 = 0
    simp
  unfold fromHere Host.reduceWindowAdd
  rw [hz]
  show Ideal.hostReduceWindowAdd _ _ _ _ _ _ _ _ = _
  unfold Ideal.hostReduceWindowAdd
  rw [windowAdd_val]
  beta_reduce
  rw [zero_add, ← sum_from _ s.isLt, ← sum_fin]
  refine Finset.sum_congr rfl fun k _ => ?_
  by_cases hk : s.val + k.val < 4096
  · rw [if_pos hk, dif_pos (by
      intro a
      match a with
      | 0 => have := h.isLt; show 0 ≤ h.val * 1 + 0 ∧ h.val * 1 + 0 - 0 < 8; omega
      | 1 => have := t.isLt; show 0 ≤ t.val * 1 + 0 ∧ t.val * 1 + 0 - 0 < 4096; omega
      | 2 => show 0 ≤ s.val * 1 + k.val ∧ s.val * 1 + k.val - 0 < 4096; omega)]
    rw [← hX h t ⟨s.val + k.val, hk⟩]
    congr 1
    funext a
    apply Fin.ext
    match a with
    | 0 => show h.val * 1 + 0 - 0 = h.val; omega
    | 1 => show t.val * 1 + 0 - 0 = t.val; omega
    | 2 => show s.val * 1 + k.val - 0 = s.val + k.val; omega
  · rw [if_neg hk, dif_neg (by
      intro hin
      have : s.val * 1 + k.val - 0 < 4096 := (hin 2).2
      omega)]
    rfl

theorem upToHere_val {X : Score} {f : ℕ → ℕ → ℕ → ℝ} (hX : Reads X f) :
    Reads (upToHere X) fun h t s => ∑ j ∈ range (s + 1), f h t j := by
  intro h t s
  have hz : (broadcastInDim S_ ![] bcast_S_S_ (constant (F := Ideal) S_ .f32 0x00000000#32)) (Shape.Idx.first h_S_) = (0 : EReal) := by
    show Ideal.ofBits FTy.f32 0#32 = 0
    simp
  unfold upToHere Host.reduceWindowAdd
  rw [hz]
  show Ideal.hostReduceWindowAdd _ _ _ _ _ _ _ _ = _
  unfold Ideal.hostReduceWindowAdd
  rw [windowAdd_val]
  beta_reduce
  rw [zero_add, ← sum_upTo _ s.isLt, ← sum_fin]
  refine Finset.sum_congr rfl fun k _ => ?_
  have hs := s.isLt
  have hk' := k.isLt
  by_cases hk : 4095 ≤ s.val + k.val
  · rw [if_pos hk, dif_pos (by
      intro a
      match a with
      | 0 => have := h.isLt; show 0 ≤ h.val * 1 + 0 ∧ h.val * 1 + 0 - 0 < 8; omega
      | 1 => have := t.isLt; show 0 ≤ t.val * 1 + 0 ∧ t.val * 1 + 0 - 0 < 4096; omega
      | 2 => show 4095 ≤ s.val * 1 + k.val ∧ s.val * 1 + k.val - 4095 < 4096; omega)]
    rw [← hX h t ⟨s.val + k.val - 4095, by omega⟩]
    congr 1
    funext a
    apply Fin.ext
    match a with
    | 0 => show h.val * 1 + 0 - 0 = h.val; omega
    | 1 => show t.val * 1 + 0 - 0 = t.val; omega
    | 2 => show s.val * 1 + k.val - 4095 = s.val + k.val - 4095; omega
  · rw [if_neg hk, dif_neg (by
      intro hin
      have : 4095 ≤ s.val * 1 + k.val := (hin 2).1
      omega)]
    rfl

end Cert.Proof.Val

end
-- ==== Proof.Val.Block.lean ====
/-
  What one block computes, in real numbers: the scores, their gradient and the four products that take them up, for a full
  block and for the two blocks that the diagonal cuts.
-/
module

public import proofs.«01_k».proof.Proof.KI.Point
public import proofs.«01_k».proof.Proof.Val.Real

@[expose] public section

set_option maxRecDepth 16384

noncomputable section

namespace Cert.Proof.Val

open Cert.KernelIdeal Cert.KernelIdeal.Gen Cert.Proof.KI
open Idealize.ShloMosaic Idealize.ShloMosaic.Pointwise Finset

/-! ## The formulas, over the reals -/

/-- The real arrays a point works on: the stacked scaled queries and output gradients (1024 rows of 128 lanes), the keys and
    the values (4096 rows of 128 lanes), the saved weights (a row for each query, a column for each key). -/
structure Arr where
  Q : ℕ → ℕ → ℝ
  O : ℕ → ℕ → ℝ
  K : ℕ → ℕ → ℝ
  V : ℕ → ℕ → ℝ
  W : ℕ → ℕ → ℝ

namespace Arr
variable (A : Arr)

/-- A score. -/
def z (r s : ℕ) : ℝ := ∑ l ∈ range 128, A.Q r l * A.K s l

/-- The gradient of a weight. -/
def a (r s : ℕ) : ℝ := ∑ l ∈ range 128, A.O r l * A.V s l

/-- A weight times its gradient. -/
def g (r s : ℕ) : ℝ := A.W r s * A.a r s

/-- The sum of those before key `s`. -/
def pri (r s : ℕ) : ℝ := ∑ j ∈ range s, A.g r j

/-- The gradient of a score. -/
def dz (r s : ℕ) : ℝ := A.g r s - sg (A.z r s) * (A.g r s + A.pri r s)

end Arr

/-- The buffers of a point hold these reals. -/
structure Holds (s : Src Ideal) (A : Arr) : Prop where
  qs : ∀ (r : Fin 1024) (l : Fin 128), s.qs (ix2 r l) = ((A.Q r.val l.val : ℝ) : EReal)
  dos : ∀ (r : Fin 1024) (l : Fin 128), s.dos (ix2 r l) = ((A.O r.val l.val : ℝ) : EReal)
  tri : ∀ (i j : Fin 256), s.tri (ix2 i j) = (((if i.val < j.val then 1 else 0 : ℝ) : ℝ) : EReal)
  K : ∀ (i : Fin 4096) (l : Fin 128), s.K (ix2 i l) = ((A.K i.val l.val : ℝ) : EReal)
  V : ∀ (i : Fin 4096) (l : Fin 128), s.V (ix2 i l) = ((A.V i.val l.val : ℝ) : EReal)
  W : ∀ (n : Fin 16) (r : Fin 1024) (c : Fin 256), s.W (ix5 0 0 n r c) = ((A.W r.val (256 * n.val + c.val) : ℝ) : EReal)

/-! ## One entry -/

/-- A row by a column. -/
theorem dot_row {n : ℕ} {x y : Fin n → EReal} (u v : ℕ → ℝ) (hx : ∀ i, x i = ((u i.val : ℝ) : EReal))
    (hy : ∀ i, y i = ((v i.val : ℝ) : EReal)) : ∑ i, x i * y i = ((∑ i ∈ range n, u i * v i : ℝ) : EReal) := by
  rw [← sum_fin_mul]; exact Finset.sum_congr rfl fun i _ => by rw [hx, hy]

/-- The products of a block with the strictly upper triangle add up what precedes the column. -/
theorem sum_tri (u : ℕ → ℝ) {c n : ℕ} (hc : c ≤ n) : ∑ i ∈ range n, u i * (if i < c then 1 else 0) = ∑ i ∈ range c, u i := by
  rw [← Finset.sum_subset (Finset.range_mono hc) (fun i _ h => by rw [if_neg (by simpa using h), mul_zero])]
  exact Finset.sum_congr rfl fun i hi => by rw [if_pos (Finset.mem_range.1 hi), mul_one]

/-- A score's gradient as the block computes it: the exclusive sum comes in two halves, the second one of zeros. -/
theorem score {x : Fin 256 → EReal} {t : Fin 256 → EReal} {p zz : EReal} (G : ℕ → ℝ) (b : ℕ) (Z : ℝ) (c : Fin 256)
    (hx : ∀ i, x i = ((G (b + i.val) : ℝ) : EReal)) (ht : ∀ i : Fin 256, t i = (((if i.val < c.val then 1 else 0 : ℝ) : ℝ) : EReal))
    (hp : p = ((∑ j ∈ range b, G j : ℝ) : EReal)) (hz : zz = ((Z : ℝ) : EReal)) :
    x c - (Ideal.ofBits FTy.f32 1056964608#32 + Ideal.ofBits FTy.f32 1056964608#32 * Ideal.tanh (Ideal.ofBits FTy.f32 1056964608#32 * zz))
        * (x c + (∑ i, x i * t i + ∑ i, (x i - x i) * t i + p))
      = ((G (b + c.val) - sg Z * (G (b + c.val) + ∑ j ∈ range (b + c.val), G j) : ℝ) : EReal) := by
  have h1 : ∑ i, x i * t i = ((∑ i ∈ range c.val, G (b + i) : ℝ) : EReal) := by
    rw [dot_row (fun i => G (b + i)) (fun i => if i < c.val then 1 else 0) hx ht, sum_tri _ c.isLt.le]
  have h2 : ∑ i, (x i - x i) * t i = ((0 : ℝ) : EReal) := by
    refine (Finset.sum_eq_zero fun i _ => ?_).trans EReal.coe_zero.symm
    rw [hx, ← EReal.coe_sub, sub_self, EReal.coe_zero, zero_mul]
  rw [h1, h2, hp, hz, hx, ofBits_half, ← EReal.coe_mul, Ideal.tanh_coe, ← EReal.coe_mul, ← EReal.coe_add, ← EReal.coe_add,
    ← EReal.coe_add, ← EReal.coe_add, ← EReal.coe_mul, ← EReal.coe_sub]
  congr 1
  rw [Finset.sum_range_add, sg]
  ring

variable {s : Src Ideal} {A : Arr}

theorem rowsK (h : Holds s A) {n : ℕ} (hn : n < 16) (c : Fin 256) (l : Fin 128) :
    rowsAt s.K n (ix2 c l) = ((A.K (256 * n + c.val) l.val : ℝ) : EReal) := by
  have hc : (256 * n + c.val) % 4096 = 256 * n + c.val := Nat.mod_eq_of_lt (by omega)
  exact (h.K ⟨(256 * n + c.val) % 4096, _⟩ l).trans (by simp only [hc])

theorem rowsV (h : Holds s A) {n : ℕ} (hn : n < 16) (c : Fin 256) (l : Fin 128) :
    rowsAt s.V n (ix2 c l) = ((A.V (256 * n + c.val) l.val : ℝ) : EReal) := by
  have hc : (256 * n + c.val) % 4096 = 256 * n + c.val := Nat.mod_eq_of_lt (by omega)
  exact (h.V ⟨(256 * n + c.val) % 4096, _⟩ l).trans (by simp only [hc])

theorem keptW (h : Holds s A) {n : ℕ} (hn : n < 16) (r : Fin 1024) (c : Fin 256) :
    keptAt s.W n (ix5 0 0 0 r c) = ((A.W r.val (256 * n + c.val) : ℝ) : EReal) := by
  have hc : n % 16 = n := Nat.mod_eq_of_lt hn
  exact (h.W ⟨n % 16, _⟩ r c).trans (by simp only [hc])

/-- The weights times their gradients, at a block's entry. -/
theorem gAt (h : Holds s A) {n : ℕ} (hn : n < 16) (r : Fin 1024) (c : Fin 256) :
    keptAt s.W n (ix5 0 0 0 r c) * ∑ x : Fin 128, s.dos (ix2 r x) * rowsAt s.V n (ix2 c x)
      = ((A.g r.val (256 * n + c.val) : ℝ) : EReal) := by
  rw [keptW h hn, dot_row (fun l => A.O r.val l) (fun l => A.V (256 * n + c.val) l) (h.dos r) (rowsV h hn c), ← EReal.coe_mul]
  rfl

/-- The scores at a block's entry. -/
theorem zAt (h : Holds s A) {n : ℕ} (hn : n < 16) (r : Fin 1024) (c : Fin 256) :
    ∑ x : Fin 128, s.qs (ix2 r x) * rowsAt s.K n (ix2 c x) = ((A.z r.val (256 * n + c.val) : ℝ) : EReal) :=
  dot_row (fun l => A.Q r.val l) (fun l => A.K (256 * n + c.val) l) (h.qs r) (rowsK h hn c)

/-! ## The full blocks -/

/-- A full block's score gradient. -/
theorem pay6_val (h : Holds s A) {n : ℕ} (hn : n < 16) (cg : FVec Ideal S1024x1 .f32)
    (hcg : ∀ r : Fin 1024, cg (ix2 r 0) = ((A.pri r.val (256 * n) : ℝ) : EReal)) (r : Fin 1024) (c : Fin 256) :
    k0_pay6 (F := Ideal) s.qs s.dos s.tri cg (keptAt s.W n) (rowsAt s.K n) (rowsAt s.V n) (ix2 r c)
      = ((A.dz r.val (256 * n + c.val) : ℝ) : EReal) := by
  pointwise [k0_pay6, k0_pay5, k0_pay3, k0_pay4]
  exact score (x := fun i => keptAt s.W n (ix5 0 0 0 r i) * ∑ x : Fin 128, s.dos (ix2 r x) * rowsAt s.V n (ix2 i x))
    (A.g r.val) (256 * n) (A.z r.val (256 * n + c.val)) c (gAt h hn r) (fun i => h.tri i c) (hcg r) (zAt h hn r c)

/-- The running sum after a block. -/
theorem pay11_val (h : Holds s A) {n : ℕ} (hn : n < 16) (cg : FVec Ideal S1024x1 .f32)
    (hcg : ∀ r : Fin 1024, cg (ix2 r 0) = ((A.pri r.val (256 * n) : ℝ) : EReal)) (r : Fin 1024) :
    k0_pay11 (F := Ideal) cg (k0_pay5 s.dos (keptAt s.W n) (rowsAt s.V n)) (ix2 r 0)
      = ((A.pri r.val (256 * (n + 1)) : ℝ) : EReal) := by
  pointwise [k0_pay11, k0_pay5, k0_pay3]
  rw [Finset.sum_congr rfl fun c _ => gAt h hn r c, sum_fin 256 fun c => A.g r.val (256 * n + c), hcg, ← EReal.coe_add, mul_add,
    mul_one]
  rw [Arr.pri, Arr.pri, Finset.sum_range_add]

/-- The query gradient after a block whose score gradient is `D`. -/
theorem pay7_val (h : Holds s A) {n : ℕ} (hn : n < 16) (dq : FVec Ideal S1024x128 .f32) (dzb : FVec Ideal S1024x256 .bf16)
    (X : ℕ → ℕ → ℝ) (D : ℕ → ℕ → ℝ)
    (hdq : ∀ (r : Fin 1024) (l : Fin 128), dq (ix2 r l) = ((X r.val l.val : ℝ) : EReal))
    (hdz : ∀ (r : Fin 1024) (c : Fin 256), dzb (ix2 r c) = ((D r.val (256 * n + c.val) : ℝ) : EReal))
    (r : Fin 1024) (l : Fin 128) :
    dq (ix2 r l) + ∑ x : Fin 256, dzb (ix2 r x) * rowsAt s.K n (ix2 x l)
      = ((X r.val l.val + ∑ c ∈ range 256, D r.val (256 * n + c) * A.K (256 * n + c) l.val : ℝ) : EReal) := by
  rw [dot_row (fun c => D r.val (256 * n + c)) (fun c => A.K (256 * n + c) l.val) (hdz r) (fun c => rowsK h hn c l), hdq,
    ← EReal.coe_add]

end Cert.Proof.Val

end
-- ==== Proof.Val.Cut.lean ====
/-
  A point's blocks put together, in real numbers: the full blocks, then the two that the diagonal cuts. The query gradient
  is a sum over the keys so far; the key and value gradients' rows gain a sum over the point's 1024 rows.
-/
module

public import proofs.«01_k».proof.Proof.Val.Block
public import Idealize.ShloMosaic.Lib.WordCmp

@[expose] public section

set_option maxRecDepth 16384

noncomputable section

namespace Cert.Proof.Val

open Cert.KernelIdeal Cert.KernelIdeal.Gen Cert.Proof.KI
open Idealize.ShloMosaic Idealize.ShloMosaic.Pointwise Finset

variable {s : Src Ideal} {A : Arr}

/-- The score gradient with the mask: a row's query comes `r % 512` after the first of the tile, key `256 n`. -/
def Arr.dzM (A : Arr) (n r s : ℕ) : ℝ := if s < 256 * n + r % 512 then A.dz r s else 0

/-- Choosing by a comparison of two small numbers. -/
theorem select_lt {α : Type} {a b : ℕ} (ha : a < 2 ^ 31) (hb : b < 2 ^ 31) (x y : α) :
    Scalar.select (IntOp.cmpi .slt (BitVec.ofNat 32 a) (BitVec.ofNat 32 b)) x y = if a < b then x else y := by
  rw [WordCmp.cmpi_slt_ofNat (w := 32) (by simpa using ha) (by simpa using hb), Scalar.select_ofBool]
  simp

/-- Two blocks of 256 columns one after the other. -/
theorem sum_block (f : ℕ → ℝ) (j : ℕ) :
    ∑ s ∈ range (256 * (j + 1)), f s = ∑ s ∈ range (256 * j), f s + ∑ c ∈ range 256, f (256 * j + c) := by
  rw [mul_add, mul_one, Finset.sum_range_add]

/-! ## The full blocks -/

/-- After `j` full blocks. -/
theorem carry_val (h : Holds s A) : ∀ {j : ℕ}, j ≤ 16 →
    (∀ (r : Fin 1024) (l : Fin 128), (carry s j).1 (ix2 r l)
      = ((∑ c ∈ range (256 * j), A.dz r.val c * A.K c l.val : ℝ) : EReal))
    ∧ ∀ r : Fin 1024, (carry s j).2 (ix2 r 0) = ((A.pri r.val (256 * j) : ℝ) : EReal)
  | 0, _ => by
    refine ⟨fun r l => ?_, fun r => ?_⟩
    · show k0_pay84 (F := Ideal) (ix2 r l) = _
      pointwise [k0_pay84]
      simp
    · show k0_pay85 (F := Ideal) (ix2 r 0) = _
      pointwise [k0_pay85]
      simp [Arr.pri]
  | j + 1, hj => by
    have ih := carry_val h (j := j) (by omega)
    refine ⟨fun r l => ?_, fun r => ?_⟩
    · have e := pay7_val h (n := j) (by omega) (carry s j).1 (dzBlk s j)
        (fun r l => ∑ c ∈ range (256 * j), A.dz r c * A.K c l) A.dz ih.1 (pay6_val h (by omega) _ ih.2) r l
      rw [sum_block, ← e]
      show k0_pay7 (F := Ideal) s.qs s.dos s.tri (carry s j).1 (carry s j).2 (keptAt s.W j) (rowsAt s.K j) (rowsAt s.V j) (ix2 r l) = _
      unfold k0_pay7 dzBlk
      generalize k0_pay6 (F := Ideal) s.qs s.dos s.tri (carry s j).2 (keptAt s.W j) (rowsAt s.K j) (rowsAt s.V j) = D
      pointwise [k0_pay4]
    · exact pay11_val h (by omega) _ ih.2 r

/-- A full block's score gradient. -/
theorem dzBlk_val (h : Holds s A) {j : ℕ} (hj : j < 16) (r : Fin 1024) (c : Fin 256) :
    dzBlk s j (ix2 r c) = ((A.dz r.val (256 * j + c.val) : ℝ) : EReal) :=
  pay6_val h hj _ (carry_val h hj.le).2 r c

/-! ## The first cut block -/

theorem dz0_val (h : Holds s A) {n : ℕ} (hn : n < 16) (r : Fin 1024) (c : Fin 256) :
    dz0 s n (ix2 r c) = ((A.dzM n r.val (256 * n + c.val) : ℝ) : EReal) := by
  pointwise [dz0, k0_pay100, k0_pay97, k0_pay98, k0_pay99, rowIota, colIota]
  rw [score (x := fun i => keptAt s.W n (ix5 0 0 0 r i) * ∑ x : Fin 128, s.dos (ix2 r x) * rowsAt s.V n (ix2 i x))
    (A.g r.val) (256 * n) (A.z r.val (256 * n + c.val)) c (gAt h hn r) (fun i => h.tri i c) ((carry_val h hn.le).2 r) (zAt h hn r c)]
  have e : IntOp.addi (BitVec.ofNat 32 c.val) 0#32 = BitVec.ofNat 32 c.val := BitVec.add_zero _
  rw [e]
  have hr := r.isLt
  have hc := c.isLt
  have hm : (if h : r.val < 512 then IntOp.cmpi CmpIPredicate.slt (BitVec.ofNat 32 c.val) (BitVec.ofNat 32 r.val)
      else IntOp.cmpi CmpIPredicate.slt (BitVec.ofNat 32 c.val) (BitVec.ofNat 32 (r.val - 512)))
      = IntOp.cmpi CmpIPredicate.slt (BitVec.ofNat 32 c.val) (BitVec.ofNat 32 (r.val % 512)) := by
    split
    · rw [Nat.mod_eq_of_lt ‹_›]
    · rw [show r.val % 512 = r.val - 512 by omega]
  rw [hm, select_lt (by omega) (by omega), Arr.dzM]
  by_cases hlt : c.val < r.val % 512
  · rw [if_pos hlt, if_pos (by omega)]; rfl
  · rw [if_neg hlt, if_neg (by omega), EReal.coe_zero]

/-- On the full blocks the mask leaves the score gradient as it is. -/
theorem dzM_full {n r s : ℕ} (hs : s < 256 * n) : A.dzM n r s = A.dz r s := if_pos (by omega)

theorem dq0_val (h : Holds s A) {n : ℕ} (hn : n < 16) (r : Fin 1024) (l : Fin 128) :
    dq0 s n (ix2 r l) = ((∑ c ∈ range (256 * (n + 1)), A.dzM n r.val c * A.K c l.val : ℝ) : EReal) := by
  have e := pay7_val h hn (carry s n).1 (dz0 s n) (fun r l => ∑ c ∈ range (256 * n), A.dz r c * A.K c l) (A.dzM n) (carry_val h hn.le).1 (dz0_val h hn) r l
  have e' : ∑ c ∈ range (256 * n), A.dzM n r.val c * A.K c l.val = ∑ c ∈ range (256 * n), A.dz r.val c * A.K c l.val :=
    Finset.sum_congr rfl fun c hc => by rw [dzM_full (Finset.mem_range.1 hc)]
  rw [sum_block, e', ← e]
  unfold dq0 k0_pay101 k0_pay102 dz0
  generalize k0_pay100 (F := Ideal) s.qs s.dos s.tri rowIota colIota (carry s n).2 (keptAt s.W n) (rowsAt s.K n) (rowsAt s.V n) = D
  pointwise [k0_pay98]

theorem cg0_val (h : Holds s A) {n : ℕ} (hn : n < 16) (r : Fin 1024) :
    cg0 s n (ix2 r 0) = ((A.pri r.val (256 * (n + 1)) : ℝ) : EReal) :=
  pay11_val h hn _ (carry_val h hn.le).2 r

/-! ## The second cut block: the later half of each head's rows -/

/-- Row `r` of the second cut block, among the point's rows. -/
def up (r : ℕ) : ℕ := 512 * (r / 256) + 256 + r % 256

theorem up_lt {r : ℕ} (hr : r < 512) : up r < 1024 := by unfold up; omega

/-- Those rows cut out and put together. -/
theorem pick (f : Fin 1024 → EReal) (F : ℕ → ℝ) (hf : ∀ r, f r = ((F r.val : ℝ) : EReal)) (r : Fin 512)
    (h1 : r.val < 256 → 256 + r.val < 1024) (h2 : ¬ r.val < 256 → 768 + (r.val - 256) < 1024) :
    (if h : r.val < 256 then f ⟨256 + r.val, h1 h⟩ else f ⟨768 + (r.val - 256), h2 h⟩) = ((F (up r.val) : ℝ) : EReal) := by
  have hr := r.isLt
  split
  · rw [hf]; congr 2; unfold up; simp only; omega
  · rw [hf]; congr 2; unfold up; simp only; omega

/-- The cut block's rows of the scaled queries, -/
theorem pay107_val (h : Holds s A) (r : Fin 512) (l : Fin 128) :
    k0_pay107 (F := Ideal) s.qs (ix2 r l) = ((A.Q (up r.val) l.val : ℝ) : EReal) := by
  pointwise [k0_pay107]
  exact pick (fun r => s.qs (ix2 r l)) (fun r => A.Q r l.val) (fun r => h.qs r l) r _ _

/-- of the output's gradients, -/
theorem pay108_val (h : Holds s A) (r : Fin 512) (l : Fin 128) :
    k0_pay108 (F := Ideal) s.dos (ix2 r l) = ((A.O (up r.val) l.val : ℝ) : EReal) := by
  pointwise [k0_pay108]
  exact pick (fun r => s.dos (ix2 r l)) (fun r => A.O r l.val) (fun r => h.dos r l) r _ _

/-- and of the weights. -/
theorem pay109_val (h : Holds s A) {n : ℕ} (hn : n < 16) (r : Fin 512) (c : Fin 256) :
    k0_pay109 (F := Ideal) (keptAt s.W n) (ix2 r c) = ((A.W (up r.val) (256 * n + c.val) : ℝ) : EReal) := by
  pointwise [k0_pay109]
  exact pick (fun r => keptAt s.W n (ix5 0 0 0 r c)) (fun r => A.W r (256 * n + c.val)) (fun r => keptW h hn r c) r _ _

/-- Its scores. -/
theorem pay111_val (h : Holds s A) {n : ℕ} (hn : n < 16) (r : Fin 512) (c : Fin 256) :
    k0_pay111 (F := Ideal) s.qs (rowsAt s.K n) (ix2 r c) = ((A.z (up r.val) (256 * n + c.val) : ℝ) : EReal) := by
  have e := dot_row (fun l => A.Q (up r.val) l) (fun l => A.K (256 * n + c.val) l) (pay107_val h r) (rowsK h hn c)
  rw [Arr.z, ← e]
  unfold k0_pay111
  generalize k0_pay107 (F := Ideal) s.qs = Q
  pointwise [k0_pay110]

/-- The second cut block's score gradient, rounded. -/
def dz1 (s : Src Ideal) (n : ℕ) : FVec Ideal S512x256 .bf16 :=
  k0_pay112 s.tri (cg0 s n) (k0_pay106 rowIota colIota) (k0_pay108 s.dos) (k0_pay109 (keptAt s.W (n + 1)))
    (k0_pay111 s.qs (rowsAt s.K (n + 1))) (rowsAt s.V (n + 1))

theorem dz1_val (h : Holds s A) {n : ℕ} (hn : n + 1 < 16) (r : Fin 512) (c : Fin 256) :
    dz1 s n (ix2 r c) = ((A.dzM n (up r.val) (256 * (n + 1) + c.val) : ℝ) : EReal) := by
  have hO := pay108_val h
  have hW := pay109_val h hn
  have hZ := pay111_val h hn
  have hC := cg0_val h (n := n) (by omega)
  unfold dz1
  generalize k0_pay108 (F := Ideal) s.dos = O at *
  generalize k0_pay109 (F := Ideal) (keptAt s.W (n + 1)) = W at *
  generalize k0_pay111 (F := Ideal) s.qs (rowsAt s.K (n + 1)) = Z at *
  generalize cg0 s n = C at *
  pointwise [k0_pay112, k0_pay106, rowIota, colIota]
  have hg : ∀ i : Fin 256, W (ix2 r i) * ∑ x : Fin 128, O (ix2 r x) * rowsAt s.V (n + 1) (ix2 i x)
      = ((A.g (up r.val) (256 * (n + 1) + i.val) : ℝ) : EReal) := fun i => by
    rw [hW, dot_row (fun l => A.O (up r.val) l) (fun l => A.V (256 * (n + 1) + i.val) l) (hO r) (rowsV h hn i), ← EReal.coe_mul]
    rfl
  rw [pick (fun r => C (ix2 r 0)) (fun r => ∑ j ∈ range (256 * (n + 1)), A.g r j) hC r _ _]
  rw [score (x := fun i => W (ix2 r i) * ∑ x : Fin 128, O (ix2 r x) * rowsAt s.V (n + 1) (ix2 i x))
    (A.g (up r.val)) (256 * (n + 1)) (A.z (up r.val) (256 * (n + 1) + c.val)) c hg (fun i => h.tri i c) rfl (hZ r c)]
  have hr := r.isLt
  have hc := c.isLt
  have e : IntOp.addi (BitVec.ofNat 32 c.val) 256#32 = BitVec.ofNat 32 (c.val + 256) := (BitVec.ofNat_add ..).symm
  have hm : (if h : r.val < 256 then IntOp.cmpi CmpIPredicate.slt (BitVec.ofNat 32 (c.val + 256)) (BitVec.ofNat 32 (256 + r.val))
      else IntOp.cmpi CmpIPredicate.slt (BitVec.ofNat 32 (c.val + 256)) (BitVec.ofNat 32 (256 + (r.val - 256))))
      = IntOp.cmpi CmpIPredicate.slt (BitVec.ofNat 32 (c.val + 256)) (BitVec.ofNat 32 (256 + r.val % 256)) := by
    split
    · rw [Nat.mod_eq_of_lt ‹_›]
    · rw [show r.val % 256 = r.val - 256 by omega]
  rw [e, hm, select_lt (by omega) (by omega), Arr.dzM]
  have hu : up r.val % 512 = 256 + r.val % 256 := by unfold up; omega
  rw [hu]
  by_cases hlt : c.val + 256 < 256 + r.val % 256
  · rw [if_pos hlt, if_pos (by omega)]; rfl
  · rw [if_neg hlt, if_neg (by omega), EReal.coe_zero]

set_option maxHeartbeats 2000000 in
/-- The query gradient after the second cut block: its rows gain the block's product, the others stay. -/
theorem pay113_val (tri : FVec Ideal S256x256 .bf16) (X : FVec Ideal S1024x128 .f32) (C : FVec Ideal S1024x1 .f32) (M : IVec S512x256 1)
    (O : FVec Ideal S512x128 .bf16) (W : FVec Ideal S512x256 .bf16) (K : FVec Ideal S256x128 .bf16) (Z : FVec Ideal S512x256 .f32)
    (V : Vec Ideal S256x128 .f32) (Xr Dr Kr : ℕ → ℕ → ℝ)
    (hX : ∀ (r : Fin 1024) (l : Fin 128), X (ix2 r l) = ((Xr r.val l.val : ℝ) : EReal))
    (hD : ∀ (r : Fin 512) (c : Fin 256), k0_pay112 tri C M O W Z V (ix2 r c) = ((Dr (up r.val) c.val : ℝ) : EReal))
    (hK : ∀ (c : Fin 256) (l : Fin 128), K (ix2 c l) = ((Kr c.val l.val : ℝ) : EReal)) (r : Fin 1024) (l : Fin 128) :
    k0_pay113 (F := Ideal) tri X C M O W K Z V (ix2 r l)
      = ((Xr r.val l.val + (if 256 ≤ r.val % 512 then ∑ c ∈ range 256, Dr r.val c * Kr c l.val else 0) : ℝ) : EReal) := by
  have key : ∀ D : FVec Ideal S512x256 .bf16, k0_pay112 tri C M O W Z V = D → k0_pay113 (F := Ideal) tri X C M O W K Z V (ix2 r l)
      = if h : r.val < 256 then X (ix2 r l)
        else if h : r.val - 256 < 256 then
          (if h1 : r.val - 256 < 256 then X (ix2 ⟨256 + (r.val - 256), by omega⟩ l) else X (ix2 ⟨768 + (r.val - 256 - 256), by omega⟩ l))
            + ∑ x : Fin 256, D (ix2 ⟨r.val - 256, by omega⟩ x) * K (ix2 x l)
        else if h : r.val - 256 - 256 < 256 then X (ix2 ⟨512 + (r.val - 256 - 256), by omega⟩ l)
        else X (ix2 ⟨768 + (r.val - 256 - 256 - 256), by omega⟩ l)
          + ∑ x : Fin 256, D (ix2 ⟨256 + (r.val - 256 - 256 - 256), by omega⟩ x) * K (ix2 x l) := by
    intro D hD
    unfold k0_pay113
    rw [hD]
    pointwise
  rw [key _ rfl]
  generalize k0_pay112 tri C M O W Z V = D at *
  have hr := r.isLt
  have dot : ∀ r' : Fin 512, up r'.val = r.val → ∑ x : Fin 256, D (ix2 r' x) * K (ix2 x l)
      = ((∑ c ∈ range 256, Dr r.val c * Kr c l.val : ℝ) : EReal) := fun r' e =>
    dot_row (fun c => Dr r.val c) (fun c => Kr c l.val) (fun i => by rw [hD, e]) (fun i => hK i l)
  have row : ∀ r' : Fin 1024, r'.val = r.val → X (ix2 r' l) = ((Xr r.val l.val : ℝ) : EReal) := fun r' e => by rw [hX, e]
  split
  · rw [hX, if_neg (by omega), add_zero]
  · split
    · rw [row _ (by simp only; omega), dot _ (by unfold up; simp only; omega), if_pos (by omega), ← EReal.coe_add]
    · split
      · rw [row _ (by simp only; omega), if_neg (by omega), add_zero]
      · rw [row _ (by simp only; omega), dot _ (by unfold up; simp only; omega), if_pos (by omega), ← EReal.coe_add]

/-- The query gradient after the whole point: the sum over the keys up to the tile's end. -/
theorem dq1_val (h : Holds s A) {n : ℕ} (hn : n + 1 < 16) (r : Fin 1024) (l : Fin 128) :
    dq1 s n (ix2 r l) = ((∑ c ∈ range (256 * (n + 2)), A.dzM n r.val c * A.K c l.val : ℝ) : EReal) := by
  have e := pay113_val s.tri (dq0 s n) (cg0 s n) (k0_pay106 rowIota colIota) (k0_pay108 s.dos) (k0_pay109 (keptAt s.W (n + 1)))
    (k0_pay110 (rowsAt s.K (n + 1))) (k0_pay111 s.qs (rowsAt s.K (n + 1))) (rowsAt s.V (n + 1))
    (fun r l => ∑ c ∈ range (256 * (n + 1)), A.dzM n r c * A.K c l) (fun r c => A.dzM n r (256 * (n + 1) + c))
    (fun c l => A.K (256 * (n + 1) + c) l) (dq0_val h (by omega)) (dz1_val h hn) (fun c l => rowsK h hn c l) r l
  rw [show dq1 s n (ix2 r l) = _ from e, sum_block _ (n + 1)]
  congr 2
  split
  · rfl
  · refine (Finset.sum_eq_zero fun c hc => ?_).symm
    rw [Arr.dzM, if_neg (by omega), zero_mul]

/-! ## The key and value gradients' rows -/

/-- The rows of the second cut block are the only ones among the 1024 where the sum is not zero. -/
theorem sum_up (f : ℕ → ℝ) (hf : ∀ r, r % 512 < 256 → f r = 0) : ∑ r ∈ range 512, f (up r) = ∑ r ∈ range 1024, f r := by
  have h1 : ∑ r ∈ range 1024, f r = ∑ r ∈ range 256, f r + ∑ r ∈ range 256, f (256 + r) + ∑ r ∈ range 256, f (512 + r)
      + ∑ r ∈ range 256, f (768 + r) := by
    rw [show (1024 : ℕ) = 768 + 256 from rfl, Finset.sum_range_add, show (768 : ℕ) = 512 + 256 from rfl, Finset.sum_range_add,
      show (512 : ℕ) = 256 + 256 from rfl, Finset.sum_range_add]
  have h2 : ∑ r ∈ range 512, f (up r) = ∑ r ∈ range 256, f (256 + r) + ∑ r ∈ range 256, f (768 + r) := by
    rw [show (512 : ℕ) = 256 + 256 from rfl, Finset.sum_range_add]
    refine congrArg₂ _ (Finset.sum_congr rfl fun r hr => ?_) (Finset.sum_congr rfl fun r hr => ?_) <;>
    · have := Finset.mem_range.1 hr
      congr 1; unfold up; omega
  rw [h1, h2, Finset.sum_eq_zero fun r hr => hf r (by have := Finset.mem_range.1 hr; omega),
    Finset.sum_eq_zero fun r hr => hf (512 + r) (by have := Finset.mem_range.1 hr; omega)]
  ring

/-- A block of rows after a sum over the point's rows is added. -/
theorem rows_add {m : ℕ} {X : S4096x128.Idx → Elt Ideal .f32} {Y : ℕ → ℕ → ℝ}
    (hX : ∀ (i : Fin 4096) (l : Fin 128), X (ix2 i l) = ((Y i.val l.val : ℝ) : EReal)) {j : ℕ} (hj : j < 16) (c : Fin 256) (l : Fin 128)
    {x y : Fin m → EReal} (u v : ℕ → ℝ) (hx : ∀ i, x i = ((u i.val : ℝ) : EReal)) (hy : ∀ i, y i = ((v i.val : ℝ) : EReal)) :
    rowsAt X j (ix2 c l) + ∑ i, x i * y i = ((Y (256 * j + c.val) l.val + ∑ r ∈ range m, u r * v r : ℝ) : EReal) := by
  have hc : (256 * j + c.val) % 4096 = 256 * j + c.val := Nat.mod_eq_of_lt (by omega)
  rw [dot_row u v hx hy, show rowsAt X j (ix2 c l) = X (ix2 ⟨(256 * j + c.val) % 4096, Nat.mod_lt _ (by decide)⟩ l) from rfl, hX,
    ← EReal.coe_add]
  simp only [hc]

/-- The key gradient's block `j` after the point. -/
theorem dkAll_val (h : Holds s A) {n : ℕ} (hn : n + 1 < 16) {X : S4096x128.Idx → Elt Ideal .f32} {Y : ℕ → ℕ → ℝ}
    (hX : ∀ (i : Fin 4096) (l : Fin 128), X (ix2 i l) = ((Y i.val l.val : ℝ) : EReal)) {j : ℕ} (hj : j < n + 2)
    (c : Fin 256) (l : Fin 128) :
    dkAll s X n j (ix2 c l)
      = ((Y (256 * j + c.val) l.val + ∑ r ∈ range 1024, A.dzM n r (256 * j + c.val) * A.Q r l.val : ℝ) : EReal) := by
  unfold dkAll
  split
  · have e := rows_add hX (j := j) (by omega) c l (fun r => A.dz r (256 * j + c.val)) (fun r => A.Q r l.val)
      (fun r => dzBlk_val h (j := j) (by omega) r c) (fun r => h.qs r l)
    have e' : ∑ r ∈ range 1024, A.dzM n r (256 * j + c.val) * A.Q r l.val = ∑ r ∈ range 1024, A.dz r (256 * j + c.val) * A.Q r l.val :=
      Finset.sum_congr rfl fun r _ => by rw [dzM_full (by omega)]
    rw [e', ← e]
    unfold dkBlk
    generalize dzBlk s j = D
    pointwise [k0_pay9, k0_pay8]
  · split
    · subst j
      rw [← rows_add hX (j := n) (by omega) c l (fun r => A.dzM n r (256 * n + c.val)) (fun r => A.Q r l.val)
        (fun r => dz0_val h (n := n) (by omega) r c) (fun r => h.qs r l)]
      generalize dz0 s n = D
      pointwise [k0_pay103]
    · obtain rfl : j = n + 1 := by omega
      rw [← sum_up (fun r => A.dzM n r (256 * (n + 1) + c.val) * A.Q r l.val)
        (fun r hr => by rw [Arr.dzM, if_neg (by omega), zero_mul])]
      rw [← rows_add hX (j := n + 1) (by omega) c l (fun r => A.dzM n (up r) (256 * (n + 1) + c.val)) (fun r => A.Q (up r) l.val)
        (fun r => dz1_val h hn r c) (fun r => pay107_val h r l)]
      unfold dk1 k0_pay114
      rw [show k0_pay112 s.tri (cg0 s n) (k0_pay106 rowIota colIota) (k0_pay108 s.dos) (k0_pay109 (keptAt s.W (n + 1)))
        (k0_pay111 s.qs (rowsAt s.K (n + 1))) (rowsAt s.V (n + 1)) = dz1 s n from rfl]
      generalize dz1 s n = D
      generalize k0_pay107 (F := Ideal) s.qs = Q
      pointwise

/-- The value gradient's block `j` after the point: the weights are zero from the diagonal on. -/
theorem dvAll_val (h : Holds s A) {n : ℕ} (hn : n + 1 < 16) (hW : ∀ r s, 256 * n + r % 512 ≤ s → A.W r s = 0)
    {X : S4096x128.Idx → Elt Ideal .f32} {Y : ℕ → ℕ → ℝ}
    (hX : ∀ (i : Fin 4096) (l : Fin 128), X (ix2 i l) = ((Y i.val l.val : ℝ) : EReal)) {j : ℕ} (hj : j < n + 2)
    (c : Fin 256) (l : Fin 128) :
    dvAll s X n j (ix2 c l)
      = ((Y (256 * j + c.val) l.val + ∑ r ∈ range 1024, A.W r (256 * j + c.val) * A.O r l.val : ℝ) : EReal) := by
  unfold dvAll
  split
  · rw [← rows_add hX (j := j) (by omega) c l (fun r => A.W r (256 * j + c.val)) (fun r => A.O r l.val)
      (fun r => keptW h (n := j) (by omega) r c) (fun r => h.dos r l)]
    unfold dvBlk
    pointwise [k0_pay10, k0_pay3]
  · split
    · subst j
      rw [← rows_add hX (j := n) (by omega) c l (fun r => A.W r (256 * n + c.val)) (fun r => A.O r l.val)
        (fun r => keptW h (n := n) (by omega) r c) (fun r => h.dos r l)]
      pointwise [k0_pay104, k0_pay97]
    · obtain rfl : j = n + 1 := by omega
      rw [← sum_up (fun r => A.W r (256 * (n + 1) + c.val) * A.O r l.val)
        (fun r hr => by rw [hW r _ (by omega), zero_mul])]
      rw [← rows_add hX (j := n + 1) (by omega) c l (fun r => A.W (up r) (256 * (n + 1) + c.val)) (fun r => A.O (up r) l.val)
        (fun r => pay109_val h hn r c) (fun r => pay108_val h r l)]
      generalize k0_pay109 (F := Ideal) (keptAt s.W (n + 1)) = D
      generalize k0_pay108 (F := Ideal) s.dos = Q
      pointwise [k0_pay1]

end Cert.Proof.Val

end
-- ==== Proof.Val.Spec.lean ====
/-
  The gradient of the attention over the reals, head by head, and how a tile of 512 queries of a head pair, its two heads
  stacked, relates to it.
-/
module

public import proofs.«01_k».proof.Proof.Val.Cut

@[expose] public section

noncomputable section

namespace Cert.Proof.Val

open Finset

/-- The projection, the output's gradient and the weights (by head, query and key). -/
structure Inp where
  P : ℕ → ℕ → ℝ
  D : ℕ → ℕ → ℝ
  W : ℕ → ℕ → ℕ → ℝ

namespace Inp
variable (I : Inp)

/-- The score of key `s` for query `t` in head `h`. -/
def z (h t s : ℕ) : ℝ := ∑ d ∈ range 64, I.P t (64 * h + d) * (1 / 8) * I.P s (512 + (64 * h + d))

/-- The gradient of the weight. -/
def a (h t s : ℕ) : ℝ := ∑ d ∈ range 64, I.D t (64 * h + d) * I.P s (1024 + (64 * h + d))

/-- The weight times its gradient. -/
def g (h t s : ℕ) : ℝ := I.W h t s * I.a h t s

/-- The sum of those of the keys before `s`. -/
def pri (h t s : ℕ) : ℝ := ∑ j ∈ range s, I.g h t j

/-- The gradient of the score. -/
def dz (h t s : ℕ) : ℝ := if s < t then I.g h t s - sg (I.z h t s) * (I.g h t s + I.pri h t s) else 0

/-- The gradients of the queries, -/
def dq (t c : ℕ) : ℝ := (∑ s ∈ range 4096, I.dz (c / 64) t s * I.P s (512 + c)) * (1 / 8)

/-- of the keys, taking the queries before `n`, -/
def dkTo (n s c : ℕ) : ℝ := ∑ t ∈ range n, I.dz (c / 64) t s * (I.P t c * (1 / 8))

/-- and of the values. -/
def dvTo (n s c : ℕ) : ℝ := ∑ t ∈ range n, I.W (c / 64) t s * I.D t c

/-- The arrays of query tile `q` of head pair `p`: a row's own head has the lanes of its half, the others hold zeros. -/
def tile (p q : ℕ) : Arr where
  Q r l := if (l < 64 ↔ r < 512) then I.P (512 * q + r % 512) (128 * p + l) * (1 / 8) else 0
  O r l := if (l < 64 ↔ r < 512) then I.D (512 * q + r % 512) (128 * p + l) else 0
  K s l := I.P s (512 + (128 * p + l))
  V s l := I.P s (1024 + (128 * p + l))
  W r s := I.W (2 * p + r / 512) (512 * q + r % 512) s

/-- A row of the stack by a row of 128 lanes is a head's row by its 64 lanes. -/
theorem sum_lanes {r : ℕ} (hr : r < 1024) (f k : ℕ → ℝ) :
    ∑ l ∈ range 128, (if (l < 64 ↔ r < 512) then f l else 0) * k l
      = ∑ d ∈ range 64, f (64 * (r / 512) + d) * k (64 * (r / 512) + d) := by
  rw [show (128 : ℕ) = 64 + 64 from rfl, Finset.sum_range_add]
  by_cases h : r < 512
  · rw [Nat.div_eq_of_lt h]
    have h0 : ∑ d ∈ range 64, (if (64 + d < 64 ↔ r < 512) then f (64 + d) else 0) * k (64 + d) = 0 :=
      Finset.sum_eq_zero fun d _ => by rw [if_neg (by omega), zero_mul]
    rw [h0, add_zero]
    exact Finset.sum_congr rfl fun d hd => by have := Finset.mem_range.1 hd; rw [if_pos (by omega)]; simp
  · rw [show r / 512 = 1 by omega]
    have h0 : ∑ d ∈ range 64, (if (d < 64 ↔ r < 512) then f d else 0) * k d = 0 :=
      Finset.sum_eq_zero fun d hd => by have := Finset.mem_range.1 hd; rw [if_neg (by omega), zero_mul]
    rw [h0, zero_add]
    exact Finset.sum_congr rfl fun d hd => by rw [if_pos (by omega)]

/-- A lane takes the 512 rows of its own head. -/
theorem sum_rows {l : ℕ} (hl : l < 128) (F f : ℕ → ℝ) :
    ∑ r ∈ range 1024, F r * (if (l < 64 ↔ r < 512) then f (r % 512) else 0)
      = ∑ r ∈ range 512, F (512 * (l / 64) + r) * f r := by
  rw [show (1024 : ℕ) = 512 + 512 from rfl, Finset.sum_range_add]
  by_cases h : l < 64
  · rw [Nat.div_eq_of_lt h]
    have h0 : ∑ r ∈ range 512, F (512 + r) * (if (l < 64 ↔ 512 + r < 512) then f ((512 + r) % 512) else 0) = 0 :=
      Finset.sum_eq_zero fun d _ => by rw [if_neg (by omega), mul_zero]
    rw [h0, add_zero]
    exact Finset.sum_congr rfl fun d hd => by
      have := Finset.mem_range.1 hd; rw [if_pos (by omega), Nat.mod_eq_of_lt this]; simp
  · rw [show l / 64 = 1 by omega]
    have h0 : ∑ r ∈ range 512, F r * (if (l < 64 ↔ r < 512) then f (r % 512) else 0) = 0 :=
      Finset.sum_eq_zero fun d hd => by have := Finset.mem_range.1 hd; rw [if_neg (by omega), mul_zero]
    rw [h0, zero_add]
    exact Finset.sum_congr rfl fun d hd => by
      have := Finset.mem_range.1 hd; rw [if_pos (by omega), show (512 + d) % 512 = d by omega]

variable (p q : ℕ)

theorem tile_z {r : ℕ} (hr : r < 1024) (s : ℕ) : (I.tile p q).z r s = I.z (2 * p + r / 512) (512 * q + r % 512) s := by
  refine (sum_lanes hr (fun l => I.P (512 * q + r % 512) (128 * p + l) * (1 / 8)) (fun l => I.P s (512 + (128 * p + l)))).trans ?_
  refine Finset.sum_congr rfl fun d _ => ?_
  simp only [show 128 * p + (64 * (r / 512) + d) = 64 * (2 * p + r / 512) + d by ring]

theorem tile_a {r : ℕ} (hr : r < 1024) (s : ℕ) : (I.tile p q).a r s = I.a (2 * p + r / 512) (512 * q + r % 512) s := by
  refine (sum_lanes hr (fun l => I.D (512 * q + r % 512) (128 * p + l)) (fun l => I.P s (1024 + (128 * p + l)))).trans ?_
  refine Finset.sum_congr rfl fun d _ => ?_
  simp only [show 128 * p + (64 * (r / 512) + d) = 64 * (2 * p + r / 512) + d by ring]

theorem tile_g {r : ℕ} (hr : r < 1024) (s : ℕ) : (I.tile p q).g r s = I.g (2 * p + r / 512) (512 * q + r % 512) s := by
  rw [Arr.g, tile_a I p q hr]; rfl

theorem tile_dzM {r : ℕ} (hr : r < 1024) (s : ℕ) :
    (I.tile p q).dzM (2 * q) r s = I.dz (2 * p + r / 512) (512 * q + r % 512) s := by
  rw [Arr.dzM, dz, show 256 * (2 * q) = 512 * q by ring, Arr.dz, tile_z I p q hr, tile_g I p q hr, Arr.pri, pri,
    Finset.sum_congr rfl fun j _ => tile_g I p q hr j]

/-- What the point adds to the key gradient. -/
theorem tile_dk {l : ℕ} (hl : l < 128) (s : ℕ) :
    ∑ r ∈ range 1024, (I.tile p q).dzM (2 * q) r s * (I.tile p q).Q r l
      = ∑ r ∈ range 512, I.dz ((128 * p + l) / 64) (512 * q + r) s * (I.P (512 * q + r) (128 * p + l) * (1 / 8)) := by
  refine (sum_rows hl (fun r => (I.tile p q).dzM (2 * q) r s) (fun r => I.P (512 * q + r) (128 * p + l) * (1 / 8))).trans ?_
  refine Finset.sum_congr rfl fun r hr => ?_
  have := Finset.mem_range.1 hr
  rw [tile_dzM I p q (by omega), show 2 * p + (512 * (l / 64) + r) / 512 = (128 * p + l) / 64 by omega,
    show (512 * (l / 64) + r) % 512 = r by omega]

/-- What the point adds to the value gradient. -/
theorem tile_dv {l : ℕ} (hl : l < 128) (s : ℕ) :
    ∑ r ∈ range 1024, (I.tile p q).W r s * (I.tile p q).O r l
      = ∑ r ∈ range 512, I.W ((128 * p + l) / 64) (512 * q + r) s * I.D (512 * q + r) (128 * p + l) := by
  refine (sum_rows hl (fun r => (I.tile p q).W r s) (fun r => I.D (512 * q + r) (128 * p + l))).trans ?_
  refine Finset.sum_congr rfl fun r hr => ?_
  have := Finset.mem_range.1 hr
  show I.W _ _ s * _ = _
  rw [show 2 * p + (512 * (l / 64) + r) / 512 = (128 * p + l) / 64 by omega,
    show (512 * (l / 64) + r) % 512 = r by omega]

theorem dkTo_tile (s l : ℕ) : I.dkTo (512 * q) s (128 * p + l)
      + ∑ r ∈ range 512, I.dz ((128 * p + l) / 64) (512 * q + r) s * (I.P (512 * q + r) (128 * p + l) * (1 / 8))
    = I.dkTo (512 * (q + 1)) s (128 * p + l) := by
  rw [dkTo, dkTo, mul_add, mul_one, Finset.sum_range_add]

theorem dvTo_tile (s l : ℕ) : I.dvTo (512 * q) s (128 * p + l)
      + ∑ r ∈ range 512, I.W ((128 * p + l) / 64) (512 * q + r) s * I.D (512 * q + r) (128 * p + l)
    = I.dvTo (512 * (q + 1)) s (128 * p + l) := by
  rw [dvTo, dvTo, mul_add, mul_one, Finset.sum_range_add]

/-- The keys up to the tile's end are all that a query of the tile takes. -/
theorem dq_tile {q r : ℕ} (hq : q < 8) (hr : r < 512) (c : ℕ) :
    (∑ s ∈ range (256 * (2 * q + 2)), I.dz (c / 64) (512 * q + r) s * I.P s (512 + c)) * (1 / 8) = I.dq (512 * q + r) c := by
  rw [dq]
  congr 1
  refine Finset.sum_subset (Finset.range_mono (by omega)) fun s _ hs => ?_
  have : ¬ s < 256 * (2 * q + 2) := fun h => hs (Finset.mem_range.2 h)
  rw [dz, if_neg (by omega), zero_mul]

end Inp

end Cert.Proof.Val

end
-- ==== Proof.Val.Ref.lean ====
/-
  The reference's results over the reals: each array of the reference holds reals, and its three results are the gradients
  that the kernel's are.
-/
module

public import proofs.«01_k».proof.Proof.Val.Running
public import proofs.«01_k».proof.Proof.Val.Spec

@[expose] public section

set_option maxRecDepth 16384

noncomputable section

namespace Cert.Proof.Val

open Cert.ReferenceIdeal Cert.ReferenceIdeal.Gen
open Idealize.ShloMosaic Idealize.ShloMosaic.TcCoe Idealize.ShloMosaic.Pointwise Finset

variable {X Y : Score} {f g : ℕ → ℕ → ℕ → ℝ}

/-! ## Each step on reals -/

theorem neg_val (hX : Reads X f) : Reads (Host.negf X) fun h t s => -f h t s := by
  intro h t s
  pointwise []
  rw [hX, ← EReal.coe_neg]

theorem add_val (hX : Reads X f) (hY : Reads Y g) : Reads (addf X Y) fun h t s => f h t s + g h t s := by
  intro h t s
  pointwise []
  rw [hX, hY, ← EReal.coe_add]

theorem sub_val (hX : Reads X f) (hY : Reads Y g) : Reads (subf X Y) fun h t s => f h t s - g h t s := by
  intro h t s
  pointwise []
  rw [hX, hY, ← EReal.coe_sub]

theorem mul_val (hX : Reads X f) (hY : Reads Y g) : Reads (mulf X Y) fun h t s => f h t s * g h t s := by
  intro h t s
  pointwise []
  rw [hX, hY, ← EReal.coe_mul]

theorem exp_val (hX : Reads X f) : Reads (Host.exp X) fun h t s => Real.exp (f h t s) := by
  intro h t s
  pointwise []
  rw [hX, Ideal.exp_coe]

theorem masked_val (hX : Reads X f) : Reads (masked X) fun h t s => if s < t then f h t s else 0 := by
  intro h t s
  have ht := t.isLt
  have hs := s.isLt
  pointwise [masked, causal, full]
  rw [WordCmp.cmpi_slt_ofNat (w := 32) (by omega) (by omega), Scalar.select_ofBool, hX]
  by_cases hst : s.val < t.val
  · rw [decide_eq_true hst, if_pos hst]; rfl
  · rw [decide_eq_false hst, if_neg hst]; rfl

theorem coe_max (a b : ℝ) : ((max a b : ℝ) : EReal) = max (a : EReal) (b : EReal) := EReal.coe_strictMono.monotone.map_max

theorem softplus_at {x : EReal} {r : ℝ} (hx : x = (r : EReal)) :
    (if x ≠ x then x else max x 0 + Ideal.log1p (Ideal.exp (-FloatOps.absf (F := Ideal) (φ := .f32) x))) = ((sp r : ℝ) : EReal) := by
  subst hx
  have hp : 0 < 1 + Real.exp (-|r|) := by positivity
  rw [if_neg (by simp), Ideal.absf_def, ← EReal.coe_neg, ← coe_max, ← EReal.coe_neg, Ideal.exp_coe, Ideal.log1p,
    ← EReal.coe_one, ← EReal.coe_add, ← EReal.coe_zero, ← coe_max]
  have : Ideal.log (((1 + Real.exp (-max r (-r)) : ℝ)) : EReal) = ((Real.log (1 + Real.exp (-|r|)) : ℝ) : EReal) := by
    show (if 1 + Real.exp (-|r|) ≤ 0 then ⊥ else ((Real.log (1 + Real.exp (-|r|)) : ℝ) : EReal)) = _
    rw [if_neg (not_le.2 hp)]
  rw [this, ← EReal.coe_add]
  rfl

theorem softplus_val (hX : Reads X f) : Reads (softplus X) fun h t s => sp (f h t s) := by
  intro h t s
  pointwise [softplus, full]
  exact softplus_at (hX h t s)

theorem ofBits_top : Ideal.ofBits FTy.f32 2139095040#32 = ⊤ := by
  simp [Ideal.ofBits, Ideal.ieee]

theorem sigm_val (hX : Reads X f) : Reads (sigm X) fun h t s => Real.exp (f h t s - sp (f h t s)) := by
  intro h t s
  have h1 := softplus_val hX h t s
  unfold sigm
  generalize softplus X = S at *
  pointwise [full]
  rw [ofBits_top, h1, hX, if_neg (EReal.coe_ne_top _), if_neg (EReal.coe_ne_top _), ← EReal.coe_sub, Ideal.exp_coe]

/-! ## The operands -/

/-- The scores, -/
def zR (P : ℕ → ℕ → ℝ) (h t s : ℕ) : ℝ := ∑ d ∈ range 64, P t (64 * h + d) * (1 / 8) * P s (512 + (64 * h + d))

/-- and the weights. -/
def wR (P : ℕ → ℕ → ℝ) (h t s : ℕ) : ℝ :=
  if s < t then Real.exp (-sp (-zR P h t s)
    + ((∑ j ∈ range 4096, if s ≤ j then (if j < t then -sp (- -zR P h t j) else 0) else 0) - (if s < t then -sp (- -zR P h t s) else 0)))
  else 0

/-- The reals of the two arguments, with the weights they give. -/
def inp (P D : ℕ → ℕ → ℝ) : Inp := ⟨P, D, wR P⟩

theorem wR_zero (P : ℕ → ℕ → ℝ) (h t s : ℕ) (hs : t ≤ s) : wR P h t s = 0 := if_neg (by omega)

variable {P D : ℕ → ℕ → ℝ} {A : FVec Ideal S4096x3584 .f32} {B : FVec Ideal S4096x512 .f32}

/-- A head of an array of 512 columns holds these reals. -/
def HeadReads (X : Heads) (f : ℕ → ℕ → ℕ → ℝ) : Prop :=
  ∀ (h : Fin 8) (t : Fin 4096) (d : Fin 64), X (ix3 h t d) = ((f h.val t.val d.val : ℝ) : EReal)

section
variable (hA : ∀ (i : Fin 4096) (j : Fin 3584), A (ix2 i j) = ((P i.val j.val : ℝ) : EReal))
  (hB : ∀ (i : Fin 4096) (j : Fin 512), B (ix2 i j) = ((D i.val j.val : ℝ) : EReal))
include hA

theorem qH_val : HeadReads (qH A) fun h t d => P t (64 * h + d) := by
  intro h t d
  pointwise [qH, split]
  rw [hA]; simp only; congr 3; omega

theorem kH_val : HeadReads (kH A) fun h t d => P t (512 + (64 * h + d)) := by
  intro h t d
  pointwise [kH, split]
  rw [hA]; simp only; congr 3; omega

theorem vH_val : HeadReads (vH A) fun h t d => P t (1024 + (64 * h + d)) := by
  intro h t d
  pointwise [vH, split]
  rw [hA]; simp only; congr 3; omega

omit hA in
include hB in
theorem split_val : HeadReads (split B) fun h t d => D t (64 * h + d) := by
  intro h t d
  pointwise [split]
  rw [hB]; simp only; congr 3; omega

omit hA in
theorem rowsBy_val {U V : Heads} {u v : ℕ → ℕ → ℕ → ℝ} (hU : HeadReads U u) (hV : HeadReads V v) :
    Reads (rowsBy U V) fun h t s => ∑ d ∈ range 64, u h t d * v h s d := by
  intro h t s
  pointwise [rowsBy]
  rw [← sum_fin_mul 64 (fun d => u h t d) (fun d => v h s d)]
  exact Finset.sum_congr rfl fun d _ => by rw [hU, hV]

omit hA in
theorem full_eighth : Reads (full 0x3E000000#32) fun _ _ _ => 1 / 8 := by
  intro h t s
  pointwise [full]
  exact ofBits_eighth

theorem zH_val : Reads (zH A) (zR P) := by
  intro h t s
  refine (mul_val (rowsBy_val (qH_val hA) (kH_val hA)) full_eighth h t s).trans ?_
  simp only [zR, Finset.sum_mul]
  congr 1
  exact Finset.sum_congr rfl fun d _ => by ring

theorem restH_val : Reads (restH (zH A)) fun h t s => if s < t then -sp (- -zR P h t s) else 0 :=
  masked_val (neg_val (softplus_val (neg_val (neg_val (zH_val hA)))))

theorem exH_val : Reads (exH (zH A)) fun h t s => Real.exp (-sp (-zR P h t s)
    + ((∑ j ∈ range 4096, if s ≤ j then (if j < t then -sp (- -zR P h t j) else 0) else 0) - (if s < t then -sp (- -zR P h t s) else 0))) :=
  exp_val (add_val (neg_val (softplus_val (neg_val (zH_val hA)))) (sub_val (fromHere_val (restH_val hA)) (restH_val hA)))

theorem wH_val : Reads (wH (zH A)) (wR P) := masked_val (exH_val hA)

include hB

theorem gH_val : Reads (gH (zH A) (rowsBy (split B) (vH A))) (inp P D).g := by
  intro h t s
  refine (mul_val (masked_val (rowsBy_val (split_val hB) (vH_val hA))) (exH_val hA) h t s).trans ?_
  simp only [Inp.g, Inp.a, inp, wR]
  split
  · rw [mul_comm]
  · simp

theorem dz_val : Reads (dzOf (zH A) (gH (zH A) (rowsBy (split B) (vH A)))) (inp P D).dz := by
  intro h t s
  have hg := gH_val hA hB
  have hz := zH_val hA
  refine (add_val (neg_val (neg_val (mul_val (neg_val (masked_val (add_val (neg_val hg) (upToHere_val hg)))) (sigm_val (neg_val (neg_val hz))))))
    (neg_val (mul_val (neg_val hg) (sigm_val (neg_val hz)))) h t s).trans ?_
  have e : zR P h t s = (inp P D).z h t s := rfl
  simp only [neg_neg, exp_neg_sub_sp, e, Inp.dz]
  simp only [exp_sub_sp]
  congr 1
  split
  · rw [Finset.sum_range_succ, Inp.pri]; ring
  · rename_i hs
    have : (inp P D).g h t s = 0 := by simp only [Inp.g, inp, wR, if_neg hs, zero_mul]
    rw [this]; ring

theorem dlH_val : Reads (dlH A B) fun h t s => (inp P D).dz h t s * (1 / 8) := mul_val (dz_val hA hB) full_eighth

/-! ## The results -/

theorem dqH_val (t : Fin 4096) (j : Fin 512) : dqH A B (ix2 t j) = (((inp P D).dq t.val j.val : ℝ) : EReal) := by
  have hl := dlH_val hA hB
  have hk := kH_val hA
  unfold dqH
  generalize dlH A B = L at *
  generalize kH A = K at *
  pointwise [merge]
  rw [Inp.dq, Finset.sum_mul, ← sum_fin 4096 (fun s => (inp P D).dz (j.val / 64) t.val s * (inp P D).P s (512 + j.val) * (1 / 8))]
  refine Finset.sum_congr rfl fun s _ => ?_
  rw [hl, hk, ← EReal.coe_mul]
  simp only
  rw [Nat.div_add_mod]
  congr 1
  show _ * P _ _ = _ * P _ _ * _
  ring_nf

theorem dkH_val (s : Fin 4096) (j : Fin 512) : dkH A B (ix2 s j) = (((inp P D).dkTo 4096 s.val j.val : ℝ) : EReal) := by
  have hl := dlH_val hA hB
  have hq := qH_val hA
  unfold dkH
  generalize dlH A B = L at *
  generalize qH A = Q at *
  pointwise [merge]
  rw [Inp.dkTo, ← sum_fin 4096 (fun t => (inp P D).dz (j.val / 64) t s.val * ((inp P D).P t j.val * (1 / 8)))]
  refine Finset.sum_congr rfl fun t _ => ?_
  rw [hl, hq, ← EReal.coe_mul]
  simp only
  rw [Nat.div_add_mod]
  congr 1
  show _ * P _ _ = _ * (P _ _ * _)
  ring

theorem dvH_val (s : Fin 4096) (j : Fin 512) : dvH A B (ix2 s j) = (((inp P D).dvTo 4096 s.val j.val : ℝ) : EReal) := by
  have hw := wH_val hA
  have hd := split_val hB
  unfold dvH
  generalize wH (zH A) = L at *
  generalize split B = Q at *
  pointwise [merge]
  rw [Inp.dvTo, ← sum_fin 4096 (fun t => (inp P D).W (j.val / 64) t s.val * (inp P D).D t j.val)]
  refine Finset.sum_congr rfl fun t _ => ?_
  rw [hw, hd, ← EReal.coe_mul]
  simp only
  rw [Nat.div_add_mod]
  congr 1
  show D _ _ * wR P _ _ _ = wR P _ _ _ * D _ _
  ring

end

end Cert.Proof.Val

end
-- ==== Proof.Val.Tile.lean ====
/-
  What a point leaves in the three results' buffers, in terms of the attention's gradient.
-/
module

public import proofs.«01_k».proof.Proof.Val.Spec

@[expose] public section

set_option maxRecDepth 16384

noncomputable section

namespace Cert.Proof.Val

open Cert.KernelIdeal Cert.KernelIdeal.Gen Cert.Proof.KI
open Idealize.ShloMosaic Idealize.ShloMosaic.Pointwise Finset

/-- The blocks that a point of head pair `p` and query tile `q` reads hold these reals. -/
structure Blocks (I : Inp) (p q : ℕ) (Q D : S512x128.Idx → Elt Ideal .f32) (K V : S4096x128.Idx → Elt Ideal .f32)
    (W : S1x1x16x1024x256.Idx → Elt Ideal .bf16) : Prop where
  Q : ∀ (r : Fin 512) (l : Fin 128), Q (ix2 r l) = ((I.P (512 * q + r.val) (128 * p + l.val) : ℝ) : EReal)
  D : ∀ (r : Fin 512) (l : Fin 128), D (ix2 r l) = ((I.D (512 * q + r.val) (128 * p + l.val) : ℝ) : EReal)
  K : ∀ (s : Fin 4096) (l : Fin 128), K (ix2 s l) = ((I.P s.val (512 + (128 * p + l.val)) : ℝ) : EReal)
  V : ∀ (s : Fin 4096) (l : Fin 128), V (ix2 s l) = ((I.P s.val (1024 + (128 * p + l.val)) : ℝ) : EReal)
  W : ∀ (n : Fin 16) (r : Fin 1024) (c : Fin 256),
    W (ix5 0 0 n r c) = ((I.W (2 * p + r.val / 512) (512 * q + r.val % 512) (256 * n.val + c.val) : ℝ) : EReal)

variable {I : Inp} {p q : ℕ} {Q D : S512x128.Idx → Elt Ideal .f32} {K V : S4096x128.Idx → Elt Ideal .f32}
  {W : S1x1x16x1024x256.Idx → Elt Ideal .bf16}

/-- The strict upper triangle of ones. -/
theorem pay83_val (i j : Fin 256) : k0_pay83 (F := Ideal) (ix2 i j) = (((if i.val < j.val then 1 else 0 : ℝ) : ℝ) : EReal) := by
  have hi := i.isLt
  have hj := j.isLt
  pointwise [k0_pay83]
  rw [WordCmp.cmpi_slt_ofNat (w := 32) (by omega) (by omega)]
  have e : ∀ b : Bool, (BitVec.setWidth 32 (BitVec.ofBool b)).toInt = if b then 1 else 0 := by decide
  show ((((BitVec.setWidth 32 (BitVec.ofBool (decide (i.val < j.val)))).toInt : ℤ) : ℝ) : EReal) = _
  rw [e]
  simp

/-- A tile stacked twice, each copy keeping its own half of the lanes. -/
theorem stack_val (f : ℕ → ℕ → ℝ) (x : Fin 512 → EReal) (r : Fin 1024) (l : Fin 128) (hx : ∀ r : Fin 512, x r = ((f r.val l.val : ℝ) : EReal))
    (h2 : ¬ r.val < 512 → r.val - 512 < 512) :
    (if h : r.val < 512 then Scalar.select (IntOp.cmpi CmpIPredicate.slt (BitVec.ofNat 32 l.val) 64#32) (x ⟨r.val, h⟩) 0
      else Scalar.select (IntOp.cmpi CmpIPredicate.slt (BitVec.ofNat 32 l.val) 64#32) 0 (x ⟨r.val - 512, h2 h⟩))
      = (((if (l.val < 64 ↔ r.val < 512) then f (r.val % 512) l.val else 0 : ℝ) : ℝ) : EReal) := by
  have hr := r.isLt
  have hl := l.isLt
  split
  · rw [select_lt (by omega) (by omega)]
    by_cases h64 : l.val < 64
    · rw [if_pos h64, if_pos (by omega), hx, Nat.mod_eq_of_lt ‹_›]
    · rw [if_neg h64, if_neg (by omega), EReal.coe_zero]
  · rw [select_lt (by omega) (by omega)]
    by_cases h64 : l.val < 64
    · rw [if_pos h64, if_neg (by omega), EReal.coe_zero]
    · rw [if_neg h64, if_pos (by omega), hx, show r.val % 512 = r.val - 512 by omega]

theorem holds_src (B : Blocks I p q Q D K V W) : Holds (srcOf Q D K V W) (I.tile p q) where
  qs r l := by
    show k0_pay81 (F := Ideal) Q (ix2 r l) = _
    pointwise [k0_pay81]
    exact stack_val (fun r l => I.P (512 * q + r) (128 * p + l) * (1 / 8)) (fun r => Q (ix2 r l) * Ideal.ofBits FTy.f32 1040187392#32) r l
      (fun r => by rw [B.Q, ofBits_eighth, ← EReal.coe_mul]) _
  dos r l := by
    show k0_pay82 (F := Ideal) D (ix2 r l) = _
    pointwise [k0_pay82]
    exact stack_val (fun r l => I.D (512 * q + r) (128 * p + l)) (fun r => D (ix2 r l)) r l (fun r => B.D r l) _
  tri i j := pay83_val i j
  K i l := B.K i l
  V i l := B.V i l
  W n r c := B.W n r c

/-- The query gradient's tile. -/
theorem outQ_val (hq : q < 8) (B : Blocks I p q Q D K V W) (r : Fin 512) (l : Fin 128) :
    outQ Q D K V W q (ix2 r l) = ((I.dq (512 * q + r.val) (128 * p + l.val) : ℝ) : EReal) := by
  have h := dq1_val (holds_src B) (n := 2 * q) (by omega)
  have hr := r.isLt
  have hl := l.isLt
  unfold outQ
  generalize dq1 (srcOf Q D K V W) (2 * q) = X at *
  pointwise [k0_pay2]
  rw [select_lt (by omega) (by omega), ofBits_eighth, ← Inp.dq_tile I hq hr]
  have hd : ∀ k : ℕ, k < 2 → (l.val / 64 = k) → ∀ (i : Fin 1024), i.val = 512 * k + r.val → X (ix2 i l) * ((1 / 8 : ℝ) : EReal)
      = (((∑ s ∈ range (256 * (2 * q + 2)), I.dz ((128 * p + l.val) / 64) (512 * q + r.val) s * I.P s (512 + (128 * p + l.val)))
          * (1 / 8) : ℝ) : EReal) := by
    intro k hk hlk i hi
    rw [h, ← EReal.coe_mul]
    congr 2
    refine Finset.sum_congr rfl fun s _ => ?_
    rw [Inp.tile_dzM I p q i.isLt, show 2 * p + i.val / 512 = (128 * p + l.val) / 64 by omega, show i.val % 512 = r.val by omega]
    rfl
  by_cases h64 : l.val < 64
  · rw [if_pos h64]; exact hd 0 (by omega) (by omega) _ (by simp)
  · rw [if_neg h64]; exact hd 1 (by omega) (by omega) _ (by simp)

/-- Filling the first blocks of an array with what is added to it. -/
theorem fill_val {X : S4096x128.Idx → Elt Ideal .f32} {w : ℕ → S256x128.Idx → Elt Ideal .f32} {Y Z : ℕ → ℕ → ℝ} {n : ℕ}
    (hX : ∀ (i : Fin 4096) (l : Fin 128), X (ix2 i l) = ((Y i.val l.val : ℝ) : EReal))
    (hw : ∀ j < n, ∀ (c : Fin 256) (l : Fin 128), w j (ix2 c l) = ((Z (256 * j + c.val) l.val : ℝ) : EReal))
    (hYZ : ∀ s l, l < 128 → 256 * n ≤ s → Y s l = Z s l) (s : Fin 4096) (l : Fin 128) :
    fillTo X w n (ix2 s l) = ((Z s.val l.val : ℝ) : EReal) := by
  show (if s.val / 256 < n then w (s.val / 256) (ix2 ⟨s.val % 256, Nat.mod_lt _ (by decide)⟩ l) else X (ix2 s l)) = _
  split
  · rw [hw _ ‹_›]; simp only; rw [Nat.div_add_mod]
  · rw [hX, hYZ _ _ l.isLt (by omega)]

/-- The key gradient a point leaves. -/
theorem outK_val (hq : q < 8) (B : Blocks I p q Q D K V W) {X : S4096x128.Idx → Elt Ideal .f32}
    (hX : q ≠ 0 → ∀ (s : Fin 4096) (l : Fin 128), X (ix2 s l) = ((I.dkTo (512 * q) s.val (128 * p + l.val) : ℝ) : EReal))
    (s : Fin 4096) (l : Fin 128) :
    outK Q D K V W q X (ix2 s l) = ((I.dkTo (512 * (q + 1)) s.val (128 * p + l.val) : ℝ) : EReal) := by
  have hs : ∀ (s : Fin 4096) (l : Fin 128), startK q X (ix2 s l) = ((I.dkTo (512 * q) s.val (128 * p + l.val) : ℝ) : EReal) := by
    intro s l
    unfold startK
    split
    · subst q
      pointwise [k0_pay79]
      simp [Inp.dkTo]
    · exact hX ‹_› s l
  unfold outK
  refine fill_val (Y := fun s l => I.dkTo (512 * q) s (128 * p + l)) (Z := fun s l => I.dkTo (512 * (q + 1)) s (128 * p + l))
    hs (fun j hj c l => ?_) (fun s l hl h => ?_) s l
  · rw [dkAll_val (holds_src B) (n := 2 * q) (by omega) (Y := fun s l => I.dkTo (512 * q) s (128 * p + l)) hs hj,
      Inp.tile_dk I p q l.isLt, Inp.dkTo_tile]
  · rw [← Inp.dkTo_tile I p q, Finset.sum_eq_zero fun r hr => ?_, add_zero]
    have := Finset.mem_range.1 hr
    rw [Inp.dz, if_neg (by omega), zero_mul]

/-- The value gradient a point leaves. -/
theorem outV_val (hq : q < 8) (hW : ∀ h t s, t ≤ s → I.W h t s = 0) (B : Blocks I p q Q D K V W) {X : S4096x128.Idx → Elt Ideal .f32}
    (hX : q ≠ 0 → ∀ (s : Fin 4096) (l : Fin 128), X (ix2 s l) = ((I.dvTo (512 * q) s.val (128 * p + l.val) : ℝ) : EReal))
    (s : Fin 4096) (l : Fin 128) :
    outV Q D K V W q X (ix2 s l) = ((I.dvTo (512 * (q + 1)) s.val (128 * p + l.val) : ℝ) : EReal) := by
  have hs : ∀ (s : Fin 4096) (l : Fin 128), startV q X (ix2 s l) = ((I.dvTo (512 * q) s.val (128 * p + l.val) : ℝ) : EReal) := by
    intro s l
    unfold startV
    split
    · subst q
      pointwise [k0_pay80]
      simp [Inp.dvTo]
    · exact hX ‹_› s l
  unfold outV
  refine fill_val (Y := fun s l => I.dvTo (512 * q) s (128 * p + l)) (Z := fun s l => I.dvTo (512 * (q + 1)) s (128 * p + l))
    hs (fun j hj c l => ?_) (fun s l hl h => ?_) s l
  · rw [dvAll_val (holds_src B) (n := 2 * q) (by omega) (fun r s h => hW _ _ _ (by omega)) (Y := fun s l => I.dvTo (512 * q) s (128 * p + l)) hs hj,
      Inp.tile_dv I p q l.isLt, Inp.dvTo_tile]
  · rw [← Inp.dvTo_tile I p q, Finset.sum_eq_zero fun r hr => ?_, add_zero]
    have := Finset.mem_range.1 hr
    rw [hW _ _ _ (by omega), zero_mul]

end Cert.Proof.Val

end
-- ==== Proof.Val.Grid.lean ====
/-
  What the kernel's launch leaves in the three results, once its operands are read as reals.
-/
module

public import proofs.«01_k».proof.Proof.Val.Tile
public import proofs.«01_k».proof.Proof.KI.Run
public import Idealize.ShloMosaic.Lib.Pipeline.ValueKit

@[expose] public section

set_option maxRecDepth 16384

noncomputable section

namespace Cert.Proof.Val

open Cert.KernelIdeal Cert.KernelIdeal.Gen Cert.Proof.KI
open Idealize.ShloMosaic Idealize.ShloMosaic.TcCoe Idealize.ShloMosaic.Pointwise Finset
open Idealize.ShloMosaic.Pipeline (Dat Cfg Window)

variable (m : (ℓ : Loc nD τ sig) → Buf (Elt Ideal) ℓ) (c : Dev nD)

/-- The launch's operands hold these reals. -/
structure Entry (I : Inp) : Prop where
  P : ∀ (i : Fin 4096) (j : Fin 3584), V m c main_arg0 (ix2 i j) = ((I.P i.val j.val : ℝ) : EReal)
  D : ∀ (i : Fin 4096) (j : Fin 512), V m c main_arg1 (ix2 i j) = ((I.D i.val j.val : ℝ) : EReal)
  W : ∀ (p : Fin 4) (q : Fin 8) (n : Fin 16) (r : Fin 1024) (l : Fin 256), V m c main_v27 (ix5 p q n r l)
    = ((I.W (2 * p.val + r.val / 512) (512 * q.val + r.val % 512) (256 * n.val + l.val) : ℝ) : EReal)

/-! ## The windows' blocks -/

theorem index0 : ∀ t : Fin cfg0.N, win0_0.index t = ![t.val % 8, t.val / 8] := (by decide +kernel : ∀ t : Fin grid0.N, _)
theorem index1 : ∀ t : Fin cfg0.N, win0_1.index t = ![0, 4 + t.val / 8] := (by decide +kernel : ∀ t : Fin grid0.N, _)
theorem index2 : ∀ t : Fin cfg0.N, win0_2.index t = ![0, 8 + t.val / 8] := (by decide +kernel : ∀ t : Fin grid0.N, _)
theorem index3 : ∀ t : Fin cfg0.N, win0_3.index t = ![t.val / 8, t.val % 8, 0, 0, 0] := (by decide +kernel : ∀ t : Fin grid0.N, _)
theorem index4 : ∀ t : Fin cfg0.N, win0_4.index t = ![t.val % 8, t.val / 8] := (by decide +kernel : ∀ t : Fin grid0.N, _)
theorem index5 : ∀ t : Fin cfg0.N, win0_5.index t = ![t.val % 8, t.val / 8] := (by decide +kernel : ∀ t : Fin grid0.N, _)
theorem index6 : ∀ t : Fin cfg0.N, win0_6.index t = ![0, t.val / 8] := (by decide +kernel : ∀ t : Fin grid0.N, _)
theorem index7 : ∀ t : Fin cfg0.N, win0_7.index t = ![0, t.val / 8] := (by decide +kernel : ∀ t : Fin grid0.N, _)

section

variable (X : (b : Ref sig .tc) → Buf (Elt Ideal) ((c : Thread nD τ).loc b))

theorem read0 (t : Fin cfg0.N) (y) : ((cfg0.win 0).blk t).view.read (Elt Ideal) (X (Pipeline.arrRef spec0 0)) y
    = X main_arg0 ((win0_0.blk t).view.emb y) := rfl
theorem read1 (t : Fin cfg0.N) (y) : ((cfg0.win 1).blk t).view.read (Elt Ideal) (X (Pipeline.arrRef spec0 1)) y
    = X main_arg0 ((win0_1.blk t).view.emb y) := rfl
theorem read2 (t : Fin cfg0.N) (y) : ((cfg0.win 2).blk t).view.read (Elt Ideal) (X (Pipeline.arrRef spec0 2)) y
    = X main_arg0 ((win0_2.blk t).view.emb y) := rfl
theorem read3 (t : Fin cfg0.N) (y) : ((cfg0.win 3).blk t).view.read (Elt Ideal) (X (Pipeline.arrRef spec0 3)) y
    = X main_v27 ((win0_3.blk t).view.emb y) := rfl
theorem read4 (t : Fin cfg0.N) (y) : ((cfg0.win 4).blk t).view.read (Elt Ideal) (X (Pipeline.arrRef spec0 4)) y
    = X main_arg1 ((win0_4.blk t).view.emb y) := rfl

end

theorem point_lt (t : Fin cfg0.N) : t.val < 32 := t.isLt

theorem emb0 (t : Fin cfg0.N) (r : Fin 512) (l : Fin 128) : (win0_0.blk t).view.emb (ix2 r l)
    = ix2 ⟨512 * (t.val % 8) + r.val, by omega⟩ ⟨128 * (t.val / 8) + l.val, by have := point_lt t; omega⟩ := by
  blk_ext [index0]
theorem emb1 (t : Fin cfg0.N) (r : Fin 4096) (l : Fin 128) : (win0_1.blk t).view.emb (ix2 r l)
    = ix2 r ⟨512 + (128 * (t.val / 8) + l.val), by have := point_lt t; omega⟩ := by
  blk_ext [index1]
theorem emb2 (t : Fin cfg0.N) (r : Fin 4096) (l : Fin 128) : (win0_2.blk t).view.emb (ix2 r l)
    = ix2 r ⟨1024 + (128 * (t.val / 8) + l.val), by have := point_lt t; omega⟩ := by
  blk_ext [index2]
theorem emb3 (t : Fin cfg0.N) (n : Fin 16) (r : Fin 1024) (l : Fin 256) : (win0_3.blk t).view.emb (ix5 0 0 n r l)
    = ix5 ⟨t.val / 8, by have := point_lt t; omega⟩ ⟨t.val % 8, by omega⟩ n r l := by
  blk_ext [index3]
theorem emb4 (t : Fin cfg0.N) (r : Fin 512) (l : Fin 128) : (win0_4.blk t).view.emb (ix2 r l)
    = ix2 ⟨512 * (t.val % 8) + r.val, by omega⟩ ⟨128 * (t.val / 8) + l.val, by have := point_lt t; omega⟩ := by
  blk_ext [index4]

variable {m c} {I : Inp}

/-- What a point reads. -/
theorem blocks (E : Entry m c I) (t : Fin cfg0.N) :
    Blocks I (t.val / 8) (t.val % 8) (iblk m c 0 t) (iblk m c 4 t) (iblk m c 1 t) (iblk m c 2 t) (iblk m c 3 t) where
  Q r l := ((read0 c (V m c) t (ix2 r l)).trans (congrArg _ (emb0 t r l))).trans (E.P _ _)
  D r l := ((read4 c (V m c) t (ix2 r l)).trans (congrArg _ (emb4 t r l))).trans (E.D _ _)
  K r l := ((read1 c (V m c) t (ix2 r l)).trans (congrArg _ (emb1 t r l))).trans (E.P _ _)
  V r l := ((read2 c (V m c) t (ix2 r l)).trans (congrArg _ (emb2 t r l))).trans (E.P _ _)
  W n r l := ((read3 c (V m c) t (ix5 0 0 n r l)).trans (congrArg _ (emb3 t n r l))).trans (E.W _ _ _ _ _)

/-- The key gradient's buffer after each point: the sum over the queries so far, -/
theorem accK_val (E : Entry m c I) (n : ℕ) (hn : n < 32) (s : Fin 4096) (l : Fin 128) :
    accK m c n (ix2 s l) = ((I.dkTo (512 * (n % 8 + 1)) s.val (128 * (n / 8) + l.val) : ℝ) : EReal) := by
  induction n using Nat.strong_induction_on generalizing s l with
  | _ n ih =>
    have key : ∀ X : S4096x128.Idx → Elt Ideal .f32,
        (n % 8 ≠ 0 → ∀ (s : Fin 4096) (l : Fin 128), X (ix2 s l) = ((I.dkTo (512 * (n % 8)) s.val (128 * (n / 8) + l.val) : ℝ) : EReal)) →
        stepK m c ⟨n, hn⟩ X (ix2 s l) = ((I.dkTo (512 * (n % 8 + 1)) s.val (128 * (n / 8) + l.val) : ℝ) : EReal) := by
      intro X hX
      unfold stepK
      rw [coords_tile]
      exact outK_val (Nat.mod_lt _ (by decide)) (blocks E ⟨n, hn⟩) hX s l
    by_cases h : n % 8 = 0
    · rw [show accK m c n = _ from accK_start m c ⟨n, hn⟩ h (fun _ => 0)]
      exact key _ fun h' => absurd h h'
    · rw [show accK m c n = _ from accK_next m c ⟨n, hn⟩ (by show n ≠ 0; rintro rfl; exact h rfl)]
      refine key _ fun _ s l => ?_
      have := ih (n - 1) (by omega) (by omega) s l
      rwa [show (n - 1) % 8 + 1 = n % 8 by omega, show (n - 1) / 8 = n / 8 by omega] at this

/-- and the value gradient's. -/
theorem accV_val (hW : ∀ h t s, t ≤ s → I.W h t s = 0) (E : Entry m c I) (n : ℕ) (hn : n < 32) (s : Fin 4096) (l : Fin 128) :
    accV m c n (ix2 s l) = ((I.dvTo (512 * (n % 8 + 1)) s.val (128 * (n / 8) + l.val) : ℝ) : EReal) := by
  induction n using Nat.strong_induction_on generalizing s l with
  | _ n ih =>
    have key : ∀ X : S4096x128.Idx → Elt Ideal .f32,
        (n % 8 ≠ 0 → ∀ (s : Fin 4096) (l : Fin 128), X (ix2 s l) = ((I.dvTo (512 * (n % 8)) s.val (128 * (n / 8) + l.val) : ℝ) : EReal)) →
        stepV m c ⟨n, hn⟩ X (ix2 s l) = ((I.dvTo (512 * (n % 8 + 1)) s.val (128 * (n / 8) + l.val) : ℝ) : EReal) := by
      intro X hX
      unfold stepV
      rw [coords_tile]
      exact outV_val (Nat.mod_lt _ (by decide)) hW (blocks E ⟨n, hn⟩) hX s l
    by_cases h : n % 8 = 0
    · rw [show accV m c n = _ from accV_start m c ⟨n, hn⟩ h (fun _ => 0)]
      exact key _ fun h' => absurd h h'
    · rw [show accV m c n = _ from accV_next m c ⟨n, hn⟩ (by show n ≠ 0; rintro rfl; exact h rfl)]
      refine key _ fun _ s l => ?_
      have := ih (n - 1) (by omega) (by omega) s l
      rwa [show (n - 1) % 8 + 1 = n % 8 by omega, show (n - 1) / 8 = n / 8 by omega] at this

/-! ## The results -/

/-- The query gradient's array after the launch, -/
theorem final_dq (E : Entry m c I) :
    (dats m 0 c).arrAt 5 cfg0.N = fun y => ((I.dq (y 0).val (y 1).val : ℝ) : EReal) := by
  refine (dats m 0 c).arrAt_eq_of_covers 5 _ (by decide +kernel) fun t hf y => ?_
  blk_simp; rw [after0_5]
  have := outQ_val (Nat.mod_lt _ (by decide)) (blocks E t) (y 0) (y 1)
  rw [ix2_eta] at this
  unfold tileQ
  rw [coords_tile]
  refine this.trans ?_
  blk_simp [index5]
  congr 3 <;> omega

/-- the key gradient's, -/
theorem final_dk (E : Entry m c I) :
    (dats m 0 c).arrAt 6 cfg0.N = fun y => ((I.dkTo 4096 (y 0).val (y 1).val : ℝ) : EReal) := by
  refine (dats m 0 c).arrAt_eq_of_covers 6 _ (by decide +kernel) fun t hf y => ?_
  blk_simp; rw [after0_6]
  have := accK_val E t.val t.isLt (y 0) (y 1)
  rw [ix2_eta] at this
  refine this.trans ?_
  have hf' := (flush0_6 t).mp hf
  rw [show 512 * (t.val % 8 + 1) = 4096 by omega]
  blk_simp [index6]
  congr 3 <;> omega

/-- and the value gradient's. -/
theorem final_dv (hW : ∀ h t s, t ≤ s → I.W h t s = 0) (E : Entry m c I) :
    (dats m 0 c).arrAt 7 cfg0.N = fun y => ((I.dvTo 4096 (y 0).val (y 1).val : ℝ) : EReal) := by
  refine (dats m 0 c).arrAt_eq_of_covers 7 _ (by decide +kernel) fun t hf y => ?_
  blk_simp; rw [after0_7]
  have := accV_val hW E t.val t.isLt (y 0) (y 1)
  rw [ix2_eta] at this
  refine this.trans ?_
  have hf' := (flush0_7 t).mp hf
  rw [show 512 * (t.val % 8 + 1) = 4096 by omega]
  blk_simp [index7]
  congr 3 <;> omega

end Cert.Proof.Val

end
-- ==== Proof.Val.Kept.lean ====
/-
  The weights that the kernel is handed: the reference's own, laid out by head pair, query tile and key block.
-/
module

public import proofs.«01_k».proof.Proof.Val.Ref
public import proofs.«01_k».proof.Proof.Val.Grid
public import Idealize.ShloMosaic.Lib.StableHlo.Run

@[expose] public section

set_option maxRecDepth 16384

noncomputable section

namespace Cert.Proof.Val

open Cert.KernelIdeal Cert.KernelIdeal.Gen
open Idealize.ShloMosaic Idealize.ShloMosaic.TcCoe Idealize.ShloMosaic.StableHlo Idealize.ShloMosaic.Pointwise

/-- The layout of the weights. -/
def keptH (W : Score) : FVec Ideal S4x8x16x1024x256 .bf16 :=
  truncf .bf16 (shapeCast S4x8x16x1024x256 (transpose S4x8x16x2x512x256 [0, 2, 4, 1, 3, 5]
    (shapeCast S4x2x8x512x16x256 W shapeCasts_S8x4096x4096_S4x2x8x512x16x256)
    transposes_S4x2x8x512x16x256_S4x8x16x2x512x256_0_2_4_1_3_5) shapeCasts_S4x8x16x2x512x256_S4x8x16x1024x256) bitsLt_bf16_f32

theorem keptH_val {W : Score} {f : ℕ → ℕ → ℕ → ℝ} (hW : Reads W f) (p : Fin 4) (q : Fin 8) (n : Fin 16) (r : Fin 1024) (l : Fin 256) :
    keptH W (ix5 p q n r l) = ((f (2 * p.val + r.val / 512) (512 * q.val + r.val % 512) (256 * n.val + l.val) : ℝ) : EReal) := by
  pointwise [keptH]
  rw [hW]
  simp only
  congr 2 <;> omega

variable (m : (ℓ : Loc nD τ sig) → Buf (Elt Ideal) ℓ) (c : Dev nD)

theorem V_kept : V m c main_v27 = keptH (wH (zH (m ((c : Thread nD τ).loc main_arg0)))) := by
  show StableHlo.after _ _ _ = _
  simp only [hostOps0, hostOps0_1, hostOps0_2, hostOps0_3, hostOps0_4, hostOps0_5, hostOps0_6, hostOps0_7, hostOps0_8, hostOps0_9,
    List.flatten_cons, List.flatten_nil, List.append_nil, List.cons_append, List.nil_append,
    TRef.binary, TRef.nullary, TRef.ternary, TRef.unary, TRef.toBuf, TRef.ofBuf, cast_eq]
  after_results_simp
  rfl

end Cert.Proof.Val

end
-- ==== Proof.Val.Equal.lean ====
/-
  The kernel's three results are the reference's, on arguments whose entries are finite.
-/
module

public import proofs.«01_k».proof.Proof.Val.Kept
public import proofs.«01_k».proof.Proof.Val.Pre

@[expose] public section

set_option maxRecDepth 16384

noncomputable section

namespace Cert.Proof.Val

open Cert.KernelIdeal Cert.KernelIdeal.Gen Cert.Proof.KI
open Idealize.ShloMosaic Idealize.ShloMosaic.TcCoe Idealize.ShloMosaic.Pointwise Idealize.SL.Sem

/-- The reals of an array, by position. -/
def reals (n k : ℕ) (X : (⟨2, ![n, k]⟩ : Shape).Idx → EReal) (i j : ℕ) : ℝ :=
  if h : i < n ∧ j < k then (X (ix2 ⟨i, h.1⟩ ⟨j, h.2⟩)).toReal else 0

theorem reals_val {n k : ℕ} {X : (⟨2, ![n, k]⟩ : Shape).Idx → EReal} (hX : ∀ i, X i = (((X i).toReal : ℝ) : EReal)) (i : Fin n) (j : Fin k) :
    X (ix2 i j) = ((reals n k X i.val j.val : ℝ) : EReal) := by
  rw [reals, dif_pos ⟨i.isLt, j.isLt⟩]
  exact hX _

variable (m : (ℓ : Loc nD τ sig) → Buf (Elt Ideal) ℓ) (ρ : Dev nD → PrngReg)

/-- The projection, as launched, -/
abbrev projOf (c : Dev nD) : FVec Ideal S4096x3584 .f32 := m ((c.tc : Thread nD τ).loc main_arg0)

/-- and the incoming gradient. -/
abbrev gradOf (c : Dev nD) : FVec Ideal S4096x512 .f32 := m ((c.tc : Thread nD τ).loc main_arg1)

/-- The reals that the launch's operands hold. -/
abbrev inpOf (c : Dev nD) : Inp := inp (reals 4096 3584 (projOf m c)) (reals 4096 512 (gradOf m c))

section
variable {m} {c : Dev nD} (hA : ∀ i, projOf m c i = (((projOf m c i).toReal : ℝ) : EReal))
  (hB : ∀ i, gradOf m c i = (((gradOf m c i).toReal : ℝ) : EReal))
include hA hB

theorem entry : Entry m c (inpOf m c) where
  P i j := (congrFun (V_main_arg0 m c) (ix2 i j)).trans (reals_val hA i j)
  D i j := (congrFun (V_main_arg1 m c) (ix2 i j)).trans (reals_val hB i j)
  W p q n r l := (congrFun (V_kept m c) (ix5 p q n r l)).trans (keptH_val (wH_val (reals_val hA)) p q n r l)

theorem dq_eq : (dats m 0 c).arrAt 5 cfg0.N = dqH (projOf m c) (gradOf m c) := by
  rw [final_dq (entry hA hB)]
  funext y
  have := dqH_val (reals_val hA) (reals_val hB) (y 0) (y 1)
  rw [ix2_eta] at this
  exact this.symm

theorem dk_eq : (dats m 0 c).arrAt 6 cfg0.N = dkH (projOf m c) (gradOf m c) := by
  rw [final_dk (entry hA hB)]
  funext y
  have := dkH_val (reals_val hA) (reals_val hB) (y 0) (y 1)
  rw [ix2_eta] at this
  exact this.symm

theorem dv_eq : (dats m 0 c).arrAt 7 cfg0.N = dvH (projOf m c) (gradOf m c) := by
  rw [final_dv (wR_zero _) (entry hA hB)]
  funext y
  have := dvH_val (reals_val hA) (reals_val hB) (y 0) (y 1)
  rw [ix2_eta] at this
  exact this.symm

end

/-- The kernel ends with the reference's results. -/
theorem run_value (hA : ∀ c i, projOf m c i = (((projOf m c i).toReal : ℝ) : EReal))
    (hB : ∀ c i, gradOf m c i = (((gradOf m c i).toReal : ℝ) : EReal)) :
    θ_run defs (onTc (τ := τ) (main (F := Ideal))) ⟨m, fun _ => 0, ρ⟩ (fun r => ∀ c : Dev nD,
      r.2.mem ((c.tc : Thread nD τ).loc main_v28_0) = dqH (projOf m c) (gradOf m c)
      ∧ r.2.mem ((c.tc : Thread nD τ).loc main_v28_1) = dkH (projOf m c) (gradOf m c)
      ∧ r.2.mem ((c.tc : Thread nD τ).loc main_v28_2) = dvH (projOf m c) (gradOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h.1 c).1 5).trans (dq_eq (hA c) (hB c)), ((h.1 c).1 6).trans (dk_eq (hA c) (hB c)), ((h.1 c).1 7).trans (dv_eq (hA c) (hB c)),
      (h.2.1 c).1, (h.2.1 c).2⟩)
    (θ_run_and (run_main m ρ) (KI.frame m ρ))

end Cert.Proof.Val

end
-- ==== Proof.Weight.Value.lean ====
/-
  The gradient of a weight matrix: a product of two matrices that share their rows.
-/
module

public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Defs
public import Idealize.ShloMosaic.Lib.Pipeline.ValueKit

@[expose] public section

set_option maxRecDepth 16384

noncomputable section

namespace Cert.Proof.Weight

section

open Cert.Reference3Ideal Cert.Reference3Ideal.Gen
open Idealize.ShloMosaic Idealize.ShloMosaic.TcCoe Idealize.ShloMosaic.Pointwise Finset

/-- Entry `(i, j)` of the gradient: column `i` of the left factor by column `j` of the incoming gradient. -/
def grad (A : FVec Ideal S4096x2816 .bf16) (B : FVec Ideal S4096x1024 .bf16) : FVec Ideal S2816x1024 .bf16 :=
  fun y => ∑ k : Fin 4096, A (ix2 k (y 0)) * B (ix2 k (y 1))

/-- The reference's result is that gradient. -/
theorem ref_val (A : FVec Ideal S4096x2816 .bf16) (B : FVec Ideal S4096x1024 .bf16) :
    truncf .bf16 (transpose S2816x1024 [1, 0] (Host.dotGeneral (F := Ideal) dot_S4096x1024_S4096x2816_S1024x2816_0_0_1_1_n_n none
        (extf .f32 B bitsLt_bf16_f32) (extf .f32 A bitsLt_bf16_f32))
      transposes_S1024x2816_S2816x1024_1_0) bitsLt_bf16_f32 = grad A B := by
  funext y
  obtain ⟨i, j, rfl⟩ : ∃ i j, y = ix2 i j := ⟨y 0, y 1, (ix2_eta y).symm⟩
  unfold grad
  pointwise []
  exact Finset.sum_congr rfl fun k _ => mul_comm _ _

end

open Cert.Kernel3Ideal Cert.Kernel3Ideal.Gen
open Idealize.ShloMosaic Idealize.ShloMosaic.TcCoe Idealize.ShloMosaic.Pointwise Idealize.SL.Sem Finset
open Idealize.ShloMosaic.Pipeline (Dat Cfg Window)

/-- The tile that a point stores. -/
theorem out_val (x0 : FVec Ideal S4096x256 .bf16) (x1 : FVec Ideal S4096x1024 .bf16) (r : Fin 256) (l : Fin 1024) :
    out0_2 (F := Ideal) x0 x1 (ix2 r l) = ∑ k : Fin 4096, x0 (ix2 k r) * x1 (ix2 k l) := by
  unfold out0_2
  rw [View.canon_unit_zero (by decide), View.ld_unit_zero (by decide), View.ld_unit_zero (by decide)]
  pointwise [k0_pay1]

variable (m : (ℓ : Loc nD τ sig) → Buf (Elt Ideal) ℓ) (ρ : Dev nD → PrngReg)

theorem index0 : ∀ t : Fin cfg0.N, win0_0.index t = ![0, t.val] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)

theorem point_lt (t : Fin cfg0.N) : t.val < 11 := t.isLt

theorem emb0 (t : Fin cfg0.N) (k : Fin 4096) (r : Fin 256) : (win0_0.blk t).view.emb (ix2 k r)
    = ix2 k ⟨256 * t.val + r.val, by have := point_lt t; omega⟩ := by
  blk_ext [index0]
theorem emb1 (t : Fin cfg0.N) (k : Fin 4096) (l : Fin 1024) : (win0_1.blk t).view.emb (ix2 k l) = ix2 k l := by
  blk_ext [index1]
theorem emb2 (t : Fin cfg0.N) (r : Fin 256) (l : Fin 1024) : (win0_2.blk t).view.emb (ix2 r l)
    = ix2 ⟨256 * t.val + r.val, by have := point_lt t; omega⟩ l := by
  blk_ext [index2]

section
variable (c : Dev nD) (X : (b : Ref sig .tc) → Buf (Elt Ideal) ((c : Thread nD τ).loc b))
theorem read0 (t : Fin cfg0.N) (y) : ((cfg0.win 0).blk t).view.read (Elt Ideal) (X (Pipeline.arrRef spec0 0)) y
    = X main_arg0 ((win0_0.blk t).view.emb y) := rfl
theorem read1 (t : Fin cfg0.N) (y) : ((cfg0.win 1).blk t).view.read (Elt Ideal) (X (Pipeline.arrRef spec0 1)) y
    = X main_arg1 ((win0_1.blk t).view.emb y) := rfl
end

/-- The result's array after the launch. -/
theorem final (c : Dev nD) : (dats m 0 c).arrAt 2 cfg0.N = grad (V m c main_arg0) (V m c main_arg1) := by
  refine (dats m 0 c).arrAt_eq_of_covers 2 _ (by decide +kernel) fun t hf y => ?_
  obtain ⟨r, l, rfl⟩ : ∃ (r : Fin 256) (l : Fin 1024), y = ix2 r l := ⟨y 0, y 1, (ix2_eta y).symm⟩
  blk_simp; rw [after0_2]
  refine (out_val (iblk m c 0 t) (iblk m c 1 t) r l).trans ?_
  refine Eq.trans ?_ (congrArg (grad (V m c main_arg0) (V m c main_arg1)) (emb2 t r l)).symm
  refine Finset.sum_congr rfl fun k _ => ?_
  exact congrArg₂ (· * ·) ((read0 c (V m c) t _).trans (congrArg _ (emb0 t k r)))
    ((read1 c (V m c) t _).trans (congrArg _ (emb1 t k l)))

/-- On any arguments the kernel's result is the reference's. -/
theorem algebraic : Cert.algebraic_Kernel3Ideal_Reference3Ideal := by
  intro m g m' g' _ hargs
  refine ⟨fun c => grad (m ((c.tc : Thread nD τ).loc main_arg0)) (m ((c.tc : Thread nD τ).loc main_arg1)), ?_, ?_⟩
  · exact (θ_run defs _ _).mono (fun r h c => ⟨((h.1 c).1 2).trans (final m c), (h.2.1 c).1, (h.2.1 c).2⟩)
      (θ_run_and (run_main m g) (Cert.Kernel3Ideal.Gen.frame m g))
  · refine (θ_run Cert.Reference3Ideal.defs _ _).mono (fun r h c => ?_) (Cert.Reference3Ideal.Value.run (F := Ideal) m' g')
    refine ⟨(h c).1.trans ((ref_val _ _).trans ?_), (h c).2⟩
    rw [(hargs c).1, (hargs c).2]

end Cert.Proof.Weight

end
-- ==== Proof.Weight.In.lean ====
/-
  The gradient of the input projection's weights: a product of two matrices that share their rows.
-/
module

public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Defs
public import Idealize.ShloMosaic.Lib.Pipeline.ValueKit

@[expose] public section

set_option maxRecDepth 16384

noncomputable section

namespace Cert.Proof.WeightIn

section

open Cert.Reference4Ideal Cert.Reference4Ideal.Gen
open Idealize.ShloMosaic Idealize.ShloMosaic.TcCoe Idealize.ShloMosaic.Pointwise Finset

/-- Entry `(i, j)` of the gradient: column `i` of the left factor by column `j` of the incoming gradient. -/
def grad (A : FVec Ideal S4096x3584 .bf16) (B : FVec Ideal S4096x1024 .bf16) : FVec Ideal S3584x1024 .bf16 :=
  fun y => ∑ k : Fin 4096, A (ix2 k (y 0)) * B (ix2 k (y 1))

/-- The reference's result is that gradient. -/
theorem ref_val (A : FVec Ideal S4096x3584 .bf16) (B : FVec Ideal S4096x1024 .bf16) :
    truncf .bf16 (transpose S3584x1024 [1, 0] (Host.dotGeneral (F := Ideal) dot_S4096x1024_S4096x3584_S1024x3584_0_0_1_1_n_n none
        (extf .f32 B bitsLt_bf16_f32) (extf .f32 A bitsLt_bf16_f32))
      transposes_S1024x3584_S3584x1024_1_0) bitsLt_bf16_f32 = grad A B := by
  funext y
  obtain ⟨i, j, rfl⟩ : ∃ i j, y = ix2 i j := ⟨y 0, y 1, (ix2_eta y).symm⟩
  unfold grad
  pointwise []
  exact Finset.sum_congr rfl fun k _ => mul_comm _ _

end

open Cert.Kernel4Ideal Cert.Kernel4Ideal.Gen
open Idealize.ShloMosaic Idealize.ShloMosaic.TcCoe Idealize.ShloMosaic.Pointwise Idealize.SL.Sem Finset
open Idealize.ShloMosaic.Pipeline (Dat Cfg Window)

/-- The tile that a point stores. -/
theorem out_val (x0 : FVec Ideal S4096x256 .bf16) (x1 : FVec Ideal S4096x1024 .bf16) (r : Fin 256) (l : Fin 1024) :
    out0_2 (F := Ideal) x0 x1 (ix2 r l) = ∑ k : Fin 4096, x0 (ix2 k r) * x1 (ix2 k l) := by
  unfold out0_2
  rw [View.canon_unit_zero (by decide), View.ld_unit_zero (by decide), View.ld_unit_zero (by decide)]
  pointwise [k0_pay1]

variable (m : (ℓ : Loc nD τ sig) → Buf (Elt Ideal) ℓ) (ρ : Dev nD → PrngReg)

theorem index0 : ∀ t : Fin cfg0.N, win0_0.index t = ![0, t.val] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)

theorem point_lt (t : Fin cfg0.N) : t.val < 14 := t.isLt

theorem emb0 (t : Fin cfg0.N) (k : Fin 4096) (r : Fin 256) : (win0_0.blk t).view.emb (ix2 k r)
    = ix2 k ⟨256 * t.val + r.val, by have := point_lt t; omega⟩ := by
  blk_ext [index0]
theorem emb1 (t : Fin cfg0.N) (k : Fin 4096) (l : Fin 1024) : (win0_1.blk t).view.emb (ix2 k l) = ix2 k l := by
  blk_ext [index1]
theorem emb2 (t : Fin cfg0.N) (r : Fin 256) (l : Fin 1024) : (win0_2.blk t).view.emb (ix2 r l)
    = ix2 ⟨256 * t.val + r.val, by have := point_lt t; omega⟩ l := by
  blk_ext [index2]

section
variable (c : Dev nD) (X : (b : Ref sig .tc) → Buf (Elt Ideal) ((c : Thread nD τ).loc b))
theorem read0 (t : Fin cfg0.N) (y) : ((cfg0.win 0).blk t).view.read (Elt Ideal) (X (Pipeline.arrRef spec0 0)) y
    = X main_arg0 ((win0_0.blk t).view.emb y) := rfl
theorem read1 (t : Fin cfg0.N) (y) : ((cfg0.win 1).blk t).view.read (Elt Ideal) (X (Pipeline.arrRef spec0 1)) y
    = X main_arg1 ((win0_1.blk t).view.emb y) := rfl
end

/-- The result's array after the launch. -/
theorem final (c : Dev nD) : (dats m 0 c).arrAt 2 cfg0.N = grad (V m c main_arg0) (V m c main_arg1) := by
  refine (dats m 0 c).arrAt_eq_of_covers 2 _ (by decide +kernel) fun t hf y => ?_
  obtain ⟨r, l, rfl⟩ : ∃ (r : Fin 256) (l : Fin 1024), y = ix2 r l := ⟨y 0, y 1, (ix2_eta y).symm⟩
  blk_simp; rw [after0_2]
  refine (out_val (iblk m c 0 t) (iblk m c 1 t) r l).trans ?_
  refine Eq.trans ?_ (congrArg (grad (V m c main_arg0) (V m c main_arg1)) (emb2 t r l)).symm
  refine Finset.sum_congr rfl fun k _ => ?_
  exact congrArg₂ (· * ·) ((read0 c (V m c) t _).trans (congrArg _ (emb0 t k r)))
    ((read1 c (V m c) t _).trans (congrArg _ (emb1 t k l)))

/-- On any arguments the kernel's result is the reference's. -/
theorem algebraic : Cert.algebraic_Kernel4Ideal_Reference4Ideal := by
  intro m g m' g' _ hargs
  refine ⟨fun c => grad (m ((c.tc : Thread nD τ).loc main_arg0)) (m ((c.tc : Thread nD τ).loc main_arg1)), ?_, ?_⟩
  · exact (θ_run defs _ _).mono (fun r h c => ⟨((h.1 c).1 2).trans (final m c), (h.2.1 c).1, (h.2.1 c).2⟩)
      (θ_run_and (run_main m g) (Cert.Kernel4Ideal.Gen.frame m g))
  · refine (θ_run Cert.Reference4Ideal.defs _ _).mono (fun r h c => ?_) (Cert.Reference4Ideal.Value.run (F := Ideal) m' g')
    refine ⟨(h c).1.trans ((ref_val _ _).trans ?_), (h c).2⟩
    rw [(hargs c).1, (hargs c).2]

end Cert.Proof.WeightIn

end
-- ==== Proof.Weight.Out.lean ====
/-
  The gradient of the output projection's weights: a product of two matrices that share their rows.
-/
module

public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Defs
public import Idealize.ShloMosaic.Lib.Pipeline.ValueKit

@[expose] public section

set_option maxRecDepth 16384

noncomputable section

namespace Cert.Proof.WeightOut

section

open Cert.Reference5Ideal Cert.Reference5Ideal.Gen
open Idealize.ShloMosaic Idealize.ShloMosaic.TcCoe Idealize.ShloMosaic.Pointwise Finset

/-- Entry `(i, j)` of the gradient: column `i` of the left factor by column `j` of the incoming gradient. -/
def grad (A : FVec Ideal S4096x1024 .bf16) (B : FVec Ideal S4096x1024 .bf16) : FVec Ideal S1024x1024 .bf16 :=
  fun y => ∑ k : Fin 4096, A (ix2 k (y 0)) * B (ix2 k (y 1))

/-- The reference's result is that gradient. -/
theorem ref_val (A : FVec Ideal S4096x1024 .bf16) (B : FVec Ideal S4096x1024 .bf16) :
    truncf .bf16 (transpose S1024x1024 [1, 0] (Host.dotGeneral (F := Ideal) dot_S4096x1024_S4096x1024_S1024x1024_0_0_1_1_n_n none
        (extf .f32 B bitsLt_bf16_f32) (extf .f32 A bitsLt_bf16_f32))
      transposes_S1024x1024_S1024x1024_1_0) bitsLt_bf16_f32 = grad A B := by
  funext y
  obtain ⟨i, j, rfl⟩ : ∃ i j, y = ix2 i j := ⟨y 0, y 1, (ix2_eta y).symm⟩
  unfold grad
  pointwise []
  exact Finset.sum_congr rfl fun k _ => mul_comm _ _

end

open Cert.Kernel5Ideal Cert.Kernel5Ideal.Gen
open Idealize.ShloMosaic Idealize.ShloMosaic.TcCoe Idealize.ShloMosaic.Pointwise Idealize.SL.Sem Finset
open Idealize.ShloMosaic.Pipeline (Dat Cfg Window)

/-- The tile that a point stores. -/
theorem out_val (x0 : FVec Ideal S4096x256 .bf16) (x1 : FVec Ideal S4096x1024 .bf16) (r : Fin 256) (l : Fin 1024) :
    out0_2 (F := Ideal) x0 x1 (ix2 r l) = ∑ k : Fin 4096, x0 (ix2 k r) * x1 (ix2 k l) := by
  unfold out0_2
  rw [View.canon_unit_zero (by decide), View.ld_unit_zero (by decide), View.ld_unit_zero (by decide)]
  pointwise [k0_pay1]

variable (m : (ℓ : Loc nD τ sig) → Buf (Elt Ideal) ℓ) (ρ : Dev nD → PrngReg)

theorem index0 : ∀ t : Fin cfg0.N, win0_0.index t = ![0, t.val] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)

theorem point_lt (t : Fin cfg0.N) : t.val < 4 := t.isLt

theorem emb0 (t : Fin cfg0.N) (k : Fin 4096) (r : Fin 256) : (win0_0.blk t).view.emb (ix2 k r)
    = ix2 k ⟨256 * t.val + r.val, by have := point_lt t; omega⟩ := by
  blk_ext [index0]
theorem emb1 (t : Fin cfg0.N) (k : Fin 4096) (l : Fin 1024) : (win0_1.blk t).view.emb (ix2 k l) = ix2 k l := by
  blk_ext [index1]
theorem emb2 (t : Fin cfg0.N) (r : Fin 256) (l : Fin 1024) : (win0_2.blk t).view.emb (ix2 r l)
    = ix2 ⟨256 * t.val + r.val, by have := point_lt t; omega⟩ l := by
  blk_ext [index2]

section
variable (c : Dev nD) (X : (b : Ref sig .tc) → Buf (Elt Ideal) ((c : Thread nD τ).loc b))
theorem read0 (t : Fin cfg0.N) (y) : ((cfg0.win 0).blk t).view.read (Elt Ideal) (X (Pipeline.arrRef spec0 0)) y
    = X main_arg0 ((win0_0.blk t).view.emb y) := rfl
theorem read1 (t : Fin cfg0.N) (y) : ((cfg0.win 1).blk t).view.read (Elt Ideal) (X (Pipeline.arrRef spec0 1)) y
    = X main_arg1 ((win0_1.blk t).view.emb y) := rfl
end

/-- The result's array after the launch. -/
theorem final (c : Dev nD) : (dats m 0 c).arrAt 2 cfg0.N = grad (V m c main_arg0) (V m c main_arg1) := by
  refine (dats m 0 c).arrAt_eq_of_covers 2 _ (by decide +kernel) fun t hf y => ?_
  obtain ⟨r, l, rfl⟩ : ∃ (r : Fin 256) (l : Fin 1024), y = ix2 r l := ⟨y 0, y 1, (ix2_eta y).symm⟩
  blk_simp; rw [after0_2]
  refine (out_val (iblk m c 0 t) (iblk m c 1 t) r l).trans ?_
  refine Eq.trans ?_ (congrArg (grad (V m c main_arg0) (V m c main_arg1)) (emb2 t r l)).symm
  refine Finset.sum_congr rfl fun k _ => ?_
  exact congrArg₂ (· * ·) ((read0 c (V m c) t _).trans (congrArg _ (emb0 t k r)))
    ((read1 c (V m c) t _).trans (congrArg _ (emb1 t k l)))

/-- On any arguments the kernel's result is the reference's. -/
theorem algebraic : Cert.algebraic_Kernel5Ideal_Reference5Ideal := by
  intro m g m' g' _ hargs
  refine ⟨fun c => grad (m ((c.tc : Thread nD τ).loc main_arg0)) (m ((c.tc : Thread nD τ).loc main_arg1)), ?_, ?_⟩
  · exact (θ_run defs _ _).mono (fun r h c => ⟨((h.1 c).1 2).trans (final m c), (h.2.1 c).1, (h.2.1 c).2⟩)
      (θ_run_and (run_main m g) (Cert.Kernel5Ideal.Gen.frame m g))
  · refine (θ_run Cert.Reference5Ideal.defs _ _).mono (fun r h c => ?_) (Cert.Reference5Ideal.Value.run (F := Ideal) m' g')
    refine ⟨(h c).1.trans ((ref_val _ _).trans ?_), (h c).2⟩
    rw [(hargs c).1, (hargs c).2]

end Cert.Proof.WeightOut

end
-- ==== Proof.Weight.Project.lean ====
/-
  The input projection: the rows by the transposed weights.
-/
module

public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Defs
public import Idealize.ShloMosaic.Lib.Pipeline.ValueKit

@[expose] public section

set_option maxRecDepth 16384

noncomputable section

namespace Cert.Proof.Project

section

open Cert.Reference6Ideal Cert.Reference6Ideal.Gen
open Idealize.ShloMosaic Idealize.ShloMosaic.TcCoe Idealize.ShloMosaic.Pointwise Finset

/-- Entry `(i, j)` of the product: row `i` of the left factor by column `j` of the weights. -/
def prod (A : FVec Ideal S4096x1024 .bf16) (B : FVec Ideal S1024x3584 .f32) : FVec Ideal S4096x3584 .f32 :=
  fun y => ∑ k : Fin 1024, A (ix2 (y 0) k) * B (ix2 k (y 1))

/-- The reference's result is that product. -/
theorem ref_val (A : FVec Ideal S4096x1024 .bf16) (B : FVec Ideal S1024x3584 .f32) :
    Host.dotGeneral (F := Ideal) dot_S4096x1024_S1024x3584_S4096x3584_1_0_0_1_n_n none (extf .f32 A bitsLt_bf16_f32) B = prod A B := by
  funext y
  obtain ⟨i, j, rfl⟩ : ∃ i j, y = ix2 i j := ⟨y 0, y 1, (ix2_eta y).symm⟩
  unfold prod
  pointwise []

end

open Cert.Kernel6Ideal Cert.Kernel6Ideal.Gen
open Idealize.ShloMosaic Idealize.ShloMosaic.TcCoe Idealize.ShloMosaic.Pointwise Idealize.SL.Sem Finset
open Idealize.ShloMosaic.Pipeline (Dat Cfg Window)

/-- The tile that a point stores. -/
theorem out_val (x0 : FVec Ideal S512x1024 .bf16) (x1 : FVec Ideal S3584x1024 .bf16) (r : Fin 512) (l : Fin 3584) :
    out0_2 (F := Ideal) x0 x1 (ix2 r l) = ∑ k : Fin 1024, x0 (ix2 r k) * x1 (ix2 l k) := by
  unfold out0_2
  rw [View.canon_unit_zero (by decide), View.ld_unit_zero (by decide), View.ld_unit_zero (by decide)]
  pointwise [k0_pay1]

variable (m : (ℓ : Loc nD τ sig) → Buf (Elt Ideal) ℓ) (ρ : Dev nD → PrngReg)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)

theorem point_lt (t : Fin cfg0.N) : t.val < 8 := t.isLt

theorem emb0 (t : Fin cfg0.N) (r : Fin 512) (k : Fin 1024) : (win0_0.blk t).view.emb (ix2 r k)
    = ix2 ⟨512 * t.val + r.val, by have := point_lt t; omega⟩ k := by
  blk_ext [index0]
theorem emb1 (t : Fin cfg0.N) (l : Fin 3584) (k : Fin 1024) : (win0_1.blk t).view.emb (ix2 l k) = ix2 l k := by
  blk_ext [index1]
theorem emb2 (t : Fin cfg0.N) (r : Fin 512) (l : Fin 3584) : (win0_2.blk t).view.emb (ix2 r l)
    = ix2 ⟨512 * t.val + r.val, by have := point_lt t; omega⟩ l := by
  blk_ext [index2]

section
variable (c : Dev nD) (X : (b : Ref sig .tc) → Buf (Elt Ideal) ((c : Thread nD τ).loc b))
theorem read0 (t : Fin cfg0.N) (y) : ((cfg0.win 0).blk t).view.read (Elt Ideal) (X (Pipeline.arrRef spec0 0)) y
    = X main_arg0 ((win0_0.blk t).view.emb y) := rfl
theorem read1 (t : Fin cfg0.N) (y) : ((cfg0.win 1).blk t).view.read (Elt Ideal) (X (Pipeline.arrRef spec0 1)) y
    = X main_v1 ((win0_1.blk t).view.emb y) := rfl
end

/-- The weights as the launch finds them: transposed and rounded. -/
def flipped (B : FVec Ideal S1024x3584 .f32) : FVec Ideal S3584x1024 .bf16 :=
  truncf .bf16 (transpose S3584x1024 [1, 0] B transposes_S1024x3584_S3584x1024_1_0) bitsLt_bf16_f32

theorem V_flipped (c : Dev nD) : V m c main_v1 = flipped (m ((c : Thread nD τ).loc main_arg1)) := by
  show StableHlo.after _ _ _ = _
  simp only [hostOps0]
  after_results_simp
  rfl

theorem flipped_val (B : FVec Ideal S1024x3584 .f32) (l : Fin 3584) (k : Fin 1024) : flipped B (ix2 l k) = B (ix2 k l) := by
  pointwise [flipped]

/-- The result's array after the launch. -/
theorem final (c : Dev nD) : (dats m 0 c).arrAt 2 cfg0.N
    = prod (m ((c.tc : Thread nD τ).loc main_arg0)) (m ((c.tc : Thread nD τ).loc main_arg1)) := by
  refine (dats m 0 c).arrAt_eq_of_covers 2 _ (by decide +kernel) fun t hf y => ?_
  obtain ⟨r, l, rfl⟩ : ∃ (r : Fin 512) (l : Fin 3584), y = ix2 r l := ⟨y 0, y 1, (ix2_eta y).symm⟩
  blk_simp; rw [after0_2]
  refine (out_val (iblk m c 0 t) (iblk m c 1 t) r l).trans ?_
  refine Eq.trans ?_ (congrArg (prod (m ((c.tc : Thread nD τ).loc main_arg0)) (m ((c.tc : Thread nD τ).loc main_arg1))) (emb2 t r l)).symm
  refine Finset.sum_congr rfl fun k _ => ?_
  exact congrArg₂ (· * ·) (((read0 c (V m c) t _).trans (congrArg _ (emb0 t r k))).trans (congrFun (V_main_arg0 m c) _))
    (((read1 c (V m c) t _).trans (congrArg _ (emb1 t l k))).trans ((congrFun (V_flipped m c) _).trans (flipped_val _ l k)))

/-- On any arguments the kernel's result is the reference's. -/
theorem algebraic : Cert.algebraic_Kernel6Ideal_Reference6Ideal := by
  intro m g m' g' _ hargs
  refine ⟨fun c => prod (m ((c.tc : Thread nD τ).loc main_arg0)) (m ((c.tc : Thread nD τ).loc main_arg1)), ?_, ?_⟩
  · exact (θ_run defs _ _).mono (fun r h c => ⟨((h.1 c).1 2).trans (final m c), (h.2.1 c).1, (h.2.1 c).2⟩)
      (θ_run_and (run_main m g) (Cert.Kernel6Ideal.Gen.frame m g))
  · refine (θ_run Cert.Reference6Ideal.defs _ _).mono (fun r h c => ?_) (Cert.Reference6Ideal.Value.run (F := Ideal) m' g')
    refine ⟨(h c).1.trans ((ref_val _ _).trans ?_), (h c).2⟩
    rw [(hargs c).1, (hargs c).2]

end Cert.Proof.Project

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Pre_finite9
public import proofs.«01_k».proof.Proof.Gen.Pre_finite2
public import proofs.«01_k».proof.Proof.Norm.InBack
public import proofs.«01_k».proof.Proof.Norm.GateBack
public import proofs.«01_k».proof.Proof.Norm.ActBack
public import proofs.«01_k».proof.Proof.Norm.Act
public import proofs.«01_k».proof.Proof.Norm.FfnBack
public import proofs.«01_k».proof.Proof.Norm.Down
public import proofs.«01_k».proof.Proof.Norm.Loss
public import proofs.«01_k».proof.Proof.Act.Same
public import proofs.«01_k».proof.Proof.FfnBack.Same
public import proofs.«01_k».proof.Proof.Loss.Same
public import proofs.«01_k».proof.Proof.KI.Run
public import proofs.«01_k».proof.Proof.KI.Same
public import proofs.«01_k».proof.Proof.Val.Equal
public import proofs.«01_k».proof.Proof.Weight.Value
public import proofs.«01_k».proof.Proof.Weight.In
public import proofs.«01_k».proof.Proof.Weight.Out
public import proofs.«01_k».proof.Proof.Weight.Project
public import Idealize.ShloMosaic.Adequacy
public import Idealize.ShloMosaic.Init

@[expose] public section

noncomputable section

namespace Cert.Proof

open Idealize.ShloMosaic Idealize.SL.Sem

/-- The kernel's run at the bit patterns: the two programs have the same text, so the idealized program's run serves. -/
theorem frame_kernel : Cert.quiescent_Kernel := fun m ρ _ => by
  rw [KI.defs_same, KI.main_same]
  exact KI.frame (F := Bits) m ρ

/-- The idealized kernel's run. -/
theorem frame_kernelIdeal : Cert.quiescent_KernelIdeal := fun m ρ _ => KI.frame (F := Ideal) m ρ

/-- The reference's run: it declares no semaphore. -/
theorem frame_referenceIdeal : Cert.quiescent_ReferenceIdeal := fun m ρ _ =>
  (θ_run Cert.ReferenceIdeal.defs _ _).mono
    (fun r h => ⟨fun c => (h c).2.2.2, sem_eq_zero_of_no_sems (by decide) r.2⟩)
    (Cert.ReferenceIdeal.Value.run (F := Ideal) m ρ)

/-- The idealization rewrites nothing. -/
theorem preserves : Cert.preserves_Kernel_KernelIdeal := trivial

/-- On finite arguments the kernel's query, key and value gradients are the reference's, element by element. -/
theorem algebraic : Cert.algebraic_KernelIdeal_ReferenceIdeal_pre_finite := by
  intro m g m' g' hpre hargs
  have hreal := fun c => Val.real_of_pre _ _ (hpre c)
  refine ⟨fun c => Val.dqH (Val.projOf m c) (Val.gradOf m c), fun c => Val.dkH (Val.projOf m c) (Val.gradOf m c),
    fun c => Val.dvH (Val.projOf m c) (Val.gradOf m c), Val.run_value m g (fun c => (hreal c).1) (fun c => (hreal c).2), ?_⟩
  refine (θ_run Cert.ReferenceIdeal.defs _ _).mono (fun r h c => ?_) (Cert.ReferenceIdeal.Value.run (F := Ideal) m' g')
  refine ⟨(h c).1.trans ((Val.res_dq m' c).trans ?_), (h c).2.1.trans ((Val.res_dk m' c).trans ?_),
    (h c).2.2.1.trans ((Val.res_dv m' c).trans ?_), (h c).2.2.2⟩
  · rw [(hargs c).1, (hargs c).2]
  · rw [(hargs c).1, (hargs c).2]
  · rw [(hargs c).1, (hargs c).2]

/-- The gradient of a feed-forward weight matrix: the kernel's run at the bit patterns, -/
theorem frame_kernel3 : Cert.quiescent_Kernel3 := fun m ρ _ => Cert.Kernel3.Gen.frame m ρ

/-- and at the reals, -/
theorem frame_kernel3Ideal : Cert.quiescent_Kernel3Ideal := fun m ρ _ => Cert.Kernel3Ideal.Gen.frame m ρ

/-- and the reference's run. -/
theorem frame_reference3Ideal : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run (F := Ideal) m ρ)

/-- The gradient of the input projection's weights: the kernel's run at the bit patterns, -/
theorem frame_kernel4 : Cert.quiescent_Kernel4 := fun m ρ _ => Cert.Kernel4.Gen.frame m ρ

/-- and at the reals, -/
theorem frame_kernel4Ideal : Cert.quiescent_Kernel4Ideal := fun m ρ _ => Cert.Kernel4Ideal.Gen.frame m ρ

/-- and the reference's run. -/
theorem frame_reference4Ideal : Cert.quiescent_Reference4Ideal := fun m ρ _ =>
  (θ_run Cert.Reference4Ideal.defs _ _).mono
    (fun r h => ⟨fun c => (h c).2, sem_eq_zero_of_no_sems (by decide) r.2⟩)
    (Cert.Reference4Ideal.Value.run (F := Ideal) m ρ)

/-- The gradient of the output projection's weights: the kernel's run at the bit patterns, -/
theorem frame_kernel5 : Cert.quiescent_Kernel5 := fun m ρ _ => Cert.Kernel5.Gen.frame m ρ

/-- and at the reals, -/
theorem frame_kernel5Ideal : Cert.quiescent_Kernel5Ideal := fun m ρ _ => Cert.Kernel5Ideal.Gen.frame m ρ

/-- and the reference's run. -/
theorem frame_reference5Ideal : Cert.quiescent_Reference5Ideal := fun m ρ _ =>
  (θ_run Cert.Reference5Ideal.defs _ _).mono
    (fun r h => ⟨fun c => (h c).2, sem_eq_zero_of_no_sems (by decide) r.2⟩)
    (Cert.Reference5Ideal.Value.run (F := Ideal) m ρ)

/-- The input projection: the kernel's run at the bit patterns, -/
theorem frame_kernel6 : Cert.quiescent_Kernel6 := fun m ρ _ => Cert.Kernel6.Gen.frame m ρ

/-- and at the reals, -/
theorem frame_kernel6Ideal : Cert.quiescent_Kernel6Ideal := fun m ρ _ => Cert.Kernel6Ideal.Gen.frame m ρ

/-- and the reference's run. -/
theorem frame_reference6Ideal : Cert.quiescent_Reference6Ideal := fun m ρ _ =>
  (θ_run Cert.Reference6Ideal.defs _ _).mono
    (fun r h => ⟨fun c => (h c).2, sem_eq_zero_of_no_sems (by decide) r.2⟩)
    (Cert.Reference6Ideal.Value.run (F := Ideal) m ρ)

/-- The input projection's backward step: the kernel's run at the bit patterns, -/
theorem frame_kernel7 : Cert.quiescent_Kernel7 := fun m ρ _ => Cert.Kernel7.Gen.frame m ρ

/-- and at the reals, -/
theorem frame_kernel7Ideal : Cert.quiescent_Kernel7Ideal := fun m ρ _ => Cert.Kernel7Ideal.Gen.frame m ρ

/-- and the reference's run. -/
theorem frame_reference7Ideal : Cert.quiescent_Reference7Ideal := fun m ρ _ =>
  (θ_run Cert.Reference7Ideal.defs _ _).mono
    (fun r h => ⟨fun c => (h c).2.2.2, sem_eq_zero_of_no_sems (by decide) r.2⟩)
    (Cert.Reference7Ideal.Value.run (F := Ideal) m ρ)

/-- The backward step of the feed-forward block's gate and up products: the kernel's run at the bit patterns, -/
theorem frame_kernel8 : Cert.quiescent_Kernel8 := fun m ρ _ => Cert.Kernel8.Gen.frame m ρ

/-- and at the reals, -/
theorem frame_kernel8Ideal : Cert.quiescent_Kernel8Ideal := fun m ρ _ => Cert.Kernel8Ideal.Gen.frame m ρ

/-- and the reference's run. -/
theorem frame_reference8Ideal : Cert.quiescent_Reference8Ideal := fun m ρ _ =>
  (θ_run Cert.Reference8Ideal.defs _ _).mono
    (fun r h => ⟨fun c => (h c).2.2, sem_eq_zero_of_no_sems (by decide) r.2⟩)
    (Cert.Reference8Ideal.Value.run (F := Ideal) m ρ)

/-- The backward step of the gate: the kernel's run at the bit patterns, -/
theorem frame_kernel9 : Cert.quiescent_Kernel9 := fun m ρ _ => Cert.Kernel9.Gen.frame m ρ

/-- and at the reals, -/
theorem frame_kernel9Ideal : Cert.quiescent_Kernel9Ideal := fun m ρ _ => Cert.Kernel9Ideal.Gen.frame m ρ

/-- and the reference's run. -/
theorem frame_reference9Ideal : Cert.quiescent_Reference9Ideal := fun m ρ _ =>
  (θ_run Cert.Reference9Ideal.defs _ _).mono
    (fun r h => ⟨fun c => (h c).2.2, sem_eq_zero_of_no_sems (by decide) r.2⟩)
    (Cert.Reference9Ideal.Value.run (F := Ideal) m ρ)

/-- The feed-forward block's norm, gate and up products: the kernel's run at the bit patterns, -/
theorem frame_kernel10 : Cert.quiescent_Kernel10 := fun m ρ _ => by
  rw [Act.defs_same, Act.main_same]; exact Act.frame (F := Bits) m ρ

/-- and at the reals, -/
theorem frame_kernel10Ideal : Cert.quiescent_Kernel10Ideal := fun m ρ _ => Act.frame (F := Ideal) m ρ

/-- and the reference's run. -/
theorem frame_reference10Ideal : Cert.quiescent_Reference10Ideal := fun m ρ _ =>
  (θ_run Cert.Reference10Ideal.defs _ _).mono
    (fun r h => ⟨fun c => (h c).2.2.2.2, sem_eq_zero_of_no_sems (by decide) r.2⟩)
    (Cert.Reference10Ideal.Value.run (F := Ideal) m ρ)

/-- The second feed-forward block's backward pass: the kernel's run at the bit patterns, -/
theorem frame_kernel2 : Cert.quiescent_Kernel2 := fun m ρ _ => by
  rw [FfnBack.defs_same, FfnBack.main_same]; exact FfnBack.frame (F := Bits) m ρ

/-- and at the reals, -/
theorem frame_kernel2Ideal : Cert.quiescent_Kernel2Ideal := fun m ρ _ => FfnBack.frame (F := Ideal) m ρ

/-- and the reference's run. -/
theorem frame_reference2Ideal : Cert.quiescent_Reference2Ideal := fun m ρ _ =>
  (θ_run Cert.Reference2Ideal.defs _ _).mono
    (fun r h => ⟨fun c => (h c).2.2.2.2.2, sem_eq_zero_of_no_sems (by decide) r.2⟩)
    (Cert.Reference2Ideal.Value.run (F := Ideal) m ρ)

/-- The feed-forward block's down product and the next norm: the kernel's run at the bit patterns, -/
theorem frame_kernel11 : Cert.quiescent_Kernel11 := fun m ρ _ => Cert.Kernel11.Gen.frame m ρ

/-- and at the reals, -/
theorem frame_kernel11Ideal : Cert.quiescent_Kernel11Ideal := fun m ρ _ => Cert.Kernel11Ideal.Gen.frame m ρ

/-- and the reference's run. -/
theorem frame_reference11Ideal : Cert.quiescent_Reference11Ideal := fun m ρ _ =>
  (θ_run Cert.Reference11Ideal.defs _ _).mono
    (fun r h => ⟨fun c => (h c).2.2, sem_eq_zero_of_no_sems (by decide) r.2⟩)
    (Cert.Reference11Ideal.Value.run (F := Ideal) m ρ)

/-- The second feed-forward block and the loss: the kernel's run at the bit patterns, -/
theorem frame_kernel12 : Cert.quiescent_Kernel12 := fun m ρ _ => by
  rw [Loss.defs_same, Loss.main_same]; exact Loss.frame (F := Bits) m ρ

/-- and at the reals, -/
theorem frame_kernel12Ideal : Cert.quiescent_Kernel12Ideal := fun m ρ _ => Loss.frame (F := Ideal) m ρ

/-- and the reference's run. -/
theorem frame_reference12Ideal : Cert.quiescent_Reference12Ideal := fun m ρ _ =>
  (θ_run Cert.Reference12Ideal.defs _ _).mono
    (fun r h => ⟨fun c => (h c).2.2.2.2.2.2.2, sem_eq_zero_of_no_sems (by decide) r.2⟩)
    (Cert.Reference12Ideal.Value.run (F := Ideal) m ρ)

theorem claim : Cert.Claim := ⟨Cert.Kernel.Gen.facts, Cert.KernelIdeal.Gen.facts, Cert.ReferenceIdeal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel2.Gen.facts, Cert.Kernel2Ideal.Gen.facts, Cert.Reference2Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Pre_finite.Gen.facts, Cert.Pre_finite9.Gen.facts, Cert.Pre_finite2.Gen.facts,
  frame_kernel, frame_kernelIdeal, fun m ρ _ => frame_kernelIdeal m ρ trivial, frame_referenceIdeal,
  fun m ρ _ => frame_referenceIdeal m ρ trivial,
  frame_kernel3, frame_kernel3Ideal, frame_reference3Ideal, frame_kernel4, frame_kernel4Ideal, frame_reference4Ideal,
  frame_kernel5, frame_kernel5Ideal, frame_reference5Ideal, frame_kernel6, frame_kernel6Ideal, frame_reference6Ideal,
  frame_kernel7, frame_kernel7Ideal, frame_reference7Ideal,
  frame_kernel8, frame_kernel8Ideal, frame_reference8Ideal,
  frame_kernel9, frame_kernel9Ideal, fun m ρ _ => frame_kernel9Ideal m ρ trivial, frame_reference9Ideal, fun m ρ _ => frame_reference9Ideal m ρ trivial,
  frame_kernel10, frame_kernel10Ideal, frame_reference10Ideal,
  frame_kernel2, frame_kernel2Ideal, fun m ρ _ => frame_kernel2Ideal m ρ trivial, frame_reference2Ideal, fun m ρ _ => frame_reference2Ideal m ρ trivial,
  frame_kernel11, frame_kernel11Ideal, frame_reference11Ideal,
  frame_kernel12, frame_kernel12Ideal, frame_reference12Ideal,
  preserves, algebraic, trivial, Weight.algebraic, trivial, WeightIn.algebraic, trivial, WeightOut.algebraic, trivial, Project.algebraic,
  trivial, InBack.algebraic,
  trivial, GateBack.algebraic,
  trivial, ActBack.algebraic,
  trivial, Act.algebraic,
  trivial, FfnBack.algebraic,
  trivial, Down.algebraic,
  trivial, Loss.algebraic⟩

end Cert.Proof

end
